-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)) (v3 : (c : Dev Cert.KernelIdeal.nD) → Buf (Elt Ideal) ((c.tc : Thread Cert.KernelIdeal.nD Cert.KernelIdeal.τ).loc Cert.KernelIdeal.main_v64_3)) (v4 : (c : Dev Cert.KernelIdeal.nD) → Buf (Elt Ideal) ((c.tc : Thread Cert.KernelIdeal.nD Cert.KernelIdeal.τ).loc Cert.KernelIdeal.main_v64_4)) (v5 : (c : Dev Cert.KernelIdeal.nD) → Buf (Elt Ideal) ((c.tc : Thread Cert.KernelIdeal.nD Cert.KernelIdeal.τ).loc Cert.KernelIdeal.main_v64_5)) (v6 : (c : Dev Cert.KernelIdeal.nD) → Buf (Elt Ideal) ((c.tc : Thread Cert.KernelIdeal.nD Cert.KernelIdeal.τ).loc Cert.KernelIdeal.main_v64_6)) (v7 : (c : Dev Cert.KernelIdeal.nD) → Buf (Elt Ideal) ((c.tc : Thread Cert.KernelIdeal.nD Cert.KernelIdeal.τ).loc Cert.KernelIdeal.main_v64_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_v64_3) = v3 c
          ∧ r.2.mem ((c.tc : Thread Cert.KernelIdeal.nD Cert.KernelIdeal.τ).loc Cert.KernelIdeal.main_v64_4) = v4 c
          ∧ r.2.mem ((c.tc : Thread Cert.KernelIdeal.nD Cert.KernelIdeal.τ).loc Cert.KernelIdeal.main_v64_5) = v5 c
          ∧ r.2.mem ((c.tc : Thread Cert.KernelIdeal.nD Cert.KernelIdeal.τ).loc Cert.KernelIdeal.main_v64_6) = v6 c
          ∧ r.2.mem ((c.tc : Thread Cert.KernelIdeal.nD Cert.KernelIdeal.τ).loc Cert.KernelIdeal.main_v64_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_v148) = v3 c
          ∧ r.2.mem ((c.tc : Thread Cert.ReferenceIdeal.nD Cert.ReferenceIdeal.τ).loc Cert.ReferenceIdeal.main_v150) = v4 c
          ∧ r.2.mem ((c.tc : Thread Cert.ReferenceIdeal.nD Cert.ReferenceIdeal.τ).loc Cert.ReferenceIdeal.main_v151) = v5 c
          ∧ r.2.mem ((c.tc : Thread Cert.ReferenceIdeal.nD Cert.ReferenceIdeal.τ).loc Cert.ReferenceIdeal.main_v136) = v6 c
          ∧ r.2.mem ((c.tc : Thread Cert.ReferenceIdeal.nD Cert.ReferenceIdeal.τ).loc Cert.ReferenceIdeal.main_v75) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v13) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v16)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v16) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v31) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v14)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v14) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v16) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v16)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v16) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S2048x3096 : Shape := ⟨2, ![2048, 3096]⟩
abbrev S16x256 : Shape := ⟨2, ![16, 256]⟩
abbrev S1x256 : Shape := ⟨2, ![1, 256]⟩
abbrev S1x512 : Shape := ⟨2, ![1, 512]⟩
abbrev S2048x1024 : Shape := ⟨2, ![2048, 1024]⟩
abbrev S_ : Shape := ⟨0, ![]⟩
abbrev S1 : Shape := ⟨1, ![1]⟩
abbrev S5 : Shape := ⟨1, ![5]⟩

class Facts : Prop where
  bcast_S_S2048x3096 : S_.BroadcastsInDim S2048x3096 (![] : Fin 0 → Fin S2048x3096.rank)
  reducesTo_S2048x3096_S_d0_1 : S2048x3096.ReducesTo [0, 1] S_
  h_S_ : 0 < S_.numel
  bcast_S_S16x256 : S_.BroadcastsInDim S16x256 (![] : Fin 0 → Fin S16x256.rank)
  reducesTo_S16x256_S_d0_1 : S16x256.ReducesTo [0, 1] S_
  bcast_S_S1x256 : S_.BroadcastsInDim S1x256 (![] : Fin 0 → Fin S1x256.rank)
  reducesTo_S1x256_S_d0_1 : S1x256.ReducesTo [0, 1] S_
  bcast_S_S1x512 : S_.BroadcastsInDim S1x512 (![] : Fin 0 → Fin S1x512.rank)
  reducesTo_S1x512_S_d0_1 : S1x512.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S2048x1024 .f32) (main_v3 : IVec S_ 1) (main_v7 : IVec S_ 1) (main_v11 : IVec S_ 1) (main_v15 : IVec S_ 1) : IVec S5 1 :=
  let main_v16 : FVec F S2048x1024 .f32 := Host.absf main_arg4
  let main_cst_6 : FVec F S_ .f32 := constant S_ .f32 0x7F800000#32
  let main_v17 : FVec F S2048x1024 .f32 := broadcastInDim S2048x1024 ![] bcast_S_S2048x1024 main_cst_6
  let main_v18 : IVec S2048x1024 1 := cmpf .olt main_v16 main_v17
  let main_c_7 : IVec S_ 1 := constantI S_ 1 1#1
  let main_v19 : IVec S_ 1 := (fun x v => Host.reduce IntOp.andi x v reducesTo_S2048x1024_S_d0_1 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S2048x3096 .f32) (main_arg1 : FVec F S16x256 .f32) (main_arg2 : FVec F S1x256 .f32) (main_arg3 : FVec F S1x512 .f32) (main_arg4 : FVec F S2048x1024 .f32) : IVec S5 1 :=
  let main_v0 : FVec F S2048x3096 .f32 := Host.absf main_arg0
  let main_cst : FVec F S_ .f32 := constant S_ .f32 0x7F800000#32
  let main_v1 : FVec F S2048x3096 .f32 := broadcastInDim S2048x3096 ![] bcast_S_S2048x3096 main_cst
  let main_v2 : IVec S2048x3096 1 := cmpf .olt main_v0 main_v1
  let main_c : IVec S_ 1 := constantI S_ 1 1#1
  let main_v3 : IVec S_ 1 := (fun x v => Host.reduce IntOp.andi x v reducesTo_S2048x3096_S_d0_1 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : FVec F S1x256 .f32 := Host.absf main_arg2
  let main_cst_2 : FVec F S_ .f32 := constant S_ .f32 0x7F800000#32
  let main_v9 : FVec F S1x256 .f32 := broadcastInDim S1x256 ![] bcast_S_S1x256 main_cst_2
  let main_v10 : IVec S1x256 1 := cmpf .olt main_v8 main_v9
  let main_c_3 : IVec S_ 1 := constantI S_ 1 1#1
  let main_v11 : IVec S_ 1 := (fun x v => Host.reduce IntOp.andi x v reducesTo_S1x256_S_d0_1 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_v3 main_v7 main_v11 main_v15
-- ==== Kernel.lean ====
abbrev S2048x3096 : Shape := ⟨2, ![2048, 3096]⟩
abbrev S16x256 : Shape := ⟨2, ![16, 256]⟩
abbrev S1x256 : Shape := ⟨2, ![1, 256]⟩
abbrev S1x512 : Shape := ⟨2, ![1, 512]⟩
abbrev S2048x1024 : Shape := ⟨2, ![2048, 1024]⟩
abbrev S2048x256 : Shape := ⟨2, ![2048, 256]⟩
abbrev S2048x512 : Shape := ⟨2, ![2048, 512]⟩
abbrev S2048x16 : Shape := ⟨2, ![2048, 16]⟩
abbrev S2048x8 : Shape := ⟨2, ![2048, 8]⟩
abbrev S2048x2560 : Shape := ⟨2, ![2048, 2560]⟩
abbrev S_ : Shape := ⟨0, ![]⟩
abbrev S2048x128 : Shape := ⟨2, ![2048, 128]⟩
abbrev S2048x768 : Shape := ⟨2, ![2048, 768]⟩
abbrev S128x256 : Shape := ⟨2, ![128, 256]⟩
abbrev S32x64x4x64 : Shape := ⟨4, ![32, 64, 4, 64]⟩
abbrev S32x64x4x128 : Shape := ⟨4, ![32, 64, 4, 128]⟩
abbrev S32x1x4x64 : Shape := ⟨4, ![32, 1, 4, 64]⟩
abbrev S32x4x64 : Shape := ⟨3, ![32, 4, 64]⟩
abbrev S32x4x64x128 : Shape := ⟨4, ![32, 4, 64, 128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1x1 : Shape := ⟨4, ![32, 32, 1, 1]⟩
abbrev S1x32x4x64 : Shape := ⟨4, ![1, 32, 4, 64]⟩
abbrev S32x32x4x64 : Shape := ⟨4, ![32, 32, 4, 64]⟩
abbrev S4x64x128x32 : Shape := ⟨4, ![4, 64, 128, 32]⟩
abbrev S32x4x128x64 : Shape := ⟨4, ![32, 4, 128, 64]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S1x4x1x4x1 : Shape := ⟨5, ![1, 4, 1, 4, 1]⟩
abbrev S32x4x128x1x64 : Shape := ⟨5, ![32, 4, 128, 1, 64]⟩
abbrev S32x4x128x4x64 : Shape := ⟨5, ![32, 4, 128, 4, 64]⟩
abbrev S32x512x256 : Shape := ⟨3, ![32, 512, 256]⟩
abbrev S64x256 : Shape := ⟨2, ![64, 256]⟩
abbrev S64x512 : Shape := ⟨2, ![64, 512]⟩
abbrev S64x128 : Shape := ⟨2, ![64, 128]⟩
abbrev S1x512x256 : Shape := ⟨3, ![1, 512, 256]⟩
abbrev S512x256 : Shape := ⟨2, ![512, 256]⟩
abbrev S64x64 : Shape := ⟨2, ![64, 64]⟩
abbrev S64 : Shape := ⟨1, ![64]⟩
abbrev S64x1 : Shape := ⟨2, ![64, 1]⟩
abbrev S128 : Shape := ⟨1, ![128]⟩
abbrev S1x128 : Shape := ⟨2, ![1, 128]⟩
abbrev S256 : Shape := ⟨1, ![256]⟩

abbrev nBuf : Space → Nat
  | .hbm => 112
  | .vmem => 33
  | .smem => 0
  | _ => 0

abbrev bufTy : (tb : Table) → Fin (tcTables nBuf tb) → BufTy
  | .hbm, ⟨0, _⟩ => ⟨S2048x3096, .f32⟩
  | .hbm, ⟨1, _⟩ => ⟨S16x256, .f32⟩
  | .hbm, ⟨2, _⟩ => ⟨S1x256, .f32⟩
  | .hbm, ⟨3, _⟩ => ⟨S1x512, .f32⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x512, .f32⟩
  | .hbm, ⟨8, _⟩ => ⟨S2048x512, .f32⟩
  | .hbm, ⟨9, _⟩ => ⟨S2048x16, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x8, .f32⟩
  | .hbm, ⟨14, _⟩ => ⟨S2048x2560, .f32⟩
  | .hbm, ⟨15, _⟩ => ⟨S2048x2560, .bf16⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S_, .i32⟩
  | .hbm, ⟨20, _⟩ => ⟨S_, .f32⟩
  | .hbm, ⟨21, _⟩ => ⟨S2048x128, .f32⟩
  | .hbm, ⟨22, _⟩ => ⟨S2048x768, .f32⟩
  | .hbm, ⟨23, _⟩ => ⟨S_, .i32⟩
  | .hbm, ⟨24, _⟩ => ⟨S_, .f32⟩
  | .hbm, ⟨25, _⟩ => ⟨S128x256, .f32⟩
  | .hbm, ⟨26, _⟩ => ⟨S2048x256, .f32⟩
  | .hbm, ⟨27, _⟩ => ⟨S32x64x4x64, .f32⟩
  | .hbm, ⟨28, _⟩ => ⟨S2048x512, .f32⟩
  | .hbm, ⟨29, _⟩ => ⟨S32x64x4x128, .f32⟩
  | .hbm, ⟨30, _⟩ => ⟨S2048x16, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S2048x256, .f32⟩
  | .hbm, ⟨35, _⟩ => ⟨S_, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S2048x256, .i1⟩
  | .hbm, ⟨41, _⟩ => ⟨S2048x256, .f32⟩
  | .hbm, ⟨42, _⟩ => ⟨S2048x256, .f32⟩
  | .hbm, ⟨43, _⟩ => ⟨S2048x256, .f32⟩
  | .hbm, ⟨44, _⟩ => ⟨S2048x256, .f32⟩
  | .hbm, ⟨45, _⟩ => ⟨S2048x256, .f32⟩
  | .hbm, ⟨46, _⟩ => ⟨S2048x256, .f32⟩
  | .hbm, ⟨47, _⟩ => ⟨S2048x256, .f32⟩
  | .hbm, ⟨48, _⟩ => ⟨S2048x256, .f32⟩
  | .hbm, ⟨49, _⟩ => ⟨S2048x256, .f32⟩
  | .hbm, ⟨50, _⟩ => ⟨S_, .f32⟩
  | .hbm, ⟨51, _⟩ => ⟨S2048x256, .f32⟩
  | .hbm, ⟨52, _⟩ => ⟨S2048x256, .f32⟩
  | .hbm, ⟨53, _⟩ => ⟨S32x64x4x64, .f32⟩
  | .hbm, ⟨54, _⟩ => ⟨S_, .f32⟩
  | .hbm, ⟨55, _⟩ => ⟨S_, .f32⟩
  | .hbm, ⟨56, _⟩ => ⟨S32x64x4x64, .f32⟩
  | .hbm, ⟨57, _⟩ => ⟨S32x1x4x64, .f32⟩
  | .hbm, ⟨58, _⟩ => ⟨S32x4x64, .f32⟩
  | .hbm, ⟨59, _⟩ => ⟨S32x1x4x64, .f32⟩
  | .hbm, ⟨60, _⟩ => ⟨S32x64x4x64, .f32⟩
  | .hbm, ⟨61, _⟩ => ⟨S32x64x4x64, .f32⟩
  | .hbm, ⟨62, _⟩ => ⟨S32x64x4x64, .f32⟩
  | .hbm, ⟨63, _⟩ => ⟨S32x64x4x64, .f32⟩
  | .hbm, ⟨64, _⟩ => ⟨S32x4x64x128, .f32⟩
  | .hbm, ⟨65, _⟩ => ⟨S_, .f32⟩
  | .hbm, ⟨66, _⟩ => ⟨S_, .f32⟩
  | .hbm, ⟨67, _⟩ => ⟨S32x4x64, .f32⟩
  | .hbm, ⟨68, _⟩ => ⟨S32, .i32⟩
  | .hbm, ⟨69, _⟩ => ⟨S32x1, .i32⟩
  | .hbm, ⟨70, _⟩ => ⟨S32, .i32⟩
  | .hbm, ⟨71, _⟩ => ⟨S1x32, .i32⟩
  | .hbm, ⟨72, _⟩ => ⟨S32x32, .i32⟩
  | .hbm, ⟨73, _⟩ => ⟨S32x32, .i32⟩
  | .hbm, ⟨74, _⟩ => ⟨S32x32, .i1⟩
  | .hbm, ⟨75, _⟩ => ⟨S32x32x1x1, .i1⟩
  | .hbm, ⟨76, _⟩ => ⟨S32x1x4x64, .f32⟩
  | .hbm, ⟨77, _⟩ => ⟨S1x32x4x64, .f32⟩
  | .hbm, ⟨78, _⟩ => ⟨S32x32x4x64, .f32⟩
  | .hbm, ⟨79, _⟩ => ⟨S32x32x4x64, .f32⟩
  | .hbm, ⟨80, _⟩ => ⟨S32x32x4x64, .f32⟩
  | .hbm, ⟨81, _⟩ => ⟨S_, .f32⟩
  | .hbm, ⟨82, _⟩ => ⟨S_, .f32⟩
  | .hbm, ⟨83, _⟩ => ⟨S32x32x4x64, .i1⟩
  | .hbm, ⟨84, _⟩ => ⟨S32x32x4x64, .f32⟩
  | .hbm, ⟨85, _⟩ => ⟨S32x32x4x64, .f32⟩
  | .hbm, ⟨86, _⟩ => ⟨S32x32x4x64, .f32⟩
  | .hbm, ⟨87, _⟩ => ⟨S4x64x128x32, .f32⟩
  | .hbm, ⟨88, _⟩ => ⟨S32x4x128x64, .f32⟩
  | .hbm, ⟨89, _⟩ => ⟨S4, .i32⟩
  | .hbm, ⟨90, _⟩ => ⟨S4x1, .i32⟩
  | .hbm, ⟨91, _⟩ => ⟨S1x4, .i32⟩
  | .hbm, ⟨92, _⟩ => ⟨S4x4, .i32⟩
  | .hbm, ⟨93, _⟩ => ⟨S4x4, .i32⟩
  | .hbm, ⟨94, _⟩ => ⟨S4x4, .i1⟩
  | .hbm, ⟨95, _⟩ => ⟨S1x4x1x4x1, .i1⟩
  | .hbm, ⟨96, _⟩ => ⟨S32x4x128x1x64, .f32⟩
  | .hbm, ⟨97, _⟩ => ⟨S_, .f32⟩
  | .hbm, ⟨98, _⟩ => ⟨S_, .f32⟩
  | .hbm, ⟨99, _⟩ => ⟨S32x4x128x4x64, .i1⟩
  | .hbm, ⟨100, _⟩ => ⟨S32x4x128x4x64, .f32⟩
  | .hbm, ⟨101, _⟩ => ⟨S32x4x128x4x64, .f32⟩
  | .hbm, ⟨102, _⟩ => ⟨S32x4x128x4x64, .f32⟩
  | .hbm, ⟨103, _⟩ => ⟨S32x512x256, .f32⟩
  | .hbm, ⟨104, _⟩ => ⟨S2048x256, .bf16⟩
  | .hbm, ⟨105, _⟩ => ⟨S2048x256, .bf16⟩
  | .hbm, ⟨106, _⟩ => ⟨S2048x512, .bf16⟩
  | .hbm, ⟨107, _⟩ => ⟨S2048x512, .bf16⟩
  | .hbm, ⟨108, _⟩ => ⟨S2048x128, .bf16⟩
  | .hbm, ⟨109, _⟩ => ⟨S128x256, .f32⟩
  | .hbm, ⟨110, _⟩ => ⟨S1x256, .f32⟩
  | .hbm, ⟨111, _⟩ => ⟨S1x512, .f32⟩
  | .local _ .vmem, ⟨0, _⟩ => ⟨S64x256, .bf16⟩
  | .local _ .vmem, ⟨1, _⟩ => ⟨S64x256, .bf16⟩
  | .local _ .vmem, ⟨2, _⟩ => ⟨S64x256, .bf16⟩
  | .local _ .vmem, ⟨3, _⟩ => ⟨S64x256, .bf16⟩
  | .local _ .vmem, ⟨4, _⟩ => ⟨S64x512, .bf16⟩
  | .local _ .vmem, ⟨5, _⟩ => ⟨S64x512, .bf16⟩
  | .local _ .vmem, ⟨6, _⟩ => ⟨S64x512, .f32⟩
  | .local _ .vmem, ⟨7, _⟩ => ⟨S64x512, .f32⟩
  | .local _ .vmem, ⟨8, _⟩ => ⟨S64x128, .f32⟩
  | .local _ .vmem, ⟨9, _⟩ => ⟨S64x128, .f32⟩
  | .local _ .vmem, ⟨10, _⟩ => ⟨S128x256, .f32⟩
  | .local _ .vmem, ⟨11, _⟩ => ⟨S1x256, .f32⟩
  | .local _ .vmem, ⟨12, _⟩ => ⟨S1x512, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S64x512, .f32⟩
  | .local _ .vmem, ⟨18, _⟩ => ⟨S64x512, .f32⟩
  | .local _ .vmem, ⟨19, _⟩ => ⟨S64x256, .bf16⟩
  | .local _ .vmem, ⟨20, _⟩ => ⟨S64x256, .bf16⟩
  | .local _ .vmem, ⟨21, _⟩ => ⟨S64x256, .bf16⟩
  | .local _ .vmem, ⟨22, _⟩ => ⟨S64x256, .bf16⟩
  | .local _ .vmem, ⟨23, _⟩ => ⟨S64x512, .bf16⟩
  | .local _ .vmem, ⟨24, _⟩ => ⟨S64x512, .bf16⟩
  | .local _ .vmem, ⟨25, _⟩ => ⟨S64x512, .bf16⟩
  | .local _ .vmem, ⟨26, _⟩ => ⟨S64x512, .bf16⟩
  | .local _ .vmem, ⟨27, _⟩ => ⟨S64x128, .bf16⟩
  | .local _ .vmem, ⟨28, _⟩ => ⟨S64x128, .bf16⟩
  | .local _ .vmem, ⟨29, _⟩ => ⟨S128x256, .f32⟩
  | .local _ .vmem, ⟨30, _⟩ => ⟨S1x256, .f32⟩
  | .local _ .vmem, ⟨31, _⟩ => ⟨S1x512, .f32⟩
  | .local _ .vmem, ⟨32, _⟩ => ⟨S512x256, .f32⟩
  | _, _ => ⟨S2048x3096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_call2_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call3_v0 : Ref sig .tc := ⟨.hbm, 34, rfl⟩
abbrev main_call3_call0_cst : Ref sig .tc := ⟨.hbm, 35, rfl⟩
abbrev main_call3_call0_v0 : Ref sig .tc := ⟨.hbm, 36, rfl⟩
abbrev main_call3_call0_v1 : Ref sig .tc := ⟨.hbm, 37, rfl⟩
abbrev main_call3_call0_v2 : Ref sig .tc := ⟨.hbm, 38, rfl⟩
abbrev main_call3_call0_v3 : Ref sig .tc := ⟨.hbm, 39, rfl⟩
abbrev main_call3_call0_v4 : Ref sig .tc := ⟨.hbm, 40, rfl⟩
abbrev main_call3_call0_v5 : Ref sig .tc := ⟨.hbm, 41, rfl⟩
abbrev main_call3_call0_v6 : Ref sig .tc := ⟨.hbm, 42, rfl⟩
abbrev main_call3_call0_v7 : Ref sig .tc := ⟨.hbm, 43, rfl⟩
abbrev main_call3_call0_v8 : Ref sig .tc := ⟨.hbm, 44, rfl⟩
abbrev main_call3_call0_v9 : Ref sig .tc := ⟨.hbm, 45, rfl⟩
abbrev main_call3_call0_v10 : Ref sig .tc := ⟨.hbm, 46, rfl⟩
abbrev main_call3_call0_v11 : Ref sig .tc := ⟨.hbm, 47, rfl⟩
abbrev main_call3_v1 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call4_call0_cst : Ref sig .tc := ⟨.hbm, 54, rfl⟩
abbrev main_call4_call0_v0 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call5_call0_cst : Ref sig .tc := ⟨.hbm, 65, rfl⟩
abbrev main_call5_call0_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_2 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_3 : Ref sig .tc := ⟨.hbm, 97, rfl⟩
abbrev main_call7_v0 : Ref sig .tc := ⟨.hbm, 98, rfl⟩
abbrev main_call7_v1 : Ref sig .tc := ⟨.hbm, 99, rfl⟩
abbrev main_call7_v2 : Ref sig .tc := ⟨.hbm, 100, rfl⟩
abbrev main_call7_v3 : Ref sig .tc := ⟨.hbm, 101, rfl⟩
abbrev main_v62 : Ref sig .tc := ⟨.hbm, 102, rfl⟩
abbrev main_v63 : Ref sig .tc := ⟨.hbm, 103, rfl⟩
abbrev main_v64_0 : Ref sig .tc := ⟨.hbm, 104, rfl⟩
abbrev main_v64_1 : Ref sig .tc := ⟨.hbm, 105, rfl⟩
abbrev main_v64_2 : Ref sig .tc := ⟨.hbm, 106, rfl⟩
abbrev main_v64_3 : Ref sig .tc := ⟨.hbm, 107, rfl⟩
abbrev main_v64_4 : Ref sig .tc := ⟨.hbm, 108, rfl⟩
abbrev main_v64_5 : Ref sig .tc := ⟨.hbm, 109, rfl⟩
abbrev main_v64_6 : Ref sig .tc := ⟨.hbm, 110, rfl⟩
abbrev main_v64_7 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S2048x3096 : Shape := ⟨2, ![2048, 3096]⟩
abbrev S16x256 : Shape := ⟨2, ![16, 256]⟩
abbrev S1x256 : Shape := ⟨2, ![1, 256]⟩
abbrev S1x512 : Shape := ⟨2, ![1, 512]⟩
abbrev S2048x1024 : Shape := ⟨2, ![2048, 1024]⟩
abbrev S2048x256 : Shape := ⟨2, ![2048, 256]⟩
abbrev S2048x512 : Shape := ⟨2, ![2048, 512]⟩
abbrev S2048x16 : Shape := ⟨2, ![2048, 16]⟩
abbrev S2048x8 : Shape := ⟨2, ![2048, 8]⟩
abbrev S32x64x4x64 : Shape := ⟨4, ![32, 64, 4, 64]⟩
abbrev S_ : Shape := ⟨0, ![]⟩
abbrev S32x64x4x128 : Shape := ⟨4, ![32, 64, 4, 128]⟩
abbrev S32x1x4x64 : Shape := ⟨4, ![32, 1, 4, 64]⟩
abbrev S32x4x64 : Shape := ⟨3, ![32, 4, 64]⟩
abbrev S32x4x64x128 : Shape := ⟨4, ![32, 4, 64, 128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1x1 : Shape := ⟨4, ![32, 32, 1, 1]⟩
abbrev S1x32x4x64 : Shape := ⟨4, ![1, 32, 4, 64]⟩
abbrev S32x32x4x64 : Shape := ⟨4, ![32, 32, 4, 64]⟩
abbrev S4x64x128x32 : Shape := ⟨4, ![4, 64, 128, 32]⟩
abbrev S32x4x128x64 : Shape := ⟨4, ![32, 4, 128, 64]⟩
abbrev S2048x4x128 : Shape := ⟨3, ![2048, 4, 128]⟩
abbrev S2048x4 : Shape := ⟨2, ![2048, 4]⟩
abbrev S2048x4x1 : Shape := ⟨3, ![2048, 4, 1]⟩
abbrev S512 : Shape := ⟨1, ![512]⟩
abbrev S32x4x64x64 : Shape := ⟨4, ![32, 4, 64, 64]⟩
abbrev S4x64x32x32 : Shape := ⟨4, ![4, 64, 32, 32]⟩
abbrev S256 : Shape := ⟨1, ![256]⟩
abbrev S256x16 : Shape := ⟨2, ![256, 16]⟩
abbrev S2048x128 : Shape := ⟨2, ![2048, 128]⟩
abbrev S128x256 : Shape := ⟨2, ![128, 256]⟩

abbrev nBuf : Space → Nat
  | .hbm => 261
  | .vmem => 0
  | .smem => 0
  | _ => 0

abbrev hbmTy0_0 (i : Nat) : BufTy := match i % 128 with
  | 0 => ⟨S2048x3096, .f32⟩
  | 1 => ⟨S16x256, .f32⟩
  | 2 => ⟨S1x256, .f32⟩
  | 3 => ⟨S1x512, .f32⟩
  | 4 => ⟨S2048x1024, .f32⟩
  | 5 => ⟨S2048x256, .f32⟩
  | 6 => ⟨S2048x256, .f32⟩
  | 7 => ⟨S2048x512, .f32⟩
  | 8 => ⟨S2048x512, .f32⟩
  | 9 => ⟨S2048x16, .f32⟩
  | 10 => ⟨S2048x512, .f32⟩
  | 11 => ⟨S2048x512, .f32⟩
  | 12 => ⟨S2048x512, .f32⟩
  | 13 => ⟨S2048x8, .f32⟩
  | 14 => ⟨S32x64x4x64, .f32⟩
  | 15 => ⟨S_, .f32⟩
  | 16 => ⟨S32x64x4x64, .f32⟩
  | 17 => ⟨S32x64x4x64, .f32⟩
  | 18 => ⟨S32x64x4x64, .f32⟩
  | 19 => ⟨S32x64x4x128, .f32⟩
  | 20 => ⟨S2048x256, .f32⟩
  | 21 => ⟨S2048x256, .f32⟩
  | 22 => ⟨S2048x256, .f32⟩
  | 23 => ⟨S2048x256, .f32⟩
  | 24 => ⟨S_, .f32⟩
  | 25 => ⟨S2048x256, .f32⟩
  | 26 => ⟨S2048x256, .f32⟩
  | 27 => ⟨S2048x256, .f32⟩
  | 28 => ⟨S2048x256, .f32⟩
  | 29 => ⟨S2048x256, .i1⟩
  | 30 => ⟨S2048x256, .f32⟩
  | 31 => ⟨S2048x256, .f32⟩
  | 32 => ⟨S2048x256, .f32⟩
  | 33 => ⟨S2048x256, .f32⟩
  | 34 => ⟨S2048x256, .f32⟩
  | 35 => ⟨S2048x256, .f32⟩
  | 36 => ⟨S2048x256, .f32⟩
  | 37 => ⟨S2048x256, .f32⟩
  | 38 => ⟨S_, .f32⟩
  | 39 => ⟨S2048x256, .f32⟩
  | 40 => ⟨S2048x256, .i1⟩
  | 41 => ⟨S_, .f32⟩
  | 42 => ⟨S2048x256, .f32⟩
  | 43 => ⟨S2048x256, .f32⟩
  | 44 => ⟨S_, .f32⟩
  | 45 => ⟨S2048x256, .f32⟩
  | 46 => ⟨S2048x256, .i1⟩
  | 47 => ⟨S_, .f32⟩
  | 48 => ⟨S2048x256, .f32⟩
  | 49 => ⟨S2048x256, .f32⟩
  | 50 => ⟨S2048x256, .f32⟩
  | 51 => ⟨S2048x256, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S2048x256, .f32⟩
  | 60 => ⟨S2048x256, .i1⟩
  | 61 => ⟨S_, .f32⟩
  | 62 => ⟨S2048x256, .f32⟩
  | 63 => ⟨S2048x256, .f32⟩
  | 64 => ⟨S2048x256, .f32⟩
  | 65 => ⟨S2048x256, .f32⟩
  | 66 => ⟨S2048x256, .f32⟩
  | 67 => ⟨S_, .f32⟩
  | 68 => ⟨S2048x256, .f32⟩
  | 69 => ⟨S2048x256, .f32⟩
  | 70 => ⟨S2048x256, .f32⟩
  | 71 => ⟨S_, .f32⟩
  | 72 => ⟨S2048x256, .f32⟩
  | 73 => ⟨S2048x256, .f32⟩
  | 74 => ⟨S32x64x4x64, .f32⟩
  | 75 => ⟨S_, .f32⟩
  | 76 => ⟨S_, .f32⟩
  | 77 => ⟨S32x64x4x64, .f32⟩
  | 78 => ⟨S32x1x4x64, .f32⟩
  | 79 => ⟨S32x4x64, .f32⟩
  | 80 => ⟨S32x1x4x64, .f32⟩
  | 81 => ⟨S32x64x4x64, .f32⟩
  | 82 => ⟨S32x64x4x64, .f32⟩
  | 83 => ⟨S32x64x4x64, .f32⟩
  | 84 => ⟨S32x64x4x64, .f32⟩
  | 85 => ⟨S32x4x64x128, .f32⟩
  | 86 => ⟨S_, .f32⟩
  | 87 => ⟨S_, .f32⟩
  | 88 => ⟨S32x4x64, .f32⟩
  | 89 => ⟨S32, .i32⟩
  | 90 => ⟨S32x1, .i32⟩
  | 91 => ⟨S32, .i32⟩
  | 92 => ⟨S1x32, .i32⟩
  | 93 => ⟨S32x32, .i32⟩
  | 94 => ⟨S32x32, .i32⟩
  | 95 => ⟨S32x32, .i1⟩
  | 96 => ⟨S32x32x1x1, .i1⟩
  | 97 => ⟨S32x1x4x64, .f32⟩
  | 98 => ⟨S1x32x4x64, .f32⟩
  | 99 => ⟨S32x32x4x64, .f32⟩
  | 100 => ⟨S32x32x4x64, .f32⟩
  | 101 => ⟨S32x32x4x64, .f32⟩
  | 102 => ⟨S_, .f32⟩
  | 103 => ⟨S_, .f32⟩
  | 104 => ⟨S32x32x4x64, .i1⟩
  | 105 => ⟨S32x32x4x64, .f32⟩
  | 106 => ⟨S32x32x4x64, .f32⟩
  | 107 => ⟨S_, .f32⟩
  | 108 => ⟨S32x32x4x64, .f32⟩
  | 109 => ⟨S32x32x4x64, .f32⟩
  | 110 => ⟨S4x64x128x32, .f32⟩
  | 111 => ⟨S32x4x64x128, .f32⟩
  | 112 => ⟨S32x4x128x64, .f32⟩
  | 113 => ⟨S32x64x4x128, .f32⟩
  | 114 => ⟨S2048x4x128, .f32⟩
  | 115 => ⟨S2048x4x128, .f32⟩
  | 116 => ⟨S_, .f32⟩
  | 117 => ⟨S2048x4, .f32⟩
  | 118 => ⟨S2048x4x1, .f32⟩
  | 119 => ⟨S_, .f32⟩
  | 120 => ⟨S2048x4x1, .f32⟩
  | 121 => ⟨S2048x4x1, .f32⟩
  | 122 => ⟨S_, .f32⟩
  | 123 => ⟨S2048x4x1, .f32⟩
  | 124 => ⟨S2048x4x1, .f32⟩
  | 125 => ⟨S2048x4x1, .f32⟩
  | 126 => ⟨S2048x4x1, .f32⟩
  | 127 => ⟨S_, .f32⟩
  | _ => ⟨S2048x3096, .f32⟩

abbrev hbmTy0_1 (i : Nat) : BufTy := match i % 128 with
  | 0 => ⟨S2048x4x1, .f32⟩
  | 1 => ⟨S2048x4x1, .f32⟩
  | 2 => ⟨S2048x4x128, .f32⟩
  | 3 => ⟨S2048x4x128, .f32⟩
  | 4 => ⟨S2048x512, .f32⟩
  | 5 => ⟨S2048x512, .f32⟩
  | 6 => ⟨S2048x512, .f32⟩
  | 7 => ⟨S2048x512, .f32⟩
  | 8 => ⟨S2048x512, .f32⟩
  | 9 => ⟨S_, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S_, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S2048x512, .f32⟩
  | 24 => ⟨S2048x512, .f32⟩
  | 25 => ⟨S2048x512, .f32⟩
  | 26 => ⟨S2048x512, .f32⟩
  | 27 => ⟨S2048x512, .f32⟩
  | 28 => ⟨S2048x512, .f32⟩
  | 29 => ⟨S_, .f32⟩
  | 30 => ⟨S512, .f32⟩
  | 31 => ⟨S1x512, .f32⟩
  | 32 => ⟨S2048x512, .f32⟩
  | 33 => ⟨S2048x512, .f32⟩
  | 34 => ⟨S2048x4x128, .f32⟩
  | 35 => ⟨S2048x4x128, .f32⟩
  | 36 => ⟨S_, .f32⟩
  | 37 => ⟨S2048x4, .f32⟩
  | 38 => ⟨S2048x4x1, .f32⟩
  | 39 => ⟨S2048x4x128, .f32⟩
  | 40 => ⟨S2048x4x128, .f32⟩
  | 41 => ⟨S2048x4x1, .f32⟩
  | 42 => ⟨S_, .f32⟩
  | 43 => ⟨S2048x4x1, .f32⟩
  | 44 => ⟨S2048x4x1, .f32⟩
  | 45 => ⟨S_, .f32⟩
  | 46 => ⟨S2048x4, .f32⟩
  | 47 => ⟨S2048x4x128, .f32⟩
  | 48 => ⟨S2048x4x128, .f32⟩
  | 49 => ⟨S2048x4x128, .f32⟩
  | 50 => ⟨S2048x4x128, .f32⟩
  | 51 => ⟨S2048x4x128, .f32⟩
  | 52 => ⟨S32x64x4x128, .f32⟩
  | 53 => ⟨S32x4x128x64, .f32⟩
  | 54 => ⟨S32x4x64x64, .f32⟩
  | 55 => ⟨S32x64x4x64, .f32⟩
  | 56 => ⟨S32x4x128x64, .f32⟩
  | 57 => ⟨S32x4x64x128, .f32⟩
  | 58 => ⟨S4x64x128x32, .f32⟩
  | 59 => ⟨S4x64x32x32, .f32⟩
  | 60 => ⟨S32x32x4x64, .f32⟩
  | 61 => ⟨S4x64x128x32, .f32⟩
  | 62 => ⟨S32x4x64x128, .f32⟩
  | 63 => ⟨S32x32x4x64, .f32⟩
  | 64 => ⟨S_, .f32⟩
  | 65 => ⟨S32x32x4x64, .f32⟩
  | 66 => ⟨S32x32x4x64, .f32⟩
  | 67 => ⟨S_, .f32⟩
  | 68 => ⟨S32x4x64, .f32⟩
  | 69 => ⟨S32x1x4x64, .f32⟩
  | 70 => ⟨S32x32x4x64, .f32⟩
  | 71 => ⟨S_, .f32⟩
  | 72 => ⟨S32x4x64, .f32⟩
  | 73 => ⟨S1x32x4x64, .f32⟩
  | 74 => ⟨S_, .f32⟩
  | 75 => ⟨S32x4x64, .f32⟩
  | 76 => ⟨S_, .f32⟩
  | 77 => ⟨S32x4x64, .f32⟩
  | 78 => ⟨S32x4x64, .f32⟩
  | 79 => ⟨S_, .f32⟩
  | 80 => ⟨S_, .f32⟩
  | 81 => ⟨S32x4x64, .f32⟩
  | 82 => ⟨S32x4x128x64, .f32⟩
  | 83 => ⟨S32x64x4x128, .f32⟩
  | 84 => ⟨S32x4x64x64, .f32⟩
  | 85 => ⟨S32x64x4x64, .f32⟩
  | 86 => ⟨S32x64x4x64, .f32⟩
  | 87 => ⟨S32x64x4x64, .f32⟩
  | 88 => ⟨S32x64x4x64, .f32⟩
  | 89 => ⟨S_, .f32⟩
  | 90 => ⟨S32x4x64, .f32⟩
  | 91 => ⟨S32x1x4x64, .f32⟩
  | 92 => ⟨S32x64x4x64, .f32⟩
  | 93 => ⟨S_, .f32⟩
  | 94 => ⟨S32x4x64, .f32⟩
  | 95 => ⟨S32x4x64, .f32⟩
  | 96 => ⟨S32x1x4x64, .f32⟩
  | 97 => ⟨S_, .f32⟩
  | 98 => ⟨S32x64x4x64, .f32⟩
  | 99 => ⟨S32x64x4x64, .f32⟩
  | 100 => ⟨S_, .f32⟩
  | 101 => ⟨S_, .f32⟩
  | 102 => ⟨S32x64x4x64, .f32⟩
  | 103 => ⟨S2048x256, .f32⟩
  | 104 => ⟨S_, .f32⟩
  | 105 => ⟨S2048x256, .f32⟩
  | 106 => ⟨S2048x256, .f32⟩
  | 107 => ⟨S2048x256, .f32⟩
  | 108 => ⟨S2048x256, .f32⟩
  | 109 => ⟨S2048x256, .f32⟩
  | 110 => ⟨S_, .f32⟩
  | 111 => ⟨S256, .f32⟩
  | 112 => ⟨S1x256, .f32⟩
  | 113 => ⟨S256x16, .f32⟩
  | 114 => ⟨S16x256, .f32⟩
  | 115 => ⟨S2048x16, .f32⟩
  | 116 => ⟨S2048x512, .f32⟩
  | 117 => ⟨S2048x256, .f32⟩
  | 118 => ⟨S_, .f32⟩
  | 119 => ⟨S32x64x4x64, .f32⟩
  | 120 => ⟨S32x64x4x64, .f32⟩
  | 121 => ⟨S2048x256, .f32⟩
  | 122 => ⟨S2048x256, .bf16⟩
  | 123 => ⟨S2048x256, .bf16⟩
  | 124 => ⟨S2048x512, .bf16⟩
  | 125 => ⟨S2048x512, .bf16⟩
  | 126 => ⟨S2048x16, .bf16⟩
  | 127 => ⟨S_, .i32⟩
  | _ => ⟨S2048x3096, .f32⟩

abbrev hbmTy0_2 (i : Nat) : BufTy := match i % 128 with
  | 0 => ⟨S_, .bf16⟩
  | 1 => ⟨S2048x128, .bf16⟩
  | 2 => ⟨S_, .i32⟩
  | 3 => ⟨S_, .f32⟩
  | 4 => ⟨S128x256, .f32⟩
  | _ => ⟨S2048x3096, .f32⟩

abbrev hbmTy (i : Nat) : BufTy := match i / 128 with
  | 0 => hbmTy0_0 i
  | 1 => hbmTy0_1 i
  | 2 => hbmTy0_2 i
  | _ => ⟨S2048x3096, .f32⟩

abbrev bufTy : (tb : Table) → Fin (tcTables nBuf tb) → BufTy
  | .hbm, ⟨i, _⟩ => hbmTy i
  | _, _ => ⟨S2048x3096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v17_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v17_2 : Ref sig .tc := ⟨.hbm, 69, rfl⟩
abbrev main_v17_0 : Ref sig .tc := ⟨.hbm, 70, rfl⟩
abbrev main_cst_0 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_call1_call0_cst : Ref sig .tc := ⟨.hbm, 75, rfl⟩
abbrev main_call1_call0_v0 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_call2_call0_cst : Ref sig .tc := ⟨.hbm, 86, rfl⟩
abbrev main_call2_call0_v0 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_1 : Ref sig .tc := ⟨.hbm, 102, rfl⟩
abbrev main_call3_v0 : Ref sig .tc := ⟨.hbm, 103, rfl⟩
abbrev main_v44_1 : Ref sig .tc := ⟨.hbm, 104, rfl⟩
abbrev main_call3_v2 : Ref sig .tc := ⟨.hbm, 105, rfl⟩
abbrev main_v44_0 : Ref sig .tc := ⟨.hbm, 106, rfl⟩
abbrev main_call3_cst : Ref sig .tc := ⟨.hbm, 107, rfl⟩
abbrev main_v44_2 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_cst_2 : Ref sig .tc := ⟨.hbm, 116, rfl⟩
abbrev main_v52 : Ref sig .tc := ⟨.hbm, 117, rfl⟩
abbrev main_v53 : Ref sig .tc := ⟨.hbm, 118, rfl⟩
abbrev main_cst_3 : Ref sig .tc := ⟨.hbm, 119, rfl⟩
abbrev main_v54 : Ref sig .tc := ⟨.hbm, 120, rfl⟩
abbrev main_v55 : Ref sig .tc := ⟨.hbm, 121, rfl⟩
abbrev main_cst_4 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_cst_5 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_v67_2 : Ref sig .tc := ⟨.hbm, 142, rfl⟩
abbrev main_call4_cst_1 : Ref sig .tc := ⟨.hbm, 143, rfl⟩
abbrev main_call4_v6 : Ref sig .tc := ⟨.hbm, 144, rfl⟩
abbrev main_call4_v7 : Ref sig .tc := ⟨.hbm, 145, rfl⟩
abbrev main_v67_1 : Ref sig .tc := ⟨.hbm, 146, rfl⟩
abbrev main_v67_0 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_v72 : Ref sig .tc := ⟨.hbm, 155, rfl⟩
abbrev main_v73 : Ref sig .tc := ⟨.hbm, 156, rfl⟩
abbrev main_cst_6 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_cst_7 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_cst_8 : Ref sig .tc := ⟨.hbm, 170, rfl⟩
abbrev main_v85 : Ref sig .tc := ⟨.hbm, 171, rfl⟩
abbrev main_v86 : Ref sig .tc := ⟨.hbm, 172, rfl⟩
abbrev main_cst_9 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_call6_cst : Ref sig .tc := ⟨.hbm, 192, rfl⟩
abbrev main_call6_v0 : Ref sig .tc := ⟨.hbm, 193, rfl⟩
abbrev main_v105 : Ref sig .tc := ⟨.hbm, 194, rfl⟩
abbrev main_cst_10 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_cst_11 : Ref sig .tc := ⟨.hbm, 199, rfl⟩
abbrev main_v109 : Ref sig .tc := ⟨.hbm, 200, rfl⟩
abbrev main_v110 : Ref sig .tc := ⟨.hbm, 201, rfl⟩
abbrev main_cst_12 : Ref sig .tc := ⟨.hbm, 202, rfl⟩
abbrev main_v111 : Ref sig .tc := ⟨.hbm, 203, rfl⟩
abbrev main_cst_13 : Ref sig .tc := ⟨.hbm, 204, rfl⟩
abbrev main_v112 : Ref sig .tc := ⟨.hbm, 205, rfl⟩
abbrev main_v113 : Ref sig .tc := ⟨.hbm, 206, rfl⟩
abbrev main_call7_call0_cst : Ref sig .tc := ⟨.hbm, 207, rfl⟩
abbrev main_call7_call0_v0 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_cst_14 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_cst_15 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_cst_16 : Ref sig .tc := ⟨.hbm, 225, rfl⟩
abbrev main_v128 : Ref sig .tc := ⟨.hbm, 226, rfl⟩
abbrev main_v129 : Ref sig .tc := ⟨.hbm, 227, rfl⟩
abbrev main_call8_call0_cst : Ref sig .tc := ⟨.hbm, 228, rfl⟩
abbrev main_call8_call0_v0 : Ref sig .tc := ⟨.hbm, 229, rfl⟩
abbrev main_v130 : Ref sig .tc := ⟨.hbm, 230, rfl⟩
abbrev main_v131 : Ref sig .tc := ⟨.hbm, 231, rfl⟩
abbrev main_cst_17 : Ref sig .tc := ⟨.hbm, 232, rfl⟩
abbrev main_v132 : Ref sig .tc := ⟨.hbm, 233, rfl⟩
abbrev main_v133 : Ref sig .tc := ⟨.hbm, 234, rfl⟩
abbrev main_call9_v0 : Ref sig .tc := ⟨.hbm, 235, rfl⟩
abbrev main_call9_v1 : Ref sig .tc := ⟨.hbm, 236, rfl⟩
abbrev main_v134 : Ref sig .tc := ⟨.hbm, 237, rfl⟩
abbrev main_cst_18 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_cst_19 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_c : Ref sig .tc := ⟨.hbm, 255, rfl⟩
abbrev main_call10_v0 : Ref sig .tc := ⟨.hbm, 256, rfl⟩
abbrev main_v150 : Ref sig .tc := ⟨.hbm, 257, rfl⟩
abbrev main_c_20 : Ref sig .tc := ⟨.hbm, 258, rfl⟩
abbrev main_call11_v0 : Ref sig .tc := ⟨.hbm, 259, rfl⟩
abbrev main_v151 : Ref sig .tc := ⟨.hbm, 260, rfl⟩

abbrev nD : Nat := 1
abbrev τ : Topo := Topo.v7x

variable {F : FTy → Type} [FloatOps F]
-- ==== Kernel2.lean ====
abbrev S2048x4096 : Shape := ⟨2, ![2048, 4096]⟩
abbrev S4096x1024 : Shape := ⟨2, ![4096, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x4096, .bf16⟩
  | .hbm, ⟨4, _⟩ => ⟨S2048x1024, .bf16⟩
  | .hbm, ⟨5, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 22
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x4096, .bf16⟩
  | .hbm, ⟨21, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x4096, .f32⟩
  | .hbm, ⟨20, _⟩ => ⟨S4096x1024, .f32⟩
  | .hbm, ⟨21, _⟩ => ⟨S1024x4096, .f32⟩
  | .hbm, ⟨22, _⟩ => ⟨S1024x4096, .bf16⟩
  | .hbm, ⟨23, _⟩ => ⟨S1024x8x512, .bf16⟩
  | .hbm, ⟨24, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S2048x4096, .bf16⟩
  | .hbm, ⟨6, _⟩ => ⟨S1024x4096, .bf16⟩
  | .hbm, ⟨7, _⟩ => ⟨S2048x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x4096, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel5.lean ====
abbrev S2048x1024 : Shape := ⟨2, ![2048, 1024]⟩
abbrev S1x1024 : Shape := ⟨2, ![1, 1024]⟩
abbrev S1024x2560 : Shape := ⟨2, ![1024, 2560]⟩
abbrev S2048x2560 : Shape := ⟨2, ![2048, 2560]⟩
abbrev S_ : Shape := ⟨0, ![]⟩
abbrev S2048 : Shape := ⟨1, ![2048]⟩
abbrev S2048x1 : Shape := ⟨2, ![2048, 1]⟩
abbrev S2560x1024 : Shape := ⟨2, ![2560, 1024]⟩
abbrev S2048x1280 : Shape := ⟨2, ![2048, 1280]⟩
abbrev S2048x512 : Shape := ⟨2, ![2048, 512]⟩
abbrev S1280x512 : Shape := ⟨2, ![1280, 512]⟩

abbrev nBuf : Space → Nat
  | .hbm => 22
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .f32⟩
  | .hbm, ⟨3, _⟩ => ⟨S2048x2560, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x2560, .bf16⟩
  | .hbm, ⟨21, _⟩ => ⟨S2560x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x512, .bf16⟩
  | .local _ .vmem, ⟨3, _⟩ => ⟨S2048x512, .bf16⟩
  | .local _ .vmem, ⟨4, _⟩ => ⟨S1280x512, .bf16⟩
  | .local _ .vmem, ⟨5, _⟩ => ⟨S1280x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S1x1024 : Shape := ⟨2, ![1, 1024]⟩
abbrev S1024x2560 : Shape := ⟨2, ![1024, 2560]⟩
abbrev S2048x2560 : Shape := ⟨2, ![2048, 2560]⟩
abbrev S_ : Shape := ⟨0, ![]⟩
abbrev S2048 : Shape := ⟨1, ![2048]⟩
abbrev S2048x1 : Shape := ⟨2, ![2048, 1]⟩
abbrev S2560x1024 : Shape := ⟨2, ![2560, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .f32⟩
  | .hbm, ⟨3, _⟩ => ⟨S2048x2560, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x2560, .f32⟩
  | .hbm, ⟨20, _⟩ => ⟨S2560x1024, .f32⟩
  | .hbm, ⟨21, _⟩ => ⟨S1024x2560, .f32⟩
  | .hbm, ⟨22, _⟩ => ⟨S1024x2560, .bf16⟩
  | .hbm, ⟨23, _⟩ => ⟨S2560x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S2048x1024 : Shape := ⟨2, ![2048, 1024]⟩
abbrev S1x1024 : Shape := ⟨2, ![1, 1024]⟩
abbrev S1024x2560 : Shape := ⟨2, ![1024, 2560]⟩
abbrev S2048x2560 : Shape := ⟨2, ![2048, 2560]⟩
abbrev S2560x1024 : Shape := ⟨2, ![2560, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .f32⟩
  | .hbm, ⟨3, _⟩ => ⟨S2048x2560, .f32⟩
  | .hbm, ⟨4, _⟩ => ⟨S2048x1024, .f32⟩
  | .hbm, ⟨5, _⟩ => ⟨S2048x2560, .bf16⟩
  | .hbm, ⟨6, _⟩ => ⟨S2560x1024, .f32⟩
  | .hbm, ⟨7, _⟩ => ⟨S2560x1024, .bf16⟩
  | .hbm, ⟨8, _⟩ => ⟨S2048x1024, .f32⟩
  | .hbm, ⟨9, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference6Ideal.lean ====
abbrev S2048x1024 : Shape := ⟨2, ![2048, 1024]⟩
abbrev S1x1024 : Shape := ⟨2, ![1, 1024]⟩
abbrev S1024x2560 : Shape := ⟨2, ![1024, 2560]⟩
abbrev S2048x2560 : Shape := ⟨2, ![2048, 2560]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .f32⟩
  | .hbm, ⟨3, _⟩ => ⟨S2048x2560, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x2560, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S2048x1024, .bf16⟩
  | .hbm, ⟨5, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S2048x1024 : Shape := ⟨2, ![2048, 1024]⟩
abbrev S2048x4096 : Shape := ⟨2, ![2048, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S1x1024, .f32⟩
  | .hbm, ⟨4, _⟩ => ⟨S2048x4096, .bf16⟩
  | .hbm, ⟨5, _⟩ => ⟨S4096x1024, .bf16⟩
  | .hbm, ⟨6, _⟩ => ⟨S2048x1024, .f32⟩
  | .hbm, ⟨7, _⟩ => ⟨S2048x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference8Ideal.lean ====
abbrev S2048x1024 : Shape := ⟨2, ![2048, 1024]⟩
abbrev S2048x4096 : Shape := ⟨2, ![2048, 4096]⟩
abbrev S4096x1024 : Shape := ⟨2, ![4096, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x1024, .f32⟩
  | .hbm, ⟨4, _⟩ => ⟨S2048x1024, .bf16⟩
  | .hbm, ⟨5, _⟩ => ⟨S1024x1024, .bf16⟩
  | .hbm, ⟨6, _⟩ => ⟨S2048x1024, .f32⟩
  | .hbm, ⟨7, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference9Ideal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel10.lean ====
abbrev S2048x1024 : Shape := ⟨2, ![2048, 1024]⟩
abbrev S1x1024 : Shape := ⟨2, ![1, 1024]⟩
abbrev S1024x2560 : Shape := ⟨2, ![1024, 2560]⟩
abbrev S_ : Shape := ⟨0, ![]⟩
abbrev S2048 : Shape := ⟨1, ![2048]⟩
abbrev S2048x1 : Shape := ⟨2, ![2048, 1]⟩
abbrev S2560x1024 : Shape := ⟨2, ![2560, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 23
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2560x1024, .f32⟩
  | .hbm, ⟨20, _⟩ => ⟨S1024x1024, .f32⟩
  | .hbm, ⟨21, _⟩ => ⟨S1024x1024, .bf16⟩
  | .hbm, ⟨22, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x1024 : Shape := ⟨2, ![2048, 1024]⟩
abbrev S1x1024 : Shape := ⟨2, ![1, 1024]⟩
abbrev S1024x2560 : Shape := ⟨2, ![1024, 2560]⟩
abbrev S_ : Shape := ⟨0, ![]⟩
abbrev S2048 : Shape := ⟨1, ![2048]⟩
abbrev S2048x1 : Shape := ⟨2, ![2048, 1]⟩
abbrev S2048x2560 : Shape := ⟨2, ![2048, 2560]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x2560, .f32⟩
  | .hbm, ⟨19, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel11.lean ====
abbrev S2048x1024 : Shape := ⟨2, ![2048, 1024]⟩
abbrev S2048x4096 : Shape := ⟨2, ![2048, 4096]⟩
abbrev S4096x1024 : Shape := ⟨2, ![4096, 1024]⟩
abbrev S1x1024 : Shape := ⟨2, ![1, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 10
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S1x1024, .f32⟩
  | .hbm, ⟨4, _⟩ => ⟨S2048x1024, .f32⟩
  | .hbm, ⟨5, _⟩ => ⟨S2048x4096, .bf16⟩
  | .hbm, ⟨6, _⟩ => ⟨S4096x1024, .bf16⟩
  | .hbm, ⟨7, _⟩ => ⟨S2048x1024, .f32⟩
  | .hbm, ⟨8, _⟩ => ⟨S2048x1024, .f32⟩
  | .hbm, ⟨9, _⟩ => ⟨S8x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference11Ideal.lean ====
abbrev S2048x1024 : Shape := ⟨2, ![2048, 1024]⟩
abbrev S2048x4096 : Shape := ⟨2, ![2048, 4096]⟩
abbrev S4096x1024 : Shape := ⟨2, ![4096, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_cst_7 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel12.lean ====
abbrev S2048x1024 : Shape := ⟨2, ![2048, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S2048x4096 : Shape := ⟨2, ![2048, 4096]⟩
abbrev S1x1024x512 : Shape := ⟨3, ![1, 1024, 512]⟩
abbrev S2048x512 : Shape := ⟨2, ![2048, 512]⟩
abbrev S2048 : Shape := ⟨1, ![2048]⟩
abbrev S2048x1 : Shape := ⟨2, ![2048, 1]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S1024x8x512, .f32⟩
  | .hbm, ⟨4, _⟩ => ⟨S8x1024x512, .f32⟩
  | .hbm, ⟨5, _⟩ => ⟨S8x1024x512, .bf16⟩
  | .hbm, ⟨6, _⟩ => ⟨S2048x4096, .bf16⟩
  | .hbm, ⟨7, _⟩ => ⟨S2048x1024, .bf16⟩
  | .local _ .vmem, ⟨0, _⟩ => ⟨S2048x1024, .f32⟩
  | .local _ .vmem, ⟨1, _⟩ => ⟨S1x1024x512, .bf16⟩
  | .local _ .vmem, ⟨2, _⟩ => ⟨S1x1024x512, .bf16⟩
  | .local _ .vmem, ⟨3, _⟩ => ⟨S1x1024, .f32⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference12Ideal.lean ====
abbrev S2048x1024 : Shape := ⟨2, ![2048, 1024]⟩
abbrev S1x1024 : Shape := ⟨2, ![1, 1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x4096, .f32⟩
  | .hbm, ⟨19, _⟩ => ⟨S2048x4096, .bf16⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel13.lean ====
abbrev S2048x1024 : Shape := ⟨2, ![2048, 1024]⟩
abbrev S1x1024 : Shape := ⟨2, ![1, 1024]⟩
abbrev S1024x2560 : Shape := ⟨2, ![1024, 2560]⟩
abbrev S2560x1024 : Shape := ⟨2, ![2560, 1024]⟩
abbrev S1536x1024 : Shape := ⟨2, ![1536, 1024]⟩
abbrev S2048x1536 : Shape := ⟨2, ![2048, 1536]⟩
abbrev S512x1024 : Shape := ⟨2, ![512, 1024]⟩
abbrev S2048x512 : Shape := ⟨2, ![2048, 512]⟩
abbrev S2048 : Shape := ⟨1, ![2048]⟩
abbrev S2048x1 : Shape := ⟨2, ![2048, 1]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .f32⟩
  | .hbm, ⟨3, _⟩ => ⟨S2560x1024, .f32⟩
  | .hbm, ⟨4, _⟩ => ⟨S1536x1024, .f32⟩
  | .hbm, ⟨5, _⟩ => ⟨S1536x1024, .bf16⟩
  | .hbm, ⟨6, _⟩ => ⟨S2048x1536, .bf16⟩
  | .hbm, ⟨7, _⟩ => ⟨S2048x1024, .bf16⟩
  | .local _ .vmem, ⟨0, _⟩ => ⟨S2048x1024, .f32⟩
  | .local _ .vmem, ⟨1, _⟩ => ⟨S512x1024, .bf16⟩
  | .local _ .vmem, ⟨2, _⟩ => ⟨S512x1024, .bf16⟩
  | .local _ .vmem, ⟨3, _⟩ => ⟨S1x1024, .f32⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference13Ideal.lean ====
abbrev S2048x1024 : Shape := ⟨2, ![2048, 1024]⟩
abbrev S1x1024 : Shape := ⟨2, ![1, 1024]⟩
abbrev S1024x2560 : Shape := ⟨2, ![1024, 2560]⟩
abbrev S_ : Shape := ⟨0, ![]⟩
abbrev S2048 : Shape := ⟨1, ![2048]⟩
abbrev S2048x1 : Shape := ⟨2, ![2048, 1]⟩
abbrev S2048x2560 : Shape := ⟨2, ![2048, 2560]⟩
abbrev S2048x1536 : Shape := ⟨2, ![2048, 1536]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2560, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x2560, .f32⟩
  | .hbm, ⟨19, _⟩ => ⟨S2048x1536, .f32⟩
  | .hbm, ⟨20, _⟩ => ⟨S2048x1536, .bf16⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel14.lean ====
abbrev S2048x1024 : Shape := ⟨2, ![2048, 1024]⟩
abbrev S1x1024 : Shape := ⟨2, ![1, 1024]⟩
abbrev S1024x3328 : Shape := ⟨2, ![1024, 3328]⟩
abbrev S2048x3328 : Shape := ⟨2, ![2048, 3328]⟩
abbrev S_ : Shape := ⟨0, ![]⟩
abbrev S2048 : Shape := ⟨1, ![2048]⟩
abbrev S2048x1 : Shape := ⟨2, ![2048, 1]⟩
abbrev S3328x1024 : Shape := ⟨2, ![3328, 1024]⟩
abbrev S2048x1664 : Shape := ⟨2, ![2048, 1664]⟩
abbrev S2048x512 : Shape := ⟨2, ![2048, 512]⟩
abbrev S1664x512 : Shape := ⟨2, ![1664, 512]⟩

abbrev nBuf : Space → Nat
  | .hbm => 22
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3328, .f32⟩
  | .hbm, ⟨3, _⟩ => ⟨S2048x3328, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x3328, .bf16⟩
  | .hbm, ⟨21, _⟩ => ⟨S3328x1024, .bf16⟩
  | .local _ .vmem, ⟨0, _⟩ => ⟨S2048x1664, .bf16⟩
  | .local _ .vmem, ⟨1, _⟩ => ⟨S2048x1664, .bf16⟩
  | .local _ .vmem, ⟨2, _⟩ => ⟨S2048x512, .bf16⟩
  | .local _ .vmem, ⟨3, _⟩ => ⟨S2048x512, .bf16⟩
  | .local _ .vmem, ⟨4, _⟩ => ⟨S1664x512, .bf16⟩
  | .local _ .vmem, ⟨5, _⟩ => ⟨S1664x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x1024 : Shape := ⟨2, ![2048, 1024]⟩
abbrev S1x1024 : Shape := ⟨2, ![1, 1024]⟩
abbrev S1024x3328 : Shape := ⟨2, ![1024, 3328]⟩
abbrev S2048x3328 : Shape := ⟨2, ![2048, 3328]⟩
abbrev S_ : Shape := ⟨0, ![]⟩
abbrev S2048 : Shape := ⟨1, ![2048]⟩
abbrev S2048x1 : Shape := ⟨2, ![2048, 1]⟩
abbrev S3328x1024 : Shape := ⟨2, ![3328, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3328, .f32⟩
  | .hbm, ⟨3, _⟩ => ⟨S2048x3328, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x3328, .f32⟩
  | .hbm, ⟨20, _⟩ => ⟨S3328x1024, .f32⟩
  | .hbm, ⟨21, _⟩ => ⟨S1024x3328, .f32⟩
  | .hbm, ⟨22, _⟩ => ⟨S1024x3328, .bf16⟩
  | .hbm, ⟨23, _⟩ => ⟨S3328x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S2048x1024 : Shape := ⟨2, ![2048, 1024]⟩
abbrev S1024x3328 : Shape := ⟨2, ![1024, 3328]⟩
abbrev S2048x3328 : Shape := ⟨2, ![2048, 3328]⟩
abbrev S3328x1024 : Shape := ⟨2, ![3328, 1024]⟩
abbrev S3328x512 : Shape := ⟨2, ![3328, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x3328, .f32⟩
  | .hbm, ⟨2, _⟩ => ⟨S2048x3328, .f32⟩
  | .hbm, ⟨3, _⟩ => ⟨S2048x3328, .bf16⟩
  | .hbm, ⟨4, _⟩ => ⟨S3328x1024, .f32⟩
  | .hbm, ⟨5, _⟩ => ⟨S3328x1024, .bf16⟩
  | .hbm, ⟨6, _⟩ => ⟨S2048x1024, .f32⟩
  | .local _ .vmem, ⟨0, _⟩ => ⟨S1024x3328, .bf16⟩
  | .local _ .vmem, ⟨1, _⟩ => ⟨S1024x3328, .bf16⟩
  | .local _ .vmem, ⟨2, _⟩ => ⟨S3328x512, .bf16⟩
  | .local _ .vmem, ⟨3, _⟩ => ⟨S3328x512, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3328x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S2048x1024 : Shape := ⟨2, ![2048, 1024]⟩
abbrev S1024x3328 : Shape := ⟨2, ![1024, 3328]⟩
abbrev S2048x3328 : Shape := ⟨2, ![2048, 3328]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3328, .f32⟩
  | .hbm, ⟨2, _⟩ => ⟨S2048x3328, .f32⟩
  | .hbm, ⟨3, _⟩ => ⟨S2048x3328, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel16.lean ====
abbrev S2048x1024 : Shape := ⟨2, ![2048, 1024]⟩
abbrev S1x1024 : Shape := ⟨2, ![1, 1024]⟩
abbrev S1024x3328 : Shape := ⟨2, ![1024, 3328]⟩
abbrev S_ : Shape := ⟨0, ![]⟩
abbrev S2048 : Shape := ⟨1, ![2048]⟩
abbrev S2048x1 : Shape := ⟨2, ![2048, 1]⟩
abbrev S3328x1024 : Shape := ⟨2, ![3328, 1024]⟩
abbrev S768x1024 : Shape := ⟨2, ![768, 1024]⟩
abbrev S2048x768 : Shape := ⟨2, ![2048, 768]⟩

abbrev nBuf : Space → Nat
  | .hbm => 23
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3328, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S3328x1024, .f32⟩
  | .hbm, ⟨20, _⟩ => ⟨S768x1024, .f32⟩
  | .hbm, ⟨21, _⟩ => ⟨S768x1024, .bf16⟩
  | .hbm, ⟨22, _⟩ => ⟨S2048x768, .f32⟩
  | .local _ .vmem, ⟨0, _⟩ => ⟨S2048x1024, .bf16⟩
  | .local _ .vmem, ⟨1, _⟩ => ⟨S768x1024, .bf16⟩
  | .local _ .vmem, ⟨2, _⟩ => ⟨S2048x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S2048x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference16Ideal.lean ====
abbrev S2048x1024 : Shape := ⟨2, ![2048, 1024]⟩
abbrev S1x1024 : Shape := ⟨2, ![1, 1024]⟩
abbrev S1024x3328 : Shape := ⟨2, ![1024, 3328]⟩
abbrev S_ : Shape := ⟨0, ![]⟩
abbrev S2048 : Shape := ⟨1, ![2048]⟩
abbrev S2048x1 : Shape := ⟨2, ![2048, 1]⟩
abbrev S2048x3328 : Shape := ⟨2, ![2048, 3328]⟩
abbrev S2048x768 : Shape := ⟨2, ![2048, 768]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3328, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x3328, .f32⟩
  | .hbm, ⟨19, _⟩ => ⟨S2048x768, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Launch.RunB.lean ====
module

public import proofs.«01_k».proof.Proof.Gen.KernelIdeal.Frame.RunA

@[expose] public section

/-!
# The body at the later grid points

The run of the whole body where the coordinate is not the first.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken: points 1, 2, … 31: 31 of 32), WITH the
    proof that on whole staging memrefs — the inputs' at their contents, the outputs it reads before covering (16, 17, 18) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) :
    Σ' (L11 : List (View.Piece (Elt F) S64x256 .bf16)), Σ' (L12 : List (View.Piece (Elt F) S64x256 .bf16)), Σ' (L13 : List (View.Piece (Elt F) S64x512 .bf16)), Σ' (L14 : List (View.Piece (Elt F) S64x512 .bf16)), Σ' (L15 : List (View.Piece (Elt F) S64x128 .bf16)), Σ' (L16 : List (View.Piece (Elt F) S128x256 .f32)), Σ' (L17 : List (View.Piece (Elt F) S1x256 .f32)), Σ' (L18 : List (View.Piece (Elt F) S1x512 .f32)), { LS0 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo16 ∗ owns (c : Thread nD τ) arg18 fullShare xo17 ∗ owns (c : Thread nD τ) arg19 fullShare xo18 ∗ owns (c : Thread nD τ) arg20 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LS0)) -∗ K ⟨⟩))
          ⊢ wp frame (wpE (defs₀ (F := F)) Variants.none c none) E (cc0_gla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, fun E K => ?run⟩
  case run =>
    simp only [cc0_gla_bwd_eq_skeleton]; unfold cc0_gla_bwd_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg17.eq_unread hf16; obtain rfl := harg18.eq_unread hf17; obtain rfl := harg19.eq_unread hf18; obtain rfl := harg20.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact HS0

end Cert.KernelIdeal.Gen

end
-- ==== Proof.Launch.Outputs.lean ====
module

public import proofs.«01_k».proof.Proof.Launch.RunB
public import Idealize.ShloMosaic.Lib.Claim

@[expose] public section

/-!
# What the body leaves in each output

For each output and each of the two cases, the pieces stored cover it, and what it holds.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 11 tile its block (1 store of `S64x256`). -/
theorem cover0_A_11 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (y : S64x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).1 S64x256.size (by sl_kernel_rfl) y

/-- What case A leaves in output 11's staging buffer: its pieces read back over junk. -/
def out0_A_11 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) : Vec F S64x256 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).1)

/-- Case A's pieces for output 12 tile its block (1 store of `S64x256`). -/
theorem cover0_A_12 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (y : S64x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.1 S64x256.size (by sl_kernel_rfl) y

/-- What case A leaves in output 12's staging buffer: its pieces read back over junk. -/
def out0_A_12 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) : Vec F S64x256 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.1)

/-- Case A's pieces for output 13 tile its block (1 store of `S64x512`). -/
theorem cover0_A_13 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (y : S64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.1 S64x512.size (by sl_kernel_rfl) y

/-- What case A leaves in output 13's staging buffer: its pieces read back over junk. -/
def out0_A_13 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) : Vec F S64x512 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.1)

/-- Case A's pieces for output 14 tile its block (4 stores of `S64x128`). -/
theorem cover0_A_14 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (y : S64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.1 S64x128.size (by sl_kernel_rfl) y

/-- What case A leaves in output 14's staging buffer: its pieces read back over junk. -/
def out0_A_14 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) : Vec F S64x512 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.1)

/-- Case A's pieces for output 15 tile its block (1 store of `S64x128`). -/
theorem cover0_A_15 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (y : S64x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.1 S64x128.size (by sl_kernel_rfl) y

/-- What case A leaves in output 15's staging buffer: its pieces read back over junk. -/
def out0_A_15 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) : Vec F S64x128 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.1)

/-- Case A's pieces for output 16 tile its block (2 stores of `S128x256`). -/
theorem cover0_A_16 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.1 S128x256.size (by sl_kernel_rfl) y

/-- What case A leaves in output 16's staging buffer: its pieces read back over junk. -/
def out0_A_16 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) : Vec F S128x256 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.1)

/-- Case A's pieces for output 17 tile its block (2 stores of `S1x256`). -/
theorem cover0_A_17 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (y : S1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.2.1 S1x256.size (by sl_kernel_rfl) y

/-- What case A leaves in output 17's staging buffer: its pieces read back over junk. -/
def out0_A_17 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) : Vec F S1x256 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.2.1)

/-- Case A's pieces for output 18 tile its block (2 stores of `S1x512`). -/
theorem cover0_A_18 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.2.2.1 S1x512.size (by sl_kernel_rfl) y

/-- What case A leaves in output 18's staging buffer: its pieces read back over junk. -/
def out0_A_18 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) : Vec F S1x512 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.2.2.1)

/-- Case A's pieces for scratch `arg20`, which the kernel carries between points, cover it: 2 pieces of `S512x256` tiling it. -/
theorem scover0_A_0 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.2.2.2.1 S512x256.size (by sl_kernel_rfl) y

/-- What case A leaves in scratch `arg20`: its pieces read back over junk. -/
def sout0_A_0 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) : Vec F S512x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.2.2.2.1)

/-- Case B's pieces for output 11 tile its block (1 store of `S64x256`). -/
theorem cover0_B_11 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) (y : S64x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).1 S64x256.size (by sl_kernel_rfl) y

/-- What case B leaves in output 11's staging buffer: its pieces read back over junk. -/
def out0_B_11 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) : Vec F S64x256 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).1)

/-- Case B's pieces for output 12 tile its block (1 store of `S64x256`). -/
theorem cover0_B_12 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) (y : S64x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.1 S64x256.size (by sl_kernel_rfl) y

/-- What case B leaves in output 12's staging buffer: its pieces read back over junk. -/
def out0_B_12 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) : Vec F S64x256 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.1)

/-- Case B's pieces for output 13 tile its block (1 store of `S64x512`). -/
theorem cover0_B_13 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) (y : S64x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.1 S64x512.size (by sl_kernel_rfl) y

/-- What case B leaves in output 13's staging buffer: its pieces read back over junk. -/
def out0_B_13 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) : Vec F S64x512 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.1)

/-- Case B's pieces for output 14 tile its block (4 stores of `S64x128`). -/
theorem cover0_B_14 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) (y : S64x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.1 S64x128.size (by sl_kernel_rfl) y

/-- What case B leaves in output 14's staging buffer: its pieces read back over junk. -/
def out0_B_14 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) : Vec F S64x512 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.1)

/-- Case B's pieces for output 15 tile its block (1 store of `S64x128`). -/
theorem cover0_B_15 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) (y : S64x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.1 S64x128.size (by sl_kernel_rfl) y

/-- What case B leaves in output 15's staging buffer: its pieces read back over junk. -/
def out0_B_15 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) : Vec F S64x128 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.1)

/-- Case B's pieces for output 16 tile its block (1 store of `S128x256`). -/
theorem cover0_B_16 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.1 S128x256.size (by sl_kernel_rfl) y

/-- What case B leaves in output 16's staging buffer: its pieces read back over junk. -/
def out0_B_16 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) : Vec F S128x256 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.1)

/-- Case B's pieces for output 17 tile its block (1 store of `S1x256`). -/
theorem cover0_B_17 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) (y : S1x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.2.1 S1x256.size (by sl_kernel_rfl) y

/-- What case B leaves in output 17's staging buffer: its pieces read back over junk. -/
def out0_B_17 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) : Vec F S1x256 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.2.1)

/-- Case B's pieces for output 18 tile its block (1 store of `S1x512`). -/
theorem cover0_B_18 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.2.2.1 S1x512.size (by sl_kernel_rfl) y

/-- What case B leaves in output 18's staging buffer: its pieces read back over junk. -/
def out0_B_18 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) : Vec F S1x512 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.2.2.1)

/-- Case B's pieces for scratch `arg20`, which the kernel carries between points, cover it: 1 piece of `S512x256` tiling it. -/
theorem scover0_B_0 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) (y : S512x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.2.2.2.1 S512x256.size (by sl_kernel_rfl) y

/-- What case B leaves in scratch `arg20`: its pieces read back over junk. -/
def sout0_B_0 (c : Dev nD) (i : grid0.Coords) (arg1 : Memref sig .tc .vmem S64x256 .bf16) (harg1 : arg1.IsWhole) (arg2 : Memref sig .tc .vmem S64x256 .bf16) (harg2 : arg2.IsWhole) (arg3 : Memref sig .tc .vmem S64x512 .bf16) (harg3 : arg3.IsWhole) (arg4 : Memref sig .tc .vmem S64x512 .f32) (harg4 : arg4.IsWhole) (arg5 : Memref sig .tc .vmem S64x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S1x512 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S64x512 .f32) (harg11 : arg11.IsWhole) (arg12 : Memref sig .tc .vmem S64x256 .bf16) (harg12 : arg12.IsWhole) (arg13 : Memref sig .tc .vmem S64x256 .bf16) (harg13 : arg13.IsWhole) (arg14 : Memref sig .tc .vmem S64x512 .bf16) (harg14 : arg14.IsWhole) (arg15 : Memref sig .tc .vmem S64x512 .bf16) (harg15 : arg15.IsWhole) (arg16 : Memref sig .tc .vmem S64x128 .bf16) (harg16 : arg16.IsWhole) (arg17 : Memref sig .tc .vmem S128x256 .f32) (harg17 : arg17.IsWhole) (arg18 : Memref sig .tc .vmem S1x256 .f32) (harg18 : arg18.IsWhole) (arg19 : Memref sig .tc .vmem S1x512 .f32) (harg19 : arg19.IsWhole) (arg20 : Memref sig .tc .vmem S512x256 .f32) (harg20 : arg20.IsWhole) (hc0 : ¬cond0_0 i)
    (x0 : Vec F S64x256 .bf16) (x1 : Vec F S64x256 .bf16) (x2 : Vec F S64x512 .bf16) (x3 : Vec F S64x512 .f32) (x4 : Vec F S64x128 .f32) (x5 : Vec F S128x256 .f32) (x6 : Vec F S1x256 .f32) (x7 : Vec F S1x512 .f32) (x8 : Vec F S1x512x256 .f32) (x9 : Vec F S1x512x256 .f32) (x10 : Vec F S64x512 .f32) (xo16 : Vec F S128x256 .f32) (xo17 : Vec F S1x256 .f32) (xo18 : Vec F S1x512 .f32) (xs0 : Vec F S512x256 .f32) : Vec F S512x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xo16 xo17 xo18 xs0).2.2.2.2.2.2.2.2.1)

end Cert.KernelIdeal.Gen
-- ==== Proof.Launch.Frame.lean ====
module

public import proofs.«01_k».proof.Proof.Launch.Outputs
public import Idealize.ShloMosaic.Lib.Claim

@[expose] public section

/-!
# The launch

What the outputs and the carried scratch hold point by point, the run of the launch and its frame.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S64x256 .bf16 × Vec F S64x256 .bf16 × Vec F S64x512 .bf16 × Vec F S64x512 .bf16 × Vec F S64x128 .bf16 × Vec F S128x256 .f32 × Vec F S1x256 .f32 × Vec F S1x512 .f32 × Vec F S512x256 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 32 = 0 then
      (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2)

/-- `outsAt0` at a point of case A: that case's contents. -/
theorem outsAt0_A (c : Dev nD) (t : Fin cfg0.N) (h0 : t.val % 32 = 0) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t)) := by
  obtain ⟨n, hn⟩ := t
  cases n with
  | zero => exact rfl
  | succ n =>
    have h1 : (n + 1) % 32 = 0 := h0
    have h2 : n + 1 < 32 := hn
    exact absurd h1 (by omega)

/-- `outsAt0` at a point of case B: that case's contents, over what the point before left. -/
theorem outsAt0_B (c : Dev nD) (t : Fin cfg0.N) (h0 : ¬t.val % 32 = 0) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n =>
    have h1 : ¬(n + 1) % 32 = 0 := h0
    rw [outsAt0]
    split
    · contradiction
    · rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2.1
    | ⟨17, _⟩ => (outsAt0 m c t.val t.isLt).2.2.2.2.2.2.1
    | ⟨18, _⟩ => (outsAt0 m c t.val t.isLt).2.2.2.2.2.2.2.1
    | ⟨_ + 19, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window . -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2.1 := by dsimp only [dats]
theorem after0_17 (c : Dev nD) (t : Fin cfg0.N) : (dats m 0 c).after 17 t = (outsAt0 m c t.val t.isLt).2.2.2.2.2.2.1 := by dsimp only [dats]
theorem after0_18 (c : Dev nD) (t : Fin cfg0.N) : (dats m 0 c).after 18 t = (outsAt0 m c t.val t.isLt).2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
/-- At a point of case B output 16's current staging buffer holds what the body left at the point before: the point is
    not the first, the buffer was not written back between (`flush0_16`), the window is live and uncut (Lib/Pipeline/Frame.lean
    `Dat.before_out_kept`). -/
theorem before0_16_B (c : Dev nD) (t : Fin cfg0.N) (h0 : ¬t.val % 32 = 0) (d) :
    (dats m 0 c).before 16 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 32 = 0) (d) :
    (dats m 0 c).before 17 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 32 = 0) (d) :
    (dats m 0 c).before 18 t d = (outsAt0 m c (t.val - 1) (Nat.lt_of_le_of_lt (Nat.sub_le _ _) t.isLt)).2.2.2.2.2.2.2.1 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_11 out0_A_12 out0_A_13 out0_A_14 out0_A_15 out0_A_16 out0_A_17 out0_A_18 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t)).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_16_B m c t h0, before0_17_B m c t h0, before0_18_B m c t h0]
      unfold out0_B_11 out0_B_12 out0_B_13 out0_B_14 out0_B_15 out0_B_16 out0_B_17 out0_B_18 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) _ _ _ _).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexact H16
      isplitl [H17]; · iexact H17
      isplitl [H18]; · iexact H18
      isplitl [HS0]; · iexact HS0
      iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, over any float values: the run ends, the arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Launch.Value.lean ====
module

public import proofs.«01_k».proof.Proof.Launch.Frame
public import Idealize.ShloMosaic.Lib.Pipeline.Value

@[expose] public section

/-!
# What the launch leaves in its results

The blocks flushed, window by window.
-/

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 11's array: the run's contents for that window after the body (`Gen.outsAt0`: its component 0), read through the window's block. -/
theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 32 = 0) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t)) := by
  simp only [flushed11, outsAt0_A m c t h0]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 32 = 0) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed11, outsAt0_B m c t h0]

/-- The index map sends distinct grid points to distinct block indices (decided over the 32 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S2048x256.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the run's contents for that window after the body (`Gen.outsAt0`: its component 1), read through the window's block. -/
theorem flushed12 (c : Dev nD) (t : Fin cfg0.N) :
    (dats m 0 c).flushed 12 t = (cfg0.win 12).cut (grid0.coords t) ((outsAt0 m c t.val t.isLt).2.1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 32 = 0) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t)) := by
  simp only [flushed12, outsAt0_A m c t h0]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 32 = 0) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed12, outsAt0_B m c t h0]

/-- The index map sends distinct grid points to distinct block indices (decided over the 32 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S2048x256.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 2), read through the window's block. -/
theorem flushed13 (c : Dev nD) (t : Fin cfg0.N) :
    (dats m 0 c).flushed 13 t = (cfg0.win 13).cut (grid0.coords t) ((outsAt0 m c t.val t.isLt).2.2.1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — by the frame's rewriting lemma for the case. -/
theorem flushed13_A (c : Dev nD) (t : Fin cfg0.N) (h0 : t.val % 32 = 0) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t)) := by
  simp only [flushed13, outsAt0_A m c t h0]

/-- … so at a point where case B runs, what its write-back would write is that case's NAMED TERM for the window (`Gen.out0_B_13`: the pieces
    its run found, read back) at the point's memrefs and input blocks, and for an output the case reads back what the point before left (`Gen.outsAt0` at `t - 1`) — by the frame's rewriting lemma for the case. -/
theorem flushed13_B (c : Dev nD) (t : Fin cfg0.N) (h0 : ¬t.val % 32 = 0) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed13, outsAt0_B m c t h0]

/-- The index map sends distinct grid points to distinct block indices (decided over the 32 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S2048x512.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 3), read through the window's block. -/
theorem flushed14 (c : Dev nD) (t : Fin cfg0.N) :
    (dats m 0 c).flushed 14 t = (cfg0.win 14).cut (grid0.coords t) ((outsAt0 m c t.val t.isLt).2.2.2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — by the frame's rewriting lemma for the case. -/
theorem flushed14_A (c : Dev nD) (t : Fin cfg0.N) (h0 : t.val % 32 = 0) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t)) := by
  simp only [flushed14, outsAt0_A m c t h0]

/-- … so at a point where case B runs, what its write-back would write is that case's NAMED TERM for the window (`Gen.out0_B_14`: the pieces
    its run found, read back) at the point's memrefs and input blocks, and for an output the case reads back what the point before left (`Gen.outsAt0` at `t - 1`) — by the frame's rewriting lemma for the case. -/
theorem flushed14_B (c : Dev nD) (t : Fin cfg0.N) (h0 : ¬t.val % 32 = 0) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed14, outsAt0_B m c t h0]

/-- The index map sends distinct grid points to distinct block indices (decided over the 32 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S2048x512.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the run's contents for that window after the body (`Gen.outsAt0`: its component 4), read through the window's block. -/
theorem flushed15 (c : Dev nD) (t : Fin cfg0.N) :
    (dats m 0 c).flushed 15 t = (cfg0.win 15).cut (grid0.coords t) ((outsAt0 m c t.val t.isLt).2.2.2.2.1) := by
  show (cfg0.win 15).cut (grid0.coords t) ((dats m 0 c).after 15 t) = _
  rw [after0_15]

/-- … so at a point where case A runs, what its write-back would write is that case's NAMED TERM for the window (`Gen.out0_A_15`: the pieces
    its run found, read back) at the point's memrefs and input blocks, and for an output the case reads back what the point before left (`Gen.outsAt0` at `t - 1`) — by the frame's rewriting lemma for the case. -/
theorem flushed15_A (c : Dev nD) (t : Fin cfg0.N) (h0 : t.val % 32 = 0) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t)) := by
  simp only [flushed15, outsAt0_A m c t h0]

/-- … so at a point where case B runs, what its write-back would write is that case's NAMED TERM for the window (`Gen.out0_B_15`: the pieces
    its run found, read back) at the point's memrefs and input blocks, and for an output the case reads back what the point before left (`Gen.outsAt0` at `t - 1`) — by the frame's rewriting lemma for the case. -/
theorem flushed15_B (c : Dev nD) (t : Fin cfg0.N) (h0 : ¬t.val % 32 = 0) :
    (dats m 0 c).flushed 15 t = (cfg0.win 15).cut (grid0.coords t) (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed15, outsAt0_B m c t h0]

/-- The index map sends distinct grid points to distinct block indices (decided over the 32 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S2048x128.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the run's contents for that window after the body (`Gen.outsAt0`: its component 5), read through the window's block. -/
theorem flushed16 (c : Dev nD) (t : Fin cfg0.N) :
    (dats m 0 c).flushed 16 t = (cfg0.win 16).cut (grid0.coords t) ((outsAt0 m c t.val t.isLt).2.2.2.2.2.1) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — by the frame's rewriting lemma for the case. -/
theorem flushed16_A (c : Dev nD) (t : Fin cfg0.N) (h0 : t.val % 32 = 0) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t)) := by
  simp only [flushed16, outsAt0_A m c t h0]

/-- … so at a point where case B runs, what its write-back would write is that case's NAMED TERM for the window (`Gen.out0_B_16`: the pieces
    its run found, read back) at the point's memrefs and input blocks, and for an output the case reads back what the point before left (`Gen.outsAt0` at `t - 1`) — by the frame's rewriting lemma for the case. -/
theorem flushed16_B (c : Dev nD) (t : Fin cfg0.N) (h0 : ¬t.val % 32 = 0) :
    (dats m 0 c).flushed 16 t = (cfg0.win 16).cut (grid0.coords t) (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed16, outsAt0_B m c t h0]

-- no `blocks16`: window 16's index map revisits a block index, or its points could not be enumerated here;
-- the final array is still the frame's `arrAt`, to read with Lib/Pipeline/Value.lean's lemmas by hand

/-- An index that no flushing point's block covers keeps output window 16's array contents at region entry. -/
theorem entry16 (c : Dev nD) (i : S128x256.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`Gen.outsAt0`: its component 6), read through the window's block. -/
theorem flushed17 (c : Dev nD) (t : Fin cfg0.N) :
    (dats m 0 c).flushed 17 t = (cfg0.win 17).cut (grid0.coords t) ((outsAt0 m c t.val t.isLt).2.2.2.2.2.2.1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — by the frame's rewriting lemma for the case. -/
theorem flushed17_A (c : Dev nD) (t : Fin cfg0.N) (h0 : t.val % 32 = 0) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t)) := by
  simp only [flushed17, outsAt0_A m c t h0]

/-- … so at a point where case B runs, what its write-back would write is that case's NAMED TERM for the window (`Gen.out0_B_17`: the pieces
    its run found, read back) at the point's memrefs and input blocks, and for an output the case reads back what the point before left (`Gen.outsAt0` at `t - 1`) — by the frame's rewriting lemma for the case. -/
theorem flushed17_B (c : Dev nD) (t : Fin cfg0.N) (h0 : ¬t.val % 32 = 0) :
    (dats m 0 c).flushed 17 t = (cfg0.win 17).cut (grid0.coords t) (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed17, outsAt0_B m c t h0]

-- no `blocks17`: window 17's index map revisits a block index, or its points could not be enumerated here;
-- the final array is still the frame's `arrAt`, to read with Lib/Pipeline/Value.lean's lemmas by hand

/-- An index that no flushing point's block covers keeps output window 17's array contents at region entry. -/
theorem entry17 (c : Dev nD) (i : S1x256.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 7), read through the window's block. -/
theorem flushed18 (c : Dev nD) (t : Fin cfg0.N) :
    (dats m 0 c).flushed 18 t = (cfg0.win 18).cut (grid0.coords t) ((outsAt0 m c t.val t.isLt).2.2.2.2.2.2.2.1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — by the frame's rewriting lemma for the case. -/
theorem flushed18_A (c : Dev nD) (t : Fin cfg0.N) (h0 : t.val % 32 = 0) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) (iblk m c 0 t) (iblk m c 1 t) (iblk m c 2 t) (X0_3 m c t) (iblk m c 4 t) (iblk m c 5 t) (iblk m c 6 t) (iblk m c 7 t) (iblk m c 8 t) (iblk m c 9 t) (iblk m c 10 t)) := by
  simp only [flushed18, outsAt0_A m c t h0]

/-- … so at a point where case B runs, what its write-back would write is that case's NAMED TERM for the window (`Gen.out0_B_18`: the pieces
    its run found, read back) at the point's memrefs and input blocks, and for an output the case reads back what the point before left (`Gen.outsAt0` at `t - 1`) — by the frame's rewriting lemma for the case. -/
theorem flushed18_B (c : Dev nD) (t : Fin cfg0.N) (h0 : ¬t.val % 32 = 0) :
    (dats m 0 c).flushed 18 t = (cfg0.win 18).cut (grid0.coords t) (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  simp only [flushed18, outsAt0_B m c t h0]

-- no `blocks18`: window 18's index map revisits a block index, or its points could not be enumerated here;
-- the final array is still the frame's `arrAt`, to read with Lib/Pipeline/Value.lean's lemmas by hand

/-- An index that no flushing point's block covers keeps output window 18's array contents at region entry. -/
theorem entry18 (c : Dev nD) (i : S1x512.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v64_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v64_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v64_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v64_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v64_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v64_5) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v64_6) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v64_7) = (dats m 0 c).arrAt 18 cfg0.N :=
  (h c).1 18

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 6 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 6).trans (((dats m 0 c).arrAt_in 6 rfl _).trans ((A_eq m c 6).trans (V_main_arg2 m c)))

/-- After the frame run, argument `main_arg3` is as launched: input window 7 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 7).trans (((dats m 0 c).arrAt_in 7 rfl _).trans ((A_eq m c 7).trans (V_main_arg3 m c)))

/-- After the frame run, argument `main_arg4` is as launched: input window 10 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 10).trans (((dats m 0 c).arrAt_in 10 rfl _).trans ((A_eq m c 10).trans (V_main_arg4 m c)))

set_option maxHeartbeats 264580 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v64_0) = (dats m 0 c).arrAt 11 cfg0.N
      ∧ r.2.mem ((c : Thread nD τ).loc main_v64_1) = (dats m 0 c).arrAt 12 cfg0.N
      ∧ r.2.mem ((c : Thread nD τ).loc main_v64_2) = (dats m 0 c).arrAt 13 cfg0.N
      ∧ r.2.mem ((c : Thread nD τ).loc main_v64_3) = (dats m 0 c).arrAt 14 cfg0.N
      ∧ r.2.mem ((c : Thread nD τ).loc main_v64_4) = (dats m 0 c).arrAt 15 cfg0.N
      ∧ r.2.mem ((c : Thread nD τ).loc main_v64_5) = (dats m 0 c).arrAt 16 cfg0.N
      ∧ r.2.mem ((c : Thread nD τ).loc main_v64_6) = (dats m 0 c).arrAt 17 cfg0.N
      ∧ r.2.mem ((c : Thread nD τ).loc main_v64_7) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post11 m r h c,
      post12 m r h c,
      post13 m r h c,
      post14 m r h c,
      post15 m r h c,
      post16 m r h c,
      post17 m r h c,
      post18 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S512x256 .f32) : Vec F S512x256 .f32 :=
  if h0 : n % 32 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (X0_3 m c (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (X0_3 m c (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2.1 (outsAt0 m c ((⟨n, hb⟩ : Fin cfg0.N).val - 1) (Nat.lt_of_le_of_lt (Nat.sub_le _ _) (⟨n, hb⟩ : Fin cfg0.N).isLt)).2.2.2.2.2.2.2.1 acc

/-- WHAT CARRIED SCRATCH 0 HOLDS after point `t`: the fold of its run up to `t`, from the reset at the run's first point
    `32·(t / 32)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2.2.2.2.2.2 = Pipeline.accAt (fun n h => scAt0_0 m c n h (VS0_0.read (Elt F) VS0_0.junk)) (scAt0_0 m c) (32 * (t.val / 32)) (t.val % 32)
      (by have h1 := t.isLt; have h2 := Nat.div_add_mod t.val 32; omega) :=
  Pipeline.eq_accAt_of_mod (fun n h => (outsAt0 m c n h).2.2.2.2.2.2.2.2) 32 (fun n h => scAt0_0 m c n h (VS0_0.read (Elt F) VS0_0.junk)) (scAt0_0 m c)
    (fun n h hn => by
      have hN := lt_of_lt_of_eq h (show cfg0.N = 32 from N_0)
      by_cases h0 : n % 32 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 32 from N_0)
      by_cases h0 : (n + 1) % 32 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2.2.2.2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 32 from N_0)
  have hd : n / 32 = 0 := Nat.div_eq_of_lt hN
  have hm : n % 32 = n := Nat.mod_eq_of_lt hN
  simpa only [hd, hm, Nat.mul_zero] using e

end Cert.KernelIdeal.Value

end
-- ==== Proof.SameHost.lean ====
module

public import proofs.«01_k».proof.Defs
public import proofs.«01_k».proof.Proof.Gen.Kernel
public import proofs.«01_k».proof.Proof.Gen.KernelIdeal

@[expose] public section

/-!
# One text, two names

The kernel printed for floats and the kernel printed for the ideal reading have the same host program.
-/

set_option maxRecDepth 16384
set_option maxHeartbeats 20000000

noncomputable section

open Idealize.ShloMosaic Idealize.SL.Sem

namespace SameText

/-- Two programs in turn are equal where both are. -/
theorem in_turn {E : Type → Type*} {p p' q q' : Prog E PUnit} (hp : p = p') (hq : q = q') :
    (do p; q : Prog E PUnit) = (do p'; q') := by
  subst hp hq
  rfl

theorem part0 : Cert.Kernel.main_part0 (F := Bits) = Cert.KernelIdeal.main_part0 (F := Bits) := rfl
theorem part1 : Cert.Kernel.main_part1 (F := Bits) = Cert.KernelIdeal.main_part1 (F := Bits) := rfl

/-- The host programs agree. -/
theorem main_eq : Cert.Kernel.main (F := Bits) = Cert.KernelIdeal.main (F := Bits) := funext fun d =>
  show (do Cert.Kernel.main_part0 d; Cert.Kernel.main_part1 d : Prog _ PUnit) = (do Cert.KernelIdeal.main_part0 d; Cert.KernelIdeal.main_part1 d) from
  in_turn (congrFun part0 d) (congrFun part1 d)

end SameText
end
-- ==== Proof.Transport.lean ====
module

public import Idealize.ShloMosaic.Adequacy

@[expose] public section

/-!
# A run under equal texts

What is proved of a program under one table of bodies holds of an equal program under an equal table.
-/

noncomputable section

open Idealize.ShloMosaic Idealize.SL.Sem

namespace SameText

/-- What holds of a run under one table of bodies holds of it under an equal one. -/
theorem transport {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') {s : MemSt nD τ sig Val}
    {Q : PUnit × MemSt nD τ sig Val → Prop} (h : θ_run d' (onTc p') s Q) : θ_run d (onTc p) s Q := by
  subst hd hp
  exact h

end SameText
end
-- ==== Proof.SameText.lean ====
module

public import proofs.«01_k».proof.Defs
public import proofs.«01_k».proof.Proof.Gen.Kernel
public import proofs.«01_k».proof.Proof.Gen.KernelIdeal
public import proofs.«01_k».proof.Proof.SameHost
public import proofs.«01_k».proof.Proof.Transport
public import proofs.«01_k».proof.Proof.Launch.Frame

@[expose] public section

/-!
# One text, two names

The kernel printed for floats and the kernel printed for the ideal reading are the same text: their programs and their
tables of bodies are equal, so the frame of the one is the frame of the other.
-/

set_option maxRecDepth 16384
set_option maxHeartbeats 20000000

noncomputable section

open Idealize.ShloMosaic Idealize.SL.Sem

namespace SameText

/-- The bodies agree. -/
theorem bodies_eq : Cert.Kernel.defs₀ (F := Bits) = Cert.KernelIdeal.defs₀ (F := Bits) := by
  refine congrArg (Defs.onTc (nD := Cert.Kernel.nD) (τ := Cert.Kernel.τ) (sig := Cert.Kernel.sig) (Λ := Cert.Kernel.Λ₀)
    (Val := Elt Bits)) (funext fun l => funext fun a => ?_)
  match l, a with
  | 0, (t, s) => rfl

/-- The launches' tables agree. -/
theorem defs_eq : Cert.Kernel.defs (F := Bits) = Cert.KernelIdeal.defs (F := Bits) :=
  congrArg (Pipeline.defs Cert.Kernel.pcfgs) bodies_eq

/-- The frame on floats, from the same text's frame. -/
theorem frame_kernel : Cert.quiescent_Kernel := fun m ρ _ =>
  transport defs_eq main_eq (Cert.KernelIdeal.Gen.frame (F := Bits) m ρ)

end SameText
end
-- ==== Proof.UpLaunch.lean ====
module

public import proofs.«01_k».proof.Proof.Gen.Kernel12Ideal.Frame
public import proofs.«01_k».proof.Proof.Gen.Kernel12Ideal.Skeleton
public import Idealize.ShloMosaic.Lib.Pipeline.ValueKit

@[expose] public section

/-!
# The run of the MLP block's first product

At the first grid point the body normalises the rows, keeps them in its scratch buffer and stores them as the second
result; at every point it multiplies the kept rows with that point's block of the matrix. So after the first point both
buffers hold the normalised rows, whatever the point.
-/

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

abbrev r0_h : Rect S2048x1024 := Rect.unit (s := S2048x1024) ![0, 0] S2048x1024.size inb_S2048x1024_S2048x1024_0_0
abbrev r0_o : Rect S2048x512 := Rect.unit (s := S2048x512) ![0, 0] S2048x512.size inb_S2048x512_S2048x512_0_0

theorem cover_h (p : Vec F S2048x1024 .bf16) (y : S2048x1024.Idx) :
    ∃ pc ∈ ([⟨r0_h, p⟩] : List (View.Piece (Elt F) S2048x1024 .bf16)), y ∈ pc.1.set :=
  View.cover_of_tiled [⟨r0_h, p⟩] S2048x1024.size (by rfl) y

theorem cover_o (p : Vec F S2048x512 .bf16) (y : S2048x512.Idx) :
    ∃ pc ∈ ([⟨r0_o, p⟩] : List (View.Piece (Elt F) S2048x512 .bf16)), y ∈ pc.1.set :=
  View.cover_of_tiled [⟨r0_o, p⟩] S2048x512.size (by rfl) y

theorem zeros2 : (![0, 0] : Fin 2 → Nat) = fun _ => 0 := funext fun a => by fin_cases a <;> rfl
theorem zeros3 : (![0, 0, 0] : Fin 3 → Nat) = fun _ => 0 := funext fun a => by fin_cases a <;> rfl

/-- A load of a whole buffer reads what it holds. -/
theorem whole_load {sp : Space} {S : Shape} {e : EltTy} (v : View sig .tc sp S e) {off : Fin S.rank → Nat} (h : off = fun _ => 0)
    (inb : ∀ a, off a + S.size a ≤ S.size a) (f : v.ty.Contents (Elt F)) :
    View.readAt (Elt F) v (Rect.unit off S.size inb).toLoadRect f = View.read (Elt F) v f :=
  View.ld_unit_zero h inb _

/-- The normalised rows the body keeps. -/
def rows (x : Vec F S2048x1024 .f32) (n : Vec F S1x1024 .f32) : Vec F S2048x1024 .bf16 := k0_pay1 x n

/-- The product it stores. -/
def prod (h : Vec F S2048x1024 .bf16) (w : Vec F S1x1024x512 .bf16) : Vec F S2048x512 .bf16 := k0_pay3 h w

theorem kept_rows (x : Vec F S2048x1024 .f32) (n : Vec F S1x1024 .f32) : k0_pay2 x n = rows x n :=
  shapeCast_self _ _

set_option maxHeartbeats 1000000 in
/-- The body at a point that is not the first of its row: the rows are read back from the scratch buffer. -/
theorem sound_later (c : Dev nD) (E : Set ℕ) (i : grid0.Coords) (arg2 : Memref sig .tc .vmem S2048x1024 .f32) (harg2 : arg2.IsWhole) (arg3 : Memref sig .tc .vmem S1x1024x512 .bf16) (harg3 : arg3.IsWhole) (arg4 : Memref sig .tc .vmem S1x1024 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S2048x1024 .bf16) (harg7 : arg7.IsWhole)
    (hc : ¬k0_cond1 i = 1#1) (w : Vec F S1x1024x512 .bf16) (h : Vec F S2048x1024 .bf16) (K : PUnit → sProp 𝕄) :
    iprop(owns (c : Thread nD τ) arg3 fullShare w ∗ (∃ d, owns (c : Thread nD τ) arg5 fullShare d) ∗ owns (c : Thread nD τ) arg7 fullShare h
        ∗ (iprop(owns (c : Thread nD τ) arg3 fullShare w ∗ owns (c : Thread nD τ) arg5 fullShare (prod h w) ∗ owns (c : Thread nD τ) arg7 fullShare h) -∗ K ⟨⟩))
      ⊢ wp frame (wpE (defs₀ (F := F)) Variants.none c none) E (cc0_mlp_up i arg2 harg2 arg3 harg3 arg4 harg4 arg5 harg5 arg6 harg6 arg7 harg7) K := by
  simp only [cc0_mlp_up_eq_skeleton]; unfold cc0_mlp_up_skel
  unfold owns
  iintro ⟨⟨%f1, %hf1, H1⟩, ⟨%d3, %f3, -, H3⟩, ⟨%f7, %hf7, H7⟩, Hk⟩
  subst hf1 hf7
  sl_exec (disch := first | sl_exact hc)
  sl_step
  iapply Hk
  isplitl [H1]
  · iexists f1; isplitr; · ipureintro; rfl
    iexact H1
  isplitl [H3]
  · iexists _; isplitr
    swap; · iexact H3
    ipureintro
    refine (View.read_writes_eq_canon _ _ _ (cover_o _)).trans ?_
    rw [View.canon_unit_zero (S := S2048x512) zeros2, whole_load _ zeros2, whole_load _ zeros3]
    rfl
  iexists f7; isplitr; · ipureintro; rfl
  iexact H7

set_option maxHeartbeats 1000000 in
/-- The body at the first point: the rows are normalised, kept and stored. -/
theorem sound_first (c : Dev nD) (E : Set ℕ) (i : grid0.Coords) (arg2 : Memref sig .tc .vmem S2048x1024 .f32) (harg2 : arg2.IsWhole) (arg3 : Memref sig .tc .vmem S1x1024x512 .bf16) (harg3 : arg3.IsWhole) (arg4 : Memref sig .tc .vmem S1x1024 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S2048x1024 .bf16) (harg7 : arg7.IsWhole)
    (hc : k0_cond1 i = 1#1) (x : Vec F S2048x1024 .f32) (w : Vec F S1x1024x512 .bf16) (n : Vec F S1x1024 .f32) (K : PUnit → sProp 𝕄) :
    iprop(owns (c : Thread nD τ) arg2 fullShare x ∗ owns (c : Thread nD τ) arg3 fullShare w ∗ owns (c : Thread nD τ) arg4 fullShare n ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ owns (c : Thread nD τ) arg4 fullShare n ∗ owns (c : Thread nD τ) arg5 fullShare (prod (rows x n) w) ∗ owns (c : Thread nD τ) arg6 fullShare (rows x n) ∗ owns (c : Thread nD τ) arg7 fullShare (rows x n)) -∗ K ⟨⟩))
      ⊢ wp frame (wpE (defs₀ (F := F)) Variants.none c none) E (cc0_mlp_up i arg2 harg2 arg3 harg3 arg4 harg4 arg5 harg5 arg6 harg6 arg7 harg7) K := by
  simp only [cc0_mlp_up_eq_skeleton]; unfold cc0_mlp_up_skel
  unfold owns
  iintro ⟨⟨%f0, %hf0, H0⟩, ⟨%f1, %hf1, H1⟩, ⟨%f2, %hf2, H2⟩, ⟨%d3, %f3, -, H3⟩, ⟨%d4, %f4, -, H4⟩, ⟨%d7, %f7, -, H7⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_o _)).trans ?_
    rw [View.canon_unit_zero (S := S2048x512) zeros2]
    refine congrArg₂ k0_pay3 ?_ (whole_load _ zeros3 _ _)
    refine (View.readCov_unit_zero _ zeros2 _ _).trans ?_
    rw [whole_load _ zeros2, whole_load _ zeros2]
    exact kept_rows _ _
  isplitl [H4]
  · iexists _; isplitr
    swap; · iexact H4
    ipureintro
    refine (View.read_writes_eq_canon _ _ _ (cover_h _)).trans ?_
    rw [View.canon_unit_zero (S := S2048x1024) zeros2, whole_load _ zeros2, whole_load _ zeros2]
    rfl
  iexists _; isplitr
  swap; · iexact H7
  ipureintro
  refine (View.read_writes_eq_canon _ _ _ (cover_h _)).trans ?_
  rw [View.canon_unit_zero (S := S2048x1024) zeros2, whole_load _ zeros2, whole_load _ zeros2]
  exact kept_rows _ _

/-! ## What the buffers hold, point by point -/

variable (m : (ℓ : Loc nD τ sig) → Buf (Elt F) ℓ) (ρ : Dev nD → PrngReg)

/-- The body stores the rows at the first point, and only there. -/
theorem first_iff : ∀ t : Fin cfg0.N, k0_cond1 (grid0.coords t) = 1#1 ↔ t.val = 0 := by decide +kernel

/-- The normalised rows, from the blocks the first point finds. -/
def kept (c : Dev nD) : Vec F S2048x1024 .bf16 := rows (iblk m c 0 t0_0) (iblk m c 2 t0_0)

/-- The scratch buffer between points: at anything before the first, at the normalised rows afterwards. -/
def Inv (c : Dev nD) : ℕ → sProp 𝕄
  | 0 => Pipeline.ΦA spec0 c
  | _ + 1 => iprop(owns (c : Thread nD τ) (Memref.whole cc0_scratch0) fullShare (kept m c) ∗ (∃ r, prngReg c r))

theorem scratch_any (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The proof data: each input's buffer at its block, the product of the kept rows, and the kept rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod (kept m c) (iblk m c 1 t)
    | ⟨4, _⟩ => kept m c
    | ⟨_ + 5, h⟩ => absurd h (Nat.not_lt.2 (Nat.le_add_left _ _))
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = prod (kept m c) (iblk m c 1 t) := by dsimp only [dats]
theorem after0_4 (c : Dev nD) (t : Fin cfg0.N) : (dats m 0 c).after 4 t = kept m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The rows' window is idle at every point but the first. -/
theorem idle_at (t : Fin cfg0.N) (h : t.val ≠ 0) : cfg0.idle 4 (cfg0.grid.coords t) = true := by
  show (!(k0_cond1 (grid0.coords t) == 1#1)) = true
  rw [beq_eq_false_iff_ne.mpr fun e => h ((first_iff t).mp e)]; rfl

theorem live_at (t : Fin cfg0.N) (h : t.val = 0) : cfg0.idle 4 (cfg0.grid.coords t) = false := by
  show (!(k0_cond1 (grid0.coords t) == 1#1)) = false
  rw [(first_iff t).mpr h]; rfl

/-- After the first point the rows' buffer is found as the first point left it. -/
theorem before0_4 (c : Dev nD) (d) : ∀ (n : ℕ) (h : n < cfg0.N), n ≠ 0 → (dats m 0 c).before 4 ⟨n, h⟩ d = kept m c
  | 0, _, h0 => absurd rfl h0
  | n + 1, h, _ => by
    have hN : n + 1 < 8 := lt_of_lt_of_eq h (show cfg0.N = 8 from N_0)
    have hf : (cfg0.win 4).flush ⟨n, Nat.lt_of_succ_lt h⟩ = false := by
      rw [← Bool.not_eq_true, flush0_4]; show ¬ n % 8 = 7; omega
    rw [(dats m 0 c).before_of_pos 4 ⟨n + 1, h⟩ (Nat.succ_ne_zero n) rfl d]
    show (if (cfg0.win 4).flush ⟨n, Nat.lt_of_succ_lt h⟩ then d else (dats m 0 c).left 4 ⟨n, Nat.lt_of_succ_lt h⟩ d) = _
    rw [hf, if_neg Bool.false_ne_true]
    unfold Dat.left
    rcases Nat.eq_zero_or_pos n with h0 | h0
    · rw [live_at ⟨n, Nat.lt_of_succ_lt h⟩ h0]
      show (dats m 0 c).kept 4 ⟨n, Nat.lt_of_succ_lt h⟩ d = _
      unfold Dat.kept
      rw [Pipeline.fill_of_clip_none 4 _ (fun _ => rfl) d ((dats m 0 c).after 4 ⟨n, Nat.lt_of_succ_lt h⟩), Window.fill_cut, after0_4]
    · rw [idle_at ⟨n, Nat.lt_of_succ_lt h⟩ (Nat.pos_iff_ne_zero.mp h0)]
      exact before0_4 c d n (Nat.lt_of_succ_lt h) (Nat.pos_iff_ne_zero.mp h0)

/-! ## The body at a point -/

/-- What the body finds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- The rows' buffer left at the rows is what the pipeline asks for, idle or not. -/
theorem leaves_rows (c : Dev nD) (t : Fin cfg0.N) : owns (c : Thread nD τ) (st0_4 t) fullShare (kept m c) ⊢ (dats m 0 c).leavesExact 4 t := by
  by_cases h0 : t.val = 0
  · unfold Dat.leavesExact; rw [live_at t h0]
    show _ ⊢ owns (c : Thread nD τ) (st0_4 t) fullShare ((dats m 0 c).after 4 t)
    rw [after0_4]
  · cases hf : (cfg0.win 4).flush t with
    | false =>
      rw [(dats m 0 c).leavesExact_idle 4 t (idle_at t h0) hf]
      iintro H
      iexists kept m c
      rw [before0_4 m c _ t.val t.isLt h0]
      iexact H
    | true =>
      unfold Dat.leavesExact; rw [idle_at t h0, hf]
      show _ ⊢ owns (c : Thread nD τ) (st0_4 t) fullShare ((dats m 0 c).after 4 t)
      rw [after0_4]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = iprop(owns (c : Thread nD τ) (Memref.whole cc0_scratch0) fullShare (kept m c) ∗ (∃ r, prngReg c r)) from rfl]
  rw [show (dats m 0 c).Φ t.castSucc = Inv m c t.val from rfl]
  by_cases h0 : t.val = 0
  · obtain rfl : t = t0_0 := Fin.ext h0
    rw [show Inv m c (t0_0 : Fin grid0.N).val = Pipeline.ΦA spec0 c from rfl, scratch_any]
    iintro ⟨⟨HS, Hg⟩, Ho, ⟨%d0, H0⟩, ⟨%d1, H1⟩, ⟨%d2, H2⟩, ⟨%d3, H3⟩, ⟨%d4, H4⟩⟩
    iapply (sound_first c Set.univ (grid0.coords t0_0) _ _ _ _ _ _ _ _ _ _ _ _ ((first_iff t0_0).mpr rfl) (iblk m c 0 t0_0) (iblk m c 1 t0_0) (iblk m c 2 t0_0) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply leaves_rows m c t0_0
    iexact H4
  · obtain ⟨n, hn⟩ : ∃ n, t.val = n + 1 := ⟨t.val - 1, by omega⟩
    rw [hn, show Inv m c (n + 1) = iprop(owns (c : Thread nD τ) (Memref.whole cc0_scratch0) fullShare (kept m c) ∗ (∃ r, prngReg c r)) from rfl]
    simp only [fun d => before0_4 m c d t.val t.isLt h0]
    iintro ⟨⟨HS, Hg⟩, Ho, ⟨%d0, H0⟩, ⟨%d1, H1⟩, ⟨%d2, H2⟩, ⟨%d3, H3⟩, ⟨%d4, H4⟩⟩
    iapply (sound_later c Set.univ (grid0.coords t) _ _ _ _ _ _ _ _ _ _ _ _ (fun e => h0 ((first_iff t).mp e)) (iblk m c 1 t) (kept m c) _)
    isplitl [H1]; · iexact H1
    isplitl [H3]; · iexists _; iexact H3
    isplitl [HS]; · iexact HS
    iintro ⟨H1, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply leaves_rows m c t
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hout (c : Dev nD) : (dats m 0 c).Φ (Fin.last cfg0.N) ⊢ Pipeline.ΦA spec0 c := by
  rw [show (dats m 0 c).Φ (Fin.last cfg0.N) = iprop(owns (c : Thread nD τ) (Memref.whole cc0_scratch0) fullShare (kept m c) ∗ (∃ r, prngReg c r)) from rfl,
    scratch_any]
  iintro ⟨HS, Hg⟩
  isplitl [HS]; · iexists _; iexact HS
  iexact Hg

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The run with the results named. -/
theorem run_blocks : θ_run defs (onTc (τ := τ) (main (F := F))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4, h.2 c⟩)
    (θ_run_and (run_main m ρ) (frame_of m ρ (dats m) (A_eq m) (run_main m ρ)))

end Cert.Kernel12Ideal.Gen
end
-- ==== Proof.OddLaunch.lean ====
module

public import proofs.«01_k».proof.Proof.Gen.Kernel13Ideal.Frame
public import proofs.«01_k».proof.Proof.Gen.Kernel13Ideal.Skeleton
public import Idealize.ShloMosaic.Lib.Pipeline.ValueKit

@[expose] public section

/-!
# The run of the odd layer's input projection

At the first grid point the body normalises the rows, keeps them in its scratch buffer and stores them as the second
result; at every point it multiplies the kept rows with that point's block of the matrix. So after the first point both
buffers hold the normalised rows, whatever the point.
-/

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

abbrev r0_h : Rect S2048x1024 := Rect.unit (s := S2048x1024) ![0, 0] S2048x1024.size inb_S2048x1024_S2048x1024_0_0
abbrev r0_o : Rect S2048x512 := Rect.unit (s := S2048x512) ![0, 0] S2048x512.size inb_S2048x512_S2048x512_0_0

theorem cover_h (p : Vec F S2048x1024 .bf16) (y : S2048x1024.Idx) :
    ∃ pc ∈ ([⟨r0_h, p⟩] : List (View.Piece (Elt F) S2048x1024 .bf16)), y ∈ pc.1.set :=
  View.cover_of_tiled [⟨r0_h, p⟩] S2048x1024.size (by rfl) y

theorem cover_o (p : Vec F S2048x512 .bf16) (y : S2048x512.Idx) :
    ∃ pc ∈ ([⟨r0_o, p⟩] : List (View.Piece (Elt F) S2048x512 .bf16)), y ∈ pc.1.set :=
  View.cover_of_tiled [⟨r0_o, p⟩] S2048x512.size (by rfl) y

theorem zeros2 : (![0, 0] : Fin 2 → Nat) = fun _ => 0 := funext fun a => by fin_cases a <;> rfl

/-- A load of a whole buffer reads what it holds. -/
theorem whole_load {sp : Space} {S : Shape} {e : EltTy} (v : View sig .tc sp S e) {off : Fin S.rank → Nat} (h : off = fun _ => 0)
    (inb : ∀ a, off a + S.size a ≤ S.size a) (f : v.ty.Contents (Elt F)) :
    View.readAt (Elt F) v (Rect.unit off S.size inb).toLoadRect f = View.read (Elt F) v f :=
  View.ld_unit_zero h inb _

/-- The normalised rows the body keeps. -/
def rows (x : Vec F S2048x1024 .f32) (n : Vec F S1x1024 .f32) : Vec F S2048x1024 .bf16 := k0_pay1 x n

/-- The product it stores. -/
def prod (h : Vec F S2048x1024 .bf16) (w : Vec F S512x1024 .bf16) : Vec F S2048x512 .bf16 := k0_pay3 h w

theorem kept_rows (x : Vec F S2048x1024 .f32) (n : Vec F S1x1024 .f32) : k0_pay2 x n = rows x n :=
  shapeCast_self _ _

set_option maxHeartbeats 1000000 in
/-- The body at a point that is not the first of its row: the rows are read back from the scratch buffer. -/
theorem sound_later (c : Dev nD) (E : Set ℕ) (i : grid0.Coords) (arg2 : Memref sig .tc .vmem S2048x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S2048x1024 .bf16) (harg7 : arg7.IsWhole)
    (hc : ¬k0_cond1 i = 1#1) (w : Vec F S512x1024 .bf16) (h : Vec F S2048x1024 .bf16) (K : PUnit → sProp 𝕄) :
    iprop(owns (c : Thread nD τ) arg3 fullShare w ∗ (∃ d, owns (c : Thread nD τ) arg5 fullShare d) ∗ owns (c : Thread nD τ) arg7 fullShare h
        ∗ (iprop(owns (c : Thread nD τ) arg3 fullShare w ∗ owns (c : Thread nD τ) arg5 fullShare (prod h w) ∗ owns (c : Thread nD τ) arg7 fullShare h) -∗ K ⟨⟩))
      ⊢ wp frame (wpE (defs₀ (F := F)) Variants.none c none) E (cc0_in_odd_mm i arg2 harg2 arg3 harg3 arg4 harg4 arg5 harg5 arg6 harg6 arg7 harg7) K := by
  simp only [cc0_in_odd_mm_eq_skeleton]; unfold cc0_in_odd_mm_skel
  unfold owns
  iintro ⟨⟨%f1, %hf1, H1⟩, ⟨%d3, %f3, -, H3⟩, ⟨%f7, %hf7, H7⟩, Hk⟩
  subst hf1 hf7
  sl_exec (disch := first | sl_exact hc)
  sl_step
  iapply Hk
  isplitl [H1]
  · iexists f1; isplitr; · ipureintro; rfl
    iexact H1
  isplitl [H3]
  · iexists _; isplitr
    swap; · iexact H3
    ipureintro
    refine (View.read_writes_eq_canon _ _ _ (cover_o _)).trans ?_
    rw [View.canon_unit_zero (S := S2048x512) zeros2, whole_load _ zeros2, whole_load _ zeros2]
    rfl
  iexists f7; isplitr; · ipureintro; rfl
  iexact H7

set_option maxHeartbeats 1000000 in
/-- The body at the first point: the rows are normalised, kept and stored. -/
theorem sound_first (c : Dev nD) (E : Set ℕ) (i : grid0.Coords) (arg2 : Memref sig .tc .vmem S2048x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S2048x1024 .bf16) (harg7 : arg7.IsWhole)
    (hc : k0_cond1 i = 1#1) (x : Vec F S2048x1024 .f32) (w : Vec F S512x1024 .bf16) (n : Vec F S1x1024 .f32) (K : PUnit → sProp 𝕄) :
    iprop(owns (c : Thread nD τ) arg2 fullShare x ∗ owns (c : Thread nD τ) arg3 fullShare w ∗ owns (c : Thread nD τ) arg4 fullShare n ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare w ∗ owns (c : Thread nD τ) arg4 fullShare n ∗ owns (c : Thread nD τ) arg5 fullShare (prod (rows x n) w) ∗ owns (c : Thread nD τ) arg6 fullShare (rows x n) ∗ owns (c : Thread nD τ) arg7 fullShare (rows x n)) -∗ K ⟨⟩))
      ⊢ wp frame (wpE (defs₀ (F := F)) Variants.none c none) E (cc0_in_odd_mm i arg2 harg2 arg3 harg3 arg4 harg4 arg5 harg5 arg6 harg6 arg7 harg7) K := by
  simp only [cc0_in_odd_mm_eq_skeleton]; unfold cc0_in_odd_mm_skel
  unfold owns
  iintro ⟨⟨%f0, %hf0, H0⟩, ⟨%f1, %hf1, H1⟩, ⟨%f2, %hf2, H2⟩, ⟨%d3, %f3, -, H3⟩, ⟨%d4, %f4, -, H4⟩, ⟨%d7, %f7, -, H7⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_o _)).trans ?_
    rw [View.canon_unit_zero (S := S2048x512) zeros2]
    refine congrArg₂ k0_pay3 ?_ (whole_load _ zeros2 _ _)
    refine (View.readCov_unit_zero _ zeros2 _ _).trans ?_
    rw [whole_load _ zeros2, whole_load _ zeros2]
    exact kept_rows _ _
  isplitl [H4]
  · iexists _; isplitr
    swap; · iexact H4
    ipureintro
    refine (View.read_writes_eq_canon _ _ _ (cover_h _)).trans ?_
    rw [View.canon_unit_zero (S := S2048x1024) zeros2, whole_load _ zeros2, whole_load _ zeros2]
    rfl
  iexists _; isplitr
  swap; · iexact H7
  ipureintro
  refine (View.read_writes_eq_canon _ _ _ (cover_h _)).trans ?_
  rw [View.canon_unit_zero (S := S2048x1024) zeros2, whole_load _ zeros2, whole_load _ zeros2]
  exact kept_rows _ _

/-! ## What the buffers hold, point by point -/

variable (m : (ℓ : Loc nD τ sig) → Buf (Elt F) ℓ) (ρ : Dev nD → PrngReg)

/-- The body stores the rows at the first point, and only there. -/
theorem first_iff : ∀ t : Fin cfg0.N, k0_cond1 (grid0.coords t) = 1#1 ↔ t.val = 0 := by decide +kernel

/-- The normalised rows, from the blocks the first point finds. -/
def kept (c : Dev nD) : Vec F S2048x1024 .bf16 := rows (iblk m c 0 t0_0) (iblk m c 2 t0_0)

/-- The scratch buffer between points: at anything before the first, at the normalised rows afterwards. -/
def Inv (c : Dev nD) : ℕ → sProp 𝕄
  | 0 => Pipeline.ΦA spec0 c
  | _ + 1 => iprop(owns (c : Thread nD τ) (Memref.whole cc0_scratch0) fullShare (kept m c) ∗ (∃ r, prngReg c r))

theorem scratch_any (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The proof data: each input's buffer at its block, the product of the kept rows, and the kept rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod (kept m c) (iblk m c 1 t)
    | ⟨4, _⟩ => kept m c
    | ⟨_ + 5, h⟩ => absurd h (Nat.not_lt.2 (Nat.le_add_left _ _))
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = prod (kept m c) (iblk m c 1 t) := by dsimp only [dats]
theorem after0_4 (c : Dev nD) (t : Fin cfg0.N) : (dats m 0 c).after 4 t = kept m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The rows' window is idle at every point but the first. -/
theorem idle_at (t : Fin cfg0.N) (h : t.val ≠ 0) : cfg0.idle 4 (cfg0.grid.coords t) = true := by
  show (!(k0_cond1 (grid0.coords t) == 1#1)) = true
  rw [beq_eq_false_iff_ne.mpr fun e => h ((first_iff t).mp e)]; rfl

theorem live_at (t : Fin cfg0.N) (h : t.val = 0) : cfg0.idle 4 (cfg0.grid.coords t) = false := by
  show (!(k0_cond1 (grid0.coords t) == 1#1)) = false
  rw [(first_iff t).mpr h]; rfl

/-- After the first point the rows' buffer is found as the first point left it. -/
theorem before0_4 (c : Dev nD) (d) : ∀ (n : ℕ) (h : n < cfg0.N), n ≠ 0 → (dats m 0 c).before 4 ⟨n, h⟩ d = kept m c
  | 0, _, h0 => absurd rfl h0
  | n + 1, h, _ => by
    have hN : n + 1 < 3 := lt_of_lt_of_eq h (show cfg0.N = 3 from N_0)
    have hf : (cfg0.win 4).flush ⟨n, Nat.lt_of_succ_lt h⟩ = false := by
      rw [← Bool.not_eq_true, flush0_4]; show ¬ n % 3 = 2; omega
    rw [(dats m 0 c).before_of_pos 4 ⟨n + 1, h⟩ (Nat.succ_ne_zero n) rfl d]
    show (if (cfg0.win 4).flush ⟨n, Nat.lt_of_succ_lt h⟩ then d else (dats m 0 c).left 4 ⟨n, Nat.lt_of_succ_lt h⟩ d) = _
    rw [hf, if_neg Bool.false_ne_true]
    unfold Dat.left
    rcases Nat.eq_zero_or_pos n with h0 | h0
    · rw [live_at ⟨n, Nat.lt_of_succ_lt h⟩ h0]
      show (dats m 0 c).kept 4 ⟨n, Nat.lt_of_succ_lt h⟩ d = _
      unfold Dat.kept
      rw [Pipeline.fill_of_clip_none 4 _ (fun _ => rfl) d ((dats m 0 c).after 4 ⟨n, Nat.lt_of_succ_lt h⟩), Window.fill_cut, after0_4]
    · rw [idle_at ⟨n, Nat.lt_of_succ_lt h⟩ (Nat.pos_iff_ne_zero.mp h0)]
      exact before0_4 c d n (Nat.lt_of_succ_lt h) (Nat.pos_iff_ne_zero.mp h0)

/-! ## The body at a point -/

/-- What the body finds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- The rows' buffer left at the rows is what the pipeline asks for, idle or not. -/
theorem leaves_rows (c : Dev nD) (t : Fin cfg0.N) : owns (c : Thread nD τ) (st0_4 t) fullShare (kept m c) ⊢ (dats m 0 c).leavesExact 4 t := by
  by_cases h0 : t.val = 0
  · unfold Dat.leavesExact; rw [live_at t h0]
    show _ ⊢ owns (c : Thread nD τ) (st0_4 t) fullShare ((dats m 0 c).after 4 t)
    rw [after0_4]
  · cases hf : (cfg0.win 4).flush t with
    | false =>
      rw [(dats m 0 c).leavesExact_idle 4 t (idle_at t h0) hf]
      iintro H
      iexists kept m c
      rw [before0_4 m c _ t.val t.isLt h0]
      iexact H
    | true =>
      unfold Dat.leavesExact; rw [idle_at t h0, hf]
      show _ ⊢ owns (c : Thread nD τ) (st0_4 t) fullShare ((dats m 0 c).after 4 t)
      rw [after0_4]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = iprop(owns (c : Thread nD τ) (Memref.whole cc0_scratch0) fullShare (kept m c) ∗ (∃ r, prngReg c r)) from rfl]
  rw [show (dats m 0 c).Φ t.castSucc = Inv m c t.val from rfl]
  by_cases h0 : t.val = 0
  · obtain rfl : t = t0_0 := Fin.ext h0
    rw [show Inv m c (t0_0 : Fin grid0.N).val = Pipeline.ΦA spec0 c from rfl, scratch_any]
    iintro ⟨⟨HS, Hg⟩, Ho, ⟨%d0, H0⟩, ⟨%d1, H1⟩, ⟨%d2, H2⟩, ⟨%d3, H3⟩, ⟨%d4, H4⟩⟩
    iapply (sound_first c Set.univ (grid0.coords t0_0) _ _ _ _ _ _ _ _ _ _ _ _ ((first_iff t0_0).mpr rfl) (iblk m c 0 t0_0) (iblk m c 1 t0_0) (iblk m c 2 t0_0) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply leaves_rows m c t0_0
    iexact H4
  · obtain ⟨n, hn⟩ : ∃ n, t.val = n + 1 := ⟨t.val - 1, by omega⟩
    rw [hn, show Inv m c (n + 1) = iprop(owns (c : Thread nD τ) (Memref.whole cc0_scratch0) fullShare (kept m c) ∗ (∃ r, prngReg c r)) from rfl]
    simp only [fun d => before0_4 m c d t.val t.isLt h0]
    iintro ⟨⟨HS, Hg⟩, Ho, ⟨%d0, H0⟩, ⟨%d1, H1⟩, ⟨%d2, H2⟩, ⟨%d3, H3⟩, ⟨%d4, H4⟩⟩
    iapply (sound_later c Set.univ (grid0.coords t) _ _ _ _ _ _ _ _ _ _ _ _ (fun e => h0 ((first_iff t).mp e)) (iblk m c 1 t) (kept m c) _)
    isplitl [H1]; · iexact H1
    isplitl [H3]; · iexists _; iexact H3
    isplitl [HS]; · iexact HS
    iintro ⟨H1, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply leaves_rows m c t
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hout (c : Dev nD) : (dats m 0 c).Φ (Fin.last cfg0.N) ⊢ Pipeline.ΦA spec0 c := by
  rw [show (dats m 0 c).Φ (Fin.last cfg0.N) = iprop(owns (c : Thread nD τ) (Memref.whole cc0_scratch0) fullShare (kept m c) ∗ (∃ r, prngReg c r)) from rfl,
    scratch_any]
  iintro ⟨HS, Hg⟩
  isplitl [HS]; · iexists _; iexact HS
  iexact Hg

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- The run with the results named. -/
theorem run_blocks : θ_run defs (onTc (τ := τ) (main (F := F))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, (h.1 c).1 4, h.2 c⟩)
    (θ_run_and (run_main m ρ) (frame_of m ρ (dats m) (A_eq m) (run_main m ρ)))

end Cert.Kernel13Ideal.Gen
end
-- ==== Proof.SameUp.lean ====
module

public import proofs.«01_k».proof.Defs
public import proofs.«01_k».proof.Proof.Gen.Kernel12
public import proofs.«01_k».proof.Proof.Gen.Kernel13
public import proofs.«01_k».proof.Proof.Transport
public import proofs.«01_k».proof.Proof.UpLaunch
public import proofs.«01_k».proof.Proof.OddLaunch

@[expose] public section

/-!
# One text, two names: the two products that normalise their rows first

For each the two printed programs and their tables of bodies are equal, so the frame of the one is that of the other.
-/

set_option maxRecDepth 16384
set_option maxHeartbeats 20000000

noncomputable section

open Idealize.ShloMosaic Idealize.SL.Sem

namespace SameText

/-! ## The MLP block's first product -/

theorem bodies_eq12 : Cert.Kernel12.defs₀ (F := Bits) = Cert.Kernel12Ideal.defs₀ (F := Bits) := by
  refine congrArg (Defs.onTc (nD := Cert.Kernel12.nD) (τ := Cert.Kernel12.τ) (sig := Cert.Kernel12.sig) (Λ := Cert.Kernel12.Λ₀)
    (Val := Elt Bits)) (funext fun l => funext fun a => ?_)
  match l, a with
  | 0, (t, s) => rfl

theorem defs_eq12 : Cert.Kernel12.defs (F := Bits) = Cert.Kernel12Ideal.defs (F := Bits) :=
  congrArg (Pipeline.defs Cert.Kernel12.pcfgs) bodies_eq12

theorem main_eq12 : Cert.Kernel12.main (F := Bits) = Cert.Kernel12Ideal.main (F := Bits) := rfl

theorem frame_kernel12 : Cert.quiescent_Kernel12 := fun m ρ _ =>
  transport defs_eq12 main_eq12 (Cert.Kernel12Ideal.Gen.frame (F := Bits) m ρ)

/-! ## The odd layer's projection -/

theorem bodies_eq13 : Cert.Kernel13.defs₀ (F := Bits) = Cert.Kernel13Ideal.defs₀ (F := Bits) := by
  refine congrArg (Defs.onTc (nD := Cert.Kernel13.nD) (τ := Cert.Kernel13.τ) (sig := Cert.Kernel13.sig) (Λ := Cert.Kernel13.Λ₀)
    (Val := Elt Bits)) (funext fun l => funext fun a => ?_)
  match l, a with
  | 0, (t, s) => rfl

theorem defs_eq13 : Cert.Kernel13.defs (F := Bits) = Cert.Kernel13Ideal.defs (F := Bits) :=
  congrArg (Pipeline.defs Cert.Kernel13.pcfgs) bodies_eq13

theorem main_eq13 : Cert.Kernel13.main (F := Bits) = Cert.Kernel13Ideal.main (F := Bits) := rfl

theorem frame_kernel13 : Cert.quiescent_Kernel13 := fun m ρ _ =>
  transport defs_eq13 main_eq13 (Cert.Kernel13Ideal.Gen.frame (F := Bits) m ρ)

end SameText
end
-- ==== Proof.Reals.lean ====
module

public import Idealize.ShloMosaic.Lib.Pointwise
public import Idealize.ShloMosaic.Lib.IdealHost

@[expose] public section

/-!
# Arrays of real numbers

Over the ideal instance a float is an extended real. Where the arguments are finite every
array of both programs holds real numbers only; `IsR x f` says so and names the numbers. This
file has the predicate, its rules for the elementwise operations, and the window sums that a
cumulative sum prints as.
-/

noncomputable section

open Idealize.ShloMosaic
open scoped BigOperators

namespace Gla

/-! ## Single values -/

/-- A sum of reals over `Fin n` is the real sum over the numbers below `n`. -/
theorem sum_coe (n : ℕ) (f : ℕ → ℝ) :
    ∑ k : Fin n, ((f k.val : ℝ) : EReal) = ((∑ k ∈ Finset.range n, f k : ℝ) : EReal) := by
  rw [← Fin.sum_univ_eq_sum_range f n]
  exact (map_sum (⟨⟨Real.toEReal, EReal.coe_zero⟩, EReal.coe_add⟩ : ℝ →+ EReal) _ _).symm

/-- The same where every term is known to be the real named. -/
theorem sum_coe' {n : ℕ} {x : Fin n → EReal} (f : ℕ → ℝ) (h : ∀ k : Fin n, x k = ((f k.val : ℝ) : EReal)) :
    ∑ k : Fin n, x k = ((∑ k ∈ Finset.range n, f k : ℝ) : EReal) :=
  (Finset.sum_congr rfl fun k _ => h k).trans (sum_coe n f)

section Scalars

variable {φ : FTy} (a b : ℝ)

theorem addf_coe : FloatOps.addf (F := Ideal) (φ := φ) (a : EReal) (b : EReal) = ((a + b : ℝ) : EReal) := rfl
theorem subf_coe : FloatOps.subf (F := Ideal) (φ := φ) (a : EReal) (b : EReal) = ((a - b : ℝ) : EReal) := rfl
theorem mulf_coe : FloatOps.mulf (F := Ideal) (φ := φ) (a : EReal) (b : EReal) = ((a * b : ℝ) : EReal) := rfl
theorem divf_coe (hb : b ≠ 0) : Ideal.div (a : EReal) (b : EReal) = ((a / b : ℝ) : EReal) := by
  rw [Ideal.div_coe hb, ← EReal.coe_mul, mul_one_div]
theorem max_coe : max (a : EReal) (b : EReal) = ((max a b : ℝ) : EReal) := (EReal.coe_strictMono.monotone.map_max).symm
theorem min_coe : min (a : EReal) (b : EReal) = ((min a b : ℝ) : EReal) := (EReal.coe_strictMono.monotone.map_min).symm

theorem abs_coe : max (a : EReal) (-(a : EReal)) = ((|a| : ℝ) : EReal) := by
  rw [← EReal.coe_neg, max_coe]; rfl

theorem log1p_coe (ha : -1 < a) : Ideal.log1p (a : EReal) = ((Real.log (1 + a) : ℝ) : EReal) := by
  show Ideal.log ((1 : EReal) + (a : EReal)) = _
  rw [← EReal.coe_one, ← EReal.coe_add, Ideal.log_coe, if_neg (by linarith)]

theorem rsqrt_coe_pos (ha : 0 < a) : Ideal.rsqrt (a : EReal) = (((Real.sqrt a)⁻¹ : ℝ) : EReal) := by
  rw [Ideal.rsqrt_coe, if_neg (by linarith), if_neg (by linarith)]

end Scalars

/-- A real number is never the infinity it is compared with, so the branch for the infinity is not taken. -/
theorem select_eq_top (a : ℝ) (x y : EReal) {t : EReal} (ht : t = ⊤) :
    Scalar.select (Ideal.cmp .oeq (a : EReal) t) x y = y := by
  subst ht
  have : Ideal.cmp .oeq (a : EReal) ⊤ = 0#1 := by
    show BitVec.ofBool (decide ((a : EReal) = ⊤)) = _
    rw [decide_eq_false (EReal.coe_ne_top a)]; rfl
  rw [this]; rfl

/-- Nothing differs from itself, so the branch for a difference is not taken. -/
theorem select_ne_self (a x y : EReal) : Scalar.select (Ideal.cmp .une a a) x y = y := by
  have : Ideal.cmp .une a a = 0#1 := by
    show BitVec.ofBool (decide (a ≠ a)) = _
    rw [decide_eq_false (by simp)]; rfl
  rw [this]; rfl

/-- Plus infinity. -/
theorem ofBits_inf : Ideal.ofBits .f32 0x7F800000#32 = ⊤ := by
  simp [Ideal.ofBits, Ideal.ieee]
/-- One eighth. -/
theorem ofBits_eighth : Ideal.ofBits .f32 0x3E000000#32 = (((1 : ℝ) / 8 : ℝ) : EReal) := by
  simp [Ideal.ofBits, Ideal.ieee, -EReal.coe_mul]; norm_num
/-- One sixteenth. -/
theorem ofBits_sixteenth : Ideal.ofBits .f32 0x3D800000#32 = (((1 : ℝ) / 16 : ℝ) : EReal) := by
  simp [Ideal.ofBits, Ideal.ieee, -EReal.coe_mul]; norm_num
/-- Sixteen. -/
theorem ofBits_16 : Ideal.ofBits .f32 0x41800000#32 = ((16 : ℝ) : EReal) := by
  simp [Ideal.ofBits, Ideal.ieee, -EReal.coe_mul]; norm_num
/-- One hundred and twenty-eight. -/
theorem ofBits_128 : Ideal.ofBits .f32 0x43000000#32 = ((128 : ℝ) : EReal) := by
  simp [Ideal.ofBits, Ideal.ieee, -EReal.coe_mul]; norm_num
/-- Minus one half. -/
theorem ofBits_neg_half : Ideal.ofBits .f32 0xBF000000#32 = ((-(1 : ℝ) / 2 : ℝ) : EReal) := by
  simp [Ideal.ofBits, Ideal.ieee, -EReal.coe_mul]; norm_num
/-- Minus infinity. -/
theorem ofBits_neg_inf : Ideal.ofBits .f32 0xFF800000#32 = ⊥ := by
  simp [Ideal.ofBits, Ideal.ieee]

/-- The small number under the root of the head norm: the rational the float word of `1e-6` is. -/
def eps : ℝ := 8796093 / 8796093022208

/-- That float word read over the reals. -/
theorem ofBits_eps : Ideal.ofBits .f32 0x358637BD#32 = ((eps : ℝ) : EReal) := by
  unfold eps
  simp [Ideal.ofBits, Ideal.ieee, -EReal.coe_mul]; norm_num

theorem eps_pos : 0 < eps := by unfold eps; norm_num

/-! ## Arrays -/

/-- Every entry of the array is the real number that `f` names. -/
def IsR {s : Shape} (x : s.Idx → EReal) (f : s.Idx → ℝ) : Prop := ∀ i, x i = ((f i : ℝ) : EReal)

/-- A matrix of real numbers, named by row and column. -/
abbrev Is2 {a b : ℕ} (x : (⟨2, ![a, b]⟩ : Shape).Idx → EReal) (f : ℕ → ℕ → ℝ) : Prop :=
  IsR x fun i => f (i 0).val (i 1).val

namespace IsR

variable {s : Shape} {φ ψ : FTy} {x y : s.Idx → EReal} {f g : s.Idx → ℝ}

theorem congr (h : IsR x f) (e : ∀ i, f i = g i) : IsR x g := fun i => (h i).trans (by rw [e i])

theorem addf (hx : IsR x f) (hy : IsR y g) : IsR (Idealize.ShloMosaic.addf (F := Ideal) (φ := φ) x y) fun i => f i + g i := fun i =>
  (congrArg₂ (· + ·) (hx i) (hy i) : x i + y i = _)
theorem subf (hx : IsR x f) (hy : IsR y g) : IsR (Idealize.ShloMosaic.subf (F := Ideal) (φ := φ) x y) fun i => f i - g i := fun i =>
  (congrArg₂ (· - ·) (hx i) (hy i) : x i - y i = _)
theorem mulf (hx : IsR x f) (hy : IsR y g) : IsR (Idealize.ShloMosaic.mulf (F := Ideal) (φ := φ) x y) fun i => f i * g i := fun i =>
  (congrArg₂ (· * ·) (hx i) (hy i) : x i * y i = _)
theorem divf (hx : IsR x f) (hy : IsR y g) (h0 : ∀ i, g i ≠ 0) :
    IsR (Idealize.ShloMosaic.divf (F := Ideal) (φ := φ) x y) fun i => f i / g i := fun i =>
  (congrArg₂ Ideal.div (hx i) (hy i)).trans (divf_coe _ _ (h0 i))
theorem minimumf (hx : IsR x f) (hy : IsR y g) : IsR (Idealize.ShloMosaic.minimumf (F := Ideal) (φ := φ) x y) fun i => min (f i) (g i) := fun i =>
  (congrArg₂ min (hx i) (hy i)).trans (min_coe _ _)
theorem absf (hx : IsR x f) : IsR (Idealize.ShloMosaic.absf (F := Ideal) (φ := φ) x) fun i => |f i| := fun i =>
  (congrArg (fun t : EReal => max t (-t)) (hx i)).trans (abs_coe _)
theorem exp (hx : IsR x f) : IsR (Idealize.ShloMosaic.exp (F := Ideal) (φ := φ) x) fun i => Real.exp (f i) := fun i =>
  (congrArg Ideal.exp (hx i)).trans (Ideal.exp_coe _)
theorem log1p (hx : IsR x f) (h1 : ∀ i, -1 < f i) : IsR (Idealize.ShloMosaic.log1p (F := Ideal) (φ := φ) x) fun i => Real.log (1 + f i) := fun i =>
  (congrArg Ideal.log1p (hx i)).trans (log1p_coe _ (h1 i))
theorem rsqrt (hx : IsR x f) (h1 : ∀ i, 0 < f i) : IsR (Idealize.ShloMosaic.rsqrt (F := Ideal) (φ := φ) x) fun i => (Real.sqrt (f i))⁻¹ := fun i =>
  (congrArg Ideal.rsqrt (hx i)).trans (rsqrt_coe_pos _ (h1 i))
theorem extf (hx : IsR x f) (h : φ.bits < ψ.bits) : IsR (Idealize.ShloMosaic.extf (F := Ideal) (φ := φ) ψ x h) f := hx
theorem truncf (hx : IsR x f) (h : φ.bits < ψ.bits) : IsR (Idealize.ShloMosaic.truncf (F := Ideal) (φ := ψ) φ x h) f := hx
theorem cast_self (hx : IsR x f) (h : s.ShapeCasts s) : IsR (shapeCast s x h) f := by rw [shapeCast_self]; exact hx
theorem hostNegf (hx : IsR x f) : IsR (Host.negf (F := Ideal) (φ := φ) x) fun i => -f i := fun i =>
  (congrArg (fun t : EReal => -t) (hx i) : -(x i) = _)
theorem hostAbsf (hx : IsR x f) : IsR (fun i => FloatOps.hostAbsf (F := Ideal) (φ := φ) (x i)) fun i => |f i| := fun i =>
  (congrArg (fun t : EReal => max t (-t)) (hx i)).trans (abs_coe _)
theorem maximumf (hx : IsR x f) (hy : IsR y g) : IsR (fun i => max (x i) (y i)) fun i => max (f i) (g i) := fun i =>
  (congrArg₂ max (hx i) (hy i)).trans (max_coe _ _)
theorem hostExp (hx : IsR x f) : IsR (fun i => FloatOps.hostUnary (F := Ideal) (φ := φ) .exp (x i)) fun i => Real.exp (f i) := fun i =>
  (congrArg Ideal.exp (hx i)).trans (Ideal.exp_coe _)
theorem hostLog1p (hx : IsR x f) (h1 : ∀ i, -1 < f i) :
    IsR (fun i => FloatOps.hostUnary (F := Ideal) (φ := φ) .log1p (x i)) fun i => Real.log (1 + f i) := fun i =>
  (congrArg Ideal.log1p (hx i)).trans (log1p_coe _ (h1 i))
theorem hostRsqrt (hx : IsR x f) (h1 : ∀ i, 0 < f i) :
    IsR (fun i => FloatOps.hostUnary (F := Ideal) (φ := φ) .rsqrt (x i)) fun i => (Real.sqrt (f i))⁻¹ := fun i =>
  (congrArg Ideal.rsqrt (hx i)).trans (rsqrt_coe_pos _ (h1 i))
theorem hostDivf (hx : IsR x f) (hy : IsR y g) (h0 : ∀ i, g i ≠ 0) :
    IsR (fun i => FloatOps.hostDivf (F := Ideal) (φ := φ) (x i) (y i)) fun i => f i / g i := fun i =>
  (congrArg₂ Ideal.div (hx i) (hy i)).trans (divf_coe _ _ (h0 i))
theorem bcast (b : EReal) (r : ℝ) (h : b = (r : EReal)) : IsR (broadcast s b) fun _ => r := fun _ => h

end IsR

end Gla
-- ==== Proof.Spec.lean ====
module

public import proofs.«01_k».proof.Proof.Reals
public import Mathlib.Analysis.SpecialFunctions.Log.Basic

@[expose] public section

/-!
# The gradient of the gated linear attention over the reals

Every quantity of the mixer and of its gradient as a function of the chunk `c`, the token `s` in
the chunk and a column. A key column is `j = 64 * head + k`, a value column `i = 128 * head + v`.
-/

noncomputable section

open scoped BigOperators

namespace Gla

/-- The real entries of the five arguments: the projection, the gate's up projection and bias, the norm's weight and the
    cotangent of the mixer's output. -/
structure Args where
  p : ℕ → ℕ → ℝ
  w : ℕ → ℕ → ℝ
  b : ℕ → ℕ → ℝ
  n : ℕ → ℕ → ℝ
  g : ℕ → ℕ → ℝ

variable (A : Args)

/-! ## Forward -/

def q (c s j : ℕ) : ℝ := A.p (64 * c + s) j * (1 / 8)
def k (c s j : ℕ) : ℝ := A.p (64 * c + s) (256 + j)
def v (c s i : ℕ) : ℝ := A.p (64 * c + s) (512 + i)
def r (c s i : ℕ) : ℝ := A.p (64 * c + s) (1024 + i)
def a (c s l : ℕ) : ℝ := A.p (64 * c + s) (1536 + l)
def g (c s i : ℕ) : ℝ := A.g (64 * c + s) i

/-- The gate before its sigmoid. -/
def z (c s j : ℕ) : ℝ := ∑ l ∈ Finset.range 16, a A c s l * A.w l j + A.b 0 j
/-- The sum `log (1 + exp (-z))`. -/
def sp (c s j : ℕ) : ℝ := Real.log (1 + Real.exp (-z A c s j))
/-- The logarithm of the gate. -/
def la (c s j : ℕ) : ℝ := -sp A c s j / 16
/-- Its sum from the chunk's first token to this one. -/
def cum (c s j : ℕ) : ℝ := ∑ t ∈ Finset.range (s + 1), la A c t j
/-- Its sum over the chunk. -/
def tot (c j : ℕ) : ℝ := cum A c 63 j
/-- The decay from a token to the end of its chunk. -/
def e (c s j : ℕ) : ℝ := Real.exp (tot A c j - cum A c s j)
def kd (c s j : ℕ) : ℝ := k A c s j * e A c s j
/-- What a chunk adds to the state. -/
def inc (c j u : ℕ) : ℝ := ∑ s ∈ Finset.range 64, kd A c s j * v A c s (128 * (j / 64) + u)
/-- The logarithm of the decay from the sequence's start to the end of the chunk. -/
def up (c j : ℕ) : ℝ := ∑ d ∈ Finset.range (c + 1), tot A d j
/-- The decay from the end of chunk `d` to the end of chunk `c`, nothing where `d` comes later. -/
def dec (c d j : ℕ) : ℝ := if d ≤ c then Real.exp (up A c j - up A d j) else 0
/-- The state at the end of a chunk. -/
def st (c j u : ℕ) : ℝ := ∑ d ∈ Finset.range 32, dec A c d j * inc A d j u
/-- The attention's output. -/
def o (c s i : ℕ) : ℝ := ∑ x ∈ Finset.range 64, q A c s (64 * (i / 128) + x) * st A c (64 * (i / 128) + x) (i % 128)
/-- The mean of a head's squares with the small number added. -/
def ms (c s h : ℕ) : ℝ := (∑ u ∈ Finset.range 128, o A c s (128 * h + u) * o A c s (128 * h + u)) / 128 + eps
def rs (c s h : ℕ) : ℝ := (Real.sqrt (ms A c s h))⁻¹
def y (c s i : ℕ) : ℝ := o A c s i * rs A c s (i / 128)
/-- The output gate's sigmoid. -/
def sg (c s i : ℕ) : ℝ := (1 + Real.exp (-r A c s i))⁻¹
def sil (c s i : ℕ) : ℝ := r A c s i * sg A c s i
/-- The derivative of `sil`. -/
def dsil (c s i : ℕ) : ℝ := sg A c s i * (1 + r A c s i * (1 - sg A c s i))

/-! ## Backward -/

def dnw (i : ℕ) : ℝ := ∑ c ∈ Finset.range 32, ∑ s ∈ Finset.range 64, g A c s i * y A c s i * sil A c s i
def dr (c s i : ℕ) : ℝ := g A c s i * y A c s i * A.n 0 i * dsil A c s i
def dy (c s i : ℕ) : ℝ := g A c s i * A.n 0 i * sil A c s i
/-- The mean of `dy * y` over a head. -/
def my (c s h : ℕ) : ℝ := (∑ u ∈ Finset.range 128, dy A c s (128 * h + u) * y A c s (128 * h + u)) / 128
def do_ (c s i : ℕ) : ℝ := rs A c s (i / 128) * (dy A c s i - y A c s i * my A c s (i / 128))
def dq (c s j : ℕ) : ℝ := (∑ u ∈ Finset.range 128, do_ A c s (128 * (j / 64) + u) * st A c j u) * (1 / 8)
/-- The gradient of a chunk's state from that chunk's own output. -/
def ds (c j u : ℕ) : ℝ := ∑ s ∈ Finset.range 64, do_ A c s (128 * (j / 64) + u) * q A c s j
/-- The gradient of what a chunk adds to the state, from this chunk and all later ones. -/
def dm (c j u : ℕ) : ℝ := ∑ d ∈ Finset.range 32, dec A d c j * ds A d j u
def dv (c s i : ℕ) : ℝ := ∑ x ∈ Finset.range 64, kd A c s (64 * (i / 128) + x) * dm A c (64 * (i / 128) + x) (i % 128)
def dkd (c s j : ℕ) : ℝ := ∑ u ∈ Finset.range 128, v A c s (128 * (j / 64) + u) * dm A c j u
def dk (c s j : ℕ) : ℝ := dkd A c s j * e A c s j
/-- The state before a chunk. -/
def pst (c j u : ℕ) : ℝ := if c = 0 then 0 else st A (c - 1) j u
/-- The gradient of the chunk's total through the state before it. -/
def dt (c j : ℕ) : ℝ := (∑ u ∈ Finset.range 128, dm A c j u * pst A c j u) * Real.exp (tot A c j)
def dla (c s j : ℕ) : ℝ := dt A c j + ∑ t ∈ Finset.range s, dkd A c t j * kd A c t j
/-- The sigmoid of `-z`. -/
def sn (c s j : ℕ) : ℝ := (1 + Real.exp (z A c s j))⁻¹
def dz (c s j : ℕ) : ℝ := dla A c s j * sn A c s j / 16
def da (c s l : ℕ) : ℝ := ∑ j ∈ Finset.range 256, dz A c s j * A.w l j
def dw (l j : ℕ) : ℝ := ∑ c ∈ Finset.range 32, ∑ s ∈ Finset.range 64, a A c s l * dz A c s j
def db (j : ℕ) : ℝ := ∑ c ∈ Finset.range 32, ∑ s ∈ Finset.range 64, dz A c s j

/-! ## The same, a head and a column of that head given -/

theorem inc_head (c h x u : ℕ) (hx : x < 64) :
    inc A c (64 * h + x) u = ∑ s ∈ Finset.range 64, kd A c s (64 * h + x) * v A c s (128 * h + u) := by
  unfold inc; rw [show (64 * h + x) / 64 = h by omega]
theorem o_head (c s h u : ℕ) (hu : u < 128) :
    o A c s (128 * h + u) = ∑ x ∈ Finset.range 64, q A c s (64 * h + x) * st A c (64 * h + x) u := by
  unfold o; rw [show (128 * h + u) / 128 = h by omega, show (128 * h + u) % 128 = u by omega]
theorem y_head (c s h u : ℕ) (hu : u < 128) : y A c s (128 * h + u) = o A c s (128 * h + u) * rs A c s h := by
  unfold y; rw [show (128 * h + u) / 128 = h by omega]
theorem do_head (c s h u : ℕ) (hu : u < 128) :
    do_ A c s (128 * h + u) = rs A c s h * (dy A c s (128 * h + u) - y A c s (128 * h + u) * my A c s h) := by
  unfold do_; rw [show (128 * h + u) / 128 = h by omega]
theorem dq_head (c s h x : ℕ) (hx : x < 64) :
    dq A c s (64 * h + x) = (∑ u ∈ Finset.range 128, do_ A c s (128 * h + u) * st A c (64 * h + x) u) * (1 / 8) := by
  unfold dq; rw [show (64 * h + x) / 64 = h by omega]
theorem ds_head (c h x u : ℕ) (hx : x < 64) :
    ds A c (64 * h + x) u = ∑ s ∈ Finset.range 64, do_ A c s (128 * h + u) * q A c s (64 * h + x) := by
  unfold ds; rw [show (64 * h + x) / 64 = h by omega]
theorem dv_head (c s h u : ℕ) (hu : u < 128) :
    dv A c s (128 * h + u) = ∑ x ∈ Finset.range 64, kd A c s (64 * h + x) * dm A c (64 * h + x) u := by
  unfold dv; rw [show (128 * h + u) / 128 = h by omega, show (128 * h + u) % 128 = u by omega]
theorem dkd_head (c s h x : ℕ) (hx : x < 64) :
    dkd A c s (64 * h + x) = ∑ u ∈ Finset.range 128, v A c s (128 * h + u) * dm A c (64 * h + x) u := by
  unfold dkd; rw [show (64 * h + x) / 64 = h by omega]

/-! ## Identities -/

/-- The norm's derivative written as the derivative of a root's reciprocal is the usual one. -/
theorem do_eq (c s h u : ℕ) (hu : u < 128) (t : ℝ) (ht : t = ∑ x ∈ Finset.range 128, o A c s (128 * h + x) * dy A c s (128 * h + x))
    (w : ℝ) (hw : w = t * (-1 / 2 * (rs A c s h / ms A c s h)) / 128) :
    dy A c s (128 * h + u) * rs A c s h + o A c s (128 * h + u) * w + w * o A c s (128 * h + u) = do_ A c s (128 * h + u) := by
  have hpos : 0 < ms A c s h :=
    add_pos_of_nonneg_of_pos (div_nonneg (Finset.sum_nonneg fun _ _ => mul_self_nonneg _) (by norm_num)) eps_pos
  have hm : my A c s h = rs A c s h * t / 128 := by
    rw [ht, my, Finset.mul_sum]
    congr 1
    refine Finset.sum_congr rfl fun x hx => ?_
    rw [y_head A c s h x (Finset.mem_range.1 hx)]; ring
  have hr : rs A c s h / ms A c s h = rs A c s h * (rs A c s h * rs A c s h) := by
    have : rs A c s h * rs A c s h = (ms A c s h)⁻¹ := by
      unfold rs; rw [← mul_inv, Real.mul_self_sqrt hpos.le]
    rw [this, div_eq_mul_inv]
  rw [do_head A c s h u hu, y_head A c s h u hu, hm, hw, hr]
  ring

theorem ms_pos (c s h : ℕ) : 0 < ms A c s h :=
  add_pos_of_nonneg_of_pos (div_nonneg (Finset.sum_nonneg fun _ _ => mul_self_nonneg _) (by norm_num)) eps_pos

theorem sg_den_pos (c s i : ℕ) : 0 < 1 + Real.exp (-r A c s i) := by positivity

theorem up_succ (c j : ℕ) : up A (c + 1) j = up A c j + tot A (c + 1) j := by
  unfold up; rw [Finset.sum_range_succ]

/-- The gradient of the state carries from chunk to chunk. -/
theorem dm_step (c j u : ℕ) (hc : c + 1 < 32) :
    dm A c j u = ds A c j u + Real.exp (tot A (c + 1) j) * dm A (c + 1) j u := by
  unfold dm
  rw [Finset.mul_sum, ← Finset.add_sum_erase (Finset.range 32) _ (Finset.mem_range.2 (by omega : c < 32)),
    ← Finset.add_sum_erase (Finset.range 32) (fun d => Real.exp (tot A (c + 1) j) * (dec A d (c + 1) j * ds A d j u))
      (Finset.mem_range.2 (by omega : c < 32))]
  have h1 : dec A c c j = 1 := by simp [dec]
  have h2 : dec A c (c + 1) j = 0 := by simp [dec]
  rw [h1, h2, one_mul, zero_mul, mul_zero, zero_add]
  congr 1
  refine Finset.sum_congr rfl fun d hd => ?_
  rw [← mul_assoc]
  congr 1
  have hne : d ≠ c := (Finset.mem_erase.1 hd).1
  unfold dec
  by_cases h : c + 1 ≤ d
  · rw [if_pos h, if_pos (by omega), ← Real.exp_add, up_succ]; congr 1; ring
  · rw [if_neg h, if_neg (by omega), mul_zero]

/-- After the last chunk nothing is carried. -/
theorem dm_last (j u : ℕ) : dm A 31 j u = ds A 31 j u := by
  unfold dm
  rw [Finset.sum_eq_single 31]
  · simp [dec]
  · intro d hd hne
    have := Finset.mem_range.1 hd
    rw [dec, if_neg (by omega), zero_mul]
  · intro h; exact absurd (Finset.mem_range.2 (by norm_num)) h

/-- The sum over the rows from `c` on of an array's row sums less its column sums keeps the entries in the columns before `c`,
    where the array is zero above its diagonal. -/
theorem rows_less_cols (n c : ℕ) (hc : c < n) (f : ℕ → ℕ → ℝ) (hf : ∀ x d, x < d → f x d = 0) :
    ∑ x ∈ Finset.range n, (if c ≤ x then -(∑ y ∈ Finset.range n, f y x) + ∑ d ∈ Finset.range n, f x d else 0)
      = ∑ x ∈ Finset.range n, ∑ d ∈ Finset.range n, if c ≤ x ∧ d < c then f x d else 0 := by
  have e1 : ∀ x, (if c ≤ x then -(∑ y ∈ Finset.range n, f y x) + ∑ d ∈ Finset.range n, f x d else 0)
      = ∑ d ∈ Finset.range n, (if c ≤ x then f x d else 0) - ∑ y ∈ Finset.range n, (if c ≤ x then f y x else 0) := by
    intro x
    by_cases h : c ≤ x
    · simp only [if_pos h]; ring
    · simp only [if_neg h]; simp
  rw [Finset.sum_congr rfl fun x _ => e1 x, Finset.sum_sub_distrib]
  rw [Finset.sum_comm (s := Finset.range n) (t := Finset.range n) (f := fun x y => if c ≤ x then f y x else 0),
    ← Finset.sum_sub_distrib]
  refine Finset.sum_congr rfl fun x _ => ?_
  rw [← Finset.sum_sub_distrib]
  refine Finset.sum_congr rfl fun d _ => ?_
  by_cases h1 : c ≤ x <;> by_cases h2 : c ≤ d
  · simp [h1, h2, Nat.not_lt.2 h2]
  · simp [h1, h2, Nat.lt_of_not_le h2]
  · have : x < d := by omega
    simp [h1, h2, hf x d this]
  · simp [h1, h2]

/-- The gradient of the chunk's total, as the derivative of the closed form of the states gives it. -/
theorem dt_eq (c j : ℕ) (hc : c < 32) :
    ∑ x ∈ Finset.range 32, ∑ d ∈ Finset.range 32,
        (if c ≤ x ∧ d < c then (∑ u ∈ Finset.range 128, ds A x j u * inc A d j u) * dec A x d j else 0) = dt A c j := by
  have hD : ∀ x d, c ≤ x → d < c → dec A x d j = dec A x c j * (dec A (c - 1) d j * Real.exp (tot A c j)) := by
    intro x d h1 h2
    unfold dec
    rw [if_pos (by omega), if_pos h1, if_pos (by omega), ← Real.exp_add, ← Real.exp_add]
    obtain ⟨m, rfl⟩ : ∃ m, c = m + 1 := ⟨c - 1, by omega⟩
    rw [up_succ]; simp only [Nat.add_sub_cancel]; congr 1; ring
  unfold dt dm pst st
  rw [Finset.sum_mul]
  by_cases h0 : c = 0
  · subst h0; simp
  simp only [if_neg h0]
  have hr : ∀ u, (∑ d ∈ Finset.range 32, dec A d c j * ds A d j u) * (∑ d ∈ Finset.range 32, dec A (c - 1) d j * inc A d j u)
        * Real.exp (tot A c j)
      = ∑ x ∈ Finset.range 32, ∑ d ∈ Finset.range 32, if c ≤ x ∧ d < c then ds A x j u * inc A d j u * dec A x d j else 0 := by
    intro u
    rw [Finset.sum_mul_sum, Finset.sum_mul]
    refine Finset.sum_congr rfl fun x _ => ?_
    rw [Finset.sum_mul]
    refine Finset.sum_congr rfl fun d _ => ?_
    by_cases h1 : c ≤ x
    · by_cases h2 : d < c
      · rw [if_pos ⟨h1, h2⟩, hD x d h1 h2]; ring
      · rw [if_neg (by omega), show dec A (c - 1) d j = 0 from if_neg (by omega)]; ring
    · rw [if_neg (by omega), show dec A x c j = 0 from if_neg h1]; ring
  simp only [hr]
  rw [Finset.sum_comm (s := Finset.range 128)]
  refine Finset.sum_congr rfl fun x _ => ?_
  rw [Finset.sum_comm (s := Finset.range 128)]
  refine Finset.sum_congr rfl fun d _ => ?_
  by_cases h : c ≤ x ∧ d < c
  · simp only [if_pos h, Finset.sum_mul]
  · simp [if_neg h]

/-- The sum over a chunk less the sum from a token on is the sum before that token. -/
theorem sum_before (n s : ℕ) (hs : s < n) (f : ℕ → ℝ) :
    ∑ t ∈ Finset.range n, f t - ∑ t ∈ Finset.range n, (if s ≤ t then f t else 0) = ∑ t ∈ Finset.range s, f t := by
  rw [← Finset.sum_sub_distrib, ← Finset.sum_subset (Finset.range_subset_range.2 hs.le) (f := fun t => f t - if s ≤ t then f t else 0)]
  · refine Finset.sum_congr rfl fun t ht => ?_
    rw [if_neg (by have := Finset.mem_range.1 ht; omega), sub_zero]
  · intro t _ ht
    rw [if_pos (by simpa using ht), sub_self]

theorem row_div (c s : ℕ) (hs : s < 64) : (c * 64 + s) / 64 = c := by omega
theorem row_mod (c s : ℕ) (hs : s < 64) : (c * 64 + s) % 64 = s := by omega

/-- A sum over all rows, chunk by chunk. -/
theorem sum_rows (f : ℕ → ℝ) :
    ∑ x ∈ Finset.range 2048, f x = ∑ c ∈ Finset.range 32, ∑ s ∈ Finset.range 64, f (c * 64 + s) := by
  have key : ∀ n, ∑ x ∈ Finset.range (n * 64), f x = ∑ c ∈ Finset.range n, ∑ s ∈ Finset.range 64, f (c * 64 + s) := by
    intro n
    induction n with
    | zero => simp
    | succ n ih => rw [Nat.add_mul, Nat.one_mul, Finset.sum_range_add, ih, Finset.sum_range_succ (n := n)]
  exact key 32

/-- The gradient of the gate's logarithm, from the gradients of the running sums. -/
theorem dla_eq (c s j : ℕ) (hs : s < 64) :
    ∑ t ∈ Finset.range 64, (if s ≤ t then -(dkd A c t j * kd A c t j)
        + (if t = 63 then dt A c j + ∑ x ∈ Finset.range 64, dkd A c x j * kd A c x j else 0) else 0) = dla A c s j := by
  have e1 : ∀ t, (if s ≤ t then -(dkd A c t j * kd A c t j)
        + (if t = 63 then dt A c j + ∑ x ∈ Finset.range 64, dkd A c x j * kd A c x j else 0) else 0)
      = (if t = 63 then (if s ≤ t then dt A c j + ∑ x ∈ Finset.range 64, dkd A c x j * kd A c x j else 0) else 0)
        - (if s ≤ t then dkd A c t j * kd A c t j else 0) := by
    intro t
    by_cases h : s ≤ t
    · simp only [if_pos h]; ring
    · simp only [if_neg h]; simp
  rw [Finset.sum_congr rfl fun t _ => e1 t, Finset.sum_sub_distrib,
    Finset.sum_ite_eq' (Finset.range 64) 63 fun t => if s ≤ t then dt A c j + ∑ x ∈ Finset.range 64, dkd A c x j * kd A c x j else 0,
    if_pos (Finset.mem_range.2 (by norm_num)), if_pos (by omega), dla, ← sum_before 64 s hs fun t => dkd A c t j * kd A c t j]
  ring

/-- A sum over the columns of all heads that keeps one head's. -/
theorem sum_head (n m h : ℕ) (hh : h < n) (hm : 0 < m) (f : ℕ → ℝ) :
    ∑ x ∈ Finset.range (n * m), (if h = x / m then f x else 0) = ∑ x ∈ Finset.range m, f (m * h + x) := by
  rw [← Finset.sum_filter]
  symm
  refine Finset.sum_nbij' (fun x => m * h + x) (fun x => x - m * h) ?_ ?_ ?_ ?_ ?_
  · intro x hx
    simp only [Finset.mem_filter, Finset.mem_range] at hx ⊢
    refine ⟨?_, ?_⟩
    · calc m * h + x < m * h + m := by omega
        _ = (h + 1) * m := by ring
        _ ≤ n * m := Nat.mul_le_mul_right _ hh
    · rw [Nat.mul_add_div hm, Nat.div_eq_of_lt hx, Nat.add_zero]
  · intro x hx
    simp only [Finset.mem_filter, Finset.mem_range] at hx ⊢
    have := Nat.mod_lt x hm
    have h2 := Nat.div_add_mod x m
    rw [← hx.2] at h2
    omega
  · intro x _; simp
  · intro x hx
    simp only [Finset.mem_filter, Finset.mem_range] at hx
    have h2 := Nat.div_add_mod x m
    rw [← hx.2] at h2
    show m * h + (x - m * h) = x
    omega
  · intro x _; rfl

/-- The two writings of the logarithm of the sigmoid agree. -/
theorem log_sigmoid (t : ℝ) : min t 0 - Real.log (1 + Real.exp (0 - |t|)) = -Real.log (1 + Real.exp (-t)) := by
  rcases le_total 0 t with h | h
  · rw [min_eq_right h, abs_of_nonneg h, zero_sub, zero_sub]
  · rw [min_eq_left h, abs_of_nonpos h, zero_sub, neg_neg]
    have : 1 + Real.exp (-t) = Real.exp (-t) * (1 + Real.exp t) := by
      rw [mul_add, mul_one, ← Real.exp_add, neg_add_cancel, Real.exp_zero, add_comm]
    rw [this, Real.log_mul (Real.exp_ne_zero _) (by positivity), Real.log_exp]; ring

theorem softplus (t : ℝ) : max t 0 + Real.log (1 + Real.exp (-|t|)) = Real.log (1 + Real.exp t) := by
  rcases le_total 0 t with h | h
  · rw [max_eq_left h, abs_of_nonneg h]
    have : 1 + Real.exp t = Real.exp t * (1 + Real.exp (-t)) := by
      rw [mul_add, mul_one, ← Real.exp_add, add_neg_cancel, Real.exp_zero, add_comm]
    rw [this, Real.log_mul (Real.exp_ne_zero _) (by positivity), Real.log_exp]
  · rw [max_eq_right h, abs_of_nonpos h, neg_neg, zero_add]

/-- The sigmoid as the derivative of the softplus. -/
theorem exp_sub_softplus (t : ℝ) : Real.exp (t - Real.log (1 + Real.exp t)) = (1 + Real.exp (-t))⁻¹ := by
  rw [Real.exp_sub, Real.exp_log (by positivity), Real.exp_neg]
  have := Real.exp_pos t
  field_simp
  ring

end Gla
-- ==== Proof.Cumsum.lean ====
module

public import proofs.«01_k».proof.Proof.Reals

@[expose] public section

/-!
# Cumulative sums

A cumulative sum along an axis of `n` positions prints as a sum over a window of `n` positions,
padded by `n - 1` below (the sum up to a position) or above (the sum from a position on).
-/

noncomputable section

open Idealize.ShloMosaic
open scoped BigOperators

namespace Gla

/-- A left fold of additions over all positions below `n` is the start plus the sum. -/
theorem foldl_add_finRange {M : Type*} [AddCommMonoid M] (n : ℕ) (g : Fin n → M) (v : M) :
    (List.finRange n).foldl (fun r k => r + g k) v = v + ∑ k : Fin n, g k := by
  have key : ∀ (l : List (Fin n)) (v : M), l.foldl (fun r k => r + g k) v = v + (l.map g).sum := by
    intro l
    induction l with
    | nil => intro v; simp
    | cons a l ih => intro v; simp [ih, add_assoc]
  rw [key, Fin.sum_univ_def]

/-- A window sum is the start plus the sum over the window's positions. -/
theorem windowSum_apply {s t : Shape} (window strides lo hi : Fin s.rank → ℕ) (h : s.ReduceWindows window strides lo hi t)
    (x : s.Idx → EReal) (v : EReal) (j : t.Idx) :
    Ideal.hostReduceWindowAdd window strides lo hi h x v j
      = v + ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else v := by
  rw [← Equiv.sum_comp (⟨s.rank, window⟩ : Shape).rowMajor.symm]
  unfold Ideal.hostReduceWindowAdd Host.reduceWindow
  dsimp only
  rw [foldl_add_finRange]
  refine congrArg (v + ·) (Finset.sum_congr rfl fun k _ => ?_)
  congr

/-- The window's sum, as a sum of what the array holds up to `j`. -/
theorem sum_window_lo (n j : ℕ) (hj : j < n) (f : ℕ → ℝ) :
    ∑ w ∈ Finset.range n, (if n - 1 ≤ j + w then f (j + w - (n - 1)) else 0) = ∑ t ∈ Finset.range (j + 1), f t := by
  rw [← Finset.sum_filter]
  refine Finset.sum_nbij' (fun w => j + w - (n - 1)) (fun t => t + (n - 1) - j) ?_ ?_ ?_ ?_ ?_ <;>
    simp only [Finset.mem_filter, Finset.mem_range] <;> intros <;> first | omega | trivial

/-- The window's sum, as a sum of what the array holds from `j` on. -/
theorem sum_window_hi (n j : ℕ) (hj : j < n) (f : ℕ → ℝ) :
    ∑ w ∈ Finset.range n, (if j + w < n then f (j + w) else 0) = ∑ t ∈ Finset.range n, if j ≤ t then f t else 0 := by
  rw [← Finset.sum_filter, ← Finset.sum_filter]
  refine Finset.sum_nbij' (fun w => j + w) (fun t => t - j) ?_ ?_ ?_ ?_ ?_ <;>
    simp only [Finset.mem_filter, Finset.mem_range] <;> intros <;> first | omega | trivial

section Rank3

variable {n b c : ℕ} {x : (⟨3, ![n, b, c]⟩ : Shape).Idx → EReal} {f : ℕ → ℕ → ℕ → ℝ} (v : EReal)

/-- The cumulative sum along the first of three axes. -/
theorem cumsum3 (hv : v = 0) (m : ℕ) (hm : n - 1 = m)
    (h : (⟨3, ![n, b, c]⟩ : Shape).ReduceWindows (![n, 1, 1] : Fin 3 → ℕ) ![1, 1, 1] ![m, 0, 0] ![0, 0, 0] ⟨3, ![n, b, c]⟩)
    (hx : IsR x fun i => f (i 0).val (i 1).val (i 2).val) :
    IsR (Ideal.hostReduceWindowAdd (![n, 1, 1] : Fin 3 → ℕ) ![1, 1, 1] ![m, 0, 0] ![0, 0, 0] h x v)
      fun i => ∑ t ∈ Finset.range ((i 0).val + 1), f t (i 1).val (i 2).val := by
  subst hm hv
  intro j
  have h0 : (j 0).val < n := (j 0).isLt
  have h1 : (j 1).val < b := (j 1).isLt
  have h2 : (j 2).val < c := (j 2).isLt
  rw [windowSum_apply, zero_add]
  refine (sum_idx3 (n0 := n) (n1 := 1) (n2 := 1) _).trans ?_
  simp only [Fin.sum_univ_one]
  rw [← sum_window_lo n (j 0).val h0 fun t => f t (j 1).val (j 2).val]
  refine sum_coe' (fun w => if n - 1 ≤ (j 0).val + w then f ((j 0).val + w - (n - 1)) (j 1).val (j 2).val else 0) fun k => ?_
  have hk := k.isLt
  by_cases hle : n - 1 ≤ (j 0).val + k.val
  · rw [dif_pos, hx, if_pos hle]
    · congr 1
      show f ((j 0).val * 1 + k.val - (n - 1)) ((j 1).val * 1 + 0 - 0) ((j 2).val * 1 + 0 - 0) = _
      simp only [mul_one, add_zero, Nat.sub_zero]
    · intro a
      match a with
      | ⟨0, _⟩ => show n - 1 ≤ (j 0).val * 1 + k.val ∧ (j 0).val * 1 + k.val - (n - 1) < n; omega
      | ⟨1, _⟩ => show 0 ≤ (j 1).val * 1 + 0 ∧ (j 1).val * 1 + 0 - 0 < b; omega
      | ⟨2, _⟩ => show 0 ≤ (j 2).val * 1 + 0 ∧ (j 2).val * 1 + 0 - 0 < c; omega
  · rw [dif_neg, if_neg hle]; · rfl
    intro hin
    have : n - 1 ≤ (j 0).val * 1 + k.val := (hin 0).1
    omega

/-- The cumulative sum along the first of three axes, from the far end. -/
theorem cumsum3_rev (hv : v = 0) (m : ℕ)
    (h : (⟨3, ![n, b, c]⟩ : Shape).ReduceWindows (![n, 1, 1] : Fin 3 → ℕ) ![1, 1, 1] ![0, 0, 0] ![m, 0, 0] ⟨3, ![n, b, c]⟩)
    (hx : IsR x fun i => f (i 0).val (i 1).val (i 2).val) :
    IsR (Ideal.hostReduceWindowAdd (![n, 1, 1] : Fin 3 → ℕ) ![1, 1, 1] ![0, 0, 0] ![m, 0, 0] h x v)
      fun i => ∑ t ∈ Finset.range n, if (i 0).val ≤ t then f t (i 1).val (i 2).val else 0 := by
  subst hv
  intro j
  have h0 : (j 0).val < n := (j 0).isLt
  have h1 : (j 1).val < b := (j 1).isLt
  have h2 : (j 2).val < c := (j 2).isLt
  rw [windowSum_apply, zero_add]
  refine (sum_idx3 (n0 := n) (n1 := 1) (n2 := 1) _).trans ?_
  simp only [Fin.sum_univ_one]
  rw [← sum_window_hi n (j 0).val h0 fun t => f t (j 1).val (j 2).val]
  refine sum_coe' (fun w => if (j 0).val + w < n then f ((j 0).val + w) (j 1).val (j 2).val else 0) fun k => ?_
  have hk := k.isLt
  by_cases hle : (j 0).val + k.val < n
  · rw [dif_pos, hx, if_pos hle]
    · congr 1
      show f ((j 0).val * 1 + k.val - 0) ((j 1).val * 1 + 0 - 0) ((j 2).val * 1 + 0 - 0) = _
      simp only [mul_one, add_zero, Nat.sub_zero]
    · intro a
      match a with
      | ⟨0, _⟩ => show 0 ≤ (j 0).val * 1 + k.val ∧ (j 0).val * 1 + k.val - 0 < n; omega
      | ⟨1, _⟩ => show 0 ≤ (j 1).val * 1 + 0 ∧ (j 1).val * 1 + 0 - 0 < b; omega
      | ⟨2, _⟩ => show 0 ≤ (j 2).val * 1 + 0 ∧ (j 2).val * 1 + 0 - 0 < c; omega
  · rw [dif_neg, if_neg hle]; · rfl
    intro hin
    have : (j 0).val * 1 + k.val - 0 < n := (hin 0).2
    omega

end Rank3

section Rank4

variable {a n b c : ℕ} {x : (⟨4, ![a, n, b, c]⟩ : Shape).Idx → EReal} {f : ℕ → ℕ → ℕ → ℕ → ℝ} (v : EReal)

/-- The cumulative sum along the second of four axes. -/
theorem cumsum4 (hv : v = 0) (m : ℕ) (hm : n - 1 = m)
    (h : (⟨4, ![a, n, b, c]⟩ : Shape).ReduceWindows (![1, n, 1, 1] : Fin 4 → ℕ) ![1, 1, 1, 1] ![0, m, 0, 0] ![0, 0, 0, 0] ⟨4, ![a, n, b, c]⟩)
    (hx : IsR x fun i => f (i 0).val (i 1).val (i 2).val (i 3).val) :
    IsR (Ideal.hostReduceWindowAdd (![1, n, 1, 1] : Fin 4 → ℕ) ![1, 1, 1, 1] ![0, m, 0, 0] ![0, 0, 0, 0] h x v)
      fun i => ∑ t ∈ Finset.range ((i 1).val + 1), f (i 0).val t (i 2).val (i 3).val := by
  subst hm hv
  intro j
  have ha : (j 0).val < a := (j 0).isLt
  have h0 : (j 1).val < n := (j 1).isLt
  have h1 : (j 2).val < b := (j 2).isLt
  have h2 : (j 3).val < c := (j 3).isLt
  rw [windowSum_apply, zero_add]
  refine (sum_idx4 (n0 := 1) (n1 := n) (n2 := 1) (n3 := 1) _).trans ?_
  simp only [Fin.sum_univ_one]
  rw [← sum_window_lo n (j 1).val h0 fun t => f (j 0).val t (j 2).val (j 3).val]
  refine sum_coe' (fun w => if n - 1 ≤ (j 1).val + w then f (j 0).val ((j 1).val + w - (n - 1)) (j 2).val (j 3).val else 0) fun k => ?_
  have hk := k.isLt
  by_cases hle : n - 1 ≤ (j 1).val + k.val
  · rw [dif_pos, hx, if_pos hle]
    · congr 1
      show f ((j 0).val * 1 + 0 - 0) ((j 1).val * 1 + k.val - (n - 1)) ((j 2).val * 1 + 0 - 0) ((j 3).val * 1 + 0 - 0) = _
      simp only [mul_one, add_zero, Nat.sub_zero]
    · intro q
      match q with
      | ⟨0, _⟩ => show 0 ≤ (j 0).val * 1 + 0 ∧ (j 0).val * 1 + 0 - 0 < a; omega
      | ⟨1, _⟩ => show n - 1 ≤ (j 1).val * 1 + k.val ∧ (j 1).val * 1 + k.val - (n - 1) < n; omega
      | ⟨2, _⟩ => show 0 ≤ (j 2).val * 1 + 0 ∧ (j 2).val * 1 + 0 - 0 < b; omega
      | ⟨3, _⟩ => show 0 ≤ (j 3).val * 1 + 0 ∧ (j 3).val * 1 + 0 - 0 < c; omega
  · rw [dif_neg, if_neg hle]; · rfl
    intro hin
    have : n - 1 ≤ (j 1).val * 1 + k.val := (hin 1).1
    omega

/-- The cumulative sum along the second of four axes, from the far end. -/
theorem cumsum4_rev (hv : v = 0) (m : ℕ)
    (h : (⟨4, ![a, n, b, c]⟩ : Shape).ReduceWindows (![1, n, 1, 1] : Fin 4 → ℕ) ![1, 1, 1, 1] ![0, 0, 0, 0] ![0, m, 0, 0] ⟨4, ![a, n, b, c]⟩)
    (hx : IsR x fun i => f (i 0).val (i 1).val (i 2).val (i 3).val) :
    IsR (Ideal.hostReduceWindowAdd (![1, n, 1, 1] : Fin 4 → ℕ) ![1, 1, 1, 1] ![0, 0, 0, 0] ![0, m, 0, 0] h x v)
      fun i => ∑ t ∈ Finset.range n, if (i 1).val ≤ t then f (i 0).val t (i 2).val (i 3).val else 0 := by
  subst hv
  intro j
  have ha : (j 0).val < a := (j 0).isLt
  have h0 : (j 1).val < n := (j 1).isLt
  have h1 : (j 2).val < b := (j 2).isLt
  have h2 : (j 3).val < c := (j 3).isLt
  rw [windowSum_apply, zero_add]
  refine (sum_idx4 (n0 := 1) (n1 := n) (n2 := 1) (n3 := 1) _).trans ?_
  simp only [Fin.sum_univ_one]
  rw [← sum_window_hi n (j 1).val h0 fun t => f (j 0).val t (j 2).val (j 3).val]
  refine sum_coe' (fun w => if (j 1).val + w < n then f (j 0).val ((j 1).val + w) (j 2).val (j 3).val else 0) fun k => ?_
  have hk := k.isLt
  by_cases hle : (j 1).val + k.val < n
  · rw [dif_pos, hx, if_pos hle]
    · congr 1
      show f ((j 0).val * 1 + 0 - 0) ((j 1).val * 1 + k.val - 0) ((j 2).val * 1 + 0 - 0) ((j 3).val * 1 + 0 - 0) = _
      simp only [mul_one, add_zero, Nat.sub_zero]
    · intro q
      match q with
      | ⟨0, _⟩ => show 0 ≤ (j 0).val * 1 + 0 ∧ (j 0).val * 1 + 0 - 0 < a; omega
      | ⟨1, _⟩ => show 0 ≤ (j 1).val * 1 + k.val ∧ (j 1).val * 1 + k.val - 0 < n; omega
      | ⟨2, _⟩ => show 0 ≤ (j 2).val * 1 + 0 ∧ (j 2).val * 1 + 0 - 0 < b; omega
      | ⟨3, _⟩ => show 0 ≤ (j 3).val * 1 + 0 ∧ (j 3).val * 1 + 0 - 0 < c; omega
  · rw [dif_neg, if_neg hle]; · rfl
    intro hin
    have : (j 1).val * 1 + k.val - 0 < n := (hin 1).2
    omega

end Rank4

end Gla
-- ==== Proof.RefForward.lean ====
module

public import proofs.«01_k».proof.Proof.Gen.ReferenceIdeal.Read
public import proofs.«01_k».proof.Proof.Spec
public import proofs.«01_k».proof.Proof.Cumsum

@[expose] public section

/-!
# The reference's forward stages

Each stage of the reference, read as the real quantity it holds.
-/

noncomputable section

open Idealize.ShloMosaic Idealize.ShloMosaic.TcCoe
open Cert.ReferenceIdeal Cert.ReferenceIdeal.Gen Cert.ReferenceIdeal.Read
open scoped BigOperators

namespace Gla

/-- The five arguments hold the real numbers `A` names. -/
structure Reals (A : Args) (x0 : S2048x3096.Idx → EReal) (x1 : S16x256.Idx → EReal) (x2 : S1x256.Idx → EReal)
    (x3 : S1x512.Idx → EReal) (x4 : S2048x1024.Idx → EReal) : Prop where
  p : Is2 x0 A.p
  w : Is2 x1 A.w
  b : Is2 x2 A.b
  n : Is2 x3 A.n
  g : Is2 x4 A.g

variable {A : Args} {x0 : S2048x3096.Idx → EReal} {x1 : S16x256.Idx → EReal} {x2 : S1x256.Idx → EReal}
  {x3 : S1x512.Idx → EReal} {x4 : S2048x1024.Idx → EReal}

theorem r0 (H : Reals A x0 x1 x2 x3 x4) : IsR (val_main_v0 (F := Ideal) x0) fun i => A.p (i 0).val (i 1).val := fun i => by
  have b0 : (i 0).val < 2048 := (i 0).isLt
  have b1 : (i 1).val < 256 := (i 1).isLt
  refine (val_main_v0_apply (F := Ideal) x0 i).trans ((H.p _).trans (congrArg Real.toEReal ?_))
  first | (dsimp only; done) | (dsimp only; congr 1 <;> omega)

theorem r1 (H : Reals A x0 x1 x2 x3 x4) : IsR (val_main_v1 (F := Ideal) x0) fun i => A.p (i 0).val (256 + (i 1).val) := fun i => by
  have b0 : (i 0).val < 2048 := (i 0).isLt
  have b1 : (i 1).val < 256 := (i 1).isLt
  refine (val_main_v1_apply (F := Ideal) x0 i).trans ((H.p _).trans (congrArg Real.toEReal ?_))
  first | (dsimp only; done) | (dsimp only; congr 1 <;> omega)

theorem r2 (H : Reals A x0 x1 x2 x3 x4) : IsR (val_main_v2 (F := Ideal) x0) fun i => A.p (i 0).val (512 + (i 1).val) := fun i => by
  have b0 : (i 0).val < 2048 := (i 0).isLt
  have b1 : (i 1).val < 512 := (i 1).isLt
  refine (val_main_v2_apply (F := Ideal) x0 i).trans ((H.p _).trans (congrArg Real.toEReal ?_))
  first | (dsimp only; done) | (dsimp only; congr 1 <;> omega)

theorem r3 (H : Reals A x0 x1 x2 x3 x4) : IsR (val_main_v3 (F := Ideal) x0) fun i => r A ((i 0).val / 64) ((i 0).val % 64) (i 1).val := fun i => by
  have b0 : (i 0).val < 2048 := (i 0).isLt
  have b1 : (i 1).val < 512 := (i 1).isLt
  refine (val_main_v3_apply (F := Ideal) x0 i).trans ((H.p _).trans (congrArg Real.toEReal ?_))
  first | (dsimp only [r]; done) | (dsimp only [r]; congr 1 <;> omega)

theorem r4 (H : Reals A x0 x1 x2 x3 x4) : IsR (val_main_v4 (F := Ideal) x0) fun i => a A ((i 0).val / 64) ((i 0).val % 64) (i 1).val := fun i => by
  have b0 : (i 0).val < 2048 := (i 0).isLt
  have b1 : (i 1).val < 16 := (i 1).isLt
  refine (val_main_v4_apply (F := Ideal) x0 i).trans ((H.p _).trans (congrArg Real.toEReal ?_))
  first | (dsimp only [a]; done) | (dsimp only [a]; congr 1 <;> omega)

theorem r9 (H : Reals A x0 x1 x2 x3 x4) : IsR (val_main_v9 (F := Ideal) x0) fun i => A.p (64 * (i 0).val + (i 1).val) (64 * (i 2).val + (i 3).val) := fun i => by
  have b0 : (i 0).val < 32 := (i 0).isLt
  have b1 : (i 1).val < 64 := (i 1).isLt
  have b2 : (i 2).val < 4 := (i 2).isLt
  have b3 : (i 3).val < 64 := (i 3).isLt
  refine (val_main_v9_apply (F := Ideal) x0 i).trans ((r0 H _).trans (congrArg Real.toEReal ?_))
  first | (dsimp only; done) | (dsimp only; congr 1 <;> omega)

theorem r10 : IsR (val_main_v10 (F := Ideal)) fun i => (1 / 8 : ℝ) := fun i =>
  (val_main_v10_apply i).trans ((val_main_cst_apply _).trans ofBits_eighth)

/-- The scaled queries. -/
theorem r11 (H : Reals A x0 x1 x2 x3 x4) : IsR (val_main_v11 (F := Ideal) x0) fun i => q A (i 0).val (i 1).val (64 * (i 2).val + (i 3).val) := (IsR.mulf (r9 H) r10)

theorem r12 (H : Reals A x0 x1 x2 x3 x4) : IsR (val_main_v12 (F := Ideal) x0) fun i => k A (i 0).val (i 1).val (64 * (i 2).val + (i 3).val) := fun i => by
  have b0 : (i 0).val < 32 := (i 0).isLt
  have b1 : (i 1).val < 64 := (i 1).isLt
  have b2 : (i 2).val < 4 := (i 2).isLt
  have b3 : (i 3).val < 64 := (i 3).isLt
  refine (val_main_v12_apply (F := Ideal) x0 i).trans ((r1 H _).trans (congrArg Real.toEReal ?_))
  first | (dsimp only [k]; done) | (dsimp only [k]; congr 1 <;> omega)

theorem r13 (H : Reals A x0 x1 x2 x3 x4) : IsR (val_main_v13 (F := Ideal) x0) fun i => v A (i 0).val (i 1).val (128 * (i 2).val + (i 3).val) := fun i => by
  have b0 : (i 0).val < 32 := (i 0).isLt
  have b1 : (i 1).val < 64 := (i 1).isLt
  have b2 : (i 2).val < 4 := (i 2).isLt
  have b3 : (i 3).val < 128 := (i 3).isLt
  refine (val_main_v13_apply (F := Ideal) x0 i).trans ((r2 H _).trans (congrArg Real.toEReal ?_))
  first | (dsimp only [v]; done) | (dsimp only [v]; congr 1 <;> omega)

theorem r14 (H : Reals A x0 x1 x2 x3 x4) : IsR (val_main_v14 (F := Ideal) x0 x1) fun i => ∑ x ∈ Finset.range 16, a A ((i 0).val / 64) ((i 0).val % 64) x * A.w x (i 1).val := fun i => by
  have b0 : (i 0).val < 2048 := (i 0).isLt
  have b1 : (i 1).val < 256 := (i 1).isLt
  refine (val_main_v14_apply x0 x1 i).trans ((sum_coe' (fun x => a A ((i 0).val / 64) ((i 0).val % 64) x * A.w x (i 1).val) fun x => ?_).trans (congrArg Real.toEReal ?_))
  · exact congrArg₂ (· * ·) (r4 H _) (H.w _)
  · rfl

theorem r15 (H : Reals A x0 x1 x2 x3 x4) : IsR (val_main_v15 (F := Ideal) x2) fun i => A.b 0 (i 1).val := fun i => by
  have b0 : (i 0).val < 2048 := (i 0).isLt
  have b1 : (i 1).val < 256 := (i 1).isLt
  refine (val_main_v15_apply (F := Ideal) x2 i).trans ((H.b _).trans (congrArg Real.toEReal ?_))
  first | (dsimp only; done) | (dsimp only; congr 1 <;> omega)

/-- The gate before its sigmoid. -/
theorem r16 (H : Reals A x0 x1 x2 x3 x4) : IsR (val_main_v16 (F := Ideal) x0 x1 x2) fun i => z A ((i 0).val / 64) ((i 0).val % 64) (i 1).val := (IsR.addf (r14 H) (r15 H))

theorem r_call0_v0 (H : Reals A x0 x1 x2 x3 x4) : IsR (val_main_call0_v0 (F := Ideal) x0 x1 x2) fun i => -z A ((i 0).val / 64) ((i 0).val % 64) (i 1).val := (IsR.hostNegf (r16 H))

theorem r_call0_call0_v0 : IsR (val_main_call0_call0_v0 (F := Ideal)) fun i => (0 : ℝ) := fun i =>
  (val_main_call0_call0_v0_apply i).trans ((val_main_call0_call0_cst_apply _).trans Ideal.ofBits_zero_f32)

theorem r_call0_call0_v2 : IsR (val_main_call0_call0_v2 (F := Ideal)) fun i => (0 : ℝ) := fun i =>
  (val_main_call0_call0_v2_apply i).trans ((val_main_call0_call0_cst_apply _).trans Ideal.ofBits_zero_f32)

theorem r_call0_call0_v5 : IsR (val_main_call0_call0_v5 (F := Ideal)) fun i => (0 : ℝ) := fun i =>
  (val_main_call0_call0_v5_apply i).trans ((val_main_call0_call0_cst_apply _).trans Ideal.ofBits_zero_f32)

theorem r_call0_call0_v1 (H : Reals A x0 x1 x2 x3 x4) : IsR (val_main_call0_call0_v1 (F := Ideal) x0 x1 x2) fun i => max (-z A ((i 0).val / 64) ((i 0).val % 64) (i 1).val) 0 := (IsR.maximumf (r_call0_v0 H) r_call0_call0_v0)

theorem r_call0_call0_v3 (H : Reals A x0 x1 x2 x3 x4) : IsR (val_main_call0_call0_v3 (F := Ideal) x0 x1 x2) fun i => -z A ((i 0).val / 64) ((i 0).val % 64) (i 1).val :=
  IsR.congr (IsR.subf (r_call0_v0 H) r_call0_call0_v2) fun i => sub_zero _

theorem r_call0_call0_v7 (H : Reals A x0 x1 x2 x3 x4) : IsR (val_main_call0_call0_v7 (F := Ideal) x0 x1 x2) fun i => |-z A ((i 0).val / 64) ((i 0).val % 64) (i 1).val| := (IsR.hostAbsf (φ := .f32) (r_call0_call0_v3 H))

theorem r_call0_call0_v8 (H : Reals A x0 x1 x2 x3 x4) : IsR (val_main_call0_call0_v8 (F := Ideal) x0 x1 x2) fun i => -|-z A ((i 0).val / 64) ((i 0).val % 64) (i 1).val| := (IsR.hostNegf (φ := .f32) (r_call0_call0_v7 H))

theorem r_call0_call0_v9 (H : Reals A x0 x1 x2 x3 x4) : IsR (val_main_call0_call0_v9 (F := Ideal) x0 x1 x2) fun i => Real.exp (-|-z A ((i 0).val / 64) ((i 0).val % 64) (i 1).val|) := (IsR.hostExp (φ := .f32) (r_call0_call0_v8 H))

theorem r_call0_call0_v10 (H : Reals A x0 x1 x2 x3 x4) : IsR (val_main_call0_call0_v10 (F := Ideal) x0 x1 x2) fun i => Real.log (1 + Real.exp (-|-z A ((i 0).val / 64) ((i 0).val % 64) (i 1).val|)) := (IsR.hostLog1p (φ := .f32) (r_call0_call0_v9 H) fun i => lt_trans neg_one_lt_zero (Real.exp_pos _))

theorem r_call0_call0_v11 (H : Reals A x0 x1 x2 x3 x4) : IsR (val_main_call0_call0_v11 (F := Ideal) x0 x1 x2) fun i => sp A ((i 0).val / 64) ((i 0).val % 64) (i 1).val :=
  IsR.congr (IsR.addf (r_call0_call0_v1 H) (r_call0_call0_v10 H)) fun i => softplus _

/-- The softplus of the negated gate. -/
theorem r_call0_v1_0 (H : Reals A x0 x1 x2 x3 x4) : IsR (val_main_call0_v1_0 (F := Ideal) x0 x1 x2) fun i => sp A ((i 0).val / 64) ((i 0).val % 64) (i 1).val := fun i =>
  (select_ne_self _ _ _).trans (r_call0_call0_v11 H i)

theorem r_call0_call0_v16 (H : Reals A x0 x1 x2 x3 x4) : IsR (val_main_call0_call0_v16 (F := Ideal) x0 x1 x2) fun i => -z A ((i 0).val / 64) ((i 0).val % 64) (i 1).val := fun i =>
  (congrArg (fun t => Scalar.select (Ideal.cmp .oeq t _) _ t) (r_call0_v0 H i)).trans
    (select_eq_top _ _ _ ((val_main_call0_call0_v13_apply i).trans ((val_main_call0_call0_cst_0_apply _).trans ofBits_inf)))

theorem r_call0_call0_v20 (H : Reals A x0 x1 x2 x3 x4) : IsR (val_main_call0_call0_v20 (F := Ideal) x0 x1 x2) fun i => sp A ((i 0).val / 64) ((i 0).val % 64) (i 1).val := fun i =>
  (congrArg (fun t => Scalar.select (Ideal.cmp .oeq t _) _ t) (r_call0_v1_0 H i)).trans
    (select_eq_top _ _ _ ((val_main_call0_call0_v17_apply i).trans ((val_main_call0_call0_cst_2_apply _).trans ofBits_inf)))

theorem r_call0_call0_v21 (H : Reals A x0 x1 x2 x3 x4) : IsR (val_main_call0_call0_v21 (F := Ideal) x0 x1 x2) fun i => -z A ((i 0).val / 64) ((i 0).val % 64) (i 1).val - sp A ((i 0).val / 64) ((i 0).val % 64) (i 1).val := (IsR.subf (r_call0_call0_v16 H) (r_call0_call0_v20 H))

/-- The sigmoid of the negated gate. -/
theorem r17_1 (H : Reals A x0 x1 x2 x3 x4) : IsR (val_main_v17_1 (F := Ideal) x0 x1 x2) fun i => sn A ((i 0).val / 64) ((i 0).val % 64) (i 1).val :=
  IsR.congr (IsR.hostExp (φ := .f32) (r_call0_call0_v21 H)) fun i => by unfold sp sn; rw [exp_sub_softplus, neg_neg]

theorem r17_0 (H : Reals A x0 x1 x2 x3 x4) : IsR (val_main_v17_0 (F := Ideal) x0 x1 x2) fun i => -sp A ((i 0).val / 64) ((i 0).val % 64) (i 1).val := (IsR.hostNegf (r_call0_v1_0 H))

theorem r18 : IsR (val_main_v18 (F := Ideal)) fun i => (16 : ℝ) := fun i =>
  (val_main_v18_apply i).trans ((val_main_cst_0_apply _).trans ofBits_16)

theorem r19 (H : Reals A x0 x1 x2 x3 x4) : IsR (val_main_v19 (F := Ideal) x0 x1 x2) fun i => la A ((i 0).val / 64) ((i 0).val % 64) (i 1).val := (IsR.hostDivf (φ := .f32) (r17_0 H) r18 fun _ => by norm_num)

/-- The logarithm of the gate. -/
theorem r20 (H : Reals A x0 x1 x2 x3 x4) : IsR (val_main_v20 (F := Ideal) x0 x1 x2) fun i => la A (i 0).val (i 1).val (64 * (i 2).val + (i 3).val) := fun i => by
  have b0 : (i 0).val < 32 := (i 0).isLt
  have b1 : (i 1).val < 64 := (i 1).isLt
  have b2 : (i 2).val < 4 := (i 2).isLt
  have b3 : (i 3).val < 64 := (i 3).isLt
  refine (val_main_v20_apply (F := Ideal) x0 x1 x2 i).trans ((r19 H _).trans (congrArg Real.toEReal ?_))
  first | (dsimp only; done) | (dsimp only; congr 1 <;> omega)

/-- Its running sum in the chunk. -/
theorem r21 (H : Reals A x0 x1 x2 x3 x4) : IsR (val_main_v21 (F := Ideal) x0 x1 x2) fun i => cum A (i 0).val (i 1).val (64 * (i 2).val + (i 3).val) :=
  cumsum4 (f := fun c s h x => la A c s (64 * h + x)) _ ((val_main_call1_call0_v0_apply _).trans ((val_main_call1_call0_cst_apply _).trans Ideal.ofBits_zero_f32)) 63 rfl reduceWindows_S32x64x4x64_S32x64x4x64_w1s1p0_0_w64s1p63_0_w1s1p0_0_w1s1p0_0 (r20 H)

theorem r22 (H : Reals A x0 x1 x2 x3 x4) : IsR (val_main_v22 (F := Ideal) x0 x1 x2) fun i => tot A (i 0).val (64 * (i 2).val + (i 3).val) := fun i => by
  have b0 : (i 0).val < 32 := (i 0).isLt
  have b1 : (i 1).val < 1 := (i 1).isLt
  have b2 : (i 2).val < 4 := (i 2).isLt
  have b3 : (i 3).val < 64 := (i 3).isLt
  refine (val_main_v22_apply (F := Ideal) x0 x1 x2 i).trans ((r21 H _).trans (congrArg Real.toEReal ?_))
  first | (dsimp only [tot]; done) | (dsimp only [tot]; congr 1 <;> omega)

theorem r23 (H : Reals A x0 x1 x2 x3 x4) : IsR (val_main_v23 (F := Ideal) x0 x1 x2) fun i => tot A (i 0).val (64 * (i 1).val + (i 2).val) := fun i => by
  have b0 : (i 0).val < 32 := (i 0).isLt
  have b1 : (i 1).val < 4 := (i 1).isLt
  have b2 : (i 2).val < 64 := (i 2).isLt
  refine (val_main_v23_apply (F := Ideal) x0 x1 x2 i).trans ((r22 H _).trans (congrArg Real.toEReal ?_))
  first | (dsimp only; done) | (dsimp only; congr 1 <;> omega)

theorem r24 (H : Reals A x0 x1 x2 x3 x4) : IsR (val_main_v24 (F := Ideal) x0 x1 x2) fun i => tot A (i 0).val (64 * (i 2).val + (i 3).val) := fun i => by
  have b0 : (i 0).val < 32 := (i 0).isLt
  have b1 : (i 1).val < 1 := (i 1).isLt
  have b2 : (i 2).val < 4 := (i 2).isLt
  have b3 : (i 3).val < 64 := (i 3).isLt
  refine (val_main_v24_apply (F := Ideal) x0 x1 x2 i).trans ((r23 H _).trans (congrArg Real.toEReal ?_))
  first | (dsimp only; done) | (dsimp only; congr 1 <;> omega)

theorem r25 (H : Reals A x0 x1 x2 x3 x4) : IsR (val_main_v25 (F := Ideal) x0 x1 x2) fun i => tot A (i 0).val (64 * (i 2).val + (i 3).val) := fun i => by
  have b0 : (i 0).val < 32 := (i 0).isLt
  have b1 : (i 1).val < 64 := (i 1).isLt
  have b2 : (i 2).val < 4 := (i 2).isLt
  have b3 : (i 3).val < 64 := (i 3).isLt
  refine (val_main_v25_apply (F := Ideal) x0 x1 x2 i).trans ((r24 H _).trans (congrArg Real.toEReal ?_))
  first | (dsimp only; done) | (dsimp only; congr 1 <;> omega)

theorem r26 (H : Reals A x0 x1 x2 x3 x4) : IsR (val_main_v26 (F := Ideal) x0 x1 x2) fun i => tot A (i 0).val (64 * (i 2).val + (i 3).val) - cum A (i 0).val (i 1).val (64 * (i 2).val + (i 3).val) := (IsR.subf (r25 H) (r21 H))

theorem r27 (H : Reals A x0 x1 x2 x3 x4) : IsR (val_main_v27 (F := Ideal) x0 x1 x2) fun i => e A (i 0).val (i 1).val (64 * (i 2).val + (i 3).val) := (IsR.hostExp (φ := .f32) (r26 H))

/-- The decayed keys. -/
theorem r28 (H : Reals A x0 x1 x2 x3 x4) : IsR (val_main_v28 (F := Ideal) x0 x1 x2) fun i => kd A (i 0).val (i 1).val (64 * (i 2).val + (i 3).val) := (IsR.mulf (r12 H) (r27 H))

/-- What a chunk adds to the state. -/
theorem r29 (H : Reals A x0 x1 x2 x3 x4) : IsR (val_main_v29 (F := Ideal) x0 x1 x2) fun i => inc A (i 0).val (64 * (i 1).val + (i 2).val) (i 3).val := fun i => by
  have b0 : (i 0).val < 32 := (i 0).isLt
  have b1 : (i 1).val < 4 := (i 1).isLt
  have b2 : (i 2).val < 64 := (i 2).isLt
  have b3 : (i 3).val < 128 := (i 3).isLt
  refine (val_main_v29_apply x0 x1 x2 i).trans ((sum_coe' (fun x => kd A (i 0).val x (64 * (i 1).val + (i 2).val) * v A (i 0).val x (128 * (i 1).val + (i 3).val)) fun x => ?_).trans (congrArg Real.toEReal ?_))
  · exact congrArg₂ (· * ·) (r28 H _) (r13 H _)
  · exact (inc_head A _ _ _ _ b2).symm

/-- The logarithm of the decay up to a chunk. -/
theorem r30 (H : Reals A x0 x1 x2 x3 x4) : IsR (val_main_v30 (F := Ideal) x0 x1 x2) fun i => up A (i 0).val (64 * (i 1).val + (i 2).val) :=
  cumsum3 (f := fun c h x => tot A c (64 * h + x)) _ ((val_main_call2_call0_v0_apply _).trans ((val_main_call2_call0_cst_apply _).trans Ideal.ofBits_zero_f32)) 31 rfl reduceWindows_S32x4x64_S32x4x64_w32s1p31_0_w1s1p0_0_w1s1p0_0 (r23 H)

/-- Where the first chunk is not before the second: the mask's entry. -/
theorem mask_apply (i : S32x32x4x64.Idx) : val_main_v44_1 (F := Ideal) i = if (i 1).val ≤ (i 0).val then 1#1 else 0#1 := by
  have b0 : (i 0).val < 32 := (i 0).isLt
  have b1 : (i 1).val < 32 := (i 1).isLt
  rw [val_main_v44_1_apply, val_main_v38_apply, val_main_v37_apply, val_main_v35_apply, val_main_v36_apply,
    val_main_v32_apply, val_main_v34_apply, val_main_v31_apply, val_main_v33_apply]
  show IntOp.cmpi .sge (BitVec.ofNat 32 (i 0).val) (BitVec.ofNat 32 (i 1).val) = _
  generalize (i 0).val = c at *
  generalize (i 1).val = d at *
  have key : ∀ c : Fin 32, ∀ d : Fin 32, IntOp.cmpi .sge (BitVec.ofNat 32 c.val) (BitVec.ofNat 32 d.val) = if d.val ≤ c.val then 1#1 else 0#1 := by
    decide +kernel
  exact key ⟨c, b0⟩ ⟨d, b1⟩

theorem r39 (H : Reals A x0 x1 x2 x3 x4) : IsR (val_main_v39 (F := Ideal) x0 x1 x2) fun i => up A (i 0).val (64 * (i 2).val + (i 3).val) := fun i => by
  have b0 : (i 0).val < 32 := (i 0).isLt
  have b1 : (i 1).val < 1 := (i 1).isLt
  have b2 : (i 2).val < 4 := (i 2).isLt
  have b3 : (i 3).val < 64 := (i 3).isLt
  refine (val_main_v39_apply (F := Ideal) x0 x1 x2 i).trans ((r30 H _).trans (congrArg Real.toEReal ?_))
  first | (dsimp only; done) | (dsimp only; congr 1 <;> omega)

theorem r40 (H : Reals A x0 x1 x2 x3 x4) : IsR (val_main_v40 (F := Ideal) x0 x1 x2) fun i => up A (i 1).val (64 * (i 2).val + (i 3).val) := fun i => by
  have b0 : (i 0).val < 1 := (i 0).isLt
  have b1 : (i 1).val < 32 := (i 1).isLt
  have b2 : (i 2).val < 4 := (i 2).isLt
  have b3 : (i 3).val < 64 := (i 3).isLt
  refine (val_main_v40_apply (F := Ideal) x0 x1 x2 i).trans ((r30 H _).trans (congrArg Real.toEReal ?_))
  first | (dsimp only; done) | (dsimp only; congr 1 <;> omega)

theorem r41 (H : Reals A x0 x1 x2 x3 x4) : IsR (val_main_v41 (F := Ideal) x0 x1 x2) fun i => up A (i 0).val (64 * (i 2).val + (i 3).val) := fun i => by
  have b0 : (i 0).val < 32 := (i 0).isLt
  have b1 : (i 1).val < 32 := (i 1).isLt
  have b2 : (i 2).val < 4 := (i 2).isLt
  have b3 : (i 3).val < 64 := (i 3).isLt
  refine (val_main_v41_apply (F := Ideal) x0 x1 x2 i).trans ((r39 H _).trans (congrArg Real.toEReal ?_))
  first | (dsimp only; done) | (dsimp only; congr 1 <;> omega)

theorem r42 (H : Reals A x0 x1 x2 x3 x4) : IsR (val_main_v42 (F := Ideal) x0 x1 x2) fun i => up A (i 1).val (64 * (i 2).val + (i 3).val) := fun i => by
  have b0 : (i 0).val < 32 := (i 0).isLt
  have b1 : (i 1).val < 32 := (i 1).isLt
  have b2 : (i 2).val < 4 := (i 2).isLt
  have b3 : (i 3).val < 64 := (i 3).isLt
  refine (val_main_v42_apply (F := Ideal) x0 x1 x2 i).trans ((r40 H _).trans (congrArg Real.toEReal ?_))
  first | (dsimp only; done) | (dsimp only; congr 1 <;> omega)

theorem r43 (H : Reals A x0 x1 x2 x3 x4) : IsR (val_main_v43 (F := Ideal) x0 x1 x2) fun i => up A (i 0).val (64 * (i 2).val + (i 3).val) - up A (i 1).val (64 * (i 2).val + (i 3).val) := (IsR.subf (r41 H) (r42 H))

/-- The decay from one chunk to another. -/
theorem r45 (H : Reals A x0 x1 x2 x3 x4) : IsR (val_main_v45 (F := Ideal) x0 x1 x2) fun i => dec A (i 0).val (i 1).val (64 * (i 2).val + (i 3).val) := fun i => by
  rw [val_main_v45_apply]
  show Ideal.exp (val_main_v44_0 (F := Ideal) x0 x1 x2 i) = _
  rw [val_main_v44_0_apply, mask_apply, r43 H, val_main_call3_v2_apply, val_main_call3_v0_apply, val_main_cst_1_apply]
  unfold dec
  beta_reduce
  by_cases h : (i 1).val ≤ (i 0).val
  · rw [if_pos h, if_pos h]; rfl
  · rw [if_neg h, if_neg h]
    show Ideal.exp (Ideal.ofBits .f32 0xFF800000#32) = _
    rw [ofBits_neg_inf]; rfl

theorem r46 (H : Reals A x0 x1 x2 x3 x4) : IsR (val_main_v46 (F := Ideal) x0 x1 x2) fun i => st A (i 3).val (64 * (i 0).val + (i 1).val) (i 2).val := fun i => by
  have b0 : (i 0).val < 4 := (i 0).isLt
  have b1 : (i 1).val < 64 := (i 1).isLt
  have b2 : (i 2).val < 128 := (i 2).isLt
  have b3 : (i 3).val < 32 := (i 3).isLt
  refine (val_main_v46_apply x0 x1 x2 i).trans ((sum_coe' (fun x => inc A x (64 * (i 0).val + (i 1).val) (i 2).val * dec A (i 3).val x (64 * (i 0).val + (i 1).val)) fun x => ?_).trans (congrArg Real.toEReal ?_))
  · exact congrArg₂ (· * ·) (r29 H _) (r45 H _)
  · exact Finset.sum_congr rfl fun _ _ => mul_comm _ _

/-- The states. -/
theorem r47 (H : Reals A x0 x1 x2 x3 x4) : IsR (val_main_v47 (F := Ideal) x0 x1 x2) fun i => st A (i 0).val (64 * (i 1).val + (i 2).val) (i 3).val := fun i => by
  have b0 : (i 0).val < 32 := (i 0).isLt
  have b1 : (i 1).val < 4 := (i 1).isLt
  have b2 : (i 2).val < 64 := (i 2).isLt
  have b3 : (i 3).val < 128 := (i 3).isLt
  refine (val_main_v47_apply (F := Ideal) x0 x1 x2 i).trans ((r46 H _).trans (congrArg Real.toEReal ?_))
  first | (dsimp only; done) | (dsimp only; congr 1 <;> omega)

theorem r48 (H : Reals A x0 x1 x2 x3 x4) : IsR (val_main_v48 (F := Ideal) x0 x1 x2) fun i => o A (i 0).val (i 3).val (128 * (i 1).val + (i 2).val) := fun i => by
  have b0 : (i 0).val < 32 := (i 0).isLt
  have b1 : (i 1).val < 4 := (i 1).isLt
  have b2 : (i 2).val < 128 := (i 2).isLt
  have b3 : (i 3).val < 64 := (i 3).isLt
  refine (val_main_v48_apply x0 x1 x2 i).trans ((sum_coe' (fun x => st A (i 0).val (64 * (i 1).val + x) (i 2).val * q A (i 0).val (i 3).val (64 * (i 1).val + x)) fun x => ?_).trans (congrArg Real.toEReal ?_))
  · exact congrArg₂ (· * ·) (r47 H _) (r11 H _)
  · beta_reduce
    rw [o_head A _ _ _ _ b2]; exact Finset.sum_congr rfl fun _ _ => mul_comm _ _

theorem r49 (H : Reals A x0 x1 x2 x3 x4) : IsR (val_main_v49 (F := Ideal) x0 x1 x2) fun i => o A (i 0).val (i 1).val (128 * (i 2).val + (i 3).val) := fun i => by
  have b0 : (i 0).val < 32 := (i 0).isLt
  have b1 : (i 1).val < 64 := (i 1).isLt
  have b2 : (i 2).val < 4 := (i 2).isLt
  have b3 : (i 3).val < 128 := (i 3).isLt
  refine (val_main_v49_apply (F := Ideal) x0 x1 x2 i).trans ((r48 H _).trans (congrArg Real.toEReal ?_))
  first | (dsimp only; done) | (dsimp only; congr 1 <;> omega)

/-- A head's sum of squares. -/
def oo (A : Args) (c s h : ℕ) : ℝ := ∑ x ∈ Finset.range 128, o A c s (128 * h + x) * o A c s (128 * h + x)

/-- The attention's output. -/
theorem r50 (H : Reals A x0 x1 x2 x3 x4) : IsR (val_main_v50 (F := Ideal) x0 x1 x2) fun i => o A ((i 0).val / 64) ((i 0).val % 64) (128 * (i 1).val + (i 2).val) := fun i => by
  have b0 : (i 0).val < 2048 := (i 0).isLt
  have b1 : (i 1).val < 4 := (i 1).isLt
  have b2 : (i 2).val < 128 := (i 2).isLt
  refine (val_main_v50_apply (F := Ideal) x0 x1 x2 i).trans ((r49 H _).trans (congrArg Real.toEReal ?_))
  first | (dsimp only; done) | (dsimp only; congr 1 <;> omega)

theorem r51 (H : Reals A x0 x1 x2 x3 x4) : IsR (val_main_v51 (F := Ideal) x0 x1 x2) fun i => o A ((i 0).val / 64) ((i 0).val % 64) (128 * (i 1).val + (i 2).val) * o A ((i 0).val / 64) ((i 0).val % 64) (128 * (i 1).val + (i 2).val) := (IsR.mulf (r50 H) (r50 H))

theorem r52 (H : Reals A x0 x1 x2 x3 x4) : IsR (val_main_v52 (F := Ideal) x0 x1 x2) fun i => oo A ((i 0).val / 64) ((i 0).val % 64) (i 1).val := fun i => by
  have b0 : (i 0).val < 2048 := (i 0).isLt
  have b1 : (i 1).val < 4 := (i 1).isLt
  have c : (val_main_cst_2 (F := Ideal)) (Shape.Idx.first h_S_) = 0 := (val_main_cst_2_apply _).trans Ideal.ofBits_zero_f32
  have d : ∑ k : Fin 128, (val_main_v51 (F := Ideal) x0 x1 x2) (idx_main_v52 i k) = (((oo A ((i 0).val / 64) ((i 0).val % 64) (i 1).val : ℝ)) : EReal) := by
    refine (sum_coe' (fun x => o A ((i 0).val / 64) ((i 0).val % 64) (128 * (i 1).val + x) * o A ((i 0).val / 64) ((i 0).val % 64) (128 * (i 1).val + x)) fun x => r51 H (idx_main_v52 i x)).trans (congrArg Real.toEReal ?_)
    rfl
  generalize hy : ∑ k : Fin 128, (val_main_v51 (F := Ideal) x0 x1 x2) (idx_main_v52 i k) = y at d
  refine (val_main_v52_apply x0 x1 x2 i).trans ?_
  rw [hy, c, d, zero_add]

theorem r53 (H : Reals A x0 x1 x2 x3 x4) : IsR (val_main_v53 (F := Ideal) x0 x1 x2) fun i => oo A ((i 0).val / 64) ((i 0).val % 64) (i 1).val := fun i => by
  have b0 : (i 0).val < 2048 := (i 0).isLt
  have b1 : (i 1).val < 4 := (i 1).isLt
  have b2 : (i 2).val < 1 := (i 2).isLt
  refine (val_main_v53_apply (F := Ideal) x0 x1 x2 i).trans ((r52 H _).trans (congrArg Real.toEReal ?_))
  first | (dsimp only; done) | (dsimp only; congr 1 <;> omega)

theorem r54 : IsR (val_main_v54 (F := Ideal)) fun i => (128 : ℝ) := fun i =>
  (val_main_v54_apply i).trans ((val_main_cst_3_apply _).trans ofBits_128)

theorem r55 (H : Reals A x0 x1 x2 x3 x4) : IsR (val_main_v55 (F := Ideal) x0 x1 x2) fun i => oo A ((i 0).val / 64) ((i 0).val % 64) (i 1).val / 128 := (IsR.hostDivf (φ := .f32) (r53 H) r54 fun _ => by norm_num)

theorem r56 : IsR (val_main_v56 (F := Ideal)) fun i => eps := fun i =>
  (val_main_v56_apply i).trans ((val_main_cst_4_apply _).trans ofBits_eps)

theorem r57 (H : Reals A x0 x1 x2 x3 x4) : IsR (val_main_v57 (F := Ideal) x0 x1 x2) fun i => ms A ((i 0).val / 64) ((i 0).val % 64) (i 1).val := (IsR.addf (r55 H) r56)

theorem r58 (H : Reals A x0 x1 x2 x3 x4) : IsR (val_main_v58 (F := Ideal) x0 x1 x2) fun i => rs A ((i 0).val / 64) ((i 0).val % 64) (i 1).val := (IsR.hostRsqrt (φ := .f32) (r57 H) fun i => ms_pos A _ _ _)

theorem r59 (H : Reals A x0 x1 x2 x3 x4) : IsR (val_main_v59 (F := Ideal) x0 x1 x2) fun i => rs A ((i 0).val / 64) ((i 0).val % 64) (i 1).val / ms A ((i 0).val / 64) ((i 0).val % 64) (i 1).val := (IsR.hostDivf (φ := .f32) (r58 H) (r57 H) fun i => (ms_pos A _ _ _).ne')

theorem r60 : IsR (val_main_v60 (F := Ideal)) fun i => (-1 / 2 : ℝ) := fun i =>
  (val_main_v60_apply i).trans ((val_main_cst_5_apply _).trans ofBits_neg_half)

theorem r61 (H : Reals A x0 x1 x2 x3 x4) : IsR (val_main_v61 (F := Ideal) x0 x1 x2) fun i => -1 / 2 * (rs A ((i 0).val / 64) ((i 0).val % 64) (i 1).val / ms A ((i 0).val / 64) ((i 0).val % 64) (i 1).val) := (IsR.mulf r60 (r59 H))

theorem r62 (H : Reals A x0 x1 x2 x3 x4) : IsR (val_main_v62 (F := Ideal) x0 x1 x2) fun i => rs A ((i 0).val / 64) ((i 0).val % 64) (i 1).val := fun i => by
  have b0 : (i 0).val < 2048 := (i 0).isLt
  have b1 : (i 1).val < 4 := (i 1).isLt
  have b2 : (i 2).val < 128 := (i 2).isLt
  refine (val_main_v62_apply (F := Ideal) x0 x1 x2 i).trans ((r58 H _).trans (congrArg Real.toEReal ?_))
  first | (dsimp only; done) | (dsimp only; congr 1 <;> omega)

theorem r63 (H : Reals A x0 x1 x2 x3 x4) : IsR (val_main_v63 (F := Ideal) x0 x1 x2) fun i => y A ((i 0).val / 64) ((i 0).val % 64) (128 * (i 1).val + (i 2).val) :=
  IsR.congr (IsR.mulf (r50 H) (r62 H)) fun i => (y_head A _ _ _ _ (i 2).isLt).symm

/-- The normalised output. -/
theorem r64 (H : Reals A x0 x1 x2 x3 x4) : IsR (val_main_v64 (F := Ideal) x0 x1 x2) fun i => y A ((i 0).val / 64) ((i 0).val % 64) (i 1).val := fun i => by
  have b0 : (i 0).val < 2048 := (i 0).isLt
  have b1 : (i 1).val < 512 := (i 1).isLt
  refine (val_main_v64_apply (F := Ideal) x0 x1 x2 i).trans ((r63 H _).trans (congrArg Real.toEReal ?_))
  first | (dsimp only; done) | (dsimp only; congr 1 <;> omega)

theorem r65 (H : Reals A x0 x1 x2 x3 x4) : IsR (val_main_v65 (F := Ideal) x3) fun i => A.n 0 (i 1).val := fun i => by
  have b0 : (i 0).val < 2048 := (i 0).isLt
  have b1 : (i 1).val < 512 := (i 1).isLt
  refine (val_main_v65_apply (F := Ideal) x3 i).trans ((H.n _).trans (congrArg Real.toEReal ?_))
  first | (dsimp only; done) | (dsimp only; congr 1 <;> omega)

theorem r66 (H : Reals A x0 x1 x2 x3 x4) : IsR (val_main_v66 (F := Ideal) x0 x1 x2 x3) fun i => y A ((i 0).val / 64) ((i 0).val % 64) (i 1).val * A.n 0 (i 1).val := (IsR.mulf (r64 H) (r65 H))

theorem r_call4_v0 (H : Reals A x0 x1 x2 x3 x4) : IsR (val_main_call4_v0 (F := Ideal) x0) fun i => -r A ((i 0).val / 64) ((i 0).val % 64) (i 1).val := (IsR.hostNegf (r3 H))

theorem r_call4_v1 (H : Reals A x0 x1 x2 x3 x4) : IsR (val_main_call4_v1 (F := Ideal) x0) fun i => Real.exp (-r A ((i 0).val / 64) ((i 0).val % 64) (i 1).val) := (IsR.hostExp (φ := .f32) (r_call4_v0 H))

theorem r_call4_v2 : IsR (val_main_call4_v2 (F := Ideal)) fun i => (1 : ℝ) := fun i =>
  (val_main_call4_v2_apply i).trans ((val_main_call4_cst_apply _).trans Ideal.ofBits_one_f32)

theorem r_call4_v4 : IsR (val_main_call4_v4 (F := Ideal)) fun i => (1 : ℝ) := fun i =>
  (val_main_call4_v4_apply i).trans ((val_main_call4_cst_0_apply _).trans Ideal.ofBits_one_f32)

theorem r_call4_v6 : IsR (val_main_call4_v6 (F := Ideal)) fun i => (1 : ℝ) := fun i =>
  (val_main_call4_v6_apply i).trans ((val_main_call4_cst_1_apply _).trans Ideal.ofBits_one_f32)

theorem r_call4_v3 (H : Reals A x0 x1 x2 x3 x4) : IsR (val_main_call4_v3 (F := Ideal) x0) fun i => 1 + Real.exp (-r A ((i 0).val / 64) ((i 0).val % 64) (i 1).val) := (IsR.addf r_call4_v2 (r_call4_v1 H))

theorem r67_2 (H : Reals A x0 x1 x2 x3 x4) : IsR (val_main_v67_2 (F := Ideal) x0) fun i => sg A ((i 0).val / 64) ((i 0).val % 64) (i 1).val :=
  IsR.congr (IsR.hostDivf (φ := .f32) r_call4_v4 (r_call4_v3 H) fun i => (sg_den_pos A _ _ _).ne') fun i => one_div _

theorem r_call4_v7 (H : Reals A x0 x1 x2 x3 x4) : IsR (val_main_call4_v7 (F := Ideal) x0) fun i => 1 - sg A ((i 0).val / 64) ((i 0).val % 64) (i 1).val := (IsR.subf r_call4_v6 (r67_2 H))

theorem r67_1 (H : Reals A x0 x1 x2 x3 x4) : IsR (val_main_v67_1 (F := Ideal) x0) fun i => sg A ((i 0).val / 64) ((i 0).val % 64) (i 1).val * (1 - sg A ((i 0).val / 64) ((i 0).val % 64) (i 1).val) := (IsR.mulf (r67_2 H) (r_call4_v7 H))

/-- The output gate. -/
theorem r67_0 (H : Reals A x0 x1 x2 x3 x4) : IsR (val_main_v67_0 (F := Ideal) x0) fun i => sil A ((i 0).val / 64) ((i 0).val % 64) (i 1).val := (IsR.mulf (r3 H) (r67_2 H))

end Gla
-- ==== Proof.RefBackward.lean ====
module

public import proofs.«01_k».proof.Proof.RefForward
public import Idealize.ShloMosaic.Lib.KernelVsHost

@[expose] public section

/-!
# The reference's backward stages

Each stage of the derivative, read as the real quantity it holds.
-/

noncomputable section

open Idealize.ShloMosaic Idealize.ShloMosaic.TcCoe
open Cert.ReferenceIdeal Cert.ReferenceIdeal.Gen Cert.ReferenceIdeal.Read
open scoped BigOperators

namespace Gla

variable {A : Args} {x0 : S2048x3096.Idx → EReal} {x1 : S16x256.Idx → EReal} {x2 : S1x256.Idx → EReal}
  {x3 : S1x512.Idx → EReal} {x4 : S2048x1024.Idx → EReal}

theorem r69 (H : Reals A x0 x1 x2 x3 x4) : IsR (val_main_v69 (F := Ideal) x4) fun i => g A ((i 0).val / 64) ((i 0).val % 64) (i 1).val := fun i => by
  have b0 : (i 0).val < 2048 := (i 0).isLt
  have b1 : (i 1).val < 512 := (i 1).isLt
  refine (val_main_v69_apply (F := Ideal) x4 i).trans ((H.g _).trans (congrArg Real.toEReal ?_))
  first | (dsimp only [g]; done) | (dsimp only [g]; congr 1 <;> omega)

theorem r70 (H : Reals A x0 x1 x2 x3 x4) : IsR (val_main_v70 (F := Ideal) x0 x1 x2 x3 x4) fun i => y A ((i 0).val / 64) ((i 0).val % 64) (i 1).val * A.n 0 (i 1).val * g A ((i 0).val / 64) ((i 0).val % 64) (i 1).val := (IsR.mulf (r66 H) (r69 H))

theorem r71 (H : Reals A x0 x1 x2 x3 x4) : IsR (val_main_v71 (F := Ideal) x0 x4) fun i => g A ((i 0).val / 64) ((i 0).val % 64) (i 1).val * sil A ((i 0).val / 64) ((i 0).val % 64) (i 1).val := (IsR.mulf (r69 H) (r67_0 H))

theorem r_call5_v0 (H : Reals A x0 x1 x2 x3 x4) : IsR (val_main_call5_v0 (F := Ideal) x0 x1 x2 x3 x4) fun i => r A ((i 0).val / 64) ((i 0).val % 64) (i 1).val * (y A ((i 0).val / 64) ((i 0).val % 64) (i 1).val * A.n 0 (i 1).val * g A ((i 0).val / 64) ((i 0).val % 64) (i 1).val) := (IsR.mulf (r3 H) (r70 H))

theorem r_call5_v1 (H : Reals A x0 x1 x2 x3 x4) : IsR (val_main_call5_v1 (F := Ideal) x0 x1 x2 x3 x4) fun i => y A ((i 0).val / 64) ((i 0).val % 64) (i 1).val * A.n 0 (i 1).val * g A ((i 0).val / 64) ((i 0).val % 64) (i 1).val * sg A ((i 0).val / 64) ((i 0).val % 64) (i 1).val := (IsR.mulf (r70 H) (r67_2 H))

theorem r_call5_v2 (H : Reals A x0 x1 x2 x3 x4) : IsR (val_main_call5_v2 (F := Ideal) x0 x1 x2 x3 x4) fun i => r A ((i 0).val / 64) ((i 0).val % 64) (i 1).val * (y A ((i 0).val / 64) ((i 0).val % 64) (i 1).val * A.n 0 (i 1).val * g A ((i 0).val / 64) ((i 0).val % 64) (i 1).val) * (sg A ((i 0).val / 64) ((i 0).val % 64) (i 1).val * (1 - sg A ((i 0).val / 64) ((i 0).val % 64) (i 1).val)) := (IsR.mulf (r_call5_v0 H) (r67_1 H))

/-- The output gate's gradient. -/
theorem r72 (H : Reals A x0 x1 x2 x3 x4) : IsR (val_main_v72 (F := Ideal) x0 x1 x2 x3 x4) fun i => dr A ((i 0).val / 64) ((i 0).val % 64) (i 1).val :=
  IsR.congr (IsR.addf (r_call5_v1 H) (r_call5_v2 H)) fun i => by unfold dr dsil; ring

theorem r73 (H : Reals A x0 x1 x2 x3 x4) : IsR (val_main_v73 (F := Ideal) x0 x1 x2 x4) fun i => y A ((i 0).val / 64) ((i 0).val % 64) (i 1).val * (g A ((i 0).val / 64) ((i 0).val % 64) (i 1).val * sil A ((i 0).val / 64) ((i 0).val % 64) (i 1).val) := (IsR.mulf (r64 H) (r71 H))

theorem r74 (H : Reals A x0 x1 x2 x3 x4) : IsR (val_main_v74 (F := Ideal) x0 x1 x2 x4) fun i => dnw A (i 0).val := fun i => by
  have b0 : (i 0).val < 512 := (i 0).isLt
  have c : (val_main_cst_6 (F := Ideal)) (Shape.Idx.first h_S_) = 0 := (val_main_cst_6_apply _).trans Ideal.ofBits_zero_f32
  have d : ∑ k : Fin 2048, (val_main_v73 (F := Ideal) x0 x1 x2 x4) (idx_main_v74 i k) = (((dnw A (i 0).val : ℝ)) : EReal) := by
    refine (sum_coe' (fun x => y A (x / 64) (x % 64) (i 0).val * (g A (x / 64) (x % 64) (i 0).val * sil A (x / 64) (x % 64) (i 0).val)) fun x => r73 H (idx_main_v74 i x)).trans (congrArg Real.toEReal ?_)
    beta_reduce
    unfold dnw
    rw [sum_rows]
    exact Finset.sum_congr rfl fun c _ => Finset.sum_congr rfl fun s hs => by
      rw [row_div _ _ (Finset.mem_range.1 hs), row_mod _ _ (Finset.mem_range.1 hs)]; ring
  generalize hy : ∑ k : Fin 2048, (val_main_v73 (F := Ideal) x0 x1 x2 x4) (idx_main_v74 i k) = y at d
  refine (val_main_v74_apply x0 x1 x2 x4 i).trans ?_
  rw [hy, c, d, zero_add]

/-- The norm weight's gradient. -/
theorem r75 (H : Reals A x0 x1 x2 x3 x4) : IsR (val_main_v75 (F := Ideal) x0 x1 x2 x4) fun i => dnw A (i 1).val := fun i => by
  have b0 : (i 0).val < 1 := (i 0).isLt
  have b1 : (i 1).val < 512 := (i 1).isLt
  refine (val_main_v75_apply (F := Ideal) x0 x1 x2 x4 i).trans ((r74 H _).trans (congrArg Real.toEReal ?_))
  first | (dsimp only; done) | (dsimp only; congr 1 <;> omega)

theorem r76 (H : Reals A x0 x1 x2 x3 x4) : IsR (val_main_v76 (F := Ideal) x3) fun i => A.n 0 (i 1).val := fun i => by
  have b0 : (i 0).val < 2048 := (i 0).isLt
  have b1 : (i 1).val < 512 := (i 1).isLt
  refine (val_main_v76_apply (F := Ideal) x3 i).trans ((H.n _).trans (congrArg Real.toEReal ?_))
  first | (dsimp only; done) | (dsimp only; congr 1 <;> omega)

theorem r77 (H : Reals A x0 x1 x2 x3 x4) : IsR (val_main_v77 (F := Ideal) x0 x3 x4) fun i => dy A ((i 0).val / 64) ((i 0).val % 64) (i 1).val :=
  IsR.congr (IsR.mulf (r71 H) (r76 H)) fun i => by unfold dy; ring

theorem r78 (H : Reals A x0 x1 x2 x3 x4) : IsR (val_main_v78 (F := Ideal) x0 x3 x4) fun i => dy A ((i 0).val / 64) ((i 0).val % 64) (128 * (i 1).val + (i 2).val) := fun i => by
  have b0 : (i 0).val < 2048 := (i 0).isLt
  have b1 : (i 1).val < 4 := (i 1).isLt
  have b2 : (i 2).val < 128 := (i 2).isLt
  refine (val_main_v78_apply (F := Ideal) x0 x3 x4 i).trans ((r77 H _).trans (congrArg Real.toEReal ?_))
  first | (dsimp only; done) | (dsimp only; congr 1 <;> omega)

theorem r79 (H : Reals A x0 x1 x2 x3 x4) : IsR (val_main_v79 (F := Ideal) x0 x1 x2 x3 x4) fun i => o A ((i 0).val / 64) ((i 0).val % 64) (128 * (i 1).val + (i 2).val) * dy A ((i 0).val / 64) ((i 0).val % 64) (128 * (i 1).val + (i 2).val) := (IsR.mulf (r50 H) (r78 H))

/-- A head's sum of products of the output and the gradient of what it is normalised to. -/
def od (A : Args) (c s h : ℕ) : ℝ := ∑ x ∈ Finset.range 128, o A c s (128 * h + x) * dy A c s (128 * h + x)

/-- What the norm's derivative multiplies the output by, halved. -/
def ot (A : Args) (c s h : ℕ) : ℝ := od A c s h * (-1 / 2 * (rs A c s h / ms A c s h)) / 128

/-- A chunk's gradient against its state, before the scale. -/
def dqs (A : Args) (c s j : ℕ) : ℝ := ∑ x ∈ Finset.range 128, do_ A c s (128 * (j / 64) + x) * st A c j x

theorem r80 (H : Reals A x0 x1 x2 x3 x4) : IsR (val_main_v80 (F := Ideal) x0 x1 x2 x3 x4) fun i => od A ((i 0).val / 64) ((i 0).val % 64) (i 1).val := fun i => by
  have b0 : (i 0).val < 2048 := (i 0).isLt
  have b1 : (i 1).val < 4 := (i 1).isLt
  have c : (val_main_cst_7 (F := Ideal)) (Shape.Idx.first h_S_) = 0 := (val_main_cst_7_apply _).trans Ideal.ofBits_zero_f32
  have d : ∑ k : Fin 128, (val_main_v79 (F := Ideal) x0 x1 x2 x3 x4) (idx_main_v80 i k) = (((od A ((i 0).val / 64) ((i 0).val % 64) (i 1).val : ℝ)) : EReal) := by
    refine (sum_coe' (fun x => o A ((i 0).val / 64) ((i 0).val % 64) (128 * (i 1).val + x) * dy A ((i 0).val / 64) ((i 0).val % 64) (128 * (i 1).val + x)) fun x => r79 H (idx_main_v80 i x)).trans (congrArg Real.toEReal ?_)
    rfl
  generalize hy : ∑ k : Fin 128, (val_main_v79 (F := Ideal) x0 x1 x2 x3 x4) (idx_main_v80 i k) = y at d
  refine (val_main_v80_apply x0 x1 x2 x3 x4 i).trans ?_
  rw [hy, c, d, zero_add]

theorem r81 (H : Reals A x0 x1 x2 x3 x4) : IsR (val_main_v81 (F := Ideal) x0 x1 x2 x3 x4) fun i => od A ((i 0).val / 64) ((i 0).val % 64) (i 1).val := fun i => by
  have b0 : (i 0).val < 2048 := (i 0).isLt
  have b1 : (i 1).val < 4 := (i 1).isLt
  have b2 : (i 2).val < 1 := (i 2).isLt
  refine (val_main_v81_apply (F := Ideal) x0 x1 x2 x3 x4 i).trans ((r80 H _).trans (congrArg Real.toEReal ?_))
  first | (dsimp only; done) | (dsimp only; congr 1 <;> omega)

theorem r82 (H : Reals A x0 x1 x2 x3 x4) : IsR (val_main_v82 (F := Ideal) x0 x1 x2) fun i => rs A ((i 0).val / 64) ((i 0).val % 64) (i 1).val := fun i => by
  have b0 : (i 0).val < 2048 := (i 0).isLt
  have b1 : (i 1).val < 4 := (i 1).isLt
  have b2 : (i 2).val < 128 := (i 2).isLt
  refine (val_main_v82_apply (F := Ideal) x0 x1 x2 i).trans ((r58 H _).trans (congrArg Real.toEReal ?_))
  first | (dsimp only; done) | (dsimp only; congr 1 <;> omega)

theorem r83 (H : Reals A x0 x1 x2 x3 x4) : IsR (val_main_v83 (F := Ideal) x0 x1 x2 x3 x4) fun i => dy A ((i 0).val / 64) ((i 0).val % 64) (128 * (i 1).val + (i 2).val) * rs A ((i 0).val / 64) ((i 0).val % 64) (i 1).val := (IsR.mulf (r78 H) (r82 H))

theorem r84 (H : Reals A x0 x1 x2 x3 x4) : IsR (val_main_v84 (F := Ideal) x0 x1 x2 x3 x4) fun i => (od A ((i 0).val / 64) ((i 0).val % 64) (i 1).val) * (-1 / 2 * (rs A ((i 0).val / 64) ((i 0).val % 64) (i 1).val / ms A ((i 0).val / 64) ((i 0).val % 64) (i 1).val)) := (IsR.mulf (r81 H) (r61 H))

theorem r85 : IsR (val_main_v85 (F := Ideal)) fun i => (128 : ℝ) := fun i =>
  (val_main_v85_apply i).trans ((val_main_cst_8_apply _).trans ofBits_128)

theorem r86 (H : Reals A x0 x1 x2 x3 x4) : IsR (val_main_v86 (F := Ideal) x0 x1 x2 x3 x4) fun i => ot A ((i 0).val / 64) ((i 0).val % 64) (i 1).val := (IsR.hostDivf (φ := .f32) (r84 H) r85 fun _ => by norm_num)

theorem r87 (H : Reals A x0 x1 x2 x3 x4) : IsR (val_main_v87 (F := Ideal) x0 x1 x2 x3 x4) fun i => ot A ((i 0).val / 64) ((i 0).val % 64) (i 1).val := fun i => by
  have b0 : (i 0).val < 2048 := (i 0).isLt
  have b1 : (i 1).val < 4 := (i 1).isLt
  have c : (val_main_cst_9 (F := Ideal)) (Shape.Idx.first h_S_) = 0 := (val_main_cst_9_apply _).trans Ideal.ofBits_zero_f32
  have d : ∑ k : Fin 1, (val_main_v86 (F := Ideal) x0 x1 x2 x3 x4) (idx_main_v87 i k) = (((ot A ((i 0).val / 64) ((i 0).val % 64) (i 1).val : ℝ)) : EReal) := by
    refine (sum_coe' (fun x => ot A ((i 0).val / 64) ((i 0).val % 64) (i 1).val) fun x => r86 H (idx_main_v87 i x)).trans (congrArg Real.toEReal ?_)
    exact Finset.sum_range_one _
  generalize hy : ∑ k : Fin 1, (val_main_v86 (F := Ideal) x0 x1 x2 x3 x4) (idx_main_v87 i k) = y at d
  refine (val_main_v87_apply x0 x1 x2 x3 x4 i).trans ?_
  rw [hy, c, d, zero_add]

theorem r88 (H : Reals A x0 x1 x2 x3 x4) : IsR (val_main_v88 (F := Ideal) x0 x1 x2 x3 x4) fun i => ot A ((i 0).val / 64) ((i 0).val % 64) (i 1).val := fun i => by
  have b0 : (i 0).val < 2048 := (i 0).isLt
  have b1 : (i 1).val < 4 := (i 1).isLt
  have b2 : (i 2).val < 128 := (i 2).isLt
  refine (val_main_v88_apply (F := Ideal) x0 x1 x2 x3 x4 i).trans ((r87 H _).trans (congrArg Real.toEReal ?_))
  first | (dsimp only; done) | (dsimp only; congr 1 <;> omega)

theorem r89 (H : Reals A x0 x1 x2 x3 x4) : IsR (val_main_v89 (F := Ideal) x0 x1 x2 x3 x4) fun i => o A ((i 0).val / 64) ((i 0).val % 64) (128 * (i 1).val + (i 2).val) * (ot A ((i 0).val / 64) ((i 0).val % 64) (i 1).val) := (IsR.mulf (r50 H) (r88 H))

theorem r90 (H : Reals A x0 x1 x2 x3 x4) : IsR (val_main_v90 (F := Ideal) x0 x1 x2 x3 x4) fun i => dy A ((i 0).val / 64) ((i 0).val % 64) (128 * (i 1).val + (i 2).val) * rs A ((i 0).val / 64) ((i 0).val % 64) (i 1).val + o A ((i 0).val / 64) ((i 0).val % 64) (128 * (i 1).val + (i 2).val) * (ot A ((i 0).val / 64) ((i 0).val % 64) (i 1).val) := (IsR.addf (r83 H) (r89 H))

theorem r91 (H : Reals A x0 x1 x2 x3 x4) : IsR (val_main_v91 (F := Ideal) x0 x1 x2 x3 x4) fun i => (ot A ((i 0).val / 64) ((i 0).val % 64) (i 1).val) * o A ((i 0).val / 64) ((i 0).val % 64) (128 * (i 1).val + (i 2).val) := (IsR.mulf (r88 H) (r50 H))

/-- The gradient of the attention's output. -/
theorem r92 (H : Reals A x0 x1 x2 x3 x4) : IsR (val_main_v92 (F := Ideal) x0 x1 x2 x3 x4) fun i => do_ A ((i 0).val / 64) ((i 0).val % 64) (128 * (i 1).val + (i 2).val) :=
  IsR.congr (IsR.addf (r90 H) (r91 H)) fun i => do_eq A _ _ _ _ (i 2).isLt _ rfl _ rfl

theorem r93 (H : Reals A x0 x1 x2 x3 x4) : IsR (val_main_v93 (F := Ideal) x0 x1 x2 x3 x4) fun i => do_ A (i 0).val (i 1).val (128 * (i 2).val + (i 3).val) := fun i => by
  have b0 : (i 0).val < 32 := (i 0).isLt
  have b1 : (i 1).val < 64 := (i 1).isLt
  have b2 : (i 2).val < 4 := (i 2).isLt
  have b3 : (i 3).val < 128 := (i 3).isLt
  refine (val_main_v93_apply (F := Ideal) x0 x1 x2 x3 x4 i).trans ((r92 H _).trans (congrArg Real.toEReal ?_))
  first | (dsimp only; done) | (dsimp only; congr 1 <;> omega)

theorem r94 (H : Reals A x0 x1 x2 x3 x4) : IsR (val_main_v94 (F := Ideal) x0 x1 x2 x3 x4) fun i => do_ A (i 0).val (i 3).val (128 * (i 1).val + (i 2).val) := fun i => by
  have b0 : (i 0).val < 32 := (i 0).isLt
  have b1 : (i 1).val < 4 := (i 1).isLt
  have b2 : (i 2).val < 128 := (i 2).isLt
  have b3 : (i 3).val < 64 := (i 3).isLt
  refine (val_main_v94_apply (F := Ideal) x0 x1 x2 x3 x4 i).trans ((r93 H _).trans (congrArg Real.toEReal ?_))
  first | (dsimp only; done) | (dsimp only; congr 1 <;> omega)

theorem r95 (H : Reals A x0 x1 x2 x3 x4) : IsR (val_main_v95 (F := Ideal) x0 x1 x2 x3 x4) fun i => dqs A (i 0).val (i 2).val (64 * (i 1).val + (i 3).val) := fun i => by
  have b0 : (i 0).val < 32 := (i 0).isLt
  have b1 : (i 1).val < 4 := (i 1).isLt
  have b2 : (i 2).val < 64 := (i 2).isLt
  have b3 : (i 3).val < 64 := (i 3).isLt
  refine (val_main_v95_apply x0 x1 x2 x3 x4 i).trans ((sum_coe' (fun x => do_ A (i 0).val (i 2).val (128 * (i 1).val + x) * st A (i 0).val (64 * (i 1).val + (i 3).val) x) fun x => ?_).trans (congrArg Real.toEReal ?_))
  · exact congrArg₂ (· * ·) (r94 H _) (r47 H _)
  · beta_reduce
    unfold dqs; rw [show (64 * (i 1).val + (i 3).val) / 64 = (i 1).val from by omega]

theorem r96 (H : Reals A x0 x1 x2 x3 x4) : IsR (val_main_v96 (F := Ideal) x0 x1 x2 x3 x4) fun i => dqs A (i 0).val (i 1).val (64 * (i 2).val + (i 3).val) := fun i => by
  have b0 : (i 0).val < 32 := (i 0).isLt
  have b1 : (i 1).val < 64 := (i 1).isLt
  have b2 : (i 2).val < 4 := (i 2).isLt
  have b3 : (i 3).val < 64 := (i 3).isLt
  refine (val_main_v96_apply (F := Ideal) x0 x1 x2 x3 x4 i).trans ((r95 H _).trans (congrArg Real.toEReal ?_))
  first | (dsimp only; done) | (dsimp only; congr 1 <;> omega)

theorem r97 (H : Reals A x0 x1 x2 x3 x4) : IsR (val_main_v97 (F := Ideal) x0 x1 x2 x3 x4) fun i => ds A (i 0).val (64 * (i 1).val + (i 3).val) (i 2).val := fun i => by
  have b0 : (i 0).val < 32 := (i 0).isLt
  have b1 : (i 1).val < 4 := (i 1).isLt
  have b2 : (i 2).val < 128 := (i 2).isLt
  have b3 : (i 3).val < 64 := (i 3).isLt
  refine (val_main_v97_apply x0 x1 x2 x3 x4 i).trans ((sum_coe' (fun x => do_ A (i 0).val x (128 * (i 1).val + (i 2).val) * q A (i 0).val x (64 * (i 1).val + (i 3).val)) fun x => ?_).trans (congrArg Real.toEReal ?_))
  · exact congrArg₂ (· * ·) (r94 H _) (r11 H _)
  · exact (ds_head A _ _ _ _ b3).symm

theorem r98 (H : Reals A x0 x1 x2 x3 x4) : IsR (val_main_v98 (F := Ideal) x0 x1 x2 x3 x4) fun i => ds A (i 0).val (64 * (i 1).val + (i 2).val) (i 3).val := fun i => by
  have b0 : (i 0).val < 32 := (i 0).isLt
  have b1 : (i 1).val < 4 := (i 1).isLt
  have b2 : (i 2).val < 64 := (i 2).isLt
  have b3 : (i 3).val < 128 := (i 3).isLt
  refine (val_main_v98_apply (F := Ideal) x0 x1 x2 x3 x4 i).trans ((r97 H _).trans (congrArg Real.toEReal ?_))
  first | (dsimp only; done) | (dsimp only; congr 1 <;> omega)

theorem r99 (H : Reals A x0 x1 x2 x3 x4) : IsR (val_main_v99 (F := Ideal) x0 x1 x2 x3 x4) fun i => ds A (i 3).val (64 * (i 0).val + (i 1).val) (i 2).val := fun i => by
  have b0 : (i 0).val < 4 := (i 0).isLt
  have b1 : (i 1).val < 64 := (i 1).isLt
  have b2 : (i 2).val < 128 := (i 2).isLt
  have b3 : (i 3).val < 32 := (i 3).isLt
  refine (val_main_v99_apply (F := Ideal) x0 x1 x2 x3 x4 i).trans ((r98 H _).trans (congrArg Real.toEReal ?_))
  first | (dsimp only; done) | (dsimp only; congr 1 <;> omega)

theorem r100 (H : Reals A x0 x1 x2 x3 x4) : IsR (val_main_v100 (F := Ideal) x0 x1 x2 x3 x4) fun i => ∑ x ∈ Finset.range 128, ds A (i 2).val (64 * (i 0).val + (i 1).val) x * inc A (i 3).val (64 * (i 0).val + (i 1).val) x := fun i => by
  have b0 : (i 0).val < 4 := (i 0).isLt
  have b1 : (i 1).val < 64 := (i 1).isLt
  have b2 : (i 2).val < 32 := (i 2).isLt
  have b3 : (i 3).val < 32 := (i 3).isLt
  refine (val_main_v100_apply x0 x1 x2 x3 x4 i).trans ((sum_coe' (fun x => ds A (i 2).val (64 * (i 0).val + (i 1).val) x * inc A (i 3).val (64 * (i 0).val + (i 1).val) x) fun x => ?_).trans (congrArg Real.toEReal ?_))
  · exact congrArg₂ (· * ·) (r99 H _) (r29 H _)
  · rfl

theorem r101 (H : Reals A x0 x1 x2 x3 x4) : IsR (val_main_v101 (F := Ideal) x0 x1 x2 x3 x4) fun i => ∑ x ∈ Finset.range 128, ds A (i 0).val (64 * (i 2).val + (i 3).val) x * inc A (i 1).val (64 * (i 2).val + (i 3).val) x := fun i => by
  have b0 : (i 0).val < 32 := (i 0).isLt
  have b1 : (i 1).val < 32 := (i 1).isLt
  have b2 : (i 2).val < 4 := (i 2).isLt
  have b3 : (i 3).val < 64 := (i 3).isLt
  refine (val_main_v101_apply (F := Ideal) x0 x1 x2 x3 x4 i).trans ((r100 H _).trans (congrArg Real.toEReal ?_))
  first | (dsimp only; done) | (dsimp only; congr 1 <;> omega)

theorem r102 (H : Reals A x0 x1 x2 x3 x4) : IsR (val_main_v102 (F := Ideal) x0 x1 x2 x3 x4) fun i => dm A (i 3).val (64 * (i 0).val + (i 1).val) (i 2).val := fun i => by
  have b0 : (i 0).val < 4 := (i 0).isLt
  have b1 : (i 1).val < 64 := (i 1).isLt
  have b2 : (i 2).val < 128 := (i 2).isLt
  have b3 : (i 3).val < 32 := (i 3).isLt
  refine (val_main_v102_apply x0 x1 x2 x3 x4 i).trans ((sum_coe' (fun x => ds A x (64 * (i 0).val + (i 1).val) (i 2).val * dec A x (i 3).val (64 * (i 0).val + (i 1).val)) fun x => ?_).trans (congrArg Real.toEReal ?_))
  · exact congrArg₂ (· * ·) (r99 H _) (r45 H _)
  · exact Finset.sum_congr rfl fun _ _ => mul_comm _ _

/-- The gradient of the chunks' increments. -/
theorem r103 (H : Reals A x0 x1 x2 x3 x4) : IsR (val_main_v103 (F := Ideal) x0 x1 x2 x3 x4) fun i => dm A (i 0).val (64 * (i 1).val + (i 2).val) (i 3).val := fun i => by
  have b0 : (i 0).val < 32 := (i 0).isLt
  have b1 : (i 1).val < 4 := (i 1).isLt
  have b2 : (i 2).val < 64 := (i 2).isLt
  have b3 : (i 3).val < 128 := (i 3).isLt
  refine (val_main_v103_apply (F := Ideal) x0 x1 x2 x3 x4 i).trans ((r102 H _).trans (congrArg Real.toEReal ?_))
  first | (dsimp only; done) | (dsimp only; congr 1 <;> omega)

/-- The gradient of the logarithm of the decay from chunk `d` to chunk `c`. -/
def gd (A : Args) (c d j : ℕ) : ℝ := (∑ x ∈ Finset.range 128, ds A c j x * inc A d j x) * dec A c d j

/-- Its negated sum over the later chunk. -/
def gc (A : Args) (d j : ℕ) : ℝ := ∑ x ∈ Finset.range 32, -gd A x d j

/-- Its sum over the earlier chunk. -/
def gr (A : Args) (c j : ℕ) : ℝ := ∑ x ∈ Finset.range 32, gd A c x j

/-- A chunk's gradients of the decayed keys against them, summed over its rows. -/
def kk (A : Args) (c j : ℕ) : ℝ := ∑ x ∈ Finset.range 64, dkd A c x j * kd A c x j

theorem r104 (H : Reals A x0 x1 x2 x3 x4) : IsR (val_main_v104 (F := Ideal) x0 x1 x2 x3 x4) fun i => gd A (i 0).val (i 1).val (64 * (i 2).val + (i 3).val) := (IsR.mulf (r101 H) (r45 H))

theorem r_call6_v0 : IsR (val_main_call6_v0 (F := Ideal)) fun i => (0 : ℝ) := fun i =>
  (val_main_call6_v0_apply i).trans ((val_main_call6_cst_apply _).trans Ideal.ofBits_zero_f32)

theorem r105 (H : Reals A x0 x1 x2 x3 x4) : IsR (val_main_v105 (F := Ideal) x0 x1 x2 x3 x4) fun i => gd A (i 0).val (i 1).val (64 * (i 2).val + (i 3).val) := fun i => by
  rw [val_main_v105_apply, mask_apply, r104 H, r_call6_v0]
  beta_reduce
  by_cases h : (i 1).val ≤ (i 0).val
  · rw [if_pos h]; rfl
  · rw [if_neg h]
    show ((0 : ℝ) : EReal) = _
    rw [gd, dec, if_neg h, mul_zero]

theorem r106 (H : Reals A x0 x1 x2 x3 x4) : IsR (val_main_v106 (F := Ideal) x0 x1 x2 x3 x4) fun i => gr A (i 0).val (64 * (i 1).val + (i 2).val) := fun i => by
  have b0 : (i 0).val < 32 := (i 0).isLt
  have b1 : (i 1).val < 4 := (i 1).isLt
  have b2 : (i 2).val < 64 := (i 2).isLt
  have c : (val_main_cst_10 (F := Ideal)) (Shape.Idx.first h_S_) = 0 := (val_main_cst_10_apply _).trans Ideal.ofBits_zero_f32
  have d : ∑ k : Fin 32, (val_main_v105 (F := Ideal) x0 x1 x2 x3 x4) (idx_main_v106 i k) = (((gr A (i 0).val (64 * (i 1).val + (i 2).val) : ℝ)) : EReal) := by
    refine (sum_coe' (fun x => gd A (i 0).val x (64 * (i 1).val + (i 2).val)) fun x => r105 H (idx_main_v106 i x)).trans (congrArg Real.toEReal ?_)
    rfl
  generalize hy : ∑ k : Fin 32, (val_main_v105 (F := Ideal) x0 x1 x2 x3 x4) (idx_main_v106 i k) = y at d
  refine (val_main_v106_apply x0 x1 x2 x3 x4 i).trans ?_
  rw [hy, c, d, zero_add]

theorem r107 (H : Reals A x0 x1 x2 x3 x4) : IsR (val_main_v107 (F := Ideal) x0 x1 x2 x3 x4) fun i => gr A (i 0).val (64 * (i 2).val + (i 3).val) := fun i => by
  have b0 : (i 0).val < 32 := (i 0).isLt
  have b1 : (i 1).val < 1 := (i 1).isLt
  have b2 : (i 2).val < 4 := (i 2).isLt
  have b3 : (i 3).val < 64 := (i 3).isLt
  refine (val_main_v107_apply (F := Ideal) x0 x1 x2 x3 x4 i).trans ((r106 H _).trans (congrArg Real.toEReal ?_))
  first | (dsimp only; done) | (dsimp only; congr 1 <;> omega)

theorem r108 (H : Reals A x0 x1 x2 x3 x4) : IsR (val_main_v108 (F := Ideal) x0 x1 x2 x3 x4) fun i => -gd A (i 0).val (i 1).val (64 * (i 2).val + (i 3).val) := (IsR.hostNegf (r105 H))

theorem r109 (H : Reals A x0 x1 x2 x3 x4) : IsR (val_main_v109 (F := Ideal) x0 x1 x2 x3 x4) fun i => gc A (i 0).val (64 * (i 1).val + (i 2).val) := fun i => by
  have b0 : (i 0).val < 32 := (i 0).isLt
  have b1 : (i 1).val < 4 := (i 1).isLt
  have b2 : (i 2).val < 64 := (i 2).isLt
  have c : (val_main_cst_11 (F := Ideal)) (Shape.Idx.first h_S_) = 0 := (val_main_cst_11_apply _).trans Ideal.ofBits_zero_f32
  have d : ∑ k : Fin 32, (val_main_v108 (F := Ideal) x0 x1 x2 x3 x4) (idx_main_v109 i k) = (((gc A (i 0).val (64 * (i 1).val + (i 2).val) : ℝ)) : EReal) := by
    refine (sum_coe' (fun x => -gd A x (i 0).val (64 * (i 1).val + (i 2).val)) fun x => r108 H (idx_main_v109 i x)).trans (congrArg Real.toEReal ?_)
    rfl
  generalize hy : ∑ k : Fin 32, (val_main_v108 (F := Ideal) x0 x1 x2 x3 x4) (idx_main_v109 i k) = y at d
  refine (val_main_v109_apply x0 x1 x2 x3 x4 i).trans ?_
  rw [hy, c, d, zero_add]

theorem r110 (H : Reals A x0 x1 x2 x3 x4) : IsR (val_main_v110 (F := Ideal) x0 x1 x2 x3 x4) fun i => gc A (i 1).val (64 * (i 2).val + (i 3).val) := fun i => by
  have b0 : (i 0).val < 1 := (i 0).isLt
  have b1 : (i 1).val < 32 := (i 1).isLt
  have b2 : (i 2).val < 4 := (i 2).isLt
  have b3 : (i 3).val < 64 := (i 3).isLt
  refine (val_main_v110_apply (F := Ideal) x0 x1 x2 x3 x4 i).trans ((r109 H _).trans (congrArg Real.toEReal ?_))
  first | (dsimp only; done) | (dsimp only; congr 1 <;> omega)

theorem r111 (H : Reals A x0 x1 x2 x3 x4) : IsR (val_main_v111 (F := Ideal) x0 x1 x2 x3 x4) fun i => gc A (i 0).val (64 * (i 1).val + (i 2).val) := fun i => by
  have b0 : (i 0).val < 32 := (i 0).isLt
  have b1 : (i 1).val < 4 := (i 1).isLt
  have b2 : (i 2).val < 64 := (i 2).isLt
  have c : (val_main_cst_12 (F := Ideal)) (Shape.Idx.first h_S_) = 0 := (val_main_cst_12_apply _).trans Ideal.ofBits_zero_f32
  have d : ∑ k : Fin 1, (val_main_v110 (F := Ideal) x0 x1 x2 x3 x4) (idx_main_v111 i k) = (((gc A (i 0).val (64 * (i 1).val + (i 2).val) : ℝ)) : EReal) := by
    refine (sum_coe' (fun x => gc A (i 0).val (64 * (i 1).val + (i 2).val)) fun x => r110 H (idx_main_v111 i x)).trans (congrArg Real.toEReal ?_)
    exact Finset.sum_range_one _
  generalize hy : ∑ k : Fin 1, (val_main_v110 (F := Ideal) x0 x1 x2 x3 x4) (idx_main_v111 i k) = y at d
  refine (val_main_v111_apply x0 x1 x2 x3 x4 i).trans ?_
  rw [hy, c, d, zero_add]

theorem r112 (H : Reals A x0 x1 x2 x3 x4) : IsR (val_main_v112 (F := Ideal) x0 x1 x2 x3 x4) fun i => gr A (i 0).val (64 * (i 1).val + (i 2).val) := fun i => by
  have b0 : (i 0).val < 32 := (i 0).isLt
  have b1 : (i 1).val < 4 := (i 1).isLt
  have b2 : (i 2).val < 64 := (i 2).isLt
  have c : (val_main_cst_13 (F := Ideal)) (Shape.Idx.first h_S_) = 0 := (val_main_cst_13_apply _).trans Ideal.ofBits_zero_f32
  have d : ∑ k : Fin 1, (val_main_v107 (F := Ideal) x0 x1 x2 x3 x4) (idx_main_v112 i k) = (((gr A (i 0).val (64 * (i 1).val + (i 2).val) : ℝ)) : EReal) := by
    refine (sum_coe' (fun x => gr A (i 0).val (64 * (i 1).val + (i 2).val)) fun x => r107 H (idx_main_v112 i x)).trans (congrArg Real.toEReal ?_)
    exact Finset.sum_range_one _
  generalize hy : ∑ k : Fin 1, (val_main_v107 (F := Ideal) x0 x1 x2 x3 x4) (idx_main_v112 i k) = y at d
  refine (val_main_v112_apply x0 x1 x2 x3 x4 i).trans ?_
  rw [hy, c, d, zero_add]

theorem r113 (H : Reals A x0 x1 x2 x3 x4) : IsR (val_main_v113 (F := Ideal) x0 x1 x2 x3 x4) fun i => gc A (i 0).val (64 * (i 1).val + (i 2).val) + gr A (i 0).val (64 * (i 1).val + (i 2).val) := (IsR.addf (r111 H) (r112 H))

/-- The gradient of a chunk's total through the states. -/
theorem r114 (H : Reals A x0 x1 x2 x3 x4) : IsR (val_main_v114 (F := Ideal) x0 x1 x2 x3 x4) fun i => dt A (i 0).val (64 * (i 1).val + (i 2).val) :=
  IsR.congr (cumsum3_rev (f := fun c h j => gc A c (64 * h + j) + gr A c (64 * h + j)) _ ((val_main_call7_call0_v0_apply _).trans ((val_main_call7_call0_cst_apply _).trans Ideal.ofBits_zero_f32)) 31 reduceWindows_S32x4x64_S32x4x64_w32s1p0_31_w1s1p0_0_w1s1p0_0 (r113 H)) fun i => by
  have b0 : (i 0).val < 32 := (i 0).isLt
  have b1 : (i 1).val < 4 := (i 1).isLt
  have b2 : (i 2).val < 64 := (i 2).isLt
  simp only [gc, gr, Finset.sum_neg_distrib]
  refine (rows_less_cols 32 _ b0 (fun c d => gd A c d (64 * (i 1).val + (i 2).val)) fun c d h => ?_).trans (dt_eq A _ _ b0)
  show gd A c d _ = 0
  rw [gd, dec, if_neg (by omega), mul_zero]

theorem r115 (H : Reals A x0 x1 x2 x3 x4) : IsR (val_main_v115 (F := Ideal) x0 x1 x2 x3 x4) fun i => dv A (i 0).val (i 3).val (128 * (i 1).val + (i 2).val) := fun i => by
  have b0 : (i 0).val < 32 := (i 0).isLt
  have b1 : (i 1).val < 4 := (i 1).isLt
  have b2 : (i 2).val < 128 := (i 2).isLt
  have b3 : (i 3).val < 64 := (i 3).isLt
  refine (val_main_v115_apply x0 x1 x2 x3 x4 i).trans ((sum_coe' (fun x => dm A (i 0).val (64 * (i 1).val + x) (i 2).val * kd A (i 0).val (i 3).val (64 * (i 1).val + x)) fun x => ?_).trans (congrArg Real.toEReal ?_))
  · exact congrArg₂ (· * ·) (r103 H _) (r28 H _)
  · beta_reduce
    rw [dv_head A _ _ _ _ b2]; exact Finset.sum_congr rfl fun _ _ => mul_comm _ _

theorem r116 (H : Reals A x0 x1 x2 x3 x4) : IsR (val_main_v116 (F := Ideal) x0 x1 x2 x3 x4) fun i => dv A (i 0).val (i 1).val (128 * (i 2).val + (i 3).val) := fun i => by
  have b0 : (i 0).val < 32 := (i 0).isLt
  have b1 : (i 1).val < 64 := (i 1).isLt
  have b2 : (i 2).val < 4 := (i 2).isLt
  have b3 : (i 3).val < 128 := (i 3).isLt
  refine (val_main_v116_apply (F := Ideal) x0 x1 x2 x3 x4 i).trans ((r115 H _).trans (congrArg Real.toEReal ?_))
  first | (dsimp only; done) | (dsimp only; congr 1 <;> omega)

theorem r117 (H : Reals A x0 x1 x2 x3 x4) : IsR (val_main_v117 (F := Ideal) x0 x1 x2 x3 x4) fun i => dkd A (i 0).val (i 3).val (64 * (i 1).val + (i 2).val) := fun i => by
  have b0 : (i 0).val < 32 := (i 0).isLt
  have b1 : (i 1).val < 4 := (i 1).isLt
  have b2 : (i 2).val < 64 := (i 2).isLt
  have b3 : (i 3).val < 64 := (i 3).isLt
  refine (val_main_v117_apply x0 x1 x2 x3 x4 i).trans ((sum_coe' (fun x => dm A (i 0).val (64 * (i 1).val + (i 2).val) x * v A (i 0).val (i 3).val (128 * (i 1).val + x)) fun x => ?_).trans (congrArg Real.toEReal ?_))
  · exact congrArg₂ (· * ·) (r103 H _) (r13 H _)
  · beta_reduce
    rw [dkd_head A _ _ _ _ b2]; exact Finset.sum_congr rfl fun _ _ => mul_comm _ _

theorem r118 (H : Reals A x0 x1 x2 x3 x4) : IsR (val_main_v118 (F := Ideal) x0 x1 x2 x3 x4) fun i => dkd A (i 0).val (i 1).val (64 * (i 2).val + (i 3).val) := fun i => by
  have b0 : (i 0).val < 32 := (i 0).isLt
  have b1 : (i 1).val < 64 := (i 1).isLt
  have b2 : (i 2).val < 4 := (i 2).isLt
  have b3 : (i 3).val < 64 := (i 3).isLt
  refine (val_main_v118_apply (F := Ideal) x0 x1 x2 x3 x4 i).trans ((r117 H _).trans (congrArg Real.toEReal ?_))
  first | (dsimp only; done) | (dsimp only; congr 1 <;> omega)

theorem r119 (H : Reals A x0 x1 x2 x3 x4) : IsR (val_main_v119 (F := Ideal) x0 x1 x2 x3 x4) fun i => k A (i 0).val (i 1).val (64 * (i 2).val + (i 3).val) * dkd A (i 0).val (i 1).val (64 * (i 2).val + (i 3).val) := (IsR.mulf (r12 H) (r118 H))

theorem r120 (H : Reals A x0 x1 x2 x3 x4) : IsR (val_main_v120 (F := Ideal) x0 x1 x2 x3 x4) fun i => dk A (i 0).val (i 1).val (64 * (i 2).val + (i 3).val) := (IsR.mulf (r118 H) (r27 H))

theorem r121 (H : Reals A x0 x1 x2 x3 x4) : IsR (val_main_v121 (F := Ideal) x0 x1 x2 x3 x4) fun i => dkd A (i 0).val (i 1).val (64 * (i 2).val + (i 3).val) * kd A (i 0).val (i 1).val (64 * (i 2).val + (i 3).val) :=
  IsR.congr (IsR.mulf (r119 H) (r27 H)) fun i => by unfold kd; ring

theorem r122 (H : Reals A x0 x1 x2 x3 x4) : IsR (val_main_v122 (F := Ideal) x0 x1 x2 x3 x4) fun i => kk A (i 0).val (64 * (i 1).val + (i 2).val) := fun i => by
  have b0 : (i 0).val < 32 := (i 0).isLt
  have b1 : (i 1).val < 4 := (i 1).isLt
  have b2 : (i 2).val < 64 := (i 2).isLt
  have c : (val_main_cst_14 (F := Ideal)) (Shape.Idx.first h_S_) = 0 := (val_main_cst_14_apply _).trans Ideal.ofBits_zero_f32
  have d : ∑ k : Fin 64, (val_main_v121 (F := Ideal) x0 x1 x2 x3 x4) (idx_main_v122 i k) = (((kk A (i 0).val (64 * (i 1).val + (i 2).val) : ℝ)) : EReal) := by
    refine (sum_coe' (fun x => dkd A (i 0).val x (64 * (i 1).val + (i 2).val) * kd A (i 0).val x (64 * (i 1).val + (i 2).val)) fun x => r121 H (idx_main_v122 i x)).trans (congrArg Real.toEReal ?_)
    rfl
  generalize hy : ∑ k : Fin 64, (val_main_v121 (F := Ideal) x0 x1 x2 x3 x4) (idx_main_v122 i k) = y at d
  refine (val_main_v122_apply x0 x1 x2 x3 x4 i).trans ?_
  rw [hy, c, d, zero_add]

theorem r123 (H : Reals A x0 x1 x2 x3 x4) : IsR (val_main_v123 (F := Ideal) x0 x1 x2 x3 x4) fun i => kk A (i 0).val (64 * (i 2).val + (i 3).val) := fun i => by
  have b0 : (i 0).val < 32 := (i 0).isLt
  have b1 : (i 1).val < 1 := (i 1).isLt
  have b2 : (i 2).val < 4 := (i 2).isLt
  have b3 : (i 3).val < 64 := (i 3).isLt
  refine (val_main_v123_apply (F := Ideal) x0 x1 x2 x3 x4 i).trans ((r122 H _).trans (congrArg Real.toEReal ?_))
  first | (dsimp only; done) | (dsimp only; congr 1 <;> omega)

theorem r124 (H : Reals A x0 x1 x2 x3 x4) : IsR (val_main_v124 (F := Ideal) x0 x1 x2 x3 x4) fun i => -(dkd A (i 0).val (i 1).val (64 * (i 2).val + (i 3).val) * kd A (i 0).val (i 1).val (64 * (i 2).val + (i 3).val)) := (IsR.hostNegf (r121 H))

theorem r125 (H : Reals A x0 x1 x2 x3 x4) : IsR (val_main_v125 (F := Ideal) x0 x1 x2 x3 x4) fun i => kk A (i 0).val (64 * (i 1).val + (i 2).val) := fun i => by
  have b0 : (i 0).val < 32 := (i 0).isLt
  have b1 : (i 1).val < 4 := (i 1).isLt
  have b2 : (i 2).val < 64 := (i 2).isLt
  have c : (val_main_cst_15 (F := Ideal)) (Shape.Idx.first h_S_) = 0 := (val_main_cst_15_apply _).trans Ideal.ofBits_zero_f32
  have d : ∑ k : Fin 1, (val_main_v123 (F := Ideal) x0 x1 x2 x3 x4) (idx_main_v125 i k) = (((kk A (i 0).val (64 * (i 1).val + (i 2).val) : ℝ)) : EReal) := by
    refine (sum_coe' (fun x => kk A (i 0).val (64 * (i 1).val + (i 2).val)) fun x => r123 H (idx_main_v125 i x)).trans (congrArg Real.toEReal ?_)
    exact Finset.sum_range_one _
  generalize hy : ∑ k : Fin 1, (val_main_v123 (F := Ideal) x0 x1 x2 x3 x4) (idx_main_v125 i k) = y at d
  refine (val_main_v125_apply x0 x1 x2 x3 x4 i).trans ?_
  rw [hy, c, d, zero_add]

theorem r126 (H : Reals A x0 x1 x2 x3 x4) : IsR (val_main_v126 (F := Ideal) x0 x1 x2 x3 x4) fun i => dt A (i 0).val (64 * (i 1).val + (i 2).val) + kk A (i 0).val (64 * (i 1).val + (i 2).val) := (IsR.addf (r114 H) (r125 H))

theorem r127 (H : Reals A x0 x1 x2 x3 x4) : IsR (val_main_v127 (F := Ideal) x0 x1 x2 x3 x4) fun i => dt A (i 0).val (64 * (i 2).val + (i 3).val) + kk A (i 0).val (64 * (i 2).val + (i 3).val) := fun i => by
  have b0 : (i 0).val < 32 := (i 0).isLt
  have b1 : (i 1).val < 1 := (i 1).isLt
  have b2 : (i 2).val < 4 := (i 2).isLt
  have b3 : (i 3).val < 64 := (i 3).isLt
  refine (val_main_v127_apply (F := Ideal) x0 x1 x2 x3 x4 i).trans ((r126 H _).trans (congrArg Real.toEReal ?_))
  first | (dsimp only; done) | (dsimp only; congr 1 <;> omega)

theorem r128 (H : Reals A x0 x1 x2 x3 x4) : IsR (val_main_v128 (F := Ideal) x0 x1 x2 x3 x4) fun i => if (i 1).val = 63 then dt A (i 0).val (64 * (i 2).val + (i 3).val) + kk A (i 0).val (64 * (i 2).val + (i 3).val) else 0 := fun i => by
  unfold val_main_v128
  beta_reduce
  by_cases h : (i 1).val = 63
  · rw [if_pos h]
    refine (pad_apply_of_inside _ _ _ _ _ _ _ _ (ix4 (i 0) 0 (i 2) (i 3)) fun a => ?_).trans (r127 H _)
    match a with
    | ⟨0, _⟩ => show (i 0).val = 0 + (i 0).val * 1; omega
    | ⟨1, _⟩ => show (i 1).val = 63 + 0 * 1; omega
    | ⟨2, _⟩ => show (i 2).val = 0 + (i 2).val * 1; omega
    | ⟨3, _⟩ => show (i 3).val = 0 + (i 3).val * 1; omega
  · rw [if_neg h]
    refine (pad_apply_of_not_inside _ _ _ _ _ _ _ _ 1 fun q => h ?_).trans ((val_main_cst_16_apply _).trans Ideal.ofBits_zero_f32)
    have b1 : (i 1).val < 64 := (i 1).isLt
    have q1 : 63 ≤ (i 1).val := q.1
    omega

theorem r129 (H : Reals A x0 x1 x2 x3 x4) : IsR (val_main_v129 (F := Ideal) x0 x1 x2 x3 x4) fun i => -(dkd A (i 0).val (i 1).val (64 * (i 2).val + (i 3).val) * kd A (i 0).val (i 1).val (64 * (i 2).val + (i 3).val)) + if (i 1).val = 63 then dt A (i 0).val (64 * (i 2).val + (i 3).val) + kk A (i 0).val (64 * (i 2).val + (i 3).val) else 0 := (IsR.addf (r124 H) (r128 H))

/-- The gradient of the gate's logarithm. -/
theorem r130 (H : Reals A x0 x1 x2 x3 x4) : IsR (val_main_v130 (F := Ideal) x0 x1 x2 x3 x4) fun i => dla A (i 0).val (i 1).val (64 * (i 2).val + (i 3).val) :=
  IsR.congr (cumsum4_rev (f := fun c s h j => -(dkd A c s (64 * h + j) * kd A c s (64 * h + j)) + if s = 63 then dt A c (64 * h + j) + kk A c (64 * h + j) else 0) _ ((val_main_call8_call0_v0_apply _).trans ((val_main_call8_call0_cst_apply _).trans Ideal.ofBits_zero_f32)) 63 reduceWindows_S32x64x4x64_S32x64x4x64_w1s1p0_0_w64s1p0_63_w1s1p0_0_w1s1p0_0 (r129 H)) fun i => by
  have b0 : (i 0).val < 32 := (i 0).isLt
  have b1 : (i 1).val < 64 := (i 1).isLt
  have b2 : (i 2).val < 4 := (i 2).isLt
  have b3 : (i 3).val < 64 := (i 3).isLt
  exact dla_eq A _ _ _ b1

theorem r131 (H : Reals A x0 x1 x2 x3 x4) : IsR (val_main_v131 (F := Ideal) x0 x1 x2 x3 x4) fun i => dla A ((i 0).val / 64) ((i 0).val % 64) (i 1).val := fun i => by
  have b0 : (i 0).val < 2048 := (i 0).isLt
  have b1 : (i 1).val < 256 := (i 1).isLt
  refine (val_main_v131_apply (F := Ideal) x0 x1 x2 x3 x4 i).trans ((r130 H _).trans (congrArg Real.toEReal ?_))
  first | (dsimp only; done) | (dsimp only; congr 1 <;> omega)

theorem r132 : IsR (val_main_v132 (F := Ideal)) fun i => (16 : ℝ) := fun i =>
  (val_main_v132_apply i).trans ((val_main_cst_17_apply _).trans ofBits_16)

theorem r133 (H : Reals A x0 x1 x2 x3 x4) : IsR (val_main_v133 (F := Ideal) x0 x1 x2 x3 x4) fun i => dla A ((i 0).val / 64) ((i 0).val % 64) (i 1).val / 16 := (IsR.hostDivf (φ := .f32) (r131 H) r132 fun _ => by norm_num)

theorem r_call9_v0 (H : Reals A x0 x1 x2 x3 x4) : IsR (val_main_call9_v0 (F := Ideal) x0 x1 x2 x3 x4) fun i => -(dla A ((i 0).val / 64) ((i 0).val % 64) (i 1).val / 16) := (IsR.hostNegf (r133 H))

theorem r_call9_v1 (H : Reals A x0 x1 x2 x3 x4) : IsR (val_main_call9_v1 (F := Ideal) x0 x1 x2 x3 x4) fun i => -(dla A ((i 0).val / 64) ((i 0).val % 64) (i 1).val / 16) * sn A ((i 0).val / 64) ((i 0).val % 64) (i 1).val := (IsR.mulf (r_call9_v0 H) (r17_1 H))

/-- The gradient of the gate before its sigmoid. -/
theorem r134 (H : Reals A x0 x1 x2 x3 x4) : IsR (val_main_v134 (F := Ideal) x0 x1 x2 x3 x4) fun i => dz A ((i 0).val / 64) ((i 0).val % 64) (i 1).val :=
  IsR.congr (IsR.hostNegf (r_call9_v1 H)) fun i => by unfold dz; ring

theorem r135 (H : Reals A x0 x1 x2 x3 x4) : IsR (val_main_v135 (F := Ideal) x0 x1 x2 x3 x4) fun i => db A (i 0).val := fun i => by
  have b0 : (i 0).val < 256 := (i 0).isLt
  have c : (val_main_cst_18 (F := Ideal)) (Shape.Idx.first h_S_) = 0 := (val_main_cst_18_apply _).trans Ideal.ofBits_zero_f32
  have d : ∑ k : Fin 2048, (val_main_v134 (F := Ideal) x0 x1 x2 x3 x4) (idx_main_v135 i k) = (((db A (i 0).val : ℝ)) : EReal) := by
    refine (sum_coe' (fun x => dz A (x / 64) (x % 64) (i 0).val) fun x => r134 H (idx_main_v135 i x)).trans (congrArg Real.toEReal ?_)
    beta_reduce
    unfold db
    rw [sum_rows]
    exact Finset.sum_congr rfl fun c _ => Finset.sum_congr rfl fun s hs => by
      rw [row_div _ _ (Finset.mem_range.1 hs), row_mod _ _ (Finset.mem_range.1 hs)]
  generalize hy : ∑ k : Fin 2048, (val_main_v134 (F := Ideal) x0 x1 x2 x3 x4) (idx_main_v135 i k) = y at d
  refine (val_main_v135_apply x0 x1 x2 x3 x4 i).trans ?_
  rw [hy, c, d, zero_add]

/-- The bias's gradient. -/
theorem r136 (H : Reals A x0 x1 x2 x3 x4) : IsR (val_main_v136 (F := Ideal) x0 x1 x2 x3 x4) fun i => db A (i 1).val := fun i => by
  have b0 : (i 0).val < 1 := (i 0).isLt
  have b1 : (i 1).val < 256 := (i 1).isLt
  refine (val_main_v136_apply (F := Ideal) x0 x1 x2 x3 x4 i).trans ((r135 H _).trans (congrArg Real.toEReal ?_))
  first | (dsimp only; done) | (dsimp only; congr 1 <;> omega)

theorem r137 (H : Reals A x0 x1 x2 x3 x4) : IsR (val_main_v137 (F := Ideal) x0 x1 x2 x3 x4) fun i => dw A (i 1).val (i 0).val := fun i => by
  have b0 : (i 0).val < 256 := (i 0).isLt
  have b1 : (i 1).val < 16 := (i 1).isLt
  refine (val_main_v137_apply x0 x1 x2 x3 x4 i).trans ((sum_coe' (fun x => dz A (x / 64) (x % 64) (i 0).val * a A (x / 64) (x % 64) (i 1).val) fun x => ?_).trans (congrArg Real.toEReal ?_))
  · exact congrArg₂ (· * ·) (r134 H _) (r4 H _)
  · beta_reduce
    unfold dw
    rw [sum_rows]
    exact Finset.sum_congr rfl fun c _ => Finset.sum_congr rfl fun s hs => by
      rw [row_div _ _ (Finset.mem_range.1 hs), row_mod _ _ (Finset.mem_range.1 hs)]; ring

theorem r138 (H : Reals A x0 x1 x2 x3 x4) : IsR (val_main_v138 (F := Ideal) x0 x1 x2 x3 x4) fun i => dw A (i 0).val (i 1).val := fun i => by
  have b0 : (i 0).val < 16 := (i 0).isLt
  have b1 : (i 1).val < 256 := (i 1).isLt
  refine (val_main_v138_apply (F := Ideal) x0 x1 x2 x3 x4 i).trans ((r137 H _).trans (congrArg Real.toEReal ?_))
  first | (dsimp only; done) | (dsimp only; congr 1 <;> omega)

theorem r139 (H : Reals A x0 x1 x2 x3 x4) : IsR (val_main_v139 (F := Ideal) x0 x1 x2 x3 x4) fun i => da A ((i 0).val / 64) ((i 0).val % 64) (i 1).val := fun i => by
  have b0 : (i 0).val < 2048 := (i 0).isLt
  have b1 : (i 1).val < 16 := (i 1).isLt
  refine (val_main_v139_apply x0 x1 x2 x3 x4 i).trans ((sum_coe' (fun x => dz A ((i 0).val / 64) ((i 0).val % 64) x * A.w (i 1).val x) fun x => ?_).trans (congrArg Real.toEReal ?_))
  · exact congrArg₂ (· * ·) (r134 H _) (H.w _)
  · rfl

theorem r140 (H : Reals A x0 x1 x2 x3 x4) : IsR (val_main_v140 (F := Ideal) x0 x1 x2 x3 x4) fun i => dv A ((i 0).val / 64) ((i 0).val % 64) (i 1).val := fun i => by
  have b0 : (i 0).val < 2048 := (i 0).isLt
  have b1 : (i 1).val < 512 := (i 1).isLt
  refine (val_main_v140_apply (F := Ideal) x0 x1 x2 x3 x4 i).trans ((r116 H _).trans (congrArg Real.toEReal ?_))
  first | (dsimp only; done) | (dsimp only; congr 1 <;> omega)

theorem r141 (H : Reals A x0 x1 x2 x3 x4) : IsR (val_main_v141 (F := Ideal) x0 x1 x2 x3 x4) fun i => dk A ((i 0).val / 64) ((i 0).val % 64) (i 1).val := fun i => by
  have b0 : (i 0).val < 2048 := (i 0).isLt
  have b1 : (i 1).val < 256 := (i 1).isLt
  refine (val_main_v141_apply (F := Ideal) x0 x1 x2 x3 x4 i).trans ((r120 H _).trans (congrArg Real.toEReal ?_))
  first | (dsimp only; done) | (dsimp only; congr 1 <;> omega)

theorem r142 : IsR (val_main_v142 (F := Ideal)) fun i => (1 / 8 : ℝ) := fun i =>
  (val_main_v142_apply i).trans ((val_main_cst_19_apply _).trans ofBits_eighth)

theorem r143 (H : Reals A x0 x1 x2 x3 x4) : IsR (val_main_v143 (F := Ideal) x0 x1 x2 x3 x4) fun i => dq A (i 0).val (i 1).val (64 * (i 2).val + (i 3).val) :=
  IsR.congr (IsR.mulf (r96 H) r142) fun i => by
    have b3 : (i 3).val < 64 := (i 3).isLt
    rw [dq_head A _ _ _ _ b3]
    unfold dqs; rw [show (64 * (i 2).val + (i 3).val) / 64 = (i 2).val from by omega]

theorem r144 (H : Reals A x0 x1 x2 x3 x4) : IsR (val_main_v144 (F := Ideal) x0 x1 x2 x3 x4) fun i => dq A ((i 0).val / 64) ((i 0).val % 64) (i 1).val := fun i => by
  have b0 : (i 0).val < 2048 := (i 0).isLt
  have b1 : (i 1).val < 256 := (i 1).isLt
  refine (val_main_v144_apply (F := Ideal) x0 x1 x2 x3 x4 i).trans ((r143 H _).trans (congrArg Real.toEReal ?_))
  first | (dsimp only; done) | (dsimp only; congr 1 <;> omega)

/-- The queries' gradient. -/
theorem r145 (H : Reals A x0 x1 x2 x3 x4) : IsR (val_main_v145 (F := Ideal) x0 x1 x2 x3 x4) fun i => dq A ((i 0).val / 64) ((i 0).val % 64) (i 1).val := (IsR.truncf (φ := .bf16) (r144 H) bitsLt_bf16_f32)

/-- The keys' gradient. -/
theorem r146 (H : Reals A x0 x1 x2 x3 x4) : IsR (val_main_v146 (F := Ideal) x0 x1 x2 x3 x4) fun i => dk A ((i 0).val / 64) ((i 0).val % 64) (i 1).val := (IsR.truncf (φ := .bf16) (r141 H) bitsLt_bf16_f32)

/-- The values' gradient. -/
theorem r147 (H : Reals A x0 x1 x2 x3 x4) : IsR (val_main_v147 (F := Ideal) x0 x1 x2 x3 x4) fun i => dv A ((i 0).val / 64) ((i 0).val % 64) (i 1).val := (IsR.truncf (φ := .bf16) (r140 H) bitsLt_bf16_f32)

/-- The output gate's gradient, rounded. -/
theorem r148 (H : Reals A x0 x1 x2 x3 x4) : IsR (val_main_v148 (F := Ideal) x0 x1 x2 x3 x4) fun i => dr A ((i 0).val / 64) ((i 0).val % 64) (i 1).val := (IsR.truncf (φ := .bf16) (r72 H) bitsLt_bf16_f32)

theorem r149 (H : Reals A x0 x1 x2 x3 x4) : IsR (val_main_v149 (F := Ideal) x0 x1 x2 x3 x4) fun i => da A ((i 0).val / 64) ((i 0).val % 64) (i 1).val := (IsR.truncf (φ := .bf16) (r139 H) bitsLt_bf16_f32)

theorem call10_zero : val_main_call10_v0 (F := Ideal) (Shape.Idx.first h_S_) = ((0 : ℝ) : EReal) := by
  show (((0#32 : BitVec 32).toInt : ℝ) : EReal) = _
  simp

theorem call11_zero : val_main_call11_v0 (F := Ideal) (Shape.Idx.first h_S_) = ((0 : ℝ) : EReal) := by
  show (((0#32 : BitVec 32).toInt : ℝ) : EReal) = _
  simp

/-- The gradient of the gate's low-rank input, padded. -/
theorem r150 (H : Reals A x0 x1 x2 x3 x4) : IsR (val_main_v150 (F := Ideal) x0 x1 x2 x3 x4) fun i => if (i 1).val < 16 then da A ((i 0).val / 64) ((i 0).val % 64) (i 1).val else 0 := fun i => by
  unfold val_main_v150
  beta_reduce
  by_cases h : (i 1).val < 16
  · rw [if_pos h]
    refine (pad_apply_of_inside _ _ _ _ _ _ _ _ (ix2 (i 0) ⟨(i 1).val, h⟩) fun a => ?_).trans (r149 H _)
    match a with
    | ⟨0, _⟩ => show (i 0).val = 0 + (i 0).val * 1; omega
    | ⟨1, _⟩ => show (i 1).val = 0 + (i 1).val * 1; omega
  · rw [if_neg h]
    refine (pad_apply_of_not_inside _ _ _ _ _ _ _ _ 1 fun q => h ?_).trans call10_zero
    have q2 : ((i 1).val - 0) / 1 < 16 := q.2.2
    omega

/-- The up projection's gradient, padded. -/
theorem r151 (H : Reals A x0 x1 x2 x3 x4) : IsR (val_main_v151 (F := Ideal) x0 x1 x2 x3 x4) fun i => if (i 0).val < 16 then dw A (i 0).val (i 1).val else 0 := fun i => by
  unfold val_main_v151
  beta_reduce
  by_cases h : (i 0).val < 16
  · rw [if_pos h]
    refine (pad_apply_of_inside _ _ _ _ _ _ _ _ (ix2 ⟨(i 0).val, h⟩ (i 1)) fun a => ?_).trans (r138 H _)
    match a with
    | ⟨0, _⟩ => show (i 0).val = 0 + (i 0).val * 1; omega
    | ⟨1, _⟩ => show (i 1).val = 0 + (i 1).val * 1; omega
  · rw [if_neg h]
    refine (pad_apply_of_not_inside _ _ _ _ _ _ _ _ 0 fun q => h ?_).trans call11_zero
    have q2 : ((i 0).val - 0) / 1 < 16 := q.2.2
    omega

end Gla
-- ==== Proof.RefRun.lean ====
module

public import proofs.«01_k».proof.Proof.Gen.ReferenceIdeal.Run
public import proofs.«01_k».proof.Proof.Gen.ReferenceIdeal.Read
public import proofs.«01_k».proof.Proof.RefBackward

@[expose] public section

/-!
# The reference's run

Each result after the reference's run as the value function of the arguments, and the reference's frame.
-/

set_option maxRecDepth 16384

noncomputable section

open Idealize.ShloMosaic Idealize.ShloMosaic.TcCoe Idealize.SL.Sem
open Idealize.ShloMosaic.StableHlo
open Cert.ReferenceIdeal Cert.ReferenceIdeal.Gen Cert.ReferenceIdeal.Read

namespace Gla

variable (m : (ℓ : Loc nD τ sig) → Buf (Elt Ideal) ℓ) (ρ : Dev nD → PrngReg)

/-- The reference ends with each result at its value function of the arguments, the arguments unchanged. -/
theorem ref_run : θ_run defs (onTc (τ := τ) (main (F := Ideal))) ⟨m, fun _ => 0, ρ⟩ fun r => ∀ c : Dev nD,
      r.2.mem ((c.tc : Thread nD τ).loc main_v145) = val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v146) = val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v147) = val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v148) = val_main_v148 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v150) = val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v151) = val_main_v151 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v136) = val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v75) = val_main_v75 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, h4, h5, h6, h7, ha⟩ := h c
    exact ⟨h0.trans (val_main_v145_eq (launchContents m c)),
      h1.trans (val_main_v146_eq (launchContents m c)),
      h2.trans (val_main_v147_eq (launchContents m c)),
      h3.trans (val_main_v148_eq (launchContents m c)),
      h4.trans (val_main_v150_eq (launchContents m c)),
      h5.trans (val_main_v151_eq (launchContents m c)),
      h6.trans (val_main_v136_eq (launchContents m c)),
      h7.trans (val_main_v75_eq (launchContents m c)), ha⟩)
    (Cert.ReferenceIdeal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => by
    obtain ⟨_, _, _, _, _, _, _, _, ha⟩ := h c
    exact ha, Idealize.ShloMosaic.sem_eq_zero_of_no_sems (by decide) r.2⟩) (ref_run m ρ)

end Gla
end
-- ==== Proof.EntryRun.lean ====
module

public import proofs.«01_k».proof.Proof.Launch.Value
public import proofs.«01_k».proof.Proof.RefForward

@[expose] public section

/-!
# The arrays the launch reads

The host lines before the launch split the projection, pad the gate columns and the gate weights,
and compute the states at the ends of the chunks. Here each array the launch reads is named as a
term over the arguments.
-/

set_option maxRecDepth 16384

noncomputable section

namespace Gla
open Cert.KernelIdeal Cert.KernelIdeal.Gen Idealize.ShloMosaic Idealize.ShloMosaic.TcCoe Idealize.SL.Sem
open Idealize.ShloMosaic.Pipeline (Dat)

/-- The columns of the projection that enter products. -/
def productCols (x0 : S2048x3096.Idx → EReal) : S2048x2560.Idx → EReal :=
  truncf (F := Ideal) (φ := .f32) .bf16 (concatenate S2048x2560 1
    [⟨S2048x256, extractStridedSlice S2048x256 ![0, 0] x0 slices_S2048x3096_S2048x256_0_0⟩,
     ⟨S2048x256, extractStridedSlice S2048x256 ![0, 256] x0 slices_S2048x3096_S2048x256_0_256⟩,
     ⟨S2048x512, extractStridedSlice S2048x512 ![0, 512] x0 slices_S2048x3096_S2048x512_0_512⟩,
     ⟨S2048x512, extractStridedSlice S2048x512 ![0, 1552] x0 slices_S2048x3096_S2048x512_0_1552⟩,
     ⟨S2048x512, extractStridedSlice S2048x512 ![0, 2064] x0 slices_S2048x3096_S2048x512_0_2064⟩,
     ⟨S2048x512, extractStridedSlice S2048x512 ![0, 2576] x0 slices_S2048x3096_S2048x512_0_2576⟩]
    concatenates_S2048x256_S2048x256_S2048x512_S2048x512_S2048x512_S2048x512_S2048x2560_d1) bitsLt_bf16_f32

/-- The zero the padding takes. -/
def fill : S_.Idx → EReal := sitofp (F := Ideal) .f32 (constantI S_ 32 0#32)

/-- The gate columns, padded. -/
def gateCols (x0 : S2048x3096.Idx → EReal) : S2048x128.Idx → EReal :=
  pad S2048x128 ![0, 0] ![0, 112] ![0, 0] (extractStridedSlice S2048x16 ![0, 1536] x0 slices_S2048x3096_S2048x16_0_1536) fill
    pads_S2048x16_S2048x128_000_01120 h_S_

/-- The columns of the projection that enter elementwise. -/
def elementCols (x0 : S2048x3096.Idx → EReal) : S2048x768.Idx → EReal :=
  concatenate S2048x768 1
    [⟨S2048x512, extractStridedSlice S2048x512 ![0, 1024] x0 slices_S2048x3096_S2048x512_0_1024⟩,
     ⟨S2048x128, gateCols x0⟩,
     ⟨S2048x128, pad S2048x128 ![0, 0] ![0, 120] ![0, 0] (extractStridedSlice S2048x8 ![0, 3088] x0 slices_S2048x3096_S2048x8_0_3088) fill
        pads_S2048x8_S2048x128_000_01200 h_S_⟩]
    concatenates_S2048x512_S2048x128_S2048x128_S2048x768_d1

/-- The gate weights, padded. -/
def gateWeights (x1 : S16x256.Idx → EReal) : S128x256.Idx → EReal :=
  pad S128x256 ![0, 0] ![112, 0] ![0, 0] x1 fill pads_S16x256_S128x256_01120_000 h_S_

/-- Where two heads are the same. -/
def sameHead : S32x4x128x4x64.Idx → BitVec 1 :=
  broadcastInDim S32x4x128x4x64 ![0, 1, 2, 3, 4] bcast_S1x4x1x4x1_S32x4x128x4x64_0_1_2_3_4
    (broadcastInDim S1x4x1x4x1 ![1, 3] bcast_S4x4_S1x4x1x4x1_1_3
      (cmpi .eq (broadcastInDim S4x4 ![0, 1] bcast_S4x1_S4x4_0_1 (broadcastInDim S4x1 ![0] bcast_S4_S4x1_0 (iotaInDim S4 32 0)))
        (broadcastInDim S4x4 ![0, 1] bcast_S1x4_S4x4_0_1 (broadcastInDim S1x4 ![1] bcast_S4_S1x4_1 (iotaInDim S4 32 0)))))

/-- The states at the ends of the chunks, the heads on the diagonal blocks. -/
def statesOf (x : S4x64x128x32.Idx → EReal) : S32x512x256.Idx → EReal :=
  shapeCast S32x512x256 (select sameHead
    (broadcastInDim S32x4x128x4x64 ![0, 1, 2, 3, 4] bcast_S32x4x128x1x64_S32x4x128x4x64_0_1_2_3_4
      (broadcastInDim S32x4x128x1x64 ![0, 1, 2, 4] bcast_S32x4x128x64_S32x4x128x1x64_0_1_2_4
        (transpose S32x4x128x64 [3, 0, 2, 1] x transposes_S4x64x128x32_S32x4x128x64_3_0_2_1)))
    (broadcastInDim S32x4x128x4x64 ![] bcast_S_S32x4x128x4x64 (constant (F := Ideal) S_ .f32 0x00000000#32)))
    shapeCasts_S32x4x128x4x64_S32x512x256

section Launch

variable (m : (ℓ : Loc nD τ sig) → Buf (Elt Ideal) ℓ) (c : Dev nD)

theorem entry_v10 : V m c main_v10 = productCols (m ((c : Thread nD τ).loc main_arg0)) := rfl
theorem entry_v13 : V m c main_v13 = elementCols (m ((c : Thread nD τ).loc main_arg0)) := rfl
theorem entry_v14 : V m c main_v14 = gateWeights (m ((c : Thread nD τ).loc main_arg1)) := rfl
set_option maxHeartbeats 4000000 in
theorem entry_v63 : V m c main_v63 = statesOf (Cert.ReferenceIdeal.Read.val_main_v46 (F := Ideal) (m ((c : Thread nD τ).loc main_arg0))
    (m ((c : Thread nD τ).loc main_arg1)) (m ((c : Thread nD τ).loc main_arg2))) := rfl

end Launch

end Gla
end
-- ==== Proof.Ops.lean ====
module

public import proofs.«01_k».proof.Proof.Reals
public import proofs.«01_k».proof.Proof.Gen.KernelIdeal.Skeleton
public import Idealize.ShloMosaic.Lib.Pointwise

@[expose] public section

/-!
# The body's operations on matrices of real numbers

Each layout operation, product and sum of the kernel's body, read on matrices whose entries are
named real numbers.
-/

set_option maxRecDepth 16384

noncomputable section

open Idealize.ShloMosaic Idealize.ShloMosaic.TcCoe
open Cert.KernelIdeal Cert.KernelIdeal.Gen
open scoped BigOperators

namespace Gla

/-- The sigmoid of a real. -/
theorem logistic_coe (a : ℝ) : Ideal.logistic (a : EReal) = (((1 + Real.exp (-a))⁻¹ : ℝ) : EReal) := by
  unfold Ideal.logistic
  rw [← EReal.coe_neg, Ideal.exp_coe, ← EReal.coe_one, ← EReal.coe_add, divf_coe _ _ (by positivity), one_div]

/-- Zero. -/
theorem ofBits_0 : Ideal.ofBits .f32 0x00000000#32 = ((0 : ℝ) : EReal) := by
  simp [Ideal.ofBits, Ideal.ieee]
/-- One. -/
theorem ofBits_1 : Ideal.ofBits .f32 0x3F800000#32 = ((1 : ℝ) : EReal) := by
  simp [Ideal.ofBits, Ideal.ieee, -EReal.coe_mul]; norm_num

/-- The mask of the columns up to the row as words. -/
theorem le_word : ∀ a b : Fin 64,
    (BitVec.setWidth 32 (IntOp.cmpi .sle (BitVec.ofNat 32 b.val) (BitVec.ofNat 32 a.val))).toInt = if b.val ≤ a.val then 1 else 0 := by
  decide +kernel
/-- The mask of the columns before the row as words. -/
theorem lt_word : ∀ a b : Fin 64,
    (BitVec.setWidth 32 (IntOp.cmpi .slt (BitVec.ofNat 32 b.val) (BitVec.ofNat 32 a.val))).toInt = if b.val < a.val then 1 else 0 := by
  decide +kernel

namespace Is2

variable {f g : ℕ → ℕ → ℝ}

/-- A named matrix may be renamed where the names agree on its indices. -/
theorem congr' {a b : ℕ} {x : (⟨2, ![a, b]⟩ : Shape).Idx → EReal} (h : Is2 x f)
    (e : ∀ i < a, ∀ j < b, f i j = g i j) : Is2 x g := fun i =>
  (h i).trans (congrArg Real.toEReal (e _ (i 0).isLt _ (i 1).isLt))

/-! ## Elementwise operations -/

section Elementwise

variable {a b : ℕ} {φ ψ : FTy} {x y : (⟨2, ![a, b]⟩ : Shape).Idx → EReal}

theorem addf (hx : Is2 x f) (hy : Is2 y g) : Is2 (Idealize.ShloMosaic.addf (F := Ideal) (φ := φ) x y) fun i j => f i j + g i j := IsR.addf hx hy
theorem subf (hx : Is2 x f) (hy : Is2 y g) : Is2 (Idealize.ShloMosaic.subf (F := Ideal) (φ := φ) x y) fun i j => f i j - g i j := IsR.subf hx hy
theorem mulf (hx : Is2 x f) (hy : Is2 y g) : Is2 (Idealize.ShloMosaic.mulf (F := Ideal) (φ := φ) x y) fun i j => f i j * g i j := IsR.mulf hx hy
theorem divf (hx : Is2 x f) (hy : Is2 y g) (h0 : ∀ i j, g i j ≠ 0) :
    Is2 (Idealize.ShloMosaic.divf (F := Ideal) (φ := φ) x y) fun i j => f i j / g i j := IsR.divf hx hy fun _ => h0 _ _
theorem minimumf (hx : Is2 x f) (hy : Is2 y g) :
    Is2 (Idealize.ShloMosaic.minimumf (F := Ideal) (φ := φ) x y) fun i j => min (f i j) (g i j) := IsR.minimumf hx hy
theorem absf (hx : Is2 x f) : Is2 (Idealize.ShloMosaic.absf (F := Ideal) (φ := φ) x) fun i j => |f i j| := IsR.absf hx
theorem exp (hx : Is2 x f) : Is2 (Idealize.ShloMosaic.exp (F := Ideal) (φ := φ) x) fun i j => Real.exp (f i j) := IsR.exp hx
theorem log1p (hx : Is2 x f) (h1 : ∀ i j, -1 < f i j) :
    Is2 (Idealize.ShloMosaic.log1p (F := Ideal) (φ := φ) x) fun i j => Real.log (1 + f i j) := IsR.log1p hx fun _ => h1 _ _
theorem rsqrt (hx : Is2 x f) (h1 : ∀ i j, 0 < f i j) :
    Is2 (Idealize.ShloMosaic.rsqrt (F := Ideal) (φ := φ) x) fun i j => (Real.sqrt (f i j))⁻¹ := IsR.rsqrt hx fun _ => h1 _ _
theorem logistic (hx : Is2 x f) :
    Is2 (Idealize.ShloMosaic.logistic (F := Ideal) (φ := φ) x) fun i j => (1 + Real.exp (-f i j))⁻¹ := fun i =>
  (congrArg Ideal.logistic (hx i)).trans (logistic_coe _)
theorem extf (hx : Is2 x f) (h : φ.bits < ψ.bits) : Is2 (Idealize.ShloMosaic.extf (F := Ideal) (φ := φ) ψ x h) f := hx
theorem truncf (hx : Is2 x f) (h : φ.bits < ψ.bits) : Is2 (Idealize.ShloMosaic.truncf (F := Ideal) (φ := ψ) φ x h) f := hx
theorem cast_self (hx : Is2 x f) (h : (⟨2, ![a, b]⟩ : Shape).ShapeCasts ⟨2, ![a, b]⟩) : Is2 (shapeCast ⟨2, ![a, b]⟩ x h) f := IsR.cast_self hx h

end Elementwise

/-- One value everywhere. -/
theorem const (a b : ℕ) {t : EReal} {r : ℝ} (h : t = (r : EReal)) : Is2 (broadcast ⟨2, ![a, b]⟩ t) fun _ _ => r := fun _ => h

/-! ## Layout -/

/-- One row repeated. -/
theorem rows_64x256 {x : S1x256.Idx → EReal} (hx : Is2 x f) :
    Is2 (broadcastTo S64x256 x broadcasts_S1x256_S64x256) fun _ j => f 0 j := fun i => by
  pointwise
  exact hx _

/-- One row repeated. -/
theorem rows_512x256 {x : S1x256.Idx → EReal} (hx : Is2 x f) :
    Is2 (broadcastTo S512x256 x broadcasts_S1x256_S512x256) fun _ j => f 0 j := fun i => by
  pointwise
  exact hx _

/-- One row repeated. -/
theorem rows_64x128 {x : S1x128.Idx → EReal} (hx : Is2 x f) :
    Is2 (broadcastTo S64x128 x broadcasts_S1x128_S64x128) fun _ j => f 0 j := fun i => by
  pointwise
  exact hx _

/-- One column repeated. -/
theorem cols {x : S64x1.Idx → EReal} (hx : Is2 x f) :
    Is2 (broadcastTo S64x128 x broadcasts_S64x1_S64x128) fun i _ => f i 0 := fun i => by
  pointwise
  exact hx _

/-- A chunk's last row. -/
theorem last {x : S64x256.Idx → EReal} (hx : Is2 x f) :
    Is2 (extractStridedSlice S1x256 ![63, 0] x slices_S64x256_o63_0_S1x256) fun _ j => f 63 j := fun i => by
  pointwise
  exact hx _

/-- The columns of head 0. -/
theorem head0 {x : S64x512.Idx → EReal} (hx : Is2 x f) :
    Is2 (extractStridedSlice S64x128 ![0, 0] x slices_S64x512_o0_0_S64x128) fun i j => f i (128 * 0 + j) := fun i => by
  pointwise
  exact hx _

/-- The columns of head 0 of a row. -/
theorem rowHead0 {x : S1x512.Idx → EReal} (hx : Is2 x f) :
    Is2 (extractStridedSlice S1x128 ![0, 0] x slices_S1x512_o0_0_S1x128) fun i j => f i (128 * 0 + j) := fun i => by
  pointwise
  exact hx _

/-- The columns of head 1. -/
theorem head1 {x : S64x512.Idx → EReal} (hx : Is2 x f) :
    Is2 (extractStridedSlice S64x128 ![0, 128] x slices_S64x512_o0_128_S64x128) fun i j => f i (128 * 1 + j) := fun i => by
  pointwise
  exact hx _

/-- The columns of head 1 of a row. -/
theorem rowHead1 {x : S1x512.Idx → EReal} (hx : Is2 x f) :
    Is2 (extractStridedSlice S1x128 ![0, 128] x slices_S1x512_o0_128_S1x128) fun i j => f i (128 * 1 + j) := fun i => by
  pointwise
  exact hx _

/-- The columns of head 2. -/
theorem head2 {x : S64x512.Idx → EReal} (hx : Is2 x f) :
    Is2 (extractStridedSlice S64x128 ![0, 256] x slices_S64x512_o0_256_S64x128) fun i j => f i (128 * 2 + j) := fun i => by
  pointwise
  exact hx _

/-- The columns of head 2 of a row. -/
theorem rowHead2 {x : S1x512.Idx → EReal} (hx : Is2 x f) :
    Is2 (extractStridedSlice S1x128 ![0, 256] x slices_S1x512_o0_256_S1x128) fun i j => f i (128 * 2 + j) := fun i => by
  pointwise
  exact hx _

/-- The columns of head 3. -/
theorem head3 {x : S64x512.Idx → EReal} (hx : Is2 x f) :
    Is2 (extractStridedSlice S64x128 ![0, 384] x slices_S64x512_o0_384_S64x128) fun i j => f i (128 * 3 + j) := fun i => by
  pointwise
  exact hx _

/-- The columns of head 3 of a row. -/
theorem rowHead3 {x : S1x512.Idx → EReal} (hx : Is2 x f) :
    Is2 (extractStridedSlice S1x128 ![0, 384] x slices_S1x512_o0_384_S1x128) fun i j => f i (128 * 3 + j) := fun i => by
  pointwise
  exact hx _

/-- The four heads side by side. -/
theorem four {x0 x1 x2 x3 : S64x128.Idx → EReal} (h0 : Is2 x0 fun i j => f i (128 * 0 + j)) (h1 : Is2 x1 fun i j => f i (128 * 1 + j))
    (h2 : Is2 x2 fun i j => f i (128 * 2 + j)) (h3 : Is2 x3 fun i j => f i (128 * 3 + j)) :
    Is2 (concatenate S64x512 1 [⟨S64x128, x0⟩, ⟨S64x128, x1⟩, ⟨S64x128, x2⟩, ⟨S64x128, x3⟩] concatenates_S64x128_S64x128_S64x128_S64x128_S64x512_d1) f := fun i => by
  have hi := (i 1).isLt
  pointwise
  split
  · refine (h0 _).trans (congrArg Real.toEReal (congrArg (f _) ?_)); show 128 * 0 + (i 1).val = _; omega
  split
  · refine (h1 _).trans (congrArg Real.toEReal (congrArg (f _) ?_)); show 128 * 1 + ((i 1).val - 128) = _; omega
  split
  · refine (h2 _).trans (congrArg Real.toEReal (congrArg (f _) ?_)); show 128 * 2 + ((i 1).val - 128 - 128) = _; omega
  · refine (h3 _).trans (congrArg Real.toEReal (congrArg (f _) ?_)); show 128 * 3 + ((i 1).val - 128 - 128 - 128) = _; omega

/-- The four heads side by side. -/
theorem rowFour {x0 x1 x2 x3 : S1x128.Idx → EReal} (h0 : Is2 x0 fun i j => f i (128 * 0 + j)) (h1 : Is2 x1 fun i j => f i (128 * 1 + j))
    (h2 : Is2 x2 fun i j => f i (128 * 2 + j)) (h3 : Is2 x3 fun i j => f i (128 * 3 + j)) :
    Is2 (concatenate S1x512 1 [⟨S1x128, x0⟩, ⟨S1x128, x1⟩, ⟨S1x128, x2⟩, ⟨S1x128, x3⟩] concatenates_S1x128_S1x128_S1x128_S1x128_S1x512_d1) f := fun i => by
  have hi := (i 1).isLt
  pointwise
  split
  · refine (h0 _).trans (congrArg Real.toEReal (congrArg (f _) ?_)); show 128 * 0 + (i 1).val = _; omega
  split
  · refine (h1 _).trans (congrArg Real.toEReal (congrArg (f _) ?_)); show 128 * 1 + ((i 1).val - 128) = _; omega
  split
  · refine (h2 _).trans (congrArg Real.toEReal (congrArg (f _) ?_)); show 128 * 2 + ((i 1).val - 128 - 128) = _; omega
  · refine (h3 _).trans (congrArg Real.toEReal (congrArg (f _) ?_)); show 128 * 3 + ((i 1).val - 128 - 128 - 128) = _; omega

/-! ## Sums -/

/-- The sum of each column. -/
theorem colsum_64x128 {x : S64x128.Idx → EReal} (hx : Is2 x f) :
    Is2 (shapeCast S1x128 (multiReduction (F := Ideal) (φ := .f32) .add [0] S128 x 0x00000000#32 reduces_S64x128_S128 (.inl rfl) rfl) shapeCasts_S128_S1x128) fun _ j =>
      ∑ l ∈ Finset.range 64, f l j := fun i => by
  pointwise
  exact sum_coe' (fun l => f l (i 1).val) fun l => hx _

/-- The sum of each column. -/
theorem colsum_64x256 {x : S64x256.Idx → EReal} (hx : Is2 x f) :
    Is2 (shapeCast S1x256 (multiReduction (F := Ideal) (φ := .f32) .add [0] S256 x 0x00000000#32 reduces_S64x256_S256 (.inl rfl) rfl) shapeCasts_S256_S1x256) fun _ j =>
      ∑ l ∈ Finset.range 64, f l j := fun i => by
  pointwise
  exact sum_coe' (fun l => f l (i 1).val) fun l => hx _

/-- The sum of each column. -/
theorem colsum_512x256 {x : S512x256.Idx → EReal} (hx : Is2 x f) :
    Is2 (shapeCast S1x256 (multiReduction (F := Ideal) (φ := .f32) .add [0] S256 x 0x00000000#32 reduces_S512x256_S256 (.inl rfl) rfl) shapeCasts_S256_S1x256) fun _ j =>
      ∑ l ∈ Finset.range 512, f l j := fun i => by
  pointwise
  exact sum_coe' (fun l => f l (i 1).val) fun l => hx _

/-- The sum of each row. -/
theorem rowsum {x : S64x128.Idx → EReal} (hx : Is2 x f) :
    Is2 (shapeCast S64x1 (multiReduction (F := Ideal) (φ := .f32) .add [1] S64 x 0x00000000#32 reduces_S64x128_S64 (.inl rfl) rfl) shapeCasts_S64_S64x1) fun i _ =>
      ∑ l ∈ Finset.range 128, f i l := fun i => by
  pointwise
  exact sum_coe' (fun l => f (i 0).val l) fun l => hx _

/-! ## Products -/

/-- A product. -/
theorem proj {φ ψ : FTy} {x : S64x128.Idx → EReal} {y : S128x256.Idx → EReal} (hx : Is2 x f) (hy : Is2 y g) (p : Option ContractPrecision) :
    Is2 (matmul (F := Ideal) (φ₁ := φ) (φ₂ := ψ) dot_S64x128_S128x256_S64x256_1_0_0_1_n_n p x y (constant S64x256 .f32 0x00000000#32)) fun i j =>
      ∑ l ∈ Finset.range 128, f i l * g l j := fun i => by
  pointwise
  exact sum_coe' (fun l => f (i 0).val l * g l (i 1).val) fun l => congrArg₂ (· * ·) (hx _) (hy _)

/-- The rows of a product with a square matrix. -/
theorem tri {φ ψ : FTy} {x : S64x64.Idx → EReal} {y : S64x256.Idx → EReal} (hx : Is2 x f) (hy : Is2 y g) (p : Option ContractPrecision) :
    Is2 (matmul (F := Ideal) (φ₁ := φ) (φ₂ := ψ) dot_S64x64_S64x256_S64x256_1_0_0_1_n_n p x y (constant S64x256 .f32 0x00000000#32)) fun i j =>
      ∑ l ∈ Finset.range 64, f i l * g l j := fun i => by
  pointwise
  exact sum_coe' (fun l => f (i 0).val l * g l (i 1).val) fun l => congrArg₂ (· * ·) (hx _) (hy _)

/-- A product. -/
theorem nt {φ ψ : FTy} {x : S64x256.Idx → EReal} {y : S512x256.Idx → EReal} (hx : Is2 x f) (hy : Is2 y g) (p : Option ContractPrecision) :
    Is2 (matmul (F := Ideal) (φ₁ := φ) (φ₂ := ψ) dot_S64x256_S512x256_S64x512_1_1_0_0_n_n p x y (constant S64x512 .f32 0x00000000#32)) fun i j =>
      ∑ l ∈ Finset.range 256, f i l * g j l := fun i => by
  pointwise
  exact sum_coe' (fun l => f (i 0).val l * g (i 1).val l) fun l => congrArg₂ (· * ·) (hx _) (hy _)

/-- A product. -/
theorem nn {φ ψ : FTy} {x : S64x512.Idx → EReal} {y : S512x256.Idx → EReal} (hx : Is2 x f) (hy : Is2 y g) (p : Option ContractPrecision) :
    Is2 (matmul (F := Ideal) (φ₁ := φ) (φ₂ := ψ) dot_S64x512_S512x256_S64x256_1_0_0_1_n_n p x y (constant S64x256 .f32 0x00000000#32)) fun i j =>
      ∑ l ∈ Finset.range 512, f i l * g l j := fun i => by
  pointwise
  exact sum_coe' (fun l => f (i 0).val l * g l (i 1).val) fun l => congrArg₂ (· * ·) (hx _) (hy _)

/-- A product. -/
theorem tn {φ ψ : FTy} {x : S64x512.Idx → EReal} {y : S64x256.Idx → EReal} (hx : Is2 x f) (hy : Is2 y g) (p : Option ContractPrecision) :
    Is2 (matmul (F := Ideal) (φ₁ := φ) (φ₂ := ψ) dot_S64x512_S64x256_S512x256_0_0_1_1_n_n p x y (constant S512x256 .f32 0x00000000#32)) fun i j =>
      ∑ l ∈ Finset.range 64, f l i * g l j := fun i => by
  pointwise
  exact sum_coe' (fun l => f l (i 0).val * g l (i 1).val) fun l => congrArg₂ (· * ·) (hx _) (hy _)

/-- A product. -/
theorem nt2 {φ ψ : FTy} {x : S64x256.Idx → EReal} {y : S128x256.Idx → EReal} (hx : Is2 x f) (hy : Is2 y g) (p : Option ContractPrecision) :
    Is2 (matmul (F := Ideal) (φ₁ := φ) (φ₂ := ψ) dot_S64x256_S128x256_S64x128_1_1_0_0_n_n p x y (constant S64x128 .f32 0x00000000#32)) fun i j =>
      ∑ l ∈ Finset.range 256, f i l * g j l := fun i => by
  pointwise
  exact sum_coe' (fun l => f (i 0).val l * g (i 1).val l) fun l => congrArg₂ (· * ·) (hx _) (hy _)

/-- A product. -/
theorem tn2 {φ ψ : FTy} {x : S64x128.Idx → EReal} {y : S64x256.Idx → EReal} (hx : Is2 x f) (hy : Is2 y g) (p : Option ContractPrecision) :
    Is2 (matmul (F := Ideal) (φ₁ := φ) (φ₂ := ψ) dot_S64x128_S64x256_S128x256_0_0_1_1_n_n p x y (constant S128x256 .f32 0x00000000#32)) fun i j =>
      ∑ l ∈ Finset.range 64, f l i * g l j := fun i => by
  pointwise
  exact sum_coe' (fun l => f l (i 0).val * g l (i 1).val) fun l => congrArg₂ (· * ·) (hx _) (hy _)

/-! ## Masks -/

/-- Ones on and below the diagonal. -/
theorem triLe : Is2 (sitofp (F := Ideal) .f32 (extui 32 (cmpi .sle (iota .tc S64x64 32 [1] iota_S64x64_d1_w32) (iota .tc S64x64 32 [0] iota_S64x64_d0_w32)) natLt_1_32)) fun i j =>
      if j ≤ i then 1 else 0 := fun i => by
  pointwise
  show ((((BitVec.setWidth 32 _).toInt : ℤ) : ℝ) : EReal) = _
  refine congrArg Real.toEReal ?_
  refine (congrArg (fun t : ℤ => (t : ℝ)) (le_word (i 0) (i 1))).trans ?_
  by_cases h : (i 1).val ≤ (i 0).val
  · rw [if_pos h, if_pos h]; norm_num
  · rw [if_neg h, if_neg h]; norm_num

/-- Ones below the diagonal. -/
theorem triLt : Is2 (sitofp (F := Ideal) .f32 (extui 32 (cmpi .slt (iota .tc S64x64 32 [1] iota_S64x64_d1_w32) (iota .tc S64x64 32 [0] iota_S64x64_d0_w32)) natLt_1_32)) fun i j =>
      if j < i then 1 else 0 := fun i => by
  pointwise
  show ((((BitVec.setWidth 32 _).toInt : ℤ) : ℝ) : EReal) = _
  refine congrArg Real.toEReal ?_
  refine (congrArg (fun t : ℤ => (t : ℝ)) (lt_word (i 0) (i 1))).trans ?_
  by_cases h : (i 1).val < (i 0).val
  · rw [if_pos h, if_pos h]; norm_num
  · rw [if_neg h, if_neg h]; norm_num

end Is2

end Gla
-- ==== Proof.Heads.lean ====
module

public import proofs.«01_k».proof.Proof.Ops
public import proofs.«01_k».proof.Proof.Spec

@[expose] public section

/-!
# One chunk over the reals: the heads
-/

set_option maxRecDepth 16384

noncomputable section

open Idealize.ShloMosaic Idealize.ShloMosaic.TcCoe
open Cert.KernelIdeal Cert.KernelIdeal.Gen
open scoped BigOperators

namespace Gla

/-- A state as the kernel holds it: head by head on the diagonal blocks of a matrix of value rows and key columns, zero off
    them. -/
def bd (m : ℕ → ℕ → ℝ) (i j : ℕ) : ℝ := if i / 128 = j / 64 then m j (i % 128) else 0

theorem bd_nt (x : ℕ → ℝ) (m : ℕ → ℕ → ℝ) (i : ℕ) (hi : i < 512) :
    ∑ j ∈ Finset.range 256, x j * bd m i j = ∑ l ∈ Finset.range 64, x (64 * (i / 128) + l) * m (64 * (i / 128) + l) (i % 128) := by
  rw [← sum_head 4 64 (i / 128) (by omega) (by norm_num) fun j => x j * m j (i % 128)]
  refine Finset.sum_congr rfl fun j _ => ?_
  unfold bd; rw [mul_ite, mul_zero]

theorem bd_nn (x : ℕ → ℝ) (m : ℕ → ℕ → ℝ) (j : ℕ) (hj : j < 256) :
    ∑ i ∈ Finset.range 512, x i * bd m i j = ∑ u ∈ Finset.range 128, x (128 * (j / 64) + u) * m j u := by
  have h := sum_head 4 128 (j / 64) (by omega) (by norm_num) fun i => x i * m j (i % 128)
  refine Eq.trans (Finset.sum_congr rfl fun i _ => ?_) (h.trans (Finset.sum_congr rfl fun u hu => ?_))
  · unfold bd; rw [mul_ite, mul_zero]; simp only [eq_comm]
  · have := Finset.mem_range.1 hu
    simp only [show (128 * (j / 64) + u) % 128 = u by omega]

theorem bd_col (m n : ℕ → ℕ → ℝ) (j : ℕ) (hj : j < 256) :
    ∑ i ∈ Finset.range 512, bd m i j * bd n i j = ∑ u ∈ Finset.range 128, m j u * n j u := by
  refine (bd_nn (fun i => bd m i j) n j hj).trans (Finset.sum_congr rfl fun u hu => ?_)
  have := Finset.mem_range.1 hu
  show bd m _ j * _ = _
  unfold bd
  rw [if_pos (by omega), show (128 * (j / 64) + u) % 128 = u by omega]

/-- A product with the mask of the columns up to the row sums up to it. -/
theorem sum_upto (f : ℕ → ℝ) (i : ℕ) (hi : i < 64) :
    ∑ l ∈ Finset.range 64, (if l ≤ i then 1 else 0) * f l = ∑ l ∈ Finset.range (i + 1), f l := by
  rw [← Finset.sum_subset (Finset.range_subset_range.2 (show i + 1 ≤ 64 by omega)) (f := fun l => (if l ≤ i then (1 : ℝ) else 0) * f l)]
  · exact Finset.sum_congr rfl fun l hl => by rw [if_pos (by have := Finset.mem_range.1 hl; omega), one_mul]
  · intro l _ hl; rw [if_neg (fun h => hl (Finset.mem_range.2 (by omega))), zero_mul]

/-- A product with the mask of the columns before the row sums before it. -/
theorem sum_below (f : ℕ → ℝ) (i : ℕ) (hi : i < 64) :
    ∑ l ∈ Finset.range 64, (if l < i then 1 else 0) * f l = ∑ l ∈ Finset.range i, f l := by
  rw [← Finset.sum_subset (Finset.range_subset_range.2 (show i ≤ 64 by omega)) (f := fun l => (if l < i then (1 : ℝ) else 0) * f l)]
  · exact Finset.sum_congr rfl fun l hl => by rw [if_pos (Finset.mem_range.1 hl), one_mul]
  · intro l _ hl; rw [if_neg (fun h => hl (Finset.mem_range.2 h)), zero_mul]

/-- The first sixteen of an array that is zero behind them. -/
def upto16 (f : ℕ → ℝ) (l : ℕ) : ℝ := if l < 16 then f l else 0

theorem sum_upto16 (f g : ℕ → ℝ) :
    ∑ l ∈ Finset.range 128, upto16 f l * upto16 g l = ∑ l ∈ Finset.range 16, f l * g l := by
  rw [← Finset.sum_subset (Finset.range_subset_range.2 (show 16 ≤ 128 by norm_num)) (f := fun l => upto16 f l * upto16 g l)]
  · exact Finset.sum_congr rfl fun l hl => by unfold upto16; rw [if_pos (Finset.mem_range.1 hl), if_pos (Finset.mem_range.1 hl)]
  · intro l _ hl; unfold upto16; rw [if_neg (fun h => hl (Finset.mem_range.2 h)), zero_mul]

/-- What the later chunks hand to a chunk's gradient. -/
def carry (A : Args) (c j u : ℕ) : ℝ := if c + 1 < 32 then Real.exp (tot A (c + 1) j) * dm A (c + 1) j u else 0

theorem carry_add (A : Args) (c j u : ℕ) (hc : c < 32) : carry A c j u + ds A c j u = dm A c j u := by
  unfold carry
  by_cases h : c + 1 < 32
  · rw [if_pos h, dm_step A c j u h, add_comm]
  · rw [if_neg h, zero_add, show c = 31 by omega, dm_last]

variable (A : Args) (c : ℕ)

/-- The gate before its sigmoid. -/
theorem pay6 (v3 : Vec Ideal S64x128 .f32) (v5 : Vec Ideal S128x256 .f32) (v10 : Vec Ideal S1x256 .f32) (h3 : Is2 v3 (fun s l => upto16 (a A c s) l)) (h5 : Is2 v5 (fun l j => upto16 (fun x => A.w x j) l)) (h10 : Is2 v10 A.b) :
    Is2 (k0_pay6 (F := Ideal) v3 v5 v10) (z A c) := by
  have h4 := h3.cast_self shapeCasts_S64x128_S64x128
  have h6 := h5.cast_self shapeCasts_S128x256_S128x256
  have h7 := h4.truncf bitsLt_bf16_f32
  have h8 := h6.truncf bitsLt_bf16_f32
  have h9 := Is2.proj (φ := .bf16) (ψ := .bf16) h7 h8 none
  have h11 := Is2.rows_64x256 h10
  have h12 := Is2.addf (φ := .f32) h9 h11
  exact h12.congr' fun i hi j hj => by show (∑ l ∈ Finset.range 128, upto16 (a A c i) l * upto16 (fun x => A.w x j) l) + A.b 0 j = _; rw [sum_upto16]; rfl

/-- The running sum of the gate's logarithm. -/
theorem pay7 (v3 : Vec Ideal S64x128 .f32) (v5 : Vec Ideal S128x256 .f32) (v10 : Vec Ideal S1x256 .f32) (h3 : Is2 v3 (fun s l => upto16 (a A c s) l)) (h5 : Is2 v5 (fun l j => upto16 (fun x => A.w x j) l)) (h10 : Is2 v10 A.b) :
    Is2 (k0_pay7 (F := Ideal) v3 v5 v10) (cum A c) := by
  have h17 := Is2.triLe
  have h18 := Is2.const 64 256 ofBits_0
  have h19 := Is2.minimumf (φ := .f32) (pay6 A c v3 v5 v10 h3 h5 h10) h18
  have h20 := Is2.absf (φ := .f32) (pay6 A c v3 v5 v10 h3 h5 h10)
  have h21 := Is2.const 64 256 ofBits_0
  have h22 := Is2.subf (φ := .f32) h21 h20
  have h23 := Is2.exp (φ := .f32) h22
  have h24 := Is2.log1p (φ := .f32) h23 fun _ _ => lt_trans (by norm_num) (Real.exp_pos _)
  have h25 := Is2.subf (φ := .f32) h19 h24
  have h26 := Is2.const 64 256 ofBits_sixteenth
  have h27 := Is2.mulf (φ := .f32) h25 h26
  have h27 : Is2 _ (la A c) := h27.congr' fun i hi j hj => by show (min (z A c i j) 0 - Real.log (1 + Real.exp (0 - |z A c i j|))) * (1 / 16) = _; rw [log_sigmoid, mul_one_div]; rfl
  have h28 := Is2.tri (φ := .f32) (ψ := .f32) h17 h27 (some .fp32)
  exact h28.congr' fun i hi j hj => by exact sum_upto (fun l => la A c l j) i hi

/-- Its last row. -/
theorem pay8 (v3 : Vec Ideal S64x128 .f32) (v5 : Vec Ideal S128x256 .f32) (v10 : Vec Ideal S1x256 .f32) (h3 : Is2 v3 (fun s l => upto16 (a A c s) l)) (h5 : Is2 v5 (fun l j => upto16 (fun x => A.w x j) l)) (h10 : Is2 v10 A.b) :
    Is2 (k0_pay8 (F := Ideal) v3 v5 v10) (fun _ j => tot A c j) := by
  have h29 := Is2.last (pay7 A c v3 v5 v10 h3 h5 h10)
  exact h29.congr' fun i hi j hj => by rfl

/-- The decay to the chunk's end. -/
theorem pay9 (v3 : Vec Ideal S64x128 .f32) (v5 : Vec Ideal S128x256 .f32) (v10 : Vec Ideal S1x256 .f32) (h3 : Is2 v3 (fun s l => upto16 (a A c s) l)) (h5 : Is2 v5 (fun l j => upto16 (fun x => A.w x j) l)) (h10 : Is2 v10 A.b) :
    Is2 (k0_pay9 (F := Ideal) v3 v5 v10) (e A c) := by
  have h30 := Is2.rows_64x256 (pay8 A c v3 v5 v10 h3 h5 h10)
  have h31 := Is2.subf (φ := .f32) h30 (pay7 A c v3 v5 v10 h3 h5 h10)
  have h32 := Is2.exp (φ := .f32) h31
  exact h32.congr' fun i hi j hj => by rfl

/-- The decay of the whole chunk. -/
theorem pay10 (v3 : Vec Ideal S64x128 .f32) (v5 : Vec Ideal S128x256 .f32) (v10 : Vec Ideal S1x256 .f32) (h3 : Is2 v3 (fun s l => upto16 (a A c s) l)) (h5 : Is2 v5 (fun l j => upto16 (fun x => A.w x j) l)) (h10 : Is2 v10 A.b) :
    Is2 (k0_pay10 (F := Ideal) v3 v5 v10) (fun _ j => Real.exp (tot A c j)) := by
  have h33 := Is2.exp (φ := .f32) (pay8 A c v3 v5 v10 h3 h5 h10)
  exact h33.congr' fun i hi j hj => by rfl

/-- The key with its decay. -/
theorem pay11 (v3 : Vec Ideal S64x128 .f32) (v5 : Vec Ideal S128x256 .f32) (v10 : Vec Ideal S1x256 .f32) (v34 : Vec Ideal S64x256 .bf16) (h3 : Is2 v3 (fun s l => upto16 (a A c s) l)) (h5 : Is2 v5 (fun l j => upto16 (fun x => A.w x j) l)) (h10 : Is2 v10 A.b) (h34 : Is2 v34 (k A c)) :
    Is2 (k0_pay11 (F := Ideal) v3 v5 v10 v34) (kd A c) := by
  have h35 := h34.cast_self shapeCasts_S64x256_S64x256
  have h36 := h35.extf bitsLt_bf16_f32
  have h37 := Is2.mulf (φ := .f32) h36 (pay9 A c v3 v5 v10 h3 h5 h10)
  exact h37.congr' fun i hi j hj => by rfl

/-- The query before its scale. -/
theorem pay12 (v38 : Vec Ideal S64x256 .bf16) (h38 : Is2 v38 (fun s j => A.p (64 * c + s) j)) :
    Is2 (k0_pay12 (F := Ideal) v38) (fun s j => A.p (64 * c + s) j) := by
  have h39 := h38.cast_self shapeCasts_S64x256_S64x256
  have h40 := h39.extf bitsLt_bf16_f32
  exact h40.congr' fun i hi j hj => by rfl

/-- The query. -/
theorem pay13 (v40 : FVec Ideal S64x256 .f32) (h40 : Is2 v40 (fun s j => A.p (64 * c + s) j)) :
    Is2 (k0_pay13 (F := Ideal) v40) (q A c) := by
  have h41 := Is2.const 64 256 ofBits_eighth
  have h42 := Is2.mulf (φ := .f32) h40 h41
  exact h42.congr' fun i hi j hj => by rfl

/-- The value. -/
theorem pay14 (v43 : Vec Ideal S64x512 .bf16) (h43 : Is2 v43 (v A c)) :
    Is2 (k0_pay14 (F := Ideal) v43) (v A c) := by
  have h44 := h43.cast_self shapeCasts_S64x512_S64x512
  have h45 := h44.extf bitsLt_bf16_f32
  exact h45.congr' fun i hi j hj => by rfl

/-- The state at the chunk's end. -/
theorem pay15 (v46 : Vec Ideal S1x512x256 .f32) (m : ℕ → ℕ → ℝ) (h46 : IsR v46 fun i => bd m (i 1).val (i 2).val) :
    Is2 (k0_pay15 (F := Ideal) v46) (bd m) := fun i => by
  unfold k0_pay15
  pointwise
  exact h46 _

theorem slt_word : ∀ t : Fin 32, (BitVec.setWidth 32 (IntOp.cmpi .slt (BitVec.ofNat 32 t.val) 31#32)).toInt = if t.val < 31 then 1 else 0 := by
  decide +kernel

/-- The state before the chunk: the one the block before holds, or nothing before the first chunk. -/
theorem pay16 (v48 : Vec Ideal S1x512x256 .f32) (t : Fin 32) (h48 : IsR v48 fun i => bd (st A (31 - t.val - 1)) (i 1).val (i 2).val) :
    Is2 (k0_pay16 (F := Ideal) (BitVec.ofNat 32 t.val) v48) (bd (pst A (31 - t.val))) := fun i => by
  unfold k0_pay16
  pointwise
  have e : (FloatOps.sitofp (F := Ideal) .f32 (BitVec.setWidth 32 (IntOp.cmpi .slt (BitVec.ofNat 32 t.val) 31#32)))
      = ((if t.val < 31 then 1 else 0 : ℝ) : EReal) := by
    show ((((BitVec.setWidth 32 _).toInt : ℤ) : ℝ) : EReal) = _
    refine congrArg Real.toEReal ((congrArg (fun t : ℤ => (t : ℝ)) (slt_word t)).trans ?_)
    by_cases h : t.val < 31
    · rw [if_pos h, if_pos h]; norm_num
    · rw [if_neg h, if_neg h]; norm_num
  refine (congrArg₂ (· * ·) (h48 _) e).trans ?_
  refine (EReal.coe_mul _ _).symm.trans (congrArg Real.toEReal ?_)
  show bd (st A (31 - t.val - 1)) (i 0).val (i 1).val * _ = _
  by_cases h : t.val < 31
  · have ep : pst A (31 - t.val) = st A (31 - t.val - 1) := by
      funext j u; unfold pst; rw [if_neg (by omega)]
    rw [if_pos h, mul_one, ep]
  · have ep : pst A (31 - t.val) = fun _ _ => 0 := by
      funext j u; unfold pst; rw [if_pos (by omega)]
    rw [if_neg h, mul_zero, ep]; unfold bd; split <;> rfl

/-- The output gate. -/
theorem pay17 (v55 : Vec Ideal S64x512 .f32) (h55 : Is2 v55 (r A c)) :
    Is2 (k0_pay17 (F := Ideal) v55) (r A c) := by
  have h56 := h55.cast_self shapeCasts_S64x512_S64x512
  exact h56.congr' fun i hi j hj => by rfl

/-- Its sigmoid. -/
theorem pay18 (v55 : Vec Ideal S64x512 .f32) (h55 : Is2 v55 (r A c)) :
    Is2 (k0_pay18 (F := Ideal) v55) (sg A c) := by
  have h59 := Is2.logistic (φ := .f32) (pay17 A c v55 h55)
  exact h59.congr' fun i hi j hj => by rfl

/-- The gate times its sigmoid. -/
theorem pay19 (v55 : Vec Ideal S64x512 .f32) (h55 : Is2 v55 (r A c)) :
    Is2 (k0_pay19 (F := Ideal) v55) (sil A c) := by
  have h60 := Is2.mulf (φ := .f32) (pay17 A c v55 h55) (pay18 A c v55 h55)
  exact h60.congr' fun i hi j hj => by rfl

/-- The derivative of that. -/
theorem pay20 (v55 : Vec Ideal S64x512 .f32) (h55 : Is2 v55 (r A c)) :
    Is2 (k0_pay20 (F := Ideal) v55) (dsil A c) := by
  have h61 := Is2.const 64 512 ofBits_1
  have h62 := Is2.subf (φ := .f32) h61 (pay18 A c v55 h55)
  have h63 := Is2.mulf (φ := .f32) (pay17 A c v55 h55) h62
  have h64 := Is2.const 64 512 ofBits_1
  have h65 := Is2.addf (φ := .f32) h64 h63
  have h66 := Is2.mulf (φ := .f32) (pay18 A c v55 h55) h65
  exact h66.congr' fun i hi j hj => by rfl

/-- The attention's output. -/
theorem pay21 (v40 : FVec Ideal S64x256 .f32) (v46 : Vec Ideal S1x512x256 .f32) (h40 : Is2 v40 fun s j => A.p (64 * c + s) j)
    (h46 : IsR v46 fun i => bd (st A c) (i 1).val (i 2).val) :
    Is2 (k0_pay21 (F := Ideal) v40 v46) (o A c) := by
  have h67 := (pay13 A c v40 h40).truncf bitsLt_bf16_f32
  have h68 := (pay15 v46 _ h46).truncf bitsLt_bf16_f32
  have h69 := Is2.nt (φ := .bf16) (ψ := .bf16) h67 h68 none
  exact h69.congr' fun i hi j hj => bd_nt (q A c i) (st A c) j hj

/-- Head 0 of the output. -/
theorem pay22 (v40 : FVec Ideal S64x256 .f32) (v46 : Vec Ideal S1x512x256 .f32) (h40 : Is2 v40 fun s j => A.p (64 * c + s) j)
    (h46 : IsR v46 fun i => bd (st A c) (i 1).val (i 2).val) :
    Is2 (k0_pay22 (F := Ideal) v40 v46) fun s u => o A c s (128 * 0 + u) :=
  Is2.head0 (pay21 A c v40 v46 h40 h46)

/-- Head 0 of the cotangent. -/
theorem pay23 (v57 : Vec Ideal S64x512 .f32) (h57 : Is2 v57 (g A c)) :
    Is2 (k0_pay23 (F := Ideal) v57) (fun s u => g A c s (128 * 0 + u)) := by
  have h71 := Is2.head0 h57
  exact h71.congr' fun i hi j hj => by rfl

/-- Its mean square. -/
theorem pay24 (v40 : FVec Ideal S64x256 .f32) (v46 : Vec Ideal S1x512x256 .f32) (h46 : IsR v46 fun i => bd (st A c) (i 1).val (i 2).val) (h40 : Is2 v40 (fun s j => A.p (64 * c + s) j)) :
    Is2 (k0_pay24 (F := Ideal) v40 v46) (fun s _ => ms A c s 0) := by
  have h72 := Is2.mulf (φ := .f32) (pay22 A c v40 v46 h40 h46) (pay22 A c v40 v46 h40 h46)
  have h74 := Is2.rowsum h72
  have h75 := Is2.const 64 1 ofBits_128
  have h76 := Is2.divf (φ := .f32) h74 h75 fun _ _ => by norm_num
  have h77 := Is2.const 64 1 ofBits_eps
  have h78 := Is2.addf (φ := .f32) h76 h77
  exact h78.congr' fun i hi j hj => by rfl

/-- The reciprocal root of the mean square. -/
theorem pay25 (v78 : FVec Ideal S64x1 .f32) (h78 : Is2 v78 (fun s _ => ms A c s 0)) :
    Is2 (k0_pay25 (F := Ideal) v78) (fun s _ => rs A c s 0) := by
  have h79 := Is2.rsqrt (φ := .f32) h78 fun _ _ => ms_pos A _ _ _
  exact h79.congr' fun i hi j hj => by rfl

/-- The normalised output. -/
theorem pay26 (v70 : FVec Ideal S64x128 .f32) (v78 : FVec Ideal S64x1 .f32) (h70 : Is2 v70 (fun s u => o A c s (128 * 0 + u))) (h78 : Is2 v78 (fun s _ => ms A c s 0)) :
    Is2 (k0_pay26 (F := Ideal) v70 v78) (fun s u => y A c s (128 * 0 + u)) := by
  have h80 := Is2.cols (pay25 A c v78 h78)
  have h81 := Is2.mulf (φ := .f32) h70 h80
  exact h81.congr' fun i hi j hj => by exact (y_head A c i 0 j hj).symm

/-- The chunk's part of the norm weight's gradient, head 0. -/
theorem pay27 (v60 : FVec Ideal S64x512 .f32) (v70 : FVec Ideal S64x128 .f32) (v71 : FVec Ideal S64x128 .f32) (v78 : FVec Ideal S64x1 .f32) (h60 : Is2 v60 (sil A c)) (h70 : Is2 v70 (fun s u => o A c s (128 * 0 + u))) (h71 : Is2 v71 (fun s u => g A c s (128 * 0 + u))) (h78 : Is2 v78 (fun s _ => ms A c s 0)) :
    Is2 (k0_pay27 (F := Ideal) v60 v70 v71 v78) (fun _ u => ∑ s ∈ Finset.range 64, g A c s (128 * 0 + u) * y A c s (128 * 0 + u) * sil A c s (128 * 0 + u)) := by
  have h82 := Is2.mulf (φ := .f32) h71 (pay26 A c v70 v78 h70 h78)
  have h83 := Is2.head0 h60
  have h84 := Is2.mulf (φ := .f32) h82 h83
  have h86 := Is2.colsum_64x128 h84
  exact h86.congr' fun i hi j hj => by rfl

/-- The output gate's gradient, head 0. -/
theorem pay28 (v58 : Vec Ideal S1x512 .f32) (v66 : FVec Ideal S64x512 .f32) (v70 : FVec Ideal S64x128 .f32) (v71 : FVec Ideal S64x128 .f32) (v78 : FVec Ideal S64x1 .f32) (h58 : Is2 v58 A.n) (h66 : Is2 v66 (dsil A c)) (h70 : Is2 v70 (fun s u => o A c s (128 * 0 + u))) (h71 : Is2 v71 (fun s u => g A c s (128 * 0 + u))) (h78 : Is2 v78 (fun s _ => ms A c s 0)) :
    Is2 (k0_pay28 (F := Ideal) v58 v66 v70 v71 v78) (fun s u => dr A c s (128 * 0 + u)) := by
  have h87 := Is2.mulf (φ := .f32) h71 (pay26 A c v70 v78 h70 h78)
  have h88 := Is2.rowHead0 h58
  have h89 := Is2.rows_64x128 h88
  have h90 := Is2.mulf (φ := .f32) h87 h89
  have h91 := Is2.head0 h66
  have h92 := Is2.mulf (φ := .f32) h90 h91
  have h93 := h92.truncf bitsLt_bf16_f32
  exact h93.congr' fun i hi j hj => by rfl

/-- The gradient of the attention's output, head 0. -/
theorem pay29 (v58 : Vec Ideal S1x512 .f32) (v60 : FVec Ideal S64x512 .f32) (v70 : FVec Ideal S64x128 .f32) (v71 : FVec Ideal S64x128 .f32) (v78 : FVec Ideal S64x1 .f32) (h58 : Is2 v58 A.n) (h60 : Is2 v60 (sil A c)) (h70 : Is2 v70 (fun s u => o A c s (128 * 0 + u))) (h71 : Is2 v71 (fun s u => g A c s (128 * 0 + u))) (h78 : Is2 v78 (fun s _ => ms A c s 0)) :
    Is2 (k0_pay29 (F := Ideal) v58 v60 v70 v71 v78) (fun s u => do_ A c s (128 * 0 + u)) := by
  have h95 := Is2.rowHead0 h58
  have h96 := Is2.rows_64x128 h95
  have h97 := Is2.mulf (φ := .f32) h71 h96
  have h98 := Is2.head0 h60
  have h99 := Is2.mulf (φ := .f32) h97 h98
  have h100 := Is2.mulf (φ := .f32) h99 (pay26 A c v70 v78 h70 h78)
  have h102 := Is2.rowsum h100
  have h103 := Is2.const 64 1 ofBits_128
  have h104 := Is2.divf (φ := .f32) h102 h103 fun _ _ => by norm_num
  have h105 := Is2.cols h104
  have h106 := Is2.mulf (φ := .f32) (pay26 A c v70 v78 h70 h78) h105
  have h107 := Is2.subf (φ := .f32) h99 h106
  have h108 := Is2.cols (pay25 A c v78 h78)
  have h109 := Is2.mulf (φ := .f32) h108 h107
  exact h109.congr' fun i hi j hj => by exact (do_head A c i 0 j hj).symm

/-- Head 1 of the output. -/
theorem pay30 (v69 : FVec Ideal S64x512 .f32) (h69 : Is2 v69 (o A c)) :
    Is2 (k0_pay30 (F := Ideal) v69) (fun s u => o A c s (128 * 1 + u)) := by
  have h110 := Is2.head1 h69
  exact h110.congr' fun i hi j hj => by rfl

/-- Head 1 of the cotangent. -/
theorem pay31 (v57 : Vec Ideal S64x512 .f32) (h57 : Is2 v57 (g A c)) :
    Is2 (k0_pay31 (F := Ideal) v57) (fun s u => g A c s (128 * 1 + u)) := by
  have h111 := Is2.head1 h57
  exact h111.congr' fun i hi j hj => by rfl

/-- The reciprocal root of the mean square. -/
theorem pay32 (v69 : FVec Ideal S64x512 .f32) (h69 : Is2 v69 (o A c)) :
    Is2 (k0_pay32 (F := Ideal) v69) (fun s _ => rs A c s 1) := by
  have h112 := Is2.mulf (φ := .f32) (pay30 A c v69 h69) (pay30 A c v69 h69)
  have h114 := Is2.rowsum h112
  have h115 := Is2.const 64 1 ofBits_128
  have h116 := Is2.divf (φ := .f32) h114 h115 fun _ _ => by norm_num
  have h117 := Is2.const 64 1 ofBits_eps
  have h118 := Is2.addf (φ := .f32) h116 h117
  have h118 : Is2 _ (fun s _ => ms A c s 1) := h118.congr' fun i hi j hj => by rfl
  have h119 := Is2.rsqrt (φ := .f32) h118 fun _ _ => ms_pos A c _ _
  exact h119.congr' fun i hi j hj => by rfl

/-- The normalised output. -/
theorem pay33 (v69 : FVec Ideal S64x512 .f32) (h69 : Is2 v69 (o A c)) :
    Is2 (k0_pay33 (F := Ideal) v69) (fun s u => y A c s (128 * 1 + u)) := by
  have h120 := Is2.cols (pay32 A c v69 h69)
  have h121 := Is2.mulf (φ := .f32) (pay30 A c v69 h69) h120
  exact h121.congr' fun i hi j hj => by exact (y_head A c i 1 j hj).symm

/-- The chunk's part of the norm weight's gradient, head 1. -/
theorem pay34 (v57 : Vec Ideal S64x512 .f32) (v60 : FVec Ideal S64x512 .f32) (v69 : FVec Ideal S64x512 .f32) (h57 : Is2 v57 (g A c)) (h60 : Is2 v60 (sil A c)) (h69 : Is2 v69 (o A c)) :
    Is2 (k0_pay34 (F := Ideal) v57 v60 v69) (fun _ u => ∑ s ∈ Finset.range 64, g A c s (128 * 1 + u) * y A c s (128 * 1 + u) * sil A c s (128 * 1 + u)) := by
  have h122 := Is2.mulf (φ := .f32) (pay31 A c v57 h57) (pay33 A c v69 h69)
  have h123 := Is2.head1 h60
  have h124 := Is2.mulf (φ := .f32) h122 h123
  have h126 := Is2.colsum_64x128 h124
  exact h126.congr' fun i hi j hj => by rfl

/-- The cotangent times the normalised output. -/
theorem pay35 (v57 : Vec Ideal S64x512 .f32) (v69 : FVec Ideal S64x512 .f32) (h57 : Is2 v57 (g A c)) (h69 : Is2 v69 (o A c)) :
    Is2 (k0_pay35 (F := Ideal) v57 v69) (fun s u => g A c s (128 * 1 + u) * y A c s (128 * 1 + u)) := by
  have h127 := Is2.mulf (φ := .f32) (pay31 A c v57 h57) (pay33 A c v69 h69)
  exact h127.congr' fun i hi j hj => by rfl

/-- Head 1 of the norm's weight. -/
theorem pay36 (v58 : Vec Ideal S1x512 .f32) (h58 : Is2 v58 A.n) :
    Is2 (k0_pay36 (F := Ideal) v58) (fun i u => A.n i (128 * 1 + u)) := by
  have h128 := Is2.rowHead1 h58
  exact h128.congr' fun i hi j hj => by rfl

/-- The output gate's gradient, head 1. -/
theorem pay37 (v66 : FVec Ideal S64x512 .f32) (v127 : FVec Ideal S64x128 .f32) (v128 : FVec Ideal S1x128 .f32) (h66 : Is2 v66 (dsil A c)) (h127 : Is2 v127 (fun s u => g A c s (128 * 1 + u) * y A c s (128 * 1 + u))) (h128 : Is2 v128 (fun i u => A.n i (128 * 1 + u))) :
    Is2 (k0_pay37 (F := Ideal) v66 v127 v128) (fun s u => dr A c s (128 * 1 + u)) := by
  have h129 := Is2.rows_64x128 h128
  have h130 := Is2.mulf (φ := .f32) h127 h129
  have h131 := Is2.head1 h66
  have h132 := Is2.mulf (φ := .f32) h130 h131
  have h133 := h132.truncf bitsLt_bf16_f32
  exact h133.congr' fun i hi j hj => by rfl

/-- The gradient of the attention's output, head 1. -/
theorem pay38 (v58 : Vec Ideal S1x512 .f32) (v60 : FVec Ideal S64x512 .f32) (v111 : FVec Ideal S64x128 .f32) (v119 : FVec Ideal S64x1 .f32) (v121 : FVec Ideal S64x128 .f32) (h58 : Is2 v58 A.n) (h60 : Is2 v60 (sil A c)) (h111 : Is2 v111 (fun s u => g A c s (128 * 1 + u))) (h119 : Is2 v119 (fun s _ => rs A c s 1)) (h121 : Is2 v121 (fun s u => y A c s (128 * 1 + u))) :
    Is2 (k0_pay38 (F := Ideal) v58 v60 v111 v119 v121) (fun s u => do_ A c s (128 * 1 + u)) := by
  have h135 := Is2.rowHead1 h58
  have h136 := Is2.rows_64x128 h135
  have h137 := Is2.mulf (φ := .f32) h111 h136
  have h138 := Is2.head1 h60
  have h139 := Is2.mulf (φ := .f32) h137 h138
  have h140 := Is2.mulf (φ := .f32) h139 h121
  have h142 := Is2.rowsum h140
  have h143 := Is2.const 64 1 ofBits_128
  have h144 := Is2.divf (φ := .f32) h142 h143 fun _ _ => by norm_num
  have h145 := Is2.cols h144
  have h146 := Is2.mulf (φ := .f32) h121 h145
  have h147 := Is2.subf (φ := .f32) h139 h146
  have h148 := Is2.cols h119
  have h149 := Is2.mulf (φ := .f32) h148 h147
  exact h149.congr' fun i hi j hj => by exact (do_head A c i 1 j hj).symm

/-- Head 2 of the output. -/
theorem pay39 (v69 : FVec Ideal S64x512 .f32) (h69 : Is2 v69 (o A c)) :
    Is2 (k0_pay39 (F := Ideal) v69) (fun s u => o A c s (128 * 2 + u)) := by
  have h150 := Is2.head2 h69
  exact h150.congr' fun i hi j hj => by rfl

/-- Head 2 of the cotangent. -/
theorem pay40 (v57 : Vec Ideal S64x512 .f32) (h57 : Is2 v57 (g A c)) :
    Is2 (k0_pay40 (F := Ideal) v57) (fun s u => g A c s (128 * 2 + u)) := by
  have h151 := Is2.head2 h57
  exact h151.congr' fun i hi j hj => by rfl

/-- The reciprocal root of the mean square. -/
theorem pay41 (v69 : FVec Ideal S64x512 .f32) (h69 : Is2 v69 (o A c)) :
    Is2 (k0_pay41 (F := Ideal) v69) (fun s _ => rs A c s 2) := by
  have h152 := Is2.mulf (φ := .f32) (pay39 A c v69 h69) (pay39 A c v69 h69)
  have h154 := Is2.rowsum h152
  have h155 := Is2.const 64 1 ofBits_128
  have h156 := Is2.divf (φ := .f32) h154 h155 fun _ _ => by norm_num
  have h157 := Is2.const 64 1 ofBits_eps
  have h158 := Is2.addf (φ := .f32) h156 h157
  have h158 : Is2 _ (fun s _ => ms A c s 2) := h158.congr' fun i hi j hj => by rfl
  have h159 := Is2.rsqrt (φ := .f32) h158 fun _ _ => ms_pos A c _ _
  exact h159.congr' fun i hi j hj => by rfl

/-- The normalised output. -/
theorem pay42 (v69 : FVec Ideal S64x512 .f32) (h69 : Is2 v69 (o A c)) :
    Is2 (k0_pay42 (F := Ideal) v69) (fun s u => y A c s (128 * 2 + u)) := by
  have h160 := Is2.cols (pay41 A c v69 h69)
  have h161 := Is2.mulf (φ := .f32) (pay39 A c v69 h69) h160
  exact h161.congr' fun i hi j hj => by exact (y_head A c i 2 j hj).symm

/-- The chunk's part of the norm weight's gradient, head 2. -/
theorem pay43 (v57 : Vec Ideal S64x512 .f32) (v60 : FVec Ideal S64x512 .f32) (v69 : FVec Ideal S64x512 .f32) (h57 : Is2 v57 (g A c)) (h60 : Is2 v60 (sil A c)) (h69 : Is2 v69 (o A c)) :
    Is2 (k0_pay43 (F := Ideal) v57 v60 v69) (fun _ u => ∑ s ∈ Finset.range 64, g A c s (128 * 2 + u) * y A c s (128 * 2 + u) * sil A c s (128 * 2 + u)) := by
  have h162 := Is2.mulf (φ := .f32) (pay40 A c v57 h57) (pay42 A c v69 h69)
  have h163 := Is2.head2 h60
  have h164 := Is2.mulf (φ := .f32) h162 h163
  have h166 := Is2.colsum_64x128 h164
  exact h166.congr' fun i hi j hj => by rfl

/-- The output gate's gradient, head 2. -/
theorem pay44 (v57 : Vec Ideal S64x512 .f32) (v58 : Vec Ideal S1x512 .f32) (v66 : FVec Ideal S64x512 .f32) (v69 : FVec Ideal S64x512 .f32) (h57 : Is2 v57 (g A c)) (h58 : Is2 v58 A.n) (h66 : Is2 v66 (dsil A c)) (h69 : Is2 v69 (o A c)) :
    Is2 (k0_pay44 (F := Ideal) v57 v58 v66 v69) (fun s u => dr A c s (128 * 2 + u)) := by
  have h167 := Is2.mulf (φ := .f32) (pay40 A c v57 h57) (pay42 A c v69 h69)
  have h168 := Is2.rowHead2 h58
  have h169 := Is2.rows_64x128 h168
  have h170 := Is2.mulf (φ := .f32) h167 h169
  have h171 := Is2.head2 h66
  have h172 := Is2.mulf (φ := .f32) h170 h171
  have h173 := h172.truncf bitsLt_bf16_f32
  exact h173.congr' fun i hi j hj => by rfl

/-- Head 2 of the norm's weight on every row. -/
theorem pay45 (v58 : Vec Ideal S1x512 .f32) (h58 : Is2 v58 A.n) :
    Is2 (k0_pay45 (F := Ideal) v58) (fun _ u => A.n 0 (128 * 2 + u)) := by
  have h175 := Is2.rowHead2 h58
  have h176 := Is2.rows_64x128 h175
  exact h176.congr' fun i hi j hj => by rfl

/-- The gradient of the attention's output, head 2. -/
theorem pay46 (v60 : FVec Ideal S64x512 .f32) (v151 : FVec Ideal S64x128 .f32) (v159 : FVec Ideal S64x1 .f32) (v161 : FVec Ideal S64x128 .f32) (v176 : FVec Ideal S64x128 .f32) (h60 : Is2 v60 (sil A c)) (h151 : Is2 v151 (fun s u => g A c s (128 * 2 + u))) (h159 : Is2 v159 (fun s _ => rs A c s 2)) (h161 : Is2 v161 (fun s u => y A c s (128 * 2 + u))) (h176 : Is2 v176 (fun _ u => A.n 0 (128 * 2 + u))) :
    Is2 (k0_pay46 (F := Ideal) v60 v151 v159 v161 v176) (fun s u => do_ A c s (128 * 2 + u)) := by
  have h177 := Is2.mulf (φ := .f32) h151 h176
  have h178 := Is2.head2 h60
  have h179 := Is2.mulf (φ := .f32) h177 h178
  have h180 := Is2.mulf (φ := .f32) h179 h161
  have h182 := Is2.rowsum h180
  have h183 := Is2.const 64 1 ofBits_128
  have h184 := Is2.divf (φ := .f32) h182 h183 fun _ _ => by norm_num
  have h185 := Is2.cols h184
  have h186 := Is2.mulf (φ := .f32) h161 h185
  have h187 := Is2.subf (φ := .f32) h179 h186
  have h188 := Is2.cols h159
  have h189 := Is2.mulf (φ := .f32) h188 h187
  exact h189.congr' fun i hi j hj => by exact (do_head A c i 2 j hj).symm

/-- Head 3 of the output. -/
theorem pay47 (v69 : FVec Ideal S64x512 .f32) (h69 : Is2 v69 (o A c)) :
    Is2 (k0_pay47 (F := Ideal) v69) (fun s u => o A c s (128 * 3 + u)) := by
  have h190 := Is2.head3 h69
  exact h190.congr' fun i hi j hj => by rfl

/-- Head 3 of the cotangent. -/
theorem pay48 (v57 : Vec Ideal S64x512 .f32) (h57 : Is2 v57 (g A c)) :
    Is2 (k0_pay48 (F := Ideal) v57) (fun s u => g A c s (128 * 3 + u)) := by
  have h191 := Is2.head3 h57
  exact h191.congr' fun i hi j hj => by rfl

/-- The reciprocal root of the mean square. -/
theorem pay49 (v69 : FVec Ideal S64x512 .f32) (h69 : Is2 v69 (o A c)) :
    Is2 (k0_pay49 (F := Ideal) v69) (fun s _ => rs A c s 3) := by
  have h192 := Is2.mulf (φ := .f32) (pay47 A c v69 h69) (pay47 A c v69 h69)
  have h194 := Is2.rowsum h192
  have h195 := Is2.const 64 1 ofBits_128
  have h196 := Is2.divf (φ := .f32) h194 h195 fun _ _ => by norm_num
  have h197 := Is2.const 64 1 ofBits_eps
  have h198 := Is2.addf (φ := .f32) h196 h197
  have h198 : Is2 _ (fun s _ => ms A c s 3) := h198.congr' fun i hi j hj => by rfl
  have h199 := Is2.rsqrt (φ := .f32) h198 fun _ _ => ms_pos A c _ _
  exact h199.congr' fun i hi j hj => by rfl

/-- The normalised output. -/
theorem pay50 (v69 : FVec Ideal S64x512 .f32) (h69 : Is2 v69 (o A c)) :
    Is2 (k0_pay50 (F := Ideal) v69) (fun s u => y A c s (128 * 3 + u)) := by
  have h200 := Is2.cols (pay49 A c v69 h69)
  have h201 := Is2.mulf (φ := .f32) (pay47 A c v69 h69) h200
  exact h201.congr' fun i hi j hj => by exact (y_head A c i 3 j hj).symm

/-- The chunk's part of the norm weight's gradient, head 3. -/
theorem pay51 (v57 : Vec Ideal S64x512 .f32) (v60 : FVec Ideal S64x512 .f32) (v69 : FVec Ideal S64x512 .f32) (h57 : Is2 v57 (g A c)) (h60 : Is2 v60 (sil A c)) (h69 : Is2 v69 (o A c)) :
    Is2 (k0_pay51 (F := Ideal) v57 v60 v69) (fun _ u => ∑ s ∈ Finset.range 64, g A c s (128 * 3 + u) * y A c s (128 * 3 + u) * sil A c s (128 * 3 + u)) := by
  have h202 := Is2.mulf (φ := .f32) (pay48 A c v57 h57) (pay50 A c v69 h69)
  have h203 := Is2.head3 h60
  have h204 := Is2.mulf (φ := .f32) h202 h203
  have h206 := Is2.colsum_64x128 h204
  exact h206.congr' fun i hi j hj => by rfl

/-- The output gate's gradient, head 3. -/
theorem pay52 (v57 : Vec Ideal S64x512 .f32) (v58 : Vec Ideal S1x512 .f32) (v66 : FVec Ideal S64x512 .f32) (v69 : FVec Ideal S64x512 .f32) (h57 : Is2 v57 (g A c)) (h58 : Is2 v58 A.n) (h66 : Is2 v66 (dsil A c)) (h69 : Is2 v69 (o A c)) :
    Is2 (k0_pay52 (F := Ideal) v57 v58 v66 v69) (fun s u => dr A c s (128 * 3 + u)) := by
  have h207 := Is2.mulf (φ := .f32) (pay48 A c v57 h57) (pay50 A c v69 h69)
  have h208 := Is2.rowHead3 h58
  have h209 := Is2.rows_64x128 h208
  have h210 := Is2.mulf (φ := .f32) h207 h209
  have h211 := Is2.head3 h66
  have h212 := Is2.mulf (φ := .f32) h210 h211
  have h213 := h212.truncf bitsLt_bf16_f32
  exact h213.congr' fun i hi j hj => by rfl

/-- The normalised output's gradient, head 3. -/
theorem pay53 (v57 : Vec Ideal S64x512 .f32) (v58 : Vec Ideal S1x512 .f32) (v60 : FVec Ideal S64x512 .f32) (h57 : Is2 v57 (g A c)) (h58 : Is2 v58 A.n) (h60 : Is2 v60 (sil A c)) :
    Is2 (k0_pay53 (F := Ideal) v57 v58 v60) (fun s u => dy A c s (128 * 3 + u)) := by
  have h215 := Is2.rowHead3 h58
  have h216 := Is2.rows_64x128 h215
  have h217 := Is2.mulf (φ := .f32) (pay48 A c v57 h57) h216
  have h218 := Is2.head3 h60
  have h219 := Is2.mulf (φ := .f32) h217 h218
  exact h219.congr' fun i hi j hj => by rfl

/-- The mean of its product with the normalised output. -/
theorem pay54 (v57 : Vec Ideal S64x512 .f32) (v58 : Vec Ideal S1x512 .f32) (v60 : FVec Ideal S64x512 .f32) (v69 : FVec Ideal S64x512 .f32) (h57 : Is2 v57 (g A c)) (h58 : Is2 v58 A.n) (h60 : Is2 v60 (sil A c)) (h69 : Is2 v69 (o A c)) :
    Is2 (k0_pay54 (F := Ideal) v57 v58 v60 v69) (fun s _ => my A c s 3) := by
  have h220 := Is2.mulf (φ := .f32) (pay53 A c v57 v58 v60 h57 h58 h60) (pay50 A c v69 h69)
  have h222 := Is2.rowsum h220
  have h223 := Is2.const 64 1 ofBits_128
  have h224 := Is2.divf (φ := .f32) h222 h223 fun _ _ => by norm_num
  have h225 := Is2.cols h224
  exact h225.congr' fun i hi j hj => by rfl

/-- The gradient of the attention's output. -/
theorem pay55 (v109 : FVec Ideal S64x128 .f32) (v149 : FVec Ideal S64x128 .f32) (v189 : FVec Ideal S64x128 .f32) (v199 : FVec Ideal S64x1 .f32) (v201 : FVec Ideal S64x128 .f32) (v219 : FVec Ideal S64x128 .f32) (v225 : FVec Ideal S64x128 .f32) (h109 : Is2 v109 (fun s u => do_ A c s (128 * 0 + u))) (h149 : Is2 v149 (fun s u => do_ A c s (128 * 1 + u))) (h189 : Is2 v189 (fun s u => do_ A c s (128 * 2 + u))) (h199 : Is2 v199 (fun s _ => rs A c s 3)) (h201 : Is2 v201 (fun s u => y A c s (128 * 3 + u))) (h219 : Is2 v219 (fun s u => dy A c s (128 * 3 + u))) (h225 : Is2 v225 (fun s _ => my A c s 3)) :
    Is2 (k0_pay55 (F := Ideal) v109 v149 v189 v199 v201 v219 v225) (do_ A c) := by
  have h226 := Is2.mulf (φ := .f32) h201 h225
  have h227 := Is2.subf (φ := .f32) h219 h226
  have h228 := Is2.cols h199
  have h229 := Is2.mulf (φ := .f32) h228 h227
  have h229 : Is2 _ (fun s u => do_ A c s (128 * 3 + u)) := h229.congr' fun i hi j hj => by exact (do_head A c i 3 j hj).symm
  have h230 := Is2.four (f := do_ A c) h109 h149 h189 h229
  exact h230.congr' fun i hi j hj => by rfl

/-- The norm weight's gradient with the chunk's part added. -/
theorem pay56 (v86 : FVec Ideal S1x128 .f32) (v126 : FVec Ideal S1x128 .f32) (v166 : FVec Ideal S1x128 .f32) (v206 : FVec Ideal S1x128 .f32) (v231 : Vec Ideal S1x512 .f32) (B : ℕ → ℕ → ℝ) (h86 : Is2 v86 (fun _ u => ∑ s ∈ Finset.range 64, g A c s (128 * 0 + u) * y A c s (128 * 0 + u) * sil A c s (128 * 0 + u))) (h126 : Is2 v126 (fun _ u => ∑ s ∈ Finset.range 64, g A c s (128 * 1 + u) * y A c s (128 * 1 + u) * sil A c s (128 * 1 + u))) (h166 : Is2 v166 (fun _ u => ∑ s ∈ Finset.range 64, g A c s (128 * 2 + u) * y A c s (128 * 2 + u) * sil A c s (128 * 2 + u))) (h206 : Is2 v206 (fun _ u => ∑ s ∈ Finset.range 64, g A c s (128 * 3 + u) * y A c s (128 * 3 + u) * sil A c s (128 * 3 + u))) (h231 : Is2 v231 B) :
    Is2 (k0_pay56 (F := Ideal) v86 v126 v166 v206 v231) (fun i j => B i j + ∑ s ∈ Finset.range 64, g A c s j * y A c s j * sil A c s j) := by
  have h232 := h231.cast_self shapeCasts_S1x512_S1x512
  have h233 := Is2.rowFour (f := fun _ j => ∑ s ∈ Finset.range 64, g A c s j * y A c s j * sil A c s j) h86 h126 h166 h206
  have h234 := Is2.addf (φ := .f32) h232 h233
  exact h234.congr' fun i hi j hj => by rfl

/-- The query's gradient. -/
theorem pay57 (v47 : FVec Ideal S512x256 .f32) (v109 : FVec Ideal S64x128 .f32) (v149 : FVec Ideal S64x128 .f32) (v189 : FVec Ideal S64x128 .f32) (v199 : FVec Ideal S64x1 .f32) (v201 : FVec Ideal S64x128 .f32) (v219 : FVec Ideal S64x128 .f32) (v225 : FVec Ideal S64x128 .f32) (h47 : Is2 v47 (bd (st A c))) (h109 : Is2 v109 (fun s u => do_ A c s (128 * 0 + u))) (h149 : Is2 v149 (fun s u => do_ A c s (128 * 1 + u))) (h189 : Is2 v189 (fun s u => do_ A c s (128 * 2 + u))) (h199 : Is2 v199 (fun s _ => rs A c s 3)) (h201 : Is2 v201 (fun s u => y A c s (128 * 3 + u))) (h219 : Is2 v219 (fun s u => dy A c s (128 * 3 + u))) (h225 : Is2 v225 (fun s _ => my A c s 3)) :
    Is2 (k0_pay57 (F := Ideal) v47 v109 v149 v189 v199 v201 v219 v225) (dq A c) := by
  have h236 := (pay55 A c v109 v149 v189 v199 v201 v219 v225 h109 h149 h189 h199 h201 h219 h225).truncf bitsLt_bf16_f32
  have h237 := h47.truncf bitsLt_bf16_f32
  have h238 := Is2.nn (φ := .bf16) (ψ := .bf16) h236 h237 none
  have h239 := Is2.const 64 256 ofBits_eighth
  have h240 := Is2.mulf (φ := .f32) h238 h239
  have h241 := h240.truncf bitsLt_bf16_f32
  exact h241.congr' fun i hi j hj => by exact congrArg (· * (1 / 8)) (bd_nn (do_ A c i) (st A c) j hj)

end Gla
-- ==== Proof.Gates.lean ====
module

public import proofs.«01_k».proof.Proof.Heads

@[expose] public section

/-!
# One chunk over the reals: the gate's gradient
-/

set_option maxRecDepth 16384

noncomputable section

open Idealize.ShloMosaic Idealize.ShloMosaic.TcCoe
open Cert.KernelIdeal Cert.KernelIdeal.Gen
open scoped BigOperators

namespace Gla

variable (A : Args) (c : ℕ)

/-- The quotient rounded down, as the kernel writes it on words. -/
def floorWord (x d : BitVec 32) : BitVec 32 :=
  Scalar.select (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

theorem row_word : ∀ a : Fin 512, floorWord (BitVec.ofNat 32 a.val) 128#32 = BitVec.ofNat 32 (a.val / 128) := by
  decide +kernel
theorem col_word : ∀ a : Fin 256, floorWord (BitVec.ofNat 32 a.val) 64#32 = BitVec.ofNat 32 (a.val / 64) := by
  decide +kernel
theorem eq_word : ∀ a b : Fin 4,
    IntOp.cmpi .eq (BitVec.ofNat 32 a.val) (BitVec.ofNat 32 b.val) = if a.val = b.val then 1#1 else 0#1 := by
  decide +kernel

/-- The gradient of what the chunk adds to the state: what the later chunks hand on, with the chunk's own part added. -/
theorem pay61 (v42 : FVec Ideal S64x256 .f32) (v230 : FVec Ideal S64x512 .f32) (v243 : Vec Ideal S512x256 .f32) (hc : c < 32)
    (h42 : Is2 v42 (q A c)) (h230 : Is2 v230 (do_ A c)) (h243 : Is2 v243 (bd (carry A c))) :
    Is2 (k0_pay61 (F := Ideal) v42 v230 v243 k0_pay58 k0_pay59 k0_pay60) (bd (dm A c)) := fun i => by
  have hi : (i 0).val < 512 := (i 0).isLt
  have hj : (i 1).val < 256 := (i 1).isLt
  unfold k0_pay61 k0_pay58 k0_pay59 k0_pay60
  pointwise
  have hm := sum_coe' (n := 64) (fun l => do_ A c l (i 0).val * q A c l (i 1).val)
    (x := fun l => v230 (ix2 l (i 0)) * v42 (ix2 l (i 1))) fun l => congrArg₂ (· * ·) (h230 _) (h42 _)
  show v243 i + Scalar.select (IntOp.cmpi .eq (floorWord (BitVec.ofNat 32 (i 0).val) 128#32)
    (floorWord (BitVec.ofNat 32 (i 1).val) 64#32)) _ _ = _
  rw [row_word ⟨_, hi⟩, col_word ⟨_, hj⟩, eq_word ⟨_, show (i 0).val / 128 < 4 by omega⟩ ⟨_, show (i 1).val / 64 < 4 by omega⟩, hm, h243 i]
  by_cases h : (i 0).val / 128 = (i 1).val / 64
  · rw [if_pos h]
    refine (EReal.coe_add _ _).symm.trans (congrArg Real.toEReal ?_)
    show bd (carry A c) (i 0).val (i 1).val + _ = bd (dm A c) (i 0).val (i 1).val
    unfold bd
    rw [if_pos h, if_pos h, ← carry_add A c _ _ hc]
    congr 1
    unfold ds
    rw [← h, show 128 * ((i 0).val / 128) + (i 0).val % 128 = (i 0).val by omega]
  · rw [if_neg h]
    refine (add_zero _).trans (congrArg Real.toEReal ?_)
    show bd (carry A c) (i 0).val (i 1).val = bd (dm A c) (i 0).val (i 1).val
    unfold bd
    rw [if_neg h, if_neg h]

/-- The value's gradient. -/
theorem pay62 (v37 v42 : FVec Ideal S64x256 .f32) (v230 : FVec Ideal S64x512 .f32) (v243 : Vec Ideal S512x256 .f32) (hc : c < 32)
    (h37 : Is2 v37 (kd A c)) (h42 : Is2 v42 (q A c)) (h230 : Is2 v230 (do_ A c)) (h243 : Is2 v243 (bd (carry A c))) :
    Is2 (k0_pay62 (F := Ideal) v37 v42 v230 v243 k0_pay58 k0_pay59 k0_pay60) (dv A c) := by
  have h303 := Is2.nt (φ := .bf16) (ψ := .bf16) (h37.truncf bitsLt_bf16_f32) ((pay61 A c v42 v230 v243 hc h42 h230 h243).truncf bitsLt_bf16_f32) none
  have h304 := h303.truncf bitsLt_bf16_f32
  exact h304.congr' fun i hi j hj => bd_nt (kd A c i) (dm A c) j hj

/-- The gradient of the decayed key. -/
theorem pay63 (v42 : FVec Ideal S64x256 .f32) (v45 v230 : FVec Ideal S64x512 .f32) (v243 : Vec Ideal S512x256 .f32) (hc : c < 32)
    (h42 : Is2 v42 (q A c)) (h45 : Is2 v45 (v A c)) (h230 : Is2 v230 (do_ A c)) (h243 : Is2 v243 (bd (carry A c))) :
    Is2 (k0_pay63 (F := Ideal) v42 v45 v230 v243 k0_pay58 k0_pay59 k0_pay60) (dkd A c) := by
  have h308 := Is2.nn (φ := .bf16) (ψ := .bf16) (h45.truncf bitsLt_bf16_f32) ((pay61 A c v42 v230 v243 hc h42 h230 h243).truncf bitsLt_bf16_f32) none
  exact h308.congr' fun i hi j hj => bd_nn (v A c i) (dm A c) j hj

/-- The key's gradient. -/
theorem pay64 (v32 v42 : FVec Ideal S64x256 .f32) (v45 v230 : FVec Ideal S64x512 .f32) (v243 : Vec Ideal S512x256 .f32) (hc : c < 32)
    (h32 : Is2 v32 (e A c)) (h42 : Is2 v42 (q A c)) (h45 : Is2 v45 (v A c)) (h230 : Is2 v230 (do_ A c)) (h243 : Is2 v243 (bd (carry A c))) :
    Is2 (k0_pay64 (F := Ideal) v32 v42 v45 v230 v243 k0_pay58 k0_pay59 k0_pay60) (dk A c) :=
  (Is2.mulf (φ := .f32) (pay63 A c v42 v45 v230 v243 hc h42 h45 h230 h243) h32).truncf bitsLt_bf16_f32

/-- What the chunk hands to the one before. -/
theorem pay65 (v33 : FVec Ideal S1x256 .f32) (v300 : FVec Ideal S512x256 .f32) (h33 : Is2 v33 (fun _ j => Real.exp (tot A c j))) (h300 : Is2 v300 (bd (dm A c))) :
    Is2 (k0_pay65 (F := Ideal) v33 v300) (fun i j => bd (dm A c) i j * Real.exp (tot A c j)) := by
  have h312 := Is2.rows_512x256 h33
  have h313 := Is2.mulf (φ := .f32) h300 h312
  have h316 := h313.cast_self shapeCasts_S512x256_S512x256
  exact h316.congr' fun i hi j hj => by rfl

/-- The gate's gradient. -/
theorem pay66 (v12 : FVec Ideal S64x256 .f32) (v33 : FVec Ideal S1x256 .f32) (v37 : FVec Ideal S64x256 .f32) (v54 : FVec Ideal S512x256 .f32) (v300 : FVec Ideal S512x256 .f32) (v308 : FVec Ideal S64x256 .f32) (h12 : Is2 v12 (z A c)) (h33 : Is2 v33 (fun _ j => Real.exp (tot A c j))) (h37 : Is2 v37 (kd A c)) (h54 : Is2 v54 (bd (pst A c))) (h300 : Is2 v300 (bd (dm A c))) (h308 : Is2 v308 (dkd A c)) :
    Is2 (k0_pay66 (F := Ideal) v12 v33 v37 v54 v300 v308) (dz A c) := by
  have h321 := Is2.triLt
  have h322 := Is2.mulf (φ := .f32) h300 h54
  have h324 := Is2.colsum_512x256 h322
  have h325 := Is2.mulf (φ := .f32) h324 h33
  have h326 := Is2.mulf (φ := .f32) h308 h37
  have h327 := Is2.tri (φ := .f32) (ψ := .f32) h321 h326 (some .fp32)
  have h328 := Is2.rows_64x256 h325
  have h329 := Is2.addf (φ := .f32) h328 h327
  have h330 := Is2.const 64 256 ofBits_0
  have h331 := Is2.subf (φ := .f32) h330 h12
  have h332 := Is2.logistic (φ := .f32) h331
  have h333 := Is2.mulf (φ := .f32) h329 h332
  have h334 := Is2.const 64 256 ofBits_sixteenth
  have h335 := Is2.mulf (φ := .f32) h333 h334
  exact h335.congr' fun i hi j hj => by
    have e1 : (∑ l ∈ Finset.range 512, bd (dm A c) l j * bd (pst A c) l j) * Real.exp (tot A c j) = dt A c j := by rw [bd_col _ _ j hj]; rfl
    have e2 : ∑ l ∈ Finset.range 64, (if l < i then 1 else 0) * (dkd A c l j * kd A c l j) = ∑ l ∈ Finset.range i, dkd A c l j * kd A c l j := sum_below (fun l => dkd A c l j * kd A c l j) i hi
    beta_reduce
    rw [e1, e2, zero_sub, neg_neg, mul_one_div]
    rfl

/-- The gradient of the gate's input. -/
theorem pay67 (v12 : FVec Ideal S64x256 .f32) (v33 : FVec Ideal S1x256 .f32) (v37 : FVec Ideal S64x256 .f32) (v54 : FVec Ideal S512x256 .f32) (v300 : FVec Ideal S512x256 .f32) (v308 : FVec Ideal S64x256 .f32) (v336 : Vec Ideal S128x256 .f32) (h12 : Is2 v12 (z A c)) (h33 : Is2 v33 (fun _ j => Real.exp (tot A c j))) (h37 : Is2 v37 (kd A c)) (h54 : Is2 v54 (bd (pst A c))) (h300 : Is2 v300 (bd (dm A c))) (h308 : Is2 v308 (dkd A c)) (h336 : Is2 v336 (fun l j => upto16 (fun x => A.w x j) l)) :
    Is2 (k0_pay67 (F := Ideal) v12 v33 v37 v54 v300 v308 v336) (fun s l => upto16 (da A c s) l) := by
  have h337 := h336.cast_self shapeCasts_S128x256_S128x256
  have h338 := (pay66 A c v12 v33 v37 v54 v300 v308 h12 h33 h37 h54 h300 h308).truncf bitsLt_bf16_f32
  have h339 := h337.truncf bitsLt_bf16_f32
  have h340 := Is2.nt2 (φ := .bf16) (ψ := .bf16) h338 h339 none
  have h341 := h340.truncf bitsLt_bf16_f32
  exact h341.congr' fun i hi j hj => by
    show ∑ x ∈ Finset.range 256, dz A c i x * upto16 (fun y => A.w y x) j = _
    unfold upto16 da
    by_cases h : j < 16
    · simp only [if_pos h]
    · simp only [if_neg h, mul_zero, Finset.sum_const_zero]

/-- The gradient of the up projection with the chunk's part added. -/
theorem pay68 (v12 : FVec Ideal S64x256 .f32) (v33 : FVec Ideal S1x256 .f32) (v37 : FVec Ideal S64x256 .f32) (v54 : FVec Ideal S512x256 .f32) (v300 : FVec Ideal S512x256 .f32) (v308 : FVec Ideal S64x256 .f32) (v343 : Vec Ideal S128x256 .f32) (v345 : Vec Ideal S64x128 .f32) (B : ℕ → ℕ → ℝ) (h12 : Is2 v12 (z A c)) (h33 : Is2 v33 (fun _ j => Real.exp (tot A c j))) (h37 : Is2 v37 (kd A c)) (h54 : Is2 v54 (bd (pst A c))) (h300 : Is2 v300 (bd (dm A c))) (h308 : Is2 v308 (dkd A c)) (h343 : Is2 v343 B) (h345 : Is2 v345 (fun s l => upto16 (a A c s) l)) :
    Is2 (k0_pay68 (F := Ideal) v12 v33 v37 v54 v300 v308 v343 v345) (fun l j => B l j + upto16 (fun x => ∑ s ∈ Finset.range 64, a A c s x * dz A c s j) l) := by
  have h344 := h343.cast_self shapeCasts_S128x256_S128x256
  have h346 := h345.cast_self shapeCasts_S64x128_S64x128
  have h347 := h346.truncf bitsLt_bf16_f32
  have h348 := (pay66 A c v12 v33 v37 v54 v300 v308 h12 h33 h37 h54 h300 h308).truncf bitsLt_bf16_f32
  have h349 := Is2.tn2 (φ := .bf16) (ψ := .bf16) h347 h348 none
  have h350 := Is2.addf (φ := .f32) h344 h349
  exact h350.congr' fun i hi j hj => by
    show B i j + ∑ x ∈ Finset.range 64, upto16 (a A c x) i * dz A c x j = _
    unfold upto16
    by_cases h : i < 16
    · simp only [if_pos h]
    · simp only [if_neg h, zero_mul, Finset.sum_const_zero]

/-- The gradient of the bias with the chunk's part added. -/
theorem pay1 (v335 : FVec Ideal S64x256 .f32) (v352 : Vec Ideal S1x256 .f32) (B : ℕ → ℕ → ℝ) (h335 : Is2 v335 (dz A c)) (h352 : Is2 v352 B) :
    Is2 (k0_pay1 (F := Ideal) v335 v352) (fun i j => B i j + ∑ s ∈ Finset.range 64, dz A c s j) := by
  have h353 := h352.cast_self shapeCasts_S1x256_S1x256
  have h355 := Is2.colsum_64x256 h335
  have h356 := Is2.addf (φ := .f32) h353 h355
  exact h356.congr' fun i hi j hj => by rfl

end Gla
-- ==== Proof.Entry.lean ====
module

public import proofs.«01_k».proof.Proof.EntryRun
public import proofs.«01_k».proof.Proof.Gates
public import Idealize.ShloMosaic.Lib.Pipeline.ValueKit
public import Idealize.ShloMosaic.Lib.Pipeline.ReadBack
public import Idealize.ShloMosaic.Lib.KernelVsHost

@[expose] public section

/-!
# What the arrays hold

Each array the launch reads, read as the real quantity it holds.
-/

set_option maxRecDepth 16384

noncomputable section

namespace Gla
open Cert.KernelIdeal Cert.KernelIdeal.Gen Idealize.ShloMosaic Idealize.ShloMosaic.TcCoe Idealize.SL.Sem
open Idealize.ShloMosaic.Pipeline (Dat)

section Read

variable {A : Args} {x0 : S2048x3096.Idx → EReal} {x1 : S16x256.Idx → EReal} {x2 : S1x256.Idx → EReal}
  {x3 : S1x512.Idx → EReal} {x4 : S2048x1024.Idx → EReal}

theorem fill_zero (i : S_.Idx) : fill i = ((0 : ℝ) : EReal) := by
  show ((((0#32 : BitVec 32).toInt : ℝ)) : EReal) = _
  simp

/-- The first columns are the projection's own. -/
theorem productCols_apply (H : Reals A x0 x1 x2 x3 x4) (i : S2048x2560.Idx) (hi : (i 1).val < 1024) :
    productCols x0 i = ((A.p (i 0).val (i 1).val : ℝ) : EReal) := by
  unfold productCols
  pointwise
  split
  · refine (H.p _).trans (congrArg Real.toEReal (congrArg (A.p _) ?_)); rfl
  split
  · refine (H.p _).trans (congrArg Real.toEReal (congrArg (A.p _) ?_)); show 256 + ((i 1).val - 256) = (i 1).val; omega
  split
  · refine (H.p _).trans (congrArg Real.toEReal (congrArg (A.p _) ?_)); show 512 + ((i 1).val - 256 - 256) = (i 1).val; omega
  · omega

theorem gateCols_apply (H : Reals A x0 x1 x2 x3 x4) : Is2 (gateCols x0) fun i j => upto16 (fun l => A.p i (1536 + l)) j := fun i => by
  unfold gateCols upto16
  beta_reduce
  by_cases h : (i 1).val < 16
  · rw [if_pos h]
    refine (pad_apply_of_inside _ _ _ _ _ _ _ _ (ix2 (i 0) ⟨(i 1).val, h⟩) fun a => ?_).trans ?_
    · match a with
      | ⟨0, _⟩ => show (i 0).val = 0 + (i 0).val * 1; omega
      | ⟨1, _⟩ => show (i 1).val = 0 + (i 1).val * 1; omega
    · pointwise
      exact H.p _
  · rw [if_neg h]
    refine (pad_apply_of_not_inside _ _ _ _ _ _ _ _ 1 fun q => h ?_).trans (fill_zero _)
    have q2 : ((i 1).val - 0) / 1 < 16 := q.2.2
    omega

theorem elementCols_left (H : Reals A x0 x1 x2 x3 x4) (i : S2048x768.Idx) (hi : (i 1).val < 512) :
    elementCols x0 i = ((A.p (i 0).val (1024 + (i 1).val) : ℝ) : EReal) := by
  unfold elementCols
  pointwise
  split
  · exact H.p _
  · omega

theorem elementCols_gate (H : Reals A x0 x1 x2 x3 x4) (i : S2048x768.Idx) (hi : 512 ≤ (i 1).val) (hi' : (i 1).val < 640) :
    elementCols x0 i = ((upto16 (fun l => A.p (i 0).val (1536 + l)) ((i 1).val - 512) : ℝ) : EReal) := by
  unfold elementCols
  pointwise
  split
  · omega
  split
  · exact gateCols_apply H _
  · omega

theorem gateWeights_apply (H : Reals A x0 x1 x2 x3 x4) : Is2 (gateWeights x1) fun i j => upto16 (fun l => A.w l j) i := fun i => by
  unfold gateWeights upto16
  beta_reduce
  by_cases h : (i 0).val < 16
  · rw [if_pos h]
    refine (pad_apply_of_inside _ _ _ _ _ _ _ _ (ix2 ⟨(i 0).val, h⟩ (i 1)) fun a => ?_).trans (H.w _)
    match a with
    | ⟨0, _⟩ => show (i 0).val = 0 + (i 0).val * 1; omega
    | ⟨1, _⟩ => show (i 1).val = 0 + (i 1).val * 1; omega
  · rw [if_neg h]
    refine (pad_apply_of_not_inside _ _ _ _ _ _ _ _ 0 fun q => h ?_).trans (fill_zero _)
    have q2 : ((i 0).val - 0) / 1 < 16 := q.2.2
    omega

theorem sameHead_apply (i : S32x4x128x4x64.Idx) : sameHead i = if (i 1).val = (i 3).val then 1#1 else 0#1 := by
  unfold sameHead
  pointwise
  exact eq_word (i 1) (i 3)

theorem select_if (p : Prop) [Decidable p] (a b : EReal) : Scalar.select (if p then 1#1 else 0#1) a b = if p then a else b := by
  split <;> rfl

theorem bd_apply (M : ℕ → ℕ → ℝ) (i j : ℕ) : bd M i j = if i / 128 = j / 64 then M j (i % 128) else 0 := rfl

/-- The states with the heads on the diagonal blocks, at an index. -/
theorem statesOf_apply (x : S4x64x128x32.Idx → EReal) (i : S32x512x256.Idx) :
    statesOf x i = if (i 1).val / 128 = (i 2).val / 64 then
      x (ix4 ⟨(i 1).val / 128, by have := (i 1).isLt; show _ < 4; have : (i 1).val < 512 := this; omega⟩
        ⟨(i 2).val % 64, Nat.mod_lt _ (by decide)⟩ ⟨(i 1).val % 128, Nat.mod_lt _ (by decide)⟩ (i 0)) else 0 := by
  unfold statesOf
  pointwise
  exact (congrArg (fun t => Scalar.select t _ _) (sameHead_apply _)).trans (select_if _ _ _)

/-- The states. -/
theorem states_apply (H : Reals A x0 x1 x2 x3 x4) :
    IsR (statesOf (Cert.ReferenceIdeal.Read.val_main_v46 (F := Ideal) x0 x1 x2)) fun i => bd (st A (i 0).val) (i 1).val (i 2).val := fun i => by
  beta_reduce
  rw [statesOf_apply, bd_apply]
  by_cases h : (i 1).val / 128 = (i 2).val / 64
  · have h' : 64 * ((i 1).val / 128) + (i 2).val % 64 = (i 2).val := by omega
    rw [if_pos h, if_pos h, r46 H]
    show ((st A (i 0).val (64 * ((i 1).val / 128) + (i 2).val % 64) ((i 1).val % 128) : ℝ) : EReal) = _
    rw [h']
  · rw [if_neg h, if_neg h]
    rfl

end Read

end Gla
end
-- ==== Proof.Point.lean ====
module

public import proofs.«01_k».proof.Proof.Gates

@[expose] public section

/-!
# One chunk of the kernel

A grid point of the kernel works on one chunk. `Block` says what its eleven input blocks hold; the
theorems then say what the quantities of the body are, in the form in which the body nests them.
-/

set_option maxRecDepth 16384

noncomputable section

open Idealize.ShloMosaic Idealize.ShloMosaic.TcCoe
open Cert.KernelIdeal Cert.KernelIdeal.Gen
open scoped BigOperators

namespace Gla

/-- The input blocks at the grid point that works on chunk `c`. -/
structure Block (A : Args) (c : ℕ) (x0 x1 : S64x256.Idx → EReal) (x2 x3 : S64x512.Idx → EReal) (x4 : S64x128.Idx → EReal)
    (x5 : S128x256.Idx → EReal) (x6 : S1x256.Idx → EReal) (x7 : S1x512.Idx → EReal) (x8 x9 : S1x512x256.Idx → EReal)
    (x10 : S64x512.Idx → EReal) : Prop where
  q : Is2 x0 fun s j => A.p (64 * c + s) j
  k : Is2 x1 (k A c)
  v : Is2 x2 (v A c)
  r : Is2 x3 (r A c)
  a : Is2 x4 fun s l => upto16 (a A c s) l
  w : Is2 x5 fun l j => upto16 (fun x => A.w x j) l
  b : Is2 x6 A.b
  n : Is2 x7 A.n
  m : IsR x8 fun i => bd (st A c) (i 1).val (i 2).val
  p : IsR x9 fun i => bd (st A (c - 1)) (i 1).val (i 2).val
  g : Is2 x10 (g A c)

/-- A zero array. -/
theorem zero_512x256 : Is2 (k0_pay2 (F := Ideal)) fun _ _ => 0 := fun i => by
  unfold k0_pay2
  pointwise
  rfl
theorem zero_128x256 : Is2 (k0_pay3 (F := Ideal)) fun _ _ => 0 := fun i => by
  unfold k0_pay3
  pointwise
  rfl
theorem zero_1x256 : Is2 (k0_pay4 (F := Ideal)) fun _ _ => 0 := fun i => by
  unfold k0_pay4
  pointwise
  rfl
theorem zero_1x512 : Is2 (k0_pay5 (F := Ideal)) fun _ _ => 0 := fun i => by
  unfold k0_pay5
  pointwise
  rfl

namespace Block

variable {A : Args} {c : ℕ} {x0 x1 : S64x256.Idx → EReal} {x2 x3 : S64x512.Idx → EReal} {x4 : S64x128.Idx → EReal}
  {x5 : S128x256.Idx → EReal} {x6 : S1x256.Idx → EReal} {x7 : S1x512.Idx → EReal} {x8 x9 : S1x512x256.Idx → EReal}
  {x10 : S64x512.Idx → EReal} {S : S512x256.Idx → EReal}

/-- The queries. -/
theorem q_ (B : Block A c x0 x1 x2 x3 x4 x5 x6 x7 x8 x9 x10) :
    Is2 (k0_pay12 (F := Ideal) x0) (fun s j => A.p (64 * c + s) j) := pay12 A c _ B.q

/-- The scaled queries. -/
theorem qs (B : Block A c x0 x1 x2 x3 x4 x5 x6 x7 x8 x9 x10) :
    Is2 (k0_pay13 (F := Ideal) (k0_pay12 (F := Ideal) x0)) (Gla.q A c) := pay13 A c _ B.q_

/-- The values. -/
theorem v_ (B : Block A c x0 x1 x2 x3 x4 x5 x6 x7 x8 x9 x10) :
    Is2 (k0_pay14 (F := Ideal) x2) (Gla.v A c) := pay14 A c _ B.v

/-- The state. -/
theorem m_ (B : Block A c x0 x1 x2 x3 x4 x5 x6 x7 x8 x9 x10) :
    Is2 (k0_pay15 (F := Ideal) x8) (bd (st A c)) := pay15 _ _ B.m

/-- The gate of the output. -/
theorem sil_ (B : Block A c x0 x1 x2 x3 x4 x5 x6 x7 x8 x9 x10) :
    Is2 (k0_pay19 (F := Ideal) x3) (Gla.sil A c) := pay19 A c _ B.r

/-- The derivative of that gate. -/
theorem dsil_ (B : Block A c x0 x1 x2 x3 x4 x5 x6 x7 x8 x9 x10) :
    Is2 (k0_pay20 (F := Ideal) x3) (Gla.dsil A c) := pay20 A c _ B.r

/-- The forget gate before its sigmoid. -/
theorem z_ (B : Block A c x0 x1 x2 x3 x4 x5 x6 x7 x8 x9 x10) :
    Is2 (k0_pay6 (F := Ideal) x4 x5 x6) (Gla.z A c) := pay6 A c _ _ _ B.a B.w B.b

/-- The decay to the end of the chunk. -/
theorem e_ (B : Block A c x0 x1 x2 x3 x4 x5 x6 x7 x8 x9 x10) :
    Is2 (k0_pay9 (F := Ideal) x4 x5 x6) (Gla.e A c) := pay9 A c _ _ _ B.a B.w B.b

/-- The decay over the chunk. -/
theorem decay (B : Block A c x0 x1 x2 x3 x4 x5 x6 x7 x8 x9 x10) :
    Is2 (k0_pay10 (F := Ideal) x4 x5 x6) (fun _ j => Real.exp (tot A c j)) := pay10 A c _ _ _ B.a B.w B.b

/-- The decayed keys. -/
theorem kd_ (B : Block A c x0 x1 x2 x3 x4 x5 x6 x7 x8 x9 x10) :
    Is2 (k0_pay11 (F := Ideal) x4 x5 x6 x1) (Gla.kd A c) := pay11 A c _ _ _ _ B.a B.w B.b B.k

/-- The output before its normalisation. -/
theorem o_ (B : Block A c x0 x1 x2 x3 x4 x5 x6 x7 x8 x9 x10) :
    Is2 (k0_pay21 (F := Ideal) (k0_pay12 (F := Ideal) x0) x8) (Gla.o A c) := pay21 A c _ _ B.q_ B.m

/-- Its first head. -/
theorem o0 (B : Block A c x0 x1 x2 x3 x4 x5 x6 x7 x8 x9 x10) :
    Is2 (k0_pay22 (F := Ideal) (k0_pay12 (F := Ideal) x0) x8) (fun s u => Gla.o A c s (128 * 0 + u)) := pay22 A c _ _ B.q_ B.m

/-- The first head's mean square. -/
theorem ms0 (B : Block A c x0 x1 x2 x3 x4 x5 x6 x7 x8 x9 x10) :
    Is2 (k0_pay24 (F := Ideal) (k0_pay12 (F := Ideal) x0) x8) (fun s _ => ms A c s 0) := pay24 A c _ _ B.m B.q_

/-- The first head's cotangent. -/
theorem g0 (B : Block A c x0 x1 x2 x3 x4 x5 x6 x7 x8 x9 x10) :
    Is2 (k0_pay23 (F := Ideal) x10) (fun s u => Gla.g A c s (128 * 0 + u)) := pay23 A c _ B.g

/-- The first head's part of the cotangent of the output. -/
theorem do0 (B : Block A c x0 x1 x2 x3 x4 x5 x6 x7 x8 x9 x10) :
    Is2 (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (fun s u => do_ A c s (128 * 0 + u)) := pay29 A c _ _ _ _ _ B.n B.sil_ B.o0 B.g0 B.ms0

/-- The second head's part. -/
theorem do1 (B : Block A c x0 x1 x2 x3 x4 x5 x6 x7 x8 x9 x10) :
    Is2 (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (fun s u => do_ A c s (128 * 1 + u)) := pay38 A c _ _ _ _ _ B.n B.sil_ (pay31 A c _ B.g) (pay32 A c _ B.o_) (pay33 A c _ B.o_)

/-- The third head's part. -/
theorem do2 (B : Block A c x0 x1 x2 x3 x4 x5 x6 x7 x8 x9 x10) :
    Is2 (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (fun s u => do_ A c s (128 * 2 + u)) := pay46 A c _ _ _ _ _ B.sil_ (pay40 A c _ B.g) (pay41 A c _ B.o_) (pay42 A c _ B.o_) (pay45 A _ B.n)

/-- The fourth head's scale. -/
theorem rs3 (B : Block A c x0 x1 x2 x3 x4 x5 x6 x7 x8 x9 x10) :
    Is2 (k0_pay49 (F := Ideal) (k0_pay21 (F := Ideal) (k0_pay12 (F := Ideal) x0) x8)) (fun s _ => rs A c s 3) := pay49 A c _ B.o_

/-- The fourth head, normalised. -/
theorem y3 (B : Block A c x0 x1 x2 x3 x4 x5 x6 x7 x8 x9 x10) :
    Is2 (k0_pay50 (F := Ideal) (k0_pay21 (F := Ideal) (k0_pay12 (F := Ideal) x0) x8)) (fun s u => y A c s (128 * 3 + u)) := pay50 A c _ B.o_

/-- The fourth head's cotangent after the gate. -/
theorem dy3 (B : Block A c x0 x1 x2 x3 x4 x5 x6 x7 x8 x9 x10) :
    Is2 (k0_pay53 (F := Ideal) x10 x7 (k0_pay19 (F := Ideal) x3)) (fun s u => dy A c s (128 * 3 + u)) := pay53 A c _ _ _ B.g B.n B.sil_

/-- The mean the normalisation's gradient subtracts. -/
theorem my3 (B : Block A c x0 x1 x2 x3 x4 x5 x6 x7 x8 x9 x10) :
    Is2 (k0_pay54 (F := Ideal) x10 x7 (k0_pay19 (F := Ideal) x3) (k0_pay21 (F := Ideal) (k0_pay12 (F := Ideal) x0) x8)) (fun s _ => my A c s 3) := pay54 A c _ _ _ _ B.g B.n B.sil_ B.o_

/-- The cotangent of the output before its normalisation. -/
theorem dout (B : Block A c x0 x1 x2 x3 x4 x5 x6 x7 x8 x9 x10) :
    Is2 (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) (do_ A c) := pay55 A c _ _ _ _ _ _ _ B.do0 B.do1 B.do2 B.rs3 B.y3 B.dy3 B.my3

/-- The gradient of the queries. -/
theorem dq_ (B : Block A c x0 x1 x2 x3 x4 x5 x6 x7 x8 x9 x10) :
    Is2 (k0_pay57 (F := Ideal) (k0_pay15 (F := Ideal) x8) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) (dq A c) := pay57 A c _ _ _ _ _ _ _ _ B.m_ B.do0 B.do1 B.do2 B.rs3 B.y3 B.dy3 B.my3

/-- The gradient of the state. -/
theorem dm_ (B : Block A c x0 x1 x2 x3 x4 x5 x6 x7 x8 x9 x10) (hc : c < 32) (hS : Is2 S (bd (carry A c))) :
    Is2 (k0_pay61 (F := Ideal) (k0_pay13 (F := Ideal) (k0_pay12 (F := Ideal) x0)) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60) (bd (dm A c)) := pay61 A c _ _ _ hc B.qs B.dout hS

/-- The gradient of the decayed keys. -/
theorem dkd_ (B : Block A c x0 x1 x2 x3 x4 x5 x6 x7 x8 x9 x10) (hc : c < 32) (hS : Is2 S (bd (carry A c))) :
    Is2 (k0_pay63 (F := Ideal) (k0_pay13 (F := Ideal) (k0_pay12 (F := Ideal) x0)) (k0_pay14 (F := Ideal) x2) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60) (dkd A c) := pay63 A c _ _ _ _ hc B.qs B.v_ B.dout hS

/-- The gradient of the values. -/
theorem dv_ (B : Block A c x0 x1 x2 x3 x4 x5 x6 x7 x8 x9 x10) (hc : c < 32) (hS : Is2 S (bd (carry A c))) :
    Is2 (k0_pay62 (F := Ideal) (k0_pay11 (F := Ideal) x4 x5 x6 x1) (k0_pay13 (F := Ideal) (k0_pay12 (F := Ideal) x0)) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60) (dv A c) := pay62 A c _ _ _ _ hc B.kd_ B.qs B.dout hS

/-- The gradient of the keys. -/
theorem dk_ (B : Block A c x0 x1 x2 x3 x4 x5 x6 x7 x8 x9 x10) (hc : c < 32) (hS : Is2 S (bd (carry A c))) :
    Is2 (k0_pay64 (F := Ideal) (k0_pay9 (F := Ideal) x4 x5 x6) (k0_pay13 (F := Ideal) (k0_pay12 (F := Ideal) x0)) (k0_pay14 (F := Ideal) x2) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60) (dk A c) := pay64 A c _ _ _ _ _ hc B.e_ B.qs B.v_ B.dout hS

/-- What the next grid point takes over. -/
theorem carry_ (B : Block A c x0 x1 x2 x3 x4 x5 x6 x7 x8 x9 x10) (hc : c < 32) (hS : Is2 S (bd (carry A c))) (h1 : 1 ≤ c) :
    Is2 (k0_pay65 (F := Ideal) (k0_pay10 (F := Ideal) x4 x5 x6) (k0_pay61 (F := Ideal) (k0_pay13 (F := Ideal) (k0_pay12 (F := Ideal) x0)) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60)) (bd (carry A (c - 1))) := by
  refine (pay65 A c _ _ B.decay (B.dm_ hc hS)).congr' fun i _ j _ => ?_
  unfold bd carry
  split
  · rw [if_pos (by omega), Nat.sub_add_cancel h1, mul_comm]
  · exact zero_mul _

/-- The state before the chunk. -/
theorem pst_ (B : Block A c x0 x1 x2 x3 x4 x5 x6 x7 x8 x9 x10) (t : Fin 32) (ht : c = 31 - t.val) :
    Is2 (k0_pay16 (F := Ideal) (BitVec.ofNat 32 t.val) x9) (bd (pst A c)) := by
  subst ht
  exact pay16 A _ t B.p

/-- The gradient of the forget gate. -/
theorem dz_ (B : Block A c x0 x1 x2 x3 x4 x5 x6 x7 x8 x9 x10) (t : Fin 32) (ht : c = 31 - t.val) (hS : Is2 S (bd (carry A c))) :
    Is2 (k0_pay66 (F := Ideal) (k0_pay6 (F := Ideal) x4 x5 x6) (k0_pay10 (F := Ideal) x4 x5 x6) (k0_pay11 (F := Ideal) x4 x5 x6 x1) (k0_pay16 (F := Ideal) (BitVec.ofNat 32 t.val) x9) (k0_pay61 (F := Ideal) (k0_pay13 (F := Ideal) (k0_pay12 (F := Ideal) x0)) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60) (k0_pay63 (F := Ideal) (k0_pay13 (F := Ideal) (k0_pay12 (F := Ideal) x0)) (k0_pay14 (F := Ideal) x2) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60)) (dz A c) := pay66 A c _ _ _ _ _ _ B.z_ B.decay B.kd_ (B.pst_ t ht) (B.dm_ (by omega) hS) (B.dkd_ (by omega) hS)

/-- The gradient of the gate's columns. -/
theorem da_ (B : Block A c x0 x1 x2 x3 x4 x5 x6 x7 x8 x9 x10) (t : Fin 32) (ht : c = 31 - t.val) (hS : Is2 S (bd (carry A c))) :
    Is2 (k0_pay67 (F := Ideal) (k0_pay6 (F := Ideal) x4 x5 x6) (k0_pay10 (F := Ideal) x4 x5 x6) (k0_pay11 (F := Ideal) x4 x5 x6 x1) (k0_pay16 (F := Ideal) (BitVec.ofNat 32 t.val) x9) (k0_pay61 (F := Ideal) (k0_pay13 (F := Ideal) (k0_pay12 (F := Ideal) x0)) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60) (k0_pay63 (F := Ideal) (k0_pay13 (F := Ideal) (k0_pay12 (F := Ideal) x0)) (k0_pay14 (F := Ideal) x2) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60) x5) (fun s l => upto16 (da A c s) l) := pay67 A c _ _ _ _ _ _ _ B.z_ B.decay B.kd_ (B.pst_ t ht) (B.dm_ (by omega) hS) (B.dkd_ (by omega) hS) B.w

/-- The gradient of the gate's weights. -/
theorem dw_ (B : Block A c x0 x1 x2 x3 x4 x5 x6 x7 x8 x9 x10) (t : Fin 32) (ht : c = 31 - t.val) (hS : Is2 S (bd (carry A c))) {W : S128x256.Idx → EReal} {C : ℕ → ℕ → ℝ} (hW : Is2 W C) :
    Is2 (k0_pay68 (F := Ideal) (k0_pay6 (F := Ideal) x4 x5 x6) (k0_pay10 (F := Ideal) x4 x5 x6) (k0_pay11 (F := Ideal) x4 x5 x6 x1) (k0_pay16 (F := Ideal) (BitVec.ofNat 32 t.val) x9) (k0_pay61 (F := Ideal) (k0_pay13 (F := Ideal) (k0_pay12 (F := Ideal) x0)) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60) (k0_pay63 (F := Ideal) (k0_pay13 (F := Ideal) (k0_pay12 (F := Ideal) x0)) (k0_pay14 (F := Ideal) x2) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60) W x4) (fun l j => C l j + upto16 (fun x => ∑ s ∈ Finset.range 64, Gla.a A c s x * dz A c s j) l) := pay68 A c _ _ _ _ _ _ _ _ C B.z_ B.decay B.kd_ (B.pst_ t ht) (B.dm_ (by omega) hS) (B.dkd_ (by omega) hS) hW B.a

/-- The gradient of the gate's bias. -/
theorem db_ (B : Block A c x0 x1 x2 x3 x4 x5 x6 x7 x8 x9 x10) (t : Fin 32) (ht : c = 31 - t.val) (hS : Is2 S (bd (carry A c))) {W : S1x256.Idx → EReal} {C : ℕ → ℕ → ℝ} (hW : Is2 W C) :
    Is2 (k0_pay1 (F := Ideal) (k0_pay66 (F := Ideal) (k0_pay6 (F := Ideal) x4 x5 x6) (k0_pay10 (F := Ideal) x4 x5 x6) (k0_pay11 (F := Ideal) x4 x5 x6 x1) (k0_pay16 (F := Ideal) (BitVec.ofNat 32 t.val) x9) (k0_pay61 (F := Ideal) (k0_pay13 (F := Ideal) (k0_pay12 (F := Ideal) x0)) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60) (k0_pay63 (F := Ideal) (k0_pay13 (F := Ideal) (k0_pay12 (F := Ideal) x0)) (k0_pay14 (F := Ideal) x2) (k0_pay55 (F := Ideal) (k0_pay29 (F := Ideal) x7 (k0_pay19 (F := Ideal) x3) (k0_pay22 (F := Ideal) (k0_pay12 (F := Ideal) x0) x8) (k0_pay23 (F := Ideal) x10) (k0_pay24 (F := Ideal) (k0_pay12 (F := Ideal) x0) x8)) (k0_pay38 (F := Ideal) x7 (k0_pay19 (F := Ideal) x3) (k0_pay31 (F := Ideal) x10) (k0_pay32 (F := Ideal) (k0_pay21 (F := Ideal) (k0_pay12 (F := Ideal) x0) x8)) (k0_pay33 (F := Ideal) (k0_pay21 (F := Ideal) (k0_pay12 (F := Ideal) x0) x8))) (k0_pay46 (F := Ideal) (k0_pay19 (F := Ideal) x3) (k0_pay40 (F := Ideal) x10) (k0_pay41 (F := Ideal) (k0_pay21 (F := Ideal) (k0_pay12 (F := Ideal) x0) x8)) (k0_pay42 (F := Ideal) (k0_pay21 (F := Ideal) (k0_pay12 (F := Ideal) x0) x8)) (k0_pay45 (F := Ideal) x7)) (k0_pay49 (F := Ideal) (k0_pay21 (F := Ideal) (k0_pay12 (F := Ideal) x0) x8)) (k0_pay50 (F := Ideal) (k0_pay21 (F := Ideal) (k0_pay12 (F := Ideal) x0) x8)) (k0_pay53 (F := Ideal) x10 x7 (k0_pay19 (F := Ideal) x3)) (k0_pay54 (F := Ideal) x10 x7 (k0_pay19 (F := Ideal) x3) (k0_pay21 (F := Ideal) (k0_pay12 (F := Ideal) x0) x8))) S k0_pay58 k0_pay59 k0_pay60)) W) (fun i j => C i j + ∑ s ∈ Finset.range 64, dz A c s j) := pay1 A c _ _ C (B.dz_ t ht hS) hW

/-- The gradient of the norm's weights. -/
theorem dn_ (B : Block A c x0 x1 x2 x3 x4 x5 x6 x7 x8 x9 x10) {W : S1x512.Idx → EReal} {C : ℕ → ℕ → ℝ} (hW : Is2 W C) :
    Is2 (k0_pay56 (F := Ideal) (k0_pay27 (F := Ideal) (k0_pay19 (F := Ideal) x3) (k0_pay22 (F := Ideal) (k0_pay12 (F := Ideal) x0) x8) (k0_pay23 (F := Ideal) x10) (k0_pay24 (F := Ideal) (k0_pay12 (F := Ideal) x0) x8)) (k0_pay34 (F := Ideal) x10 (k0_pay19 (F := Ideal) x3) (k0_pay21 (F := Ideal) (k0_pay12 (F := Ideal) x0) x8)) (k0_pay43 (F := Ideal) x10 (k0_pay19 (F := Ideal) x3) (k0_pay21 (F := Ideal) (k0_pay12 (F := Ideal) x0) x8)) (k0_pay51 (F := Ideal) x10 (k0_pay19 (F := Ideal) x3) (k0_pay21 (F := Ideal) (k0_pay12 (F := Ideal) x0) x8)) W) (fun i j => C i j + ∑ s ∈ Finset.range 64, Gla.g A c s j * y A c s j * Gla.sil A c s j) := pay56 A c _ _ _ _ _ C (pay27 A c _ _ _ _ B.sil_ B.o0 B.g0 B.ms0) (pay34 A c _ _ _ B.g B.sil_ B.o_) (pay43 A c _ _ _ B.g B.sil_ B.o_) (pay51 A c _ _ _ B.g B.sil_ B.o_) hW

/-- The gradient of the output gate, first head. -/
theorem dr0 (B : Block A c x0 x1 x2 x3 x4 x5 x6 x7 x8 x9 x10) :
    Is2 (k0_pay28 (F := Ideal) x7 (k0_pay20 (F := Ideal) x3) (k0_pay22 (F := Ideal) (k0_pay12 (F := Ideal) x0) x8) (k0_pay23 (F := Ideal) x10) (k0_pay24 (F := Ideal) (k0_pay12 (F := Ideal) x0) x8)) (fun s u => dr A c s (128 * 0 + u)) := pay28 A c _ _ _ _ _ B.n B.dsil_ B.o0 B.g0 B.ms0

/-- Second head. -/
theorem dr1 (B : Block A c x0 x1 x2 x3 x4 x5 x6 x7 x8 x9 x10) :
    Is2 (k0_pay37 (F := Ideal) (k0_pay20 (F := Ideal) x3) (k0_pay35 (F := Ideal) x10 (k0_pay21 (F := Ideal) (k0_pay12 (F := Ideal) x0) x8)) (k0_pay36 (F := Ideal) x7)) (fun s u => dr A c s (128 * 1 + u)) := pay37 A c _ _ _ B.dsil_ (pay35 A c _ _ B.g B.o_) (pay36 A _ B.n)

/-- Third head. -/
theorem dr2 (B : Block A c x0 x1 x2 x3 x4 x5 x6 x7 x8 x9 x10) :
    Is2 (k0_pay44 (F := Ideal) x10 x7 (k0_pay20 (F := Ideal) x3) (k0_pay21 (F := Ideal) (k0_pay12 (F := Ideal) x0) x8)) (fun s u => dr A c s (128 * 2 + u)) := pay44 A c _ _ _ _ B.g B.n B.dsil_ B.o_

/-- Fourth head. -/
theorem dr3 (B : Block A c x0 x1 x2 x3 x4 x5 x6 x7 x8 x9 x10) :
    Is2 (k0_pay52 (F := Ideal) x10 x7 (k0_pay20 (F := Ideal) x3) (k0_pay21 (F := Ideal) (k0_pay12 (F := Ideal) x0) x8)) (fun s u => dr A c s (128 * 3 + u)) := pay52 A c _ _ _ _ B.g B.n B.dsil_ B.o_

end Block

end Gla

end
-- ==== Proof.OutsKit.lean ====
module

public import proofs.«01_k».proof.Proof.Launch.Frame
public import proofs.«01_k».proof.Proof.Point
public import Idealize.ShloMosaic.Lib.Pipeline.ReadBack
public import Idealize.ShloMosaic.Lib.Pipeline.ValueKit

@[expose] public section

/-!
# What the launch holds after each grid point

`Outs A n o` says what the eight output buffers and the carried scratch hold once grid point `n` is
done, which worked on chunk `31 - n`.
-/

set_option maxRecDepth 16384

noncomputable section

open Idealize.ShloMosaic Idealize.ShloMosaic.TcCoe Idealize.SL.Sem
open Cert.KernelIdeal Cert.KernelIdeal.Gen
open Idealize.ShloMosaic.Pipeline (Dat)
open scoped BigOperators

namespace Gla

/-- What the output buffers and the scratch hold after grid point `n`. -/
structure Outs (A : Args) (n : ℕ) (o : Vec Ideal S64x256 .bf16 × Vec Ideal S64x256 .bf16 × Vec Ideal S64x512 .bf16 ×
    Vec Ideal S64x512 .bf16 × Vec Ideal S64x128 .bf16 × Vec Ideal S128x256 .f32 × Vec Ideal S1x256 .f32 × Vec Ideal S1x512 .f32 ×
    Vec Ideal S512x256 .f32) : Prop where
  o0 : Is2 o.1 (dq A (31 - n))
  o1 : Is2 o.2.1 (dk A (31 - n))
  o2 : Is2 o.2.2.1 (dv A (31 - n))
  o3 : Is2 o.2.2.2.1 (dr A (31 - n))
  o4 : Is2 o.2.2.2.2.1 (fun s l => upto16 (da A (31 - n) s) l)
  o5 : Is2 o.2.2.2.2.2.1 (fun l j => ∑ d ∈ Finset.range (n + 1),
    upto16 (fun x => ∑ s ∈ Finset.range 64, a A (31 - d) s x * dz A (31 - d) s j) l)
  o6 : Is2 o.2.2.2.2.2.2.1 (fun _ j => ∑ d ∈ Finset.range (n + 1), ∑ s ∈ Finset.range 64, dz A (31 - d) s j)
  o7 : Is2 o.2.2.2.2.2.2.2.1 (fun _ j => ∑ d ∈ Finset.range (n + 1), ∑ s ∈ Finset.range 64,
    g A (31 - d) s j * y A (31 - d) s j * sil A (31 - d) s j)
  o8 : n < 31 → Is2 o.2.2.2.2.2.2.2.2 (bd (carry A (31 - n - 1)))

/-- The input blocks of grid point `t` hold what chunk `31 - t` needs. -/
abbrev BlockAt (A : Args) (m : (ℓ : Loc nD τ sig) → Buf (Elt Ideal) ℓ) (c : Dev nD) (t : Fin cfg0.N) : Prop :=
  Block A (31 - t.val) (iblk m c 0 t) (iblk m c 1 t) (iblk m c 2 t) (X0_3 m c t) (iblk m c 4 t) (iblk m c 5 t)
    (iblk m c 6 t) (iblk m c 7 t) (iblk m c 8 t) (iblk m c 9 t) (iblk m c 10 t)

/-- The grid has one axis. -/
theorem coord (t : Fin cfg0.N) : (grid0.coords t 0).val = t.val :=
  (by decide +kernel : ∀ t : Fin grid0.N, (grid0.coords t 0).val = t.val) t

theorem lt32 (t : Fin cfg0.N) : t.val < 32 := (by decide +kernel : ∀ t : Fin grid0.N, t.val < 32) t

theorem prev_lt (t : Fin cfg0.N) : t.val - 1 < cfg0.N := by have := t.isLt; omega

/-- Nothing is carried into the last chunk. -/
theorem carry_last (A : Args) : Is2 (k0_pay2 (F := Ideal)) (bd (carry A 31)) :=
  zero_512x256.congr' fun i _ j _ => by unfold bd carry; simp

/-- The element of a gate block, by the tile it lies in. -/
theorem tile_apply {h : ℕ} {f : ℕ → ℕ → ℝ} {x : S64x128.Idx → EReal} (H : Is2 x fun s u => f s (128 * h + u)) (i : S64x128.Idx)
    {y : S64x512.Idx} (h0 : (y 0).val = (i 0).val) (h1 : (y 1).val = 128 * h + (i 1).val) : x i = ((f (y 0).val (y 1).val : ℝ) : EReal) := by
  rw [H i, h0, h1]

end Gla
end
-- ==== Proof.OutsFirst.lean ====
module

public import proofs.«01_k».proof.Proof.OutsKit

@[expose] public section

/-! # The first grid point -/

set_option maxRecDepth 16384

noncomputable section

open Idealize.ShloMosaic Idealize.ShloMosaic.TcCoe Idealize.SL.Sem
open Cert.KernelIdeal Cert.KernelIdeal.Gen
open Idealize.ShloMosaic.Pipeline (Dat)
open scoped BigOperators

namespace Gla

variable {A : Args} (m : (ℓ : Loc nD τ sig) → Buf (Elt Ideal) ℓ) (c : Dev nD) (t : Fin cfg0.N) (h0 : t.val % 32 = 0)
  (B : BlockAt A m c t)
include h0 B

theorem first_carry : Is2 (k0_pay2 (F := Ideal)) (bd (carry A (31 - t.val))) := by
  have h := lt32 t
  have e : 31 - t.val = 31 := by omega
  rw [e]; exact carry_last A

theorem first0 : Is2 (outsAt0 m c t.val t.isLt).1 (dq A (31 - t.val)) := fun y => by
  rw [outsAt0_A m c t h0]; frame_out
  exact B.dq_ y
theorem first1 : Is2 (outsAt0 m c t.val t.isLt).2.1 (dk A (31 - t.val)) := fun y => by
  have S := first_carry m c t h0 B
  rw [outsAt0_A m c t h0]; frame_out
  exact B.dk_ (by omega) S y
theorem first2 : Is2 (outsAt0 m c t.val t.isLt).2.2.1 (dv A (31 - t.val)) := fun y => by
  have S := first_carry m c t h0 B
  rw [outsAt0_A m c t h0]; frame_out
  exact B.dv_ (by omega) S y
theorem first3 : Is2 (outsAt0 m c t.val t.isLt).2.2.2.1 (dr A (31 - t.val)) := fun y => by
  rw [outsAt0_A m c t h0]; frame_out
  canon_tiles x h
  · exact tile_apply B.dr3 _ (by omega) (by omega)
  · exact tile_apply B.dr2 _ (by omega) (by omega)
  · exact tile_apply B.dr1 _ (by omega) (by omega)
  · exact tile_apply B.dr0 _ (by omega) (by omega)
theorem first4 : Is2 (outsAt0 m c t.val t.isLt).2.2.2.2.1 (fun s l => upto16 (da A (31 - t.val) s) l) := fun y => by
  have S := first_carry m c t h0 B
  rw [outsAt0_A m c t h0]; frame_out
  exact B.da_ (grid0.coords t 0) (by rw [coord]) S y
theorem first5 : Is2 (outsAt0 m c t.val t.isLt).2.2.2.2.2.1 (fun l j => 0 +
    upto16 (fun x => ∑ s ∈ Finset.range 64, a A (31 - t.val) s x * dz A (31 - t.val) s j) l) := fun y => by
  have S := first_carry m c t h0 B
  rw [outsAt0_A m c t h0]; frame_out
  exact B.dw_ (grid0.coords t 0) (by rw [coord]) S zero_128x256 y
theorem first6 : Is2 (outsAt0 m c t.val t.isLt).2.2.2.2.2.2.1 (fun _ j => 0 + ∑ s ∈ Finset.range 64, dz A (31 - t.val) s j) := fun y => by
  have S := first_carry m c t h0 B
  rw [outsAt0_A m c t h0]; frame_out
  exact B.db_ (grid0.coords t 0) (by rw [coord]) S zero_1x256 y
theorem first7 : Is2 (outsAt0 m c t.val t.isLt).2.2.2.2.2.2.2.1 (fun _ j => 0 + ∑ s ∈ Finset.range 64,
    g A (31 - t.val) s j * y A (31 - t.val) s j * sil A (31 - t.val) s j) := fun y => by
  rw [outsAt0_A m c t h0]; frame_out
  exact B.dn_ zero_1x512 y
theorem first8 : Is2 (outsAt0 m c t.val t.isLt).2.2.2.2.2.2.2.2 (bd (carry A (31 - t.val - 1))) := fun y => by
  have S := first_carry m c t h0 B
  have h := lt32 t
  rw [outsAt0_A m c t h0]; frame_out
  exact B.carry_ (by omega) S (by omega) y

/-- What the first grid point leaves. -/
theorem first : Outs A t.val (outsAt0 m c t.val t.isLt) := by
  have h := lt32 t
  have e : t.val = 0 := by omega
  refine ⟨first0 m c t h0 B, first1 m c t h0 B, first2 m c t h0 B, first3 m c t h0 B, first4 m c t h0 B, ?_, ?_, ?_,
    fun _ => first8 m c t h0 B⟩
  · exact (first5 m c t h0 B).congr' fun i _ j _ => by rw [e]; simp only [Finset.range_one, Finset.sum_singleton, Nat.zero_add, zero_add, Nat.sub_zero]
  · exact (first6 m c t h0 B).congr' fun i _ j _ => by rw [e]; simp only [Finset.range_one, Finset.sum_singleton, Nat.zero_add, zero_add, Nat.sub_zero]
  · exact (first7 m c t h0 B).congr' fun i _ j _ => by rw [e]; simp only [Finset.range_one, Finset.sum_singleton, Nat.zero_add, zero_add, Nat.sub_zero]

end Gla
end
-- ==== Proof.OutsLater.lean ====
module

public import proofs.«01_k».proof.Proof.OutsKit

@[expose] public section

/-! # The later grid points -/

set_option maxRecDepth 16384

noncomputable section

open Idealize.ShloMosaic Idealize.ShloMosaic.TcCoe Idealize.SL.Sem
open Cert.KernelIdeal Cert.KernelIdeal.Gen
open Idealize.ShloMosaic.Pipeline (Dat)
open scoped BigOperators

namespace Gla

variable {A : Args} (m : (ℓ : Loc nD τ sig) → Buf (Elt Ideal) ℓ) (c : Dev nD) (t : Fin cfg0.N) (h0 : ¬ t.val % 32 = 0)
  (B : BlockAt A m c t)
  (P : Outs A (t.val - 1) (outsAt0 m c (t.val - 1) (prev_lt t)))
include h0 B P

theorem later_carry : Is2 (outsAt0 m c (t.val - 1) (prev_lt t)).2.2.2.2.2.2.2.2 (bd (carry A (31 - t.val))) := by
  have h := lt32 t
  have e : 31 - (t.val - 1) - 1 = 31 - t.val := by omega
  rw [← e]; exact P.o8 (by omega)

theorem later0 : Is2 (outsAt0 m c t.val t.isLt).1 (dq A (31 - t.val)) := fun y => by
  rw [outsAt0_B m c t h0]; frame_out
  exact B.dq_ y
theorem later1 : Is2 (outsAt0 m c t.val t.isLt).2.1 (dk A (31 - t.val)) := fun y => by
  have S := later_carry m c t h0 B P
  rw [outsAt0_B m c t h0]; frame_out
  simp only [read_unread_whole]
  exact B.dk_ (by omega) S y
theorem later2 : Is2 (outsAt0 m c t.val t.isLt).2.2.1 (dv A (31 - t.val)) := fun y => by
  have S := later_carry m c t h0 B P
  rw [outsAt0_B m c t h0]; frame_out
  simp only [read_unread_whole]
  exact B.dv_ (by omega) S y
theorem later3 : Is2 (outsAt0 m c t.val t.isLt).2.2.2.1 (dr A (31 - t.val)) := fun y => by
  rw [outsAt0_B m c t h0]; frame_out
  canon_tiles x h
  · exact tile_apply B.dr3 _ (by omega) (by omega)
  · exact tile_apply B.dr2 _ (by omega) (by omega)
  · exact tile_apply B.dr1 _ (by omega) (by omega)
  · exact tile_apply B.dr0 _ (by omega) (by omega)
theorem later4 : Is2 (outsAt0 m c t.val t.isLt).2.2.2.2.1 (fun s l => upto16 (da A (31 - t.val) s) l) := fun y => by
  have S := later_carry m c t h0 B P
  rw [outsAt0_B m c t h0]; frame_out
  simp only [read_unread_whole]
  exact B.da_ (grid0.coords t 0) (by rw [coord]) S y
theorem later5 : Is2 (outsAt0 m c t.val t.isLt).2.2.2.2.2.1 (fun l j => (∑ d ∈ Finset.range (t.val - 1 + 1),
    upto16 (fun x => ∑ s ∈ Finset.range 64, a A (31 - d) s x * dz A (31 - d) s j) l) +
    upto16 (fun x => ∑ s ∈ Finset.range 64, a A (31 - t.val) s x * dz A (31 - t.val) s j) l) := fun y => by
  have S := later_carry m c t h0 B P
  rw [outsAt0_B m c t h0]; frame_out
  simp only [read_unread_whole]
  exact B.dw_ (grid0.coords t 0) (by rw [coord]) S P.o5 y
theorem later6 : Is2 (outsAt0 m c t.val t.isLt).2.2.2.2.2.2.1 (fun _ j => (∑ d ∈ Finset.range (t.val - 1 + 1),
    ∑ s ∈ Finset.range 64, dz A (31 - d) s j) + ∑ s ∈ Finset.range 64, dz A (31 - t.val) s j) := fun y => by
  have S := later_carry m c t h0 B P
  rw [outsAt0_B m c t h0]; frame_out
  simp only [read_unread_whole]
  exact B.db_ (grid0.coords t 0) (by rw [coord]) S P.o6 y
theorem later7 : Is2 (outsAt0 m c t.val t.isLt).2.2.2.2.2.2.2.1 (fun _ j => (∑ d ∈ Finset.range (t.val - 1 + 1), ∑ s ∈ Finset.range 64,
    g A (31 - d) s j * y A (31 - d) s j * sil A (31 - d) s j) + ∑ s ∈ Finset.range 64,
    g A (31 - t.val) s j * y A (31 - t.val) s j * sil A (31 - t.val) s j) := fun y => by
  rw [outsAt0_B m c t h0]; frame_out
  exact B.dn_ P.o7 y
theorem later8 (h1 : t.val < 31) : Is2 (outsAt0 m c t.val t.isLt).2.2.2.2.2.2.2.2 (bd (carry A (31 - t.val - 1))) := fun y => by
  have S := later_carry m c t h0 B P
  have h := lt32 t
  rw [outsAt0_B m c t h0]; frame_out
  simp only [read_unread_whole]
  exact B.carry_ (by omega) S (by omega) y

/-- What a later grid point leaves. -/
theorem later : Outs A t.val (outsAt0 m c t.val t.isLt) := by
  have h := lt32 t
  have e : t.val - 1 + 1 = t.val := by omega
  refine ⟨later0 m c t h0 B P, later1 m c t h0 B P, later2 m c t h0 B P, later3 m c t h0 B P, later4 m c t h0 B P, ?_, ?_, ?_,
    fun h1 => later8 m c t h0 B P h1⟩
  · exact (later5 m c t h0 B P).congr' fun i _ j _ => by rw [e]; exact (Finset.sum_range_succ _ _).symm
  · exact (later6 m c t h0 B P).congr' fun i _ j _ => by rw [e]; exact (Finset.sum_range_succ _ _).symm
  · exact (later7 m c t h0 B P).congr' fun i _ j _ => by rw [e]; exact (Finset.sum_range_succ _ _).symm

end Gla
end
-- ==== Proof.Blocks.lean ====
module

public import proofs.«01_k».proof.Proof.Entry
public import proofs.«01_k».proof.Proof.OutsFirst
public import proofs.«01_k».proof.Proof.OutsLater

@[expose] public section

/-!
# The blocks a grid point reads

Grid point `t` works on chunk `31 - t`. Each of its input blocks is read out of the array it is
taken from.
-/

set_option maxRecDepth 16384

noncomputable section

open Idealize.ShloMosaic Idealize.ShloMosaic.TcCoe Idealize.SL.Sem
open Cert.KernelIdeal Cert.KernelIdeal.Gen
open Idealize.ShloMosaic.Pipeline (Dat)
open scoped BigOperators

namespace Gla

section Index

theorem idx0 : ∀ t : Fin cfg0.N, win0_0.index t = ![31 - t.val, 0] := by decide +kernel
theorem idx1 : ∀ t : Fin cfg0.N, win0_1.index t = ![31 - t.val, 1] := by decide +kernel
theorem idx2 : ∀ t : Fin cfg0.N, win0_2.index t = ![31 - t.val, 1] := by decide +kernel
theorem idx3 : ∀ t : Fin cfg0.N, win0_3.index t = ![31 - t.val, 0] := by decide +kernel
theorem idx4 : ∀ t : Fin cfg0.N, win0_4.index t = ![31 - t.val, 4] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![31 - t.val, 0, 0] := by decide +kernel
theorem idx9 : ∀ t : Fin cfg0.N, win0_9.index t = ![31 - t.val - 1, 0, 0] := by decide +kernel
theorem idx10 : ∀ t : Fin cfg0.N, win0_10.index t = ![31 - t.val, 0] := by decide +kernel

end Index

variable {A : Args} (m : (ℓ : Loc nD τ sig) → Buf (Elt Ideal) ℓ) (c : Dev nD) (t : Fin cfg0.N)
  (H : Reals A (m ((c : Thread nD τ).loc main_arg0)) (m ((c : Thread nD τ).loc main_arg1)) (m ((c : Thread nD τ).loc main_arg2))
    (m ((c : Thread nD τ).loc main_arg3)) (m ((c : Thread nD τ).loc main_arg4)))
include H

theorem block0 : Is2 (iblk m c 0 t) (fun s j => A.p (64 * (31 - t.val) + s) j) := fun y => by
  have h0 : (y 0).val < 64 := (y 0).isLt
  have h1 : (y 1).val < 256 := (y 1).isLt
  have e0 : ((win0_0.blk t).view.emb y 0).val = (31 - t.val) * 64 + (y 0).val := by blk_simp [idx0 t]
  have e1 : ((win0_0.blk t).view.emb y 1).val = 0 * 256 + (y 1).val := by blk_simp [idx0 t]
  blk_simp [iblk]
  refine (congrFun (entry_v10 m c) _).trans ((productCols_apply H _ (by rw [e1]; omega)).trans ?_)
  rw [e0, e1, show (31 - t.val) * 64 + (y 0).val = 64 * (31 - t.val) + (y 0).val by omega, show 0 * 256 + (y 1).val = (y 1).val by omega]
theorem block1 : Is2 (iblk m c 1 t) (k A (31 - t.val)) := fun y => by
  have h0 : (y 0).val < 64 := (y 0).isLt
  have h1 : (y 1).val < 256 := (y 1).isLt
  have e0 : ((win0_1.blk t).view.emb y 0).val = (31 - t.val) * 64 + (y 0).val := by blk_simp [idx1 t]
  have e1 : ((win0_1.blk t).view.emb y 1).val = 1 * 256 + (y 1).val := by blk_simp [idx1 t]
  blk_simp [iblk]
  refine (congrFun (entry_v10 m c) _).trans ((productCols_apply H _ (by rw [e1]; omega)).trans ?_)
  unfold k; rw [e0, e1, show (31 - t.val) * 64 + (y 0).val = 64 * (31 - t.val) + (y 0).val by omega, show 1 * 256 + (y 1).val = 256 + (y 1).val by omega]
theorem block2 : Is2 (iblk m c 2 t) (v A (31 - t.val)) := fun y => by
  have h0 : (y 0).val < 64 := (y 0).isLt
  have h1 : (y 1).val < 512 := (y 1).isLt
  have e0 : ((win0_2.blk t).view.emb y 0).val = (31 - t.val) * 64 + (y 0).val := by blk_simp [idx2 t]
  have e1 : ((win0_2.blk t).view.emb y 1).val = 1 * 512 + (y 1).val := by blk_simp [idx2 t]
  blk_simp [iblk]
  refine (congrFun (entry_v10 m c) _).trans ((productCols_apply H _ (by rw [e1]; omega)).trans ?_)
  unfold v; rw [e0, e1, show (31 - t.val) * 64 + (y 0).val = 64 * (31 - t.val) + (y 0).val by omega, show 1 * 512 + (y 1).val = 512 + (y 1).val by omega]
theorem block3_apply (x : ((cfg0.win 3).xblock (cfg0.grid.coords t)).Idx) (y0 y1 : ℕ) (h0 : (x 0).val = y0) (h1 : (x 1).val = y1)
    (h2 : y1 < 512) : iblk m c 3 t x = ((r A (31 - t.val) y0 y1 : ℝ) : EReal) := by
  have e0 : (((cfg0.win 3).blk t).view.emb x 0).val = (31 - t.val) * 64 + y0 :=
    (Pipeline.Window.rect_emb_val win0_3 t x 0 rfl).trans (by rw [idx3 t, h0]; rfl)
  have e1 : (((cfg0.win 3).blk t).view.emb x 1).val = 0 * 512 + y1 :=
    (Pipeline.Window.rect_emb_val win0_3 t x 1 rfl).trans (by rw [idx3 t, h1]; rfl)
  unfold iblk
  rw [View.read_apply]
  refine (congrFun (entry_v13 m c) _).trans ((elementCols_left H _ (e1.trans_lt (by omega))).trans ?_)
  refine congrArg _ (congrArg₂ A.p (e0.trans (by omega)) ?_)
  exact congrArg (1024 + ·) (e1.trans (by omega))
theorem block3 : Is2 (X0_3 m c t) (r A (31 - t.val)) := fun y => by
  unfold X0_3 Pipeline.Window.fill
  rw [dif_pos (moved0_3 t y)]
  exact block3_apply m c t H _ _ _ rfl rfl (y 1).isLt
theorem block4 : Is2 (iblk m c 4 t) (fun s l => upto16 (a A (31 - t.val) s) l) := fun y => by
  have h0 : (y 0).val < 64 := (y 0).isLt
  have h1 : (y 1).val < 128 := (y 1).isLt
  have e0 : ((win0_4.blk t).view.emb y 0).val = (31 - t.val) * 64 + (y 0).val := by blk_simp [idx4 t]
  have e1 : ((win0_4.blk t).view.emb y 1).val = 4 * 128 + (y 1).val := by blk_simp [idx4 t]
  blk_simp [iblk]
  refine (congrFun (entry_v13 m c) _).trans ((elementCols_gate H _ (by rw [e1]; omega) (by rw [e1]; omega)).trans ?_)
  have f0 : (31 - t.val) * 64 + (y 0).val = 64 * (31 - t.val) + (y 0).val := by omega
  have f1 : 4 * 128 + (y 1).val - 512 = (y 1).val := by omega
  rw [e0, e1, f0, f1]
  rfl
theorem block5 : Is2 (iblk m c 5 t) (fun l j => upto16 (fun x => A.w x j) l) := fun y => by
  have e0 : ((win0_5.blk t).view.emb y 0).val = (y 0).val := by blk_simp [idx5 t]
  have e1 : ((win0_5.blk t).view.emb y 1).val = (y 1).val := by blk_simp [idx5 t]
  blk_simp [iblk]
  refine (congrFun (entry_v14 m c) _).trans ((gateWeights_apply H _).trans ?_)
  beta_reduce
  rw [e0, e1]
theorem block6 : Is2 (iblk m c 6 t) (A.b) := fun y => by
  have e0 : ((win0_6.blk t).view.emb y 0).val = (y 0).val := by blk_simp [idx6 t]
  have e1 : ((win0_6.blk t).view.emb y 1).val = (y 1).val := by blk_simp [idx6 t]
  blk_simp [iblk]
  refine (congrFun (V_main_arg2 m c) _).trans ((H.b _).trans ?_)
  beta_reduce
  have h0 : (y 0).val < 1 := (y 0).isLt
  rw [e0, e1, show (y 0).val = 0 by omega]
theorem block7 : Is2 (iblk m c 7 t) (A.n) := fun y => by
  have e0 : ((win0_7.blk t).view.emb y 0).val = (y 0).val := by blk_simp [idx7 t]
  have e1 : ((win0_7.blk t).view.emb y 1).val = (y 1).val := by blk_simp [idx7 t]
  blk_simp [iblk]
  refine (congrFun (V_main_arg3 m c) _).trans ((H.n _).trans ?_)
  beta_reduce
  have h0 : (y 0).val < 1 := (y 0).isLt
  rw [e0, e1, show (y 0).val = 0 by omega]
theorem block8 : IsR (iblk m c 8 t) (fun i => bd (st A (31 - t.val)) (i 1).val (i 2).val) := fun y => by
  have h0 : (y 0).val < 1 := (y 0).isLt
  have e0 : ((win0_8.blk t).view.emb y 0).val = 31 - t.val + (y 0).val := by blk_simp [idx8 t]
  have e1 : ((win0_8.blk t).view.emb y 1).val = (y 1).val := by blk_simp [idx8 t]
  have e2 : ((win0_8.blk t).view.emb y 2).val = (y 2).val := by blk_simp [idx8 t]
  blk_simp [iblk]
  refine (congrFun (entry_v63 m c) _).trans ((states_apply H _).trans ?_)
  beta_reduce
  rw [e0, e1, e2, show 31 - t.val + (y 0).val = 31 - t.val by omega]
theorem block9 : IsR (iblk m c 9 t) (fun i => bd (st A (31 - t.val - 1)) (i 1).val (i 2).val) := fun y => by
  have h0 : (y 0).val < 1 := (y 0).isLt
  have e0 : ((win0_9.blk t).view.emb y 0).val = 31 - t.val - 1 + (y 0).val := by blk_simp [idx9 t]
  have e1 : ((win0_9.blk t).view.emb y 1).val = (y 1).val := by blk_simp [idx9 t]
  have e2 : ((win0_9.blk t).view.emb y 2).val = (y 2).val := by blk_simp [idx9 t]
  blk_simp [iblk]
  refine (congrFun (entry_v63 m c) _).trans ((states_apply H _).trans ?_)
  beta_reduce
  rw [e0, e1, e2, show 31 - t.val - 1 + (y 0).val = 31 - t.val - 1 by omega]
theorem block10 : Is2 (iblk m c 10 t) (g A (31 - t.val)) := fun y => by
  have h0 : (y 0).val < 64 := (y 0).isLt
  have h1 : (y 1).val < 512 := (y 1).isLt
  have e0 : ((win0_10.blk t).view.emb y 0).val = (31 - t.val) * 64 + (y 0).val := by blk_simp [idx10 t]
  have e1 : ((win0_10.blk t).view.emb y 1).val = 0 * 512 + (y 1).val := by blk_simp [idx10 t]
  blk_simp [iblk]
  refine (congrFun (V_main_arg4 m c) _).trans ((H.g _).trans ?_)
  unfold Gla.g; beta_reduce; rw [e0, e1, show (31 - t.val) * 64 + (y 0).val = 64 * (31 - t.val) + (y 0).val by omega, show 0 * 512 + (y 1).val = (y 1).val by omega]

/-- The blocks of grid point `t` hold what chunk `31 - t` needs. -/
theorem blockAt : BlockAt A m c t :=
  ⟨block0 m c t H, block1 m c t H, block2 m c t H, block3 m c t H, block4 m c t H, block5 m c t H, block6 m c t H,
    block7 m c t H, block8 m c t H, block9 m c t H, block10 m c t H⟩

/-- What the launch holds after grid point `n`. -/
theorem outs : ∀ (n : ℕ) (hn : n < cfg0.N), Outs A n (outsAt0 m c n hn)
  | 0, hn => first m c ⟨0, hn⟩ rfl (blockAt m c ⟨0, hn⟩ H)
  | n + 1, hn => later m c ⟨n + 1, hn⟩ (by have := lt32 ⟨n + 1, hn⟩; simp only at this ⊢; omega) (blockAt m c ⟨n + 1, hn⟩ H)
      (outs n (by omega))

end Gla
end
-- ==== Proof.KernelValue.lean ====
module

public import proofs.«01_k».proof.Proof.Blocks

@[expose] public section

/-!
# The arrays the kernel returns

Each output array after the launch, element by element.
-/

set_option maxRecDepth 16384

noncomputable section

open Idealize.ShloMosaic Idealize.ShloMosaic.TcCoe Idealize.SL.Sem
open Cert.KernelIdeal Cert.KernelIdeal.Gen
open Idealize.ShloMosaic.Pipeline (Dat)
open scoped BigOperators

namespace Gla

theorem idx11 : ∀ t : Fin cfg0.N, win0_11.index t = ![31 - t.val, 0] := by decide +kernel
theorem idx12 : ∀ t : Fin cfg0.N, win0_12.index t = ![31 - t.val, 0] := by decide +kernel
theorem idx13 : ∀ t : Fin cfg0.N, win0_13.index t = ![31 - t.val, 0] := by decide +kernel
theorem idx14 : ∀ t : Fin cfg0.N, win0_14.index t = ![31 - t.val, 0] := by decide +kernel
theorem idx15 : ∀ t : Fin cfg0.N, win0_15.index t = ![31 - t.val, 0] := by decide +kernel

/-- The last grid point. -/
abbrev tEnd : Fin cfg0.N := ⟨31, by decide +kernel⟩

/-- A coordinate of the first block. -/
theorem first_block {k y : ℕ} (n : ℕ) (h : k = 0) : k * n + y = y := by
  rw [h, Nat.zero_mul, Nat.zero_add]

/-- A row of a chunk, taken apart. -/
theorem row_split {f : ℕ → ℕ → ℕ → ℝ} {n s i : ℕ} {a b : ℕ} (ha : a = n * 64 + s) (hs : s < 64) (hb : b = i) :
    f n s i = f (a / 64) (a % 64) b := by
  have h1 : a / 64 = n := by omega
  have h2 : a % 64 = s := by omega
  rw [h1, h2, hb]

/-- The chunks counted backwards. -/
theorem sum_back (f : ℕ → ℝ) : ∑ d ∈ Finset.range (31 + 1), f (31 - d) = ∑ c ∈ Finset.range 32, f c := by
  have h := Finset.sum_range_reflect f 32
  simpa using h

theorem upto16_sum (n : ℕ) (f : ℕ → ℕ → ℝ) (l : ℕ) :
    ∑ d ∈ Finset.range n, upto16 (f d) l = if l < 16 then ∑ d ∈ Finset.range n, f d l else 0 := by
  unfold upto16
  split
  · rfl
  · exact Finset.sum_const_zero

variable {A : Args} (m : (ℓ : Loc nD τ sig) → Buf (Elt Ideal) ℓ) (c : Dev nD)
  (H : Reals A (m ((c : Thread nD τ).loc main_arg0)) (m ((c : Thread nD τ).loc main_arg1)) (m ((c : Thread nD τ).loc main_arg2))
    (m ((c : Thread nD τ).loc main_arg3)) (m ((c : Thread nD τ).loc main_arg4)))
include H

/-- The gradient of the queries. -/
theorem array11 (i : S2048x256.Idx) :
    ((dats m 0 c).arrAt 11 cfg0.N : S2048x256.Idx → EReal) i = ((dq A ((i 0).val / 64) ((i 0).val % 64) (i 1).val : ℝ) : EReal) := by
  refine (dats m 0 c).arrAt_forall_of_covers 11 (fun (i : S2048x256.Idx) v => v = ((dq A ((i 0).val / 64) ((i 0).val % 64) (i 1).val : ℝ) : EReal))
    (by decide +kernel) (fun t hf y => ?_) i
  have h0 : (y 0).val < 64 := (y 0).isLt
  have e0 : win0_11.index t 0 * 64 + (y 0).val = (31 - t.val) * 64 + (y 0).val := congrArg (fun k => k * 64 + (y 0).val) (congrFun (idx11 t) 0)
  have e1 : win0_11.index t 1 * 256 + (y 1).val = (y 1).val := first_block 256 (congrFun (idx11 t) 1)
  blk_simp
  rw [after0_11]
  refine ((outs m c H t.val t.isLt).o0 y).trans (congrArg _ ?_)
  exact row_split (f := dq A) e0 h0 e1

/-- The gradient of the keys. -/
theorem array12 (i : S2048x256.Idx) :
    ((dats m 0 c).arrAt 12 cfg0.N : S2048x256.Idx → EReal) i = ((dk A ((i 0).val / 64) ((i 0).val % 64) (i 1).val : ℝ) : EReal) := by
  refine (dats m 0 c).arrAt_forall_of_covers 12 (fun (i : S2048x256.Idx) v => v = ((dk A ((i 0).val / 64) ((i 0).val % 64) (i 1).val : ℝ) : EReal))
    (by decide +kernel) (fun t hf y => ?_) i
  have h0 : (y 0).val < 64 := (y 0).isLt
  have e0 : win0_12.index t 0 * 64 + (y 0).val = (31 - t.val) * 64 + (y 0).val := congrArg (fun k => k * 64 + (y 0).val) (congrFun (idx12 t) 0)
  have e1 : win0_12.index t 1 * 256 + (y 1).val = (y 1).val := first_block 256 (congrFun (idx12 t) 1)
  blk_simp
  rw [after0_12]
  refine ((outs m c H t.val t.isLt).o1 y).trans (congrArg _ ?_)
  exact row_split (f := dk A) e0 h0 e1

/-- The gradient of the values. -/
theorem array13 (i : S2048x512.Idx) :
    ((dats m 0 c).arrAt 13 cfg0.N : S2048x512.Idx → EReal) i = ((dv A ((i 0).val / 64) ((i 0).val % 64) (i 1).val : ℝ) : EReal) := by
  refine (dats m 0 c).arrAt_forall_of_covers 13 (fun (i : S2048x512.Idx) v => v = ((dv A ((i 0).val / 64) ((i 0).val % 64) (i 1).val : ℝ) : EReal))
    (by decide +kernel) (fun t hf y => ?_) i
  have h0 : (y 0).val < 64 := (y 0).isLt
  have e0 : win0_13.index t 0 * 64 + (y 0).val = (31 - t.val) * 64 + (y 0).val := congrArg (fun k => k * 64 + (y 0).val) (congrFun (idx13 t) 0)
  have e1 : win0_13.index t 1 * 512 + (y 1).val = (y 1).val := first_block 512 (congrFun (idx13 t) 1)
  blk_simp
  rw [after0_13]
  refine ((outs m c H t.val t.isLt).o2 y).trans (congrArg _ ?_)
  exact row_split (f := dv A) e0 h0 e1

/-- The gradient of the output gate. -/
theorem array14 (i : S2048x512.Idx) :
    ((dats m 0 c).arrAt 14 cfg0.N : S2048x512.Idx → EReal) i = ((dr A ((i 0).val / 64) ((i 0).val % 64) (i 1).val : ℝ) : EReal) := by
  refine (dats m 0 c).arrAt_forall_of_covers 14 (fun (i : S2048x512.Idx) v => v = ((dr A ((i 0).val / 64) ((i 0).val % 64) (i 1).val : ℝ) : EReal))
    (by decide +kernel) (fun t hf y => ?_) i
  have h0 : (y 0).val < 64 := (y 0).isLt
  have e0 : win0_14.index t 0 * 64 + (y 0).val = (31 - t.val) * 64 + (y 0).val := congrArg (fun k => k * 64 + (y 0).val) (congrFun (idx14 t) 0)
  have e1 : win0_14.index t 1 * 512 + (y 1).val = (y 1).val := first_block 512 (congrFun (idx14 t) 1)
  blk_simp
  rw [after0_14]
  refine ((outs m c H t.val t.isLt).o3 y).trans (congrArg _ ?_)
  exact row_split (f := dr A) e0 h0 e1

/-- The gradient of the gate's columns, with a fill of zeros. -/
theorem array15 (i : S2048x128.Idx) :
    ((dats m 0 c).arrAt 15 cfg0.N : S2048x128.Idx → EReal) i = ((upto16 (da A ((i 0).val / 64) ((i 0).val % 64)) (i 1).val : ℝ) : EReal) := by
  refine (dats m 0 c).arrAt_forall_of_covers 15 (fun (i : S2048x128.Idx) v => v = ((upto16 (da A ((i 0).val / 64) ((i 0).val % 64)) (i 1).val : ℝ) : EReal))
    (by decide +kernel) (fun t hf y => ?_) i
  have h0 : (y 0).val < 64 := (y 0).isLt
  have e0 : win0_15.index t 0 * 64 + (y 0).val = (31 - t.val) * 64 + (y 0).val := congrArg (fun k => k * 64 + (y 0).val) (congrFun (idx15 t) 0)
  have e1 : win0_15.index t 1 * 128 + (y 1).val = (y 1).val := first_block 128 (congrFun (idx15 t) 1)
  blk_simp
  rw [after0_15]
  refine ((outs m c H t.val t.isLt).o4 y).trans (congrArg _ ?_)
  exact row_split (f := (fun c s l => upto16 (da A c s) l)) e0 h0 e1

/-- The gradient of the gate's weights, with a fill of zeros. -/
theorem array16 : ((dats m 0 c).arrAt 16 cfg0.N : S128x256.Idx → EReal) = fun i => ((if (i 0).val < 16 then dw A (i 0).val (i 1).val else 0 : ℝ) : EReal) := by
  refine (dats m 0 c).arrAt_eq_of_after_last 16 tEnd (by decide +kernel) _ fun j => ?_
  blk_simp
  rw [after0_16]
  refine ((outs m c H 31 tEnd.isLt).o5 j).trans (congrArg _ ?_)
  refine (upto16_sum _ (fun d x => ∑ s ∈ Finset.range 64, a A (31 - d) s x * dz A (31 - d) s (j 1).val) (j 0).val).trans ?_
  rw [sum_back (fun d => ∑ s ∈ Finset.range 64, a A d s (j 0).val * dz A d s (j 1).val)]
  rfl

/-- The gradient of the gate's bias. -/
theorem array17 : ((dats m 0 c).arrAt 17 cfg0.N : S1x256.Idx → EReal) = fun i => ((db A (i 1).val : ℝ) : EReal) := by
  refine (dats m 0 c).arrAt_eq_of_after_last 17 tEnd (by decide +kernel) _ fun j => ?_
  blk_simp
  rw [after0_17]
  refine ((outs m c H 31 tEnd.isLt).o6 j).trans (congrArg _ ?_)
  exact sum_back (fun d => ∑ s ∈ Finset.range 64, dz A d s (j 1).val)

/-- The gradient of the norm's weights. -/
theorem array18 : ((dats m 0 c).arrAt 18 cfg0.N : S1x512.Idx → EReal) = fun i => ((dnw A (i 1).val : ℝ) : EReal) := by
  refine (dats m 0 c).arrAt_eq_of_after_last 18 tEnd (by decide +kernel) _ fun j => ?_
  blk_simp
  rw [after0_18]
  refine ((outs m c H 31 tEnd.isLt).o7 j).trans (congrArg _ ?_)
  exact sum_back (fun d => ∑ s ∈ Finset.range 64, g A d s (j 1).val * y A d s (j 1).val * sil A d s (j 1).val)

end Gla
end
-- ==== Proof.Pre.lean ====
module

public import proofs.«01_k».proof.Defs
public import proofs.«01_k».proof.Proof.RefForward
public import proofs.«01_k».proof.Proof.Gen.KernelIdeal
public import Idealize.ShloMosaic.Lib.ReduceAll
public import Idealize.ShloMosaic.Lib.Decide
public import Idealize.ShloMosaic.Lib.Pointwise

@[expose] public section

/-!
# Finite arguments

The precondition says that every entry of every argument is finite; so each argument array is an
array of real numbers.
-/

set_option maxRecDepth 16384

noncomputable section

open Idealize.ShloMosaic Idealize.ShloMosaic.TcCoe Idealize.SL.Sem

namespace Gla

/-- The side conditions the precondition's text states. -/
instance preFacts : Cert.Pre_finite.Facts where
  bcast_S_S2048x3096 := by decide
  reducesTo_S2048x3096_S_d0_1 := by decide
  h_S_ := by decide
  bcast_S_S16x256 := by decide
  reducesTo_S16x256_S_d0_1 := by decide
  bcast_S_S1x256 := by decide
  reducesTo_S1x256_S_d0_1 := by decide
  bcast_S_S1x512 := by decide
  reducesTo_S1x512_S_d0_1 := by decide
  bcast_S_S2048x1024 := by decide
  reducesTo_S2048x1024_S_d0_1 := by decide
  bcast_S_S1 := by decide
  concatenates_S1_S1_S1_S1_S1_S5_d0 := by decide

/-- An extended real whose absolute value is below infinity is a real. -/
theorem real_of_lt (x : EReal) (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  have hlt : max x (-x) < ⊤ := by
    by_contra hn
    unfold Ideal.cmp at h
    simp [hn] at h
  rw [max_lt_iff] at hlt
  refine (EReal.coe_toReal hlt.1.ne ?_).symm
  intro hb
  exact absurd hlt.2 (by rw [hb]; simp)

/-- An array all of whose entries pass the test is an array of reals. -/
theorem real_of_all {S u : Shape} {axes : List (Fin S.rank)} (x : FVec Ideal S .f32) (hb : Cert.Pre_finite.S_.BroadcastsInDim S (![] : Fin 0 → Fin S.rank))
    (init : u.Idx → BitVec 1) (hr : S.ReducesTo axes Cert.Pre_finite.S_) (hu : 0 < u.numel) (j : Cert.Pre_finite.S_.Idx)
    (h : Host.reduce IntOp.andi (cmpf .olt (Host.absf x) (broadcastInDim S ![] hb (constant (F := Ideal) Cert.Pre_finite.S_ .f32 0x7F800000#32)))
      init hr hu j = 1#1) (i : S.Idx) : (x i : EReal) = (((x i : EReal).toReal : ℝ) : EReal) := by
  haveI : Subsingleton Cert.Pre_finite.S_.Idx := ⟨fun a b => funext fun k => k.elim0⟩
  exact real_of_lt (x i) (Host.reduce_andi_all _ init hr hu j h i)

/-- The real array an array of extended reals holds. -/
def toReals {a b : ℕ} (ha : 0 < a) (hb : 0 < b) (x : (⟨2, ![a, b]⟩ : Shape).Idx → EReal) (i j : ℕ) : ℝ :=
  (x (ix2 ⟨i % a, Nat.mod_lt _ ha⟩ ⟨j % b, Nat.mod_lt _ hb⟩)).toReal

theorem is2_toReals {a b : ℕ} (ha : 0 < a) (hb : 0 < b) (x : (⟨2, ![a, b]⟩ : Shape).Idx → EReal)
    (h : ∀ i, x i = (((x i).toReal : ℝ) : EReal)) : Is2 x (toReals ha hb x) := fun i => by
  have e : ix2 ⟨(i 0).val % a, Nat.mod_lt _ ha⟩ ⟨(i 1).val % b, Nat.mod_lt _ hb⟩ = i := by
    funext k
    match k with
    | 0 => exact Fin.ext (Nat.mod_eq_of_lt (i 0).isLt)
    | 1 => exact Fin.ext (Nat.mod_eq_of_lt (i 1).isLt)
  unfold toReals
  beta_reduce
  rw [e]
  exact h i

/-- The real arrays of the arguments. -/
def argsOf (x0 : Cert.ReferenceIdeal.S2048x3096.Idx → EReal) (x1 : Cert.ReferenceIdeal.S16x256.Idx → EReal)
    (x2 : Cert.ReferenceIdeal.S1x256.Idx → EReal) (x3 : Cert.ReferenceIdeal.S1x512.Idx → EReal)
    (x4 : Cert.ReferenceIdeal.S2048x1024.Idx → EReal) : Args where
  p := toReals (by decide) (by decide) x0
  w := toReals (by decide) (by decide) x1
  b := toReals (by decide) (by decide) x2
  n := toReals (by decide) (by decide) x3
  g := toReals (by decide) (by decide) x4

/-- Five single entries put together are all one only if each is. -/
theorem five_ones (a b c d e : Cert.Pre_finite.S1.Idx → BitVec 1)
    (h : concatenate Cert.Pre_finite.S5 0 [⟨Cert.Pre_finite.S1, a⟩, ⟨Cert.Pre_finite.S1, b⟩, ⟨Cert.Pre_finite.S1, c⟩,
      ⟨Cert.Pre_finite.S1, d⟩, ⟨Cert.Pre_finite.S1, e⟩] Cert.Pre_finite.Facts.concatenates_S1_S1_S1_S1_S1_S5_d0 = fun _ => 1#1) :
    a (ix1 0) = 1#1 ∧ b (ix1 0) = 1#1 ∧ c (ix1 0) = 1#1 ∧ d (ix1 0) = 1#1 ∧ e (ix1 0) = 1#1 := by
  have h0 := congrFun h (ix1 0)
  have h1 := congrFun h (ix1 1)
  have h2 := congrFun h (ix1 2)
  have h3 := congrFun h (ix1 3)
  have h4 := congrFun h (ix1 4)
  pointwise at h0
  pointwise at h1
  pointwise at h2
  pointwise at h3
  pointwise at h4
  exact ⟨h0, h1, h2, h3, h4⟩

/-- Where the precondition holds, the arguments are arrays of reals. -/
theorem reals_of_finite (x0 : Cert.ReferenceIdeal.S2048x3096.Idx → EReal) (x1 : Cert.ReferenceIdeal.S16x256.Idx → EReal)
    (x2 : Cert.ReferenceIdeal.S1x256.Idx → EReal) (x3 : Cert.ReferenceIdeal.S1x512.Idx → EReal)
    (x4 : Cert.ReferenceIdeal.S2048x1024.Idx → EReal) (h : Cert.Pre_finite.fn (F := Ideal) x0 x1 x2 x3 x4 = fun _ => 1#1) :
    Reals (argsOf x0 x1 x2 x3 x4) x0 x1 x2 x3 x4 := by
  unfold Cert.Pre_finite.fn Cert.Pre_finite.fn_part1 at h
  dsimp only at h
  have h' := five_ones _ _ _ _ _ h
  obtain ⟨h0, h1, h2, h3, h4⟩ := h'
  exact ⟨is2_toReals (by decide) (by decide) x0 (real_of_all x0 _ _ _ _ _ h0), is2_toReals (by decide) (by decide) x1 (real_of_all x1 _ _ _ _ _ h1),
    is2_toReals (by decide) (by decide) x2 (real_of_all x2 _ _ _ _ _ h2), is2_toReals (by decide) (by decide) x3 (real_of_all x3 _ _ _ _ _ h3),
    is2_toReals (by decide) (by decide) x4 (real_of_all x4 _ _ _ _ _ h4)⟩

end Gla
end
-- ==== Proof.Agree.lean ====
module

public import proofs.«01_k».proof.Proof.KernelValue
public import proofs.«01_k».proof.Proof.RefBackward
public import proofs.«01_k».proof.Proof.Pre

@[expose] public section

/-!
# The two programs' results agree

Where the arguments are arrays of reals, the reference's value functions are the arrays the kernel leaves.
-/

set_option maxRecDepth 16384

noncomputable section

open Idealize.ShloMosaic Idealize.ShloMosaic.TcCoe Idealize.SL.Sem
open Cert.KernelIdeal Cert.KernelIdeal.Gen
open Cert.ReferenceIdeal.Read

namespace Gla

variable {A : Args} (m : (ℓ : Loc nD τ sig) → Buf (Elt Ideal) ℓ) (c : Dev nD)
  {x0 : Cert.ReferenceIdeal.S2048x3096.Idx → EReal} {x1 : Cert.ReferenceIdeal.S16x256.Idx → EReal}
  {x2 : Cert.ReferenceIdeal.S1x256.Idx → EReal} {x3 : Cert.ReferenceIdeal.S1x512.Idx → EReal}
  {x4 : Cert.ReferenceIdeal.S2048x1024.Idx → EReal}
  (H' : Reals A x0 x1 x2 x3 x4)
  (H : Reals A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)))
include H H'

/-- The queries' gradient. -/
theorem agree0 : val_main_v145 (F := Ideal) x0 x1 x2 x3 x4 = ((dats m 0 c).arrAt 11 cfg0.N : S2048x256.Idx → EReal) :=
  funext fun i => (r145 H' i).trans (array11 m c H i).symm

/-- The keys' gradient. -/
theorem agree1 : val_main_v146 (F := Ideal) x0 x1 x2 x3 x4 = ((dats m 0 c).arrAt 12 cfg0.N : S2048x256.Idx → EReal) :=
  funext fun i => (r146 H' i).trans (array12 m c H i).symm

/-- The values' gradient. -/
theorem agree2 : val_main_v147 (F := Ideal) x0 x1 x2 x3 x4 = ((dats m 0 c).arrAt 13 cfg0.N : S2048x512.Idx → EReal) :=
  funext fun i => (r147 H' i).trans (array13 m c H i).symm

/-- The output gate' gradient. -/
theorem agree3 : val_main_v148 (F := Ideal) x0 x1 x2 x3 x4 = ((dats m 0 c).arrAt 14 cfg0.N : S2048x512.Idx → EReal) :=
  funext fun i => (r148 H' i).trans (array14 m c H i).symm

/-- The gate input' gradient. -/
theorem agree4 : val_main_v150 (F := Ideal) x0 x1 x2 x3 x4 = ((dats m 0 c).arrAt 15 cfg0.N : S2048x128.Idx → EReal) :=
  funext fun i => (r150 H' i).trans ((congrArg Real.toEReal rfl).trans (array15 m c H i).symm)

/-- The gate weights' gradient. -/
theorem agree5 : val_main_v151 (F := Ideal) x0 x1 x2 x3 x4 = ((dats m 0 c).arrAt 16 cfg0.N : S128x256.Idx → EReal) :=
  funext fun i => (r151 H' i).trans (congrFun (array16 m c H) i).symm

/-- The gate bias' gradient. -/
theorem agree6 : val_main_v136 (F := Ideal) x0 x1 x2 x3 x4 = ((dats m 0 c).arrAt 17 cfg0.N : S1x256.Idx → EReal) :=
  funext fun i => (r136 H' i).trans (congrFun (array17 m c H) i).symm

/-- The norm weight' gradient. -/
theorem agree7 : val_main_v75 (F := Ideal) x0 x1 x2 x4 = ((dats m 0 c).arrAt 18 cfg0.N : S1x512.Idx → EReal) :=
  funext fun i => (r75 H' i).trans (congrFun (array18 m c H) i).symm

end Gla
end
-- ==== Proof.DownDw.lean ====
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit

@[expose] public section

/-!
# The gradient of the MLP block's second weight matrix

The kernel computes, tile by tile, the product of the squared relu of the saved activations,
transposed, with the gradient of the block's product. Each entry is a sum over the rows, the same
sum as the reference's.
-/

set_option maxRecDepth 16384

noncomputable section

open Idealize.ShloMosaic Idealize.ShloMosaic.TcCoe Idealize.SL.Sem
open Idealize.ShloMosaic.Pipeline (Dat)
open scoped BigOperators

namespace DownDw

open Cert.Kernel2Ideal Cert.Kernel2Ideal.Gen

/-- The squared relu of an extended real. -/
def sqrelu (u : EReal) : EReal := max u (Ideal.ofBits .f32 0x00000000#32) * max u (Ideal.ofBits .f32 0x00000000#32)

/-- One entry of the gradient: the sum over the rows. -/
def entry (u : S2048x4096.Idx → EReal) (g : S2048x1024.Idx → EReal) (i : S4096x1024.Idx) : EReal :=
  ∑ k : Fin 2048, sqrelu (u (ix2 k ⟨(i 0).val, (i 0).isLt⟩)) * g (ix2 k ⟨(i 1).val, (i 1).isLt⟩)

/-- What the body stores, entry by entry. -/
theorem pay_apply (x : S2048x1024.Idx → EReal) (y : S2048x512.Idx → EReal) (i : S1024x512.Idx) :
    k0_pay1 (F := Ideal) x y i = ∑ k : Fin 2048, sqrelu (x (ix2 k ⟨(i 0).val, (i 0).isLt⟩)) * y (ix2 k ⟨(i 1).val, (i 1).isLt⟩) := by
  unfold k0_pay1 sqrelu
  pointwise

theorem hz : (![0, 0] : Fin 2 → Nat) = fun _ => 0 := funext fun a => by fin_cases a <;> rfl

/-- What the body leaves in the output's buffer is what it stores. -/
theorem out_eq (x : Vec Ideal S2048x1024 .bf16) (y : Vec Ideal S2048x512 .bf16) : out0_2 (F := Ideal) x y = k0_pay1 x y := by
  unfold out0_2
  rw [View.canon_unit_zero (S := S1024x512) hz, View.ld_unit_zero (S := S2048x1024) hz, View.ld_unit_zero (S := S2048x512) hz]

theorem idxA : ∀ t : Fin cfg0.N, win0_0.index t = ![0, t.val / 2] := by decide +kernel
theorem idxB : ∀ t : Fin cfg0.N, win0_1.index t = ![0, t.val % 2] := by decide +kernel
theorem idxC : ∀ t : Fin cfg0.N, win0_2.index t = ![t.val / 2, t.val % 2] := by decide +kernel

variable (m : (ℓ : Loc nD τ sig) → Buf (Elt Ideal) ℓ) (c : Dev nD)

/-- The activations as the launch reads them. -/
theorem entryU : (V (F := Ideal) m c main_v0 : S2048x4096.Idx → EReal) = m ((c : Thread nD τ).loc main_arg0) := by
  funext i
  dsimp only [V, hostOps0]
  after_results
  rfl

/-- The gradient as the launch reads it. -/
theorem entryG : (V (F := Ideal) m c main_v1 : S2048x1024.Idx → EReal) = m ((c : Thread nD τ).loc main_arg2) := by
  funext i
  dsimp only [V, hostOps0]
  after_results
  rfl

variable (t : Fin cfg0.N)

/-- The columns of the activations that grid point `t` reads. -/
theorem blockU (y : S2048x1024.Idx) (i : S2048x4096.Idx) (h0 : (i 0).val = (y 0).val) (h1 : (i 1).val = t.val / 2 * 1024 + (y 1).val) :
    (iblk m c 0 t : S2048x1024.Idx → EReal) y = (m ((c : Thread nD τ).loc main_arg0) : S2048x4096.Idx → EReal) i := by
  blk_simp [iblk]
  refine (congrFun (entryU m c) _).trans (congrArg _ (Shape.idx_ext₂ ?_ ?_))
  · rw [h0]; blk_simp [idxA t]
  · rw [h1]; blk_simp [idxA t]

/-- The columns of the gradient that grid point `t` reads. -/
theorem blockG (y : S2048x512.Idx) (i : S2048x1024.Idx) (h0 : (i 0).val = (y 0).val) (h1 : (i 1).val = t.val % 2 * 512 + (y 1).val) :
    (iblk m c 1 t : S2048x512.Idx → EReal) y = (m ((c : Thread nD τ).loc main_arg2) : S2048x1024.Idx → EReal) i := by
  blk_simp [iblk]
  refine (congrFun (entryG m c) _).trans (congrArg _ (Shape.idx_ext₂ ?_ ?_))
  · rw [h0]; blk_simp [idxB t]
  · rw [h1]; blk_simp [idxB t]

/-- The array the kernel returns, entry by entry. -/
theorem array (i : S4096x1024.Idx) :
    ((dats m 0 c).arrAt 2 cfg0.N : S4096x1024.Idx → EReal) i
      = entry (m ((c : Thread nD τ).loc main_arg0)) (m ((c : Thread nD τ).loc main_arg2)) i := by
  refine (dats m 0 c).arrAt_forall_of_covers 2 (fun (i : S4096x1024.Idx) v => v = entry (m ((c : Thread nD τ).loc main_arg0)) (m ((c : Thread nD τ).loc main_arg2)) i)
    (by decide +kernel) (fun t hf y => ?_) i
  blk_simp
  rw [after0_2, out_eq]
  refine (pay_apply _ _ y).trans ?_
  unfold entry
  refine Finset.sum_congr rfl fun k _ => congrArg₂ (· * ·) (congrArg sqrelu ?_) ?_
  · refine blockU m c t _ _ rfl (show ((win0_2.blk t).view.emb y 0).val = t.val / 2 * 1024 + (y 0).val by blk_simp [idxC t])
  · refine blockG m c t _ _ rfl (show ((win0_2.blk t).view.emb y 1).val = t.val % 2 * 512 + (y 1).val by blk_simp [idxC t])

/-- The reference's result, entry by entry. -/
theorem ref_apply (x0 : S2048x4096.Idx → EReal) (x2 : S2048x1024.Idx → EReal) (i : S4096x1024.Idx) :
    Cert.Reference2Ideal.Read.val_main_v5 (F := Ideal) x0 x2 i = entry x0 x2 i := by
  show Cert.Reference2Ideal.Read.val_main_v4 (F := Ideal) x0 x2 i = _
  rw [Cert.Reference2Ideal.Read.val_main_v4_apply, Cert.Reference2Ideal.Read.val_main_v3_apply]
  unfold entry
  refine Finset.sum_congr rfl fun k _ => (mul_comm _ _).trans (congrArg₂ (· * ·) ?_ ?_)
  · refine congrArg sqrelu (congrArg x0 (Shape.idx_ext₂ rfl rfl))
  · exact congrArg x2 (Shape.idx_ext₂ rfl rfl)

end DownDw
end
-- ==== Proof.DownDwClaim.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.DownDw
public import Idealize.ShloMosaic.Adequacy
public import Idealize.ShloMosaic.Init

@[expose] public section

/-!
# The claims about the gradient of the MLP's second weight matrix

The reference's run and frame, and the value claim: the kernel's arrays are the reference's.
-/

set_option maxRecDepth 16384

noncomputable section

open Idealize.ShloMosaic Idealize.ShloMosaic.TcCoe Idealize.SL.Sem

namespace DownDwClaim

section Run

open Idealize.ShloMosaic.StableHlo
open Cert.Reference2Ideal Cert.Reference2Ideal.Gen Cert.Reference2Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v5) = val_main_v5 (F := Ideal) (m ((c.tc : Thread nD τ).loc main_arg0)) (m ((c.tc : Thread nD τ).loc main_arg2))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun r h c => by
    obtain ⟨h0, ha⟩ := h c
    exact ⟨h0.trans (val_main_v5_eq _ _), ha⟩) (Cert.Reference2Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  (θ_run defs _ _).mono (fun r h => ⟨fun c => by
    obtain ⟨_, ha⟩ := h c
    exact ha, Idealize.ShloMosaic.sem_eq_zero_of_no_sems (by decide) r.2⟩) (ref_run m ρ)

end Run

section Agree

open Cert.Kernel2Ideal

variable (m : (ℓ : Loc nD τ sig) → Buf (Elt Ideal) ℓ) (c : Dev nD)

/-- Result 0 of the two programs on equal arguments. -/
theorem agree0 (x0 : Cert.Reference2Ideal.S2048x4096.Idx → EReal) (x1 : Cert.Reference2Ideal.S4096x1024.Idx → EReal) (x2 : Cert.Reference2Ideal.S2048x1024.Idx → EReal)
    (e0 : x0 = m ((c.tc : Thread nD τ).loc main_arg0)) (e1 : x1 = m ((c.tc : Thread nD τ).loc main_arg1)) (e2 : x2 = m ((c.tc : Thread nD τ).loc main_arg2)) :
    Cert.Reference2Ideal.Read.val_main_v5 (F := Ideal) x0 x2 = (Gen.dats m 0 c).arrAt 2 cfg0.N := by
  subst e0 e1 e2
  exact funext fun i => (DownDw.ref_apply _ _ i).trans (DownDw.array m c i).symm

end Agree

set_option maxHeartbeats 2000000 in
/-- The value claim: on every argument the kernel's arrays are the reference's. -/
theorem algebraic : Cert.algebraic_Kernel2Ideal_Reference2Ideal := fun m ρ m' ρ' _ hargs =>
  ⟨fun c => (Cert.Kernel2Ideal.Gen.dats m 0 c).arrAt 2 Cert.Kernel2Ideal.cfg0.N,
    Cert.Kernel2Ideal.Value.run_blocks m ρ,
    (θ_run Cert.Reference2Ideal.defs _ _).mono (fun r h c => by
      obtain ⟨h0, ha⟩ := h c
      exact ⟨h0.trans (agree0 m c _ _ _ (hargs c).1 (hargs c).2.1 (hargs c).2.2), ha⟩) (ref_run m' ρ')⟩

end DownDwClaim
end
-- ==== Proof.UpDw.lean ====
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

/-!
# The gradient of the MLP block's first weight matrix

The host normalises the block's input; the kernel multiplies it, transposed, with the gradient of the
activations and writes the result in eight blocks of columns. Each entry is a sum over the rows, the
same sum as the reference's.
-/

set_option maxRecDepth 16384

noncomputable section

open Idealize.ShloMosaic Idealize.ShloMosaic.TcCoe Idealize.SL.Sem
open Idealize.ShloMosaic.Pipeline (Dat)
open scoped BigOperators

namespace UpDw

open Cert.Kernel3Ideal Cert.Kernel3Ideal.Gen

/-- One entry of the gradient, by row of the matrix and column of the matrix: the sum over the rows of the batch. -/
def entry (h : S2048x1024.Idx → EReal) (g : S2048x4096.Idx → EReal) (i : S8x1024x512.Idx) : EReal :=
  ∑ k : Fin 2048, h (ix2 k ⟨(i 1).val, (i 1).isLt⟩)
    * g (ix2 k ⟨(i 0).val * 512 + (i 2).val, by have h0 : (i 0).val < 8 := (i 0).isLt; have h2 : (i 2).val < 512 := (i 2).isLt; omega⟩)

/-- What the body stores, entry by entry. -/
theorem pay_apply (x : S2048x1024.Idx → EReal) (y : S2048x512.Idx → EReal) (i : S1x1024x512.Idx) :
    k0_pay1 (F := Ideal) x y i = ∑ k : Fin 2048, x (ix2 k ⟨(i 1).val, (i 1).isLt⟩) * y (ix2 k ⟨(i 2).val, (i 2).isLt⟩) := by
  unfold k0_pay1
  pointwise

theorem hz : (![0, 0] : Fin 2 → Nat) = fun _ => 0 := funext fun a => by fin_cases a <;> rfl
theorem hz3 : (![0, 0, 0] : Fin 3 → Nat) = fun _ => 0 := funext fun a => by fin_cases a <;> rfl

/-- What the body leaves in the output's buffer is what it stores. -/
theorem out_eq (x : Vec Ideal S2048x1024 .bf16) (y : Vec Ideal S2048x512 .bf16) : out0_2 (F := Ideal) x y = k0_pay1 x y := by
  unfold out0_2
  rw [View.canon_unit_zero (S := S1x1024x512) hz3, View.ld_unit_zero (S := S2048x1024) hz, View.ld_unit_zero (S := S2048x512) hz]

theorem idxA : ∀ t : Fin cfg0.N, win0_0.index t = ![0, 0] := by decide +kernel
theorem idxB : ∀ t : Fin cfg0.N, win0_1.index t = ![0, t.val] := by decide +kernel
theorem idxC : ∀ t : Fin cfg0.N, win0_2.index t = ![t.val, 0, 0] := by decide +kernel

variable (m : (ℓ : Loc nD τ sig) → Buf (Elt Ideal) ℓ) (c : Dev nD)

/-- The normalised input, as the host computes it. -/
abbrev normed (x : S2048x1024.Idx → EReal) (n : S1x1024.Idx → EReal) : S2048x1024.Idx → EReal :=
  Cert.Reference3Ideal.Read.val_main_v11 (F := Ideal) x n

/-- The normalised input as the launch reads it. -/
theorem entryH : (V (F := Ideal) m c main_v12 : S2048x1024.Idx → EReal)
    = normed (m ((c : Thread nD τ).loc main_arg0)) (m ((c : Thread nD τ).loc main_arg1)) := by
  dsimp only [V, hostOps0]
  after_results
  rfl

/-- The gradient as the launch reads it. -/
theorem entryG : (V (F := Ideal) m c main_v13 : S2048x4096.Idx → EReal) = m ((c : Thread nD τ).loc main_arg3) := by
  funext i
  dsimp only [V, hostOps0]
  after_results
  rfl

variable (t : Fin cfg0.N)

/-- Every grid point reads the normalised input whole. -/
theorem blockH (y : S2048x1024.Idx) (i : S2048x1024.Idx) (h0 : (i 0).val = (y 0).val) (h1 : (i 1).val = (y 1).val) :
    (iblk m c 0 t : S2048x1024.Idx → EReal) y
      = normed (m ((c : Thread nD τ).loc main_arg0)) (m ((c : Thread nD τ).loc main_arg1)) i := by
  blk_simp [iblk]
  refine (congrFun (entryH m c) _).trans (congrArg _ (Shape.idx_ext₂ ?_ ?_))
  · rw [h0]; blk_simp [idxA t]
  · rw [h1]; blk_simp [idxA t]

/-- The columns of the gradient that grid point `t` reads. -/
theorem blockG (y : S2048x512.Idx) (i : S2048x4096.Idx) (h0 : (i 0).val = (y 0).val) (h1 : (i 1).val = t.val * 512 + (y 1).val) :
    (iblk m c 1 t : S2048x512.Idx → EReal) y = (m ((c : Thread nD τ).loc main_arg3) : S2048x4096.Idx → EReal) i := by
  blk_simp [iblk]
  refine (congrFun (entryG m c) _).trans (congrArg _ (Shape.idx_ext₂ ?_ ?_))
  · rw [h0]; blk_simp [idxB t]
  · rw [h1]; blk_simp [idxB t]

/-- The array the kernel returns, entry by entry. -/
theorem array (i : S8x1024x512.Idx) :
    ((dats m 0 c).arrAt 2 cfg0.N : S8x1024x512.Idx → EReal) i
      = entry (normed (m ((c : Thread nD τ).loc main_arg0)) (m ((c : Thread nD τ).loc main_arg1))) (m ((c : Thread nD τ).loc main_arg3)) i := by
  refine (dats m 0 c).arrAt_forall_of_covers 2 (fun (i : S8x1024x512.Idx) v =>
      v = entry (normed (m ((c : Thread nD τ).loc main_arg0)) (m ((c : Thread nD τ).loc main_arg1))) (m ((c : Thread nD τ).loc main_arg3)) i)
    (by decide +kernel) (fun t hf y => ?_) i
  have hy : (y 0).val = 0 := by have h0 : (y 0).val < 1 := (y 0).isLt; omega
  have e0 : ((win0_2.blk t).view.emb y 0).val = t.val := by
    have e : ((win0_2.blk t).view.emb y 0).val = t.val + (y 0).val := by blk_simp [idxC t]
    rw [e, hy, Nat.add_zero]
  have e1 : ((win0_2.blk t).view.emb y 1).val = (y 1).val := by blk_simp [idxC t]
  have e2 : ((win0_2.blk t).view.emb y 2).val = (y 2).val := by blk_simp [idxC t]
  blk_simp
  rw [after0_2, out_eq]
  refine (pay_apply _ _ y).trans ?_
  unfold entry
  refine Finset.sum_congr rfl fun k _ => congrArg₂ (· * ·) ?_ ?_
  · exact blockH m c t _ _ rfl e1
  · exact blockG m c t _ _ rfl (congrArg₂ (fun a b => a * 512 + b) e0 e2)

/-- A column in its block. -/
theorem col_div {a r q : ℕ} (hr : r < 512) (hq : q < 8) : ((a * 8 + q) * 512 + r) / 4096 = a := by omega
theorem col_mod {a r q : ℕ} (hr : r < 512) (hq : q < 8) : ((a * 8 + q) * 512 + r) % 4096 = q * 512 + r := by omega

open Cert.Reference3Ideal.Read in
/-- The reference's result, entry by entry. -/
theorem ref_apply (x0 : S2048x1024.Idx → EReal) (x1 : S1x1024.Idx → EReal) (x3 : S2048x4096.Idx → EReal) (i : S8x1024x512.Idx) :
    val_main_v17 (F := Ideal) x0 x1 x3 i = entry (normed x0 x1) x3 i := by
  have h0 : (i 0).val < 8 := (i 0).isLt
  have h2 : (i 2).val < 512 := (i 2).isLt
  rw [val_main_v17_apply, val_main_v16_apply]
  show val_main_v14 (F := Ideal) x0 x1 x3 _ = _
  rw [val_main_v14_apply, val_main_v13_apply]
  unfold entry
  refine Finset.sum_congr rfl fun k _ => (mul_comm _ _).trans (congrArg₂ (· * ·) ?_ ?_)
  · exact congrArg (normed x0 x1) (Shape.idx_ext₂ rfl (col_div h2 h0))
  · exact congrArg x3 (Shape.idx_ext₂ rfl (col_mod h2 h0))

end UpDw
end
-- ==== Proof.UpDwClaim.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.UpDw
public import Idealize.ShloMosaic.Adequacy
public import Idealize.ShloMosaic.Init

@[expose] public section

/-!
# The claims about the gradient of the MLP's first weight matrix

The reference's run and frame, and the value claim: the kernel's arrays are the reference's.
-/

set_option maxRecDepth 16384

noncomputable section

open Idealize.ShloMosaic Idealize.ShloMosaic.TcCoe Idealize.SL.Sem

namespace UpDwClaim

section Run

open Idealize.ShloMosaic.StableHlo
open Cert.Reference3Ideal Cert.Reference3Ideal.Gen Cert.Reference3Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v17) = val_main_v17 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun r h c => by
    obtain ⟨h0, ha⟩ := h c
    exact ⟨h0.trans (val_main_v17_eq _ _ _), ha⟩) (Cert.Reference3Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0) :=
  (θ_run defs _ _).mono (fun r h => ⟨fun c => by
    obtain ⟨_, ha⟩ := h c
    exact ha, Idealize.ShloMosaic.sem_eq_zero_of_no_sems (by decide) r.2⟩) (ref_run m ρ)

end Run

section Agree

open Cert.Kernel3Ideal

variable (m : (ℓ : Loc nD τ sig) → Buf (Elt Ideal) ℓ) (c : Dev nD)

/-- Result 0 of the two programs on equal arguments. -/
theorem agree0 (x0 : Cert.Reference3Ideal.S2048x1024.Idx → EReal) (x1 : Cert.Reference3Ideal.S1x1024.Idx → EReal) (x2 : Cert.Reference3Ideal.S1024x4096.Idx → EReal) (x3 : Cert.Reference3Ideal.S2048x4096.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference3Ideal.Read.val_main_v17 (F := Ideal) x0 x1 x3 = (Gen.dats m 0 c).arrAt 2 cfg0.N := by
  subst e0 e1 e2 e3
  exact funext fun i => (UpDw.ref_apply _ _ _ i).trans (UpDw.array m c i).symm

end Agree

set_option maxHeartbeats 2000000 in
/-- The value claim: on every argument the kernel's arrays are the reference's. -/
theorem algebraic : Cert.algebraic_Kernel3Ideal_Reference3Ideal := fun m ρ m' ρ' _ hargs =>
  ⟨fun c => (Cert.Kernel3Ideal.Gen.dats m 0 c).arrAt 2 Cert.Kernel3Ideal.cfg0.N,
    Cert.Kernel3Ideal.Value.run_blocks m ρ,
    (θ_run Cert.Reference3Ideal.defs _ _).mono (fun r h c => by
      obtain ⟨h0, ha⟩ := h c
      exact ⟨h0.trans (agree0 m c _ _ _ _ (hargs c).1 (hargs c).2.1 (hargs c).2.2.1 (hargs c).2.2.2), ha⟩) (ref_run m' ρ')⟩

end UpDwClaim
end
-- ==== Proof.NormBwd.lean ====
module

public import proofs.«01_k».proof.Proof.Reals

@[expose] public section

/-!
# The gradient through a root-mean-square normalisation, over the extended reals

A row `x` is divided by the root of its mean square plus a small number. The reference differentiates
this line by line; the kernels have the derivative in closed form. Both are the same for every row of
extended reals: where an entry is infinite the reciprocal root is zero and both leave the gradient of
the residual sum alone.
-/

set_option maxRecDepth 16384

noncomputable section

open Idealize.ShloMosaic Idealize.ShloMosaic.TcCoe
open Gla (eps ofBits_eps eps_pos ofBits_neg_half)
open scoped BigOperators

namespace NormBwd

/-- A matrix of extended reals, named by row and column. -/
def IsE {a b : ℕ} (x : (⟨2, ![a, b]⟩ : Shape).Idx → EReal) (f : ℕ → ℕ → EReal) : Prop := ∀ i, x i = f (i 0).val (i 1).val

/-- The entries of a matrix by row and column. -/
def entries {a b : ℕ} (ha : 0 < a) (hb : 0 < b) (x : (⟨2, ![a, b]⟩ : Shape).Idx → EReal) (i j : ℕ) : EReal :=
  x (ix2 ⟨i % a, Nat.mod_lt _ ha⟩ ⟨j % b, Nat.mod_lt _ hb⟩)

theorem isE_entries {a b : ℕ} (ha : 0 < a) (hb : 0 < b) (x : (⟨2, ![a, b]⟩ : Shape).Idx → EReal) : IsE x (entries ha hb x) := fun i => by
  have e : ix2 ⟨(i 0).val % a, Nat.mod_lt _ ha⟩ ⟨(i 1).val % b, Nat.mod_lt _ hb⟩ = i := by
    funext k
    match k with
    | 0 => exact Fin.ext (Nat.mod_eq_of_lt (i 0).isLt)
    | 1 => exact Fin.ext (Nat.mod_eq_of_lt (i 1).isLt)
  unfold entries
  rw [e]

/-- A sum over the indices below `n` as a sum over a range. -/
theorem sum_range {n : ℕ} {x : Fin n → EReal} (f : ℕ → EReal) (h : ∀ k : Fin n, x k = f k.val) :
    ∑ k : Fin n, x k = ∑ k ∈ Finset.range n, f k :=
  (Finset.sum_congr rfl fun k _ => h k).trans (Fin.sum_univ_eq_sum_range f n)

/-- The zero word. -/
theorem ofBits_0 : Ideal.ofBits .f32 0x00000000#32 = 0 := by
  simp [Ideal.ofBits, Ideal.ieee]

/-- The number of columns. -/
theorem ofBits_1024 : Ideal.ofBits .f32 0x44800000#32 = ((1024 : ℝ) : EReal) := by
  simp [Ideal.ofBits, Ideal.ieee, -EReal.coe_mul]; norm_num

/-- The arguments as matrices: the row's entries, the norm's weights, the gradient of the normalised rows and the
    gradient of the residual sum. -/
structure Args where
  x : ℕ → ℕ → EReal
  n : ℕ → ℕ → EReal
  p : ℕ → ℕ → EReal
  d : ℕ → ℕ → EReal

variable (A : Args)

/-- The mean square of a row, with the small number under the root. -/
def ms (s : ℕ) : EReal := Ideal.div (∑ j ∈ Finset.range 1024, A.x s j * A.x s j) (Ideal.ofBits .f32 0x44800000#32) + Ideal.ofBits .f32 0x358637BD#32
/-- Its reciprocal root. -/
def rs (s : ℕ) : EReal := Ideal.rsqrt (ms A s)
/-- The row over its root mean square. -/
def xh (s j : ℕ) : EReal := A.x s j * rs A s
/-- The gradient before the norm's weights. -/
def g (s j : ℕ) : EReal := A.p s j * A.n 0 j
/-- The gradient of the row, in closed form. -/
def dx (s j : ℕ) : EReal :=
  rs A s * (g A s j - xh A s j * Ideal.div (∑ l ∈ Finset.range 1024, g A s l * xh A s l) (Ideal.ofBits .f32 0x44800000#32)) + A.d s j
/-- The gradient of the norm's weights. -/
def dn (j : ℕ) : EReal := ∑ s ∈ Finset.range 2048, A.p s j * xh A s j
/-- The squared relu. -/
def relu2 (u : EReal) : EReal := max u 0 * max u 0
/-- The residual sum: the normalised row times the norm's weights on top of the stream. -/
def res (s j : ℕ) : EReal := A.d s j + xh A s j * A.n 0 j
/-- The part of the gradient that goes through the mean square, over one entry of the row. -/
def tms (s : ℕ) : EReal :=
  Ideal.div ((∑ j ∈ Finset.range 1024, A.x s j * g A s j) * (Ideal.ofBits .f32 0xBF000000#32 * Ideal.div (rs A s) (ms A s))) (Ideal.ofBits .f32 0x44800000#32)

/-- A product by a real number and by its half twice. -/
theorem mul_halves (S : EReal) (b : ℝ) : -(S * (b : EReal)) = S * ((-b / 2 : ℝ) : EReal) + S * ((-b / 2 : ℝ) : EReal) := by
  induction S with
  | coe s => rw [← EReal.coe_mul, ← EReal.coe_mul, ← EReal.coe_add, ← EReal.coe_neg]; congr 1; ring
  | top =>
    rcases lt_trichotomy b 0 with h | h | h
    · rw [EReal.top_mul_coe_of_neg h, EReal.top_mul_coe_of_pos (by linarith)]; rfl
    · subst h; simp
    · rw [EReal.top_mul_coe_of_pos h, EReal.top_mul_coe_of_neg (by linarith)]; rfl
  | bot =>
    rcases lt_trichotomy b 0 with h | h | h
    · rw [EReal.bot_mul_coe_of_neg h, EReal.bot_mul_coe_of_pos (by linarith)]; rfl
    · subst h; simp
    · rw [EReal.bot_mul_coe_of_pos h, EReal.bot_mul_coe_of_neg (by linarith)]; rfl

/-- A nonnegative real factor may be taken out of a sum. -/
theorem sum_mul_coe (f : ℕ → EReal) (r : ℝ) (hr : 0 ≤ r) (n : ℕ) :
    ∑ l ∈ Finset.range n, f l * (r : EReal) = (∑ l ∈ Finset.range n, f l) * (r : EReal) := by
  induction n with
  | zero => simp
  | succ n ih =>
    rw [Finset.sum_range_succ, Finset.sum_range_succ, ih,
      EReal.right_distrib_of_nonneg_of_ne_top (EReal.coe_nonneg.mpr hr) (EReal.coe_ne_top r)]

/-- A square is not negative. -/
theorem mul_self_nonneg' (x : EReal) : 0 ≤ x * x := by
  induction x with
  | coe x => rw [← EReal.coe_mul]; exact EReal.coe_nonneg.mpr (mul_self_nonneg x)
  | top => rw [EReal.top_mul_top]; exact le_top
  | bot => rw [EReal.bot_mul_bot]; exact le_top

/-- The mean square is infinite, or a positive real number. -/
theorem ms_cases (s : ℕ) : ms A s = ⊤ ∨ ∃ m : ℝ, 0 < m ∧ ms A s = (m : EReal) := by
  have hq : 0 ≤ ∑ j ∈ Finset.range 1024, A.x s j * A.x s j := Finset.sum_nonneg fun _ _ => mul_self_nonneg' _
  unfold ms
  rw [ofBits_1024, ofBits_eps, Ideal.div_coe (by norm_num)]
  generalize ∑ j ∈ Finset.range 1024, A.x s j * A.x s j = q at hq
  induction q with
  | coe q =>
    refine .inr ⟨q * (1 / 1024) + eps, ?_, by rw [← EReal.coe_mul, ← EReal.coe_add]⟩
    exact add_pos_of_nonneg_of_pos (mul_nonneg (EReal.coe_nonneg.mp hq) (by norm_num)) eps_pos
  | top => exact .inl (by rw [EReal.top_mul_coe_of_pos (by norm_num), EReal.top_add_coe])
  | bot => exact absurd hq (by simp)

/-- Where the mean square is real, so is every entry of the row. -/
theorem real_of_ms {s : ℕ} {m : ℝ} (h : ms A s = (m : EReal)) {j : ℕ} (hj : j < 1024) : ∃ r : ℝ, A.x s j = (r : EReal) := by
  by_contra hx
  have h1 : A.x s j * A.x s j = ⊤ := by
    generalize hy : A.x s j = y at hx
    induction y with
    | coe y => exact absurd ⟨y, rfl⟩ hx
    | top => exact EReal.top_mul_top
    | bot => exact EReal.bot_mul_bot
  have h2 : ∑ j ∈ Finset.range 1024, A.x s j * A.x s j = ⊤ :=
    top_le_iff.mp (h1 ▸ Finset.single_le_sum (f := fun j => A.x s j * A.x s j) (fun _ _ => mul_self_nonneg' _) (Finset.mem_range.mpr hj))
  unfold ms at h
  rw [h2, ofBits_1024, ofBits_eps, Ideal.div_coe (by norm_num), EReal.top_mul_coe_of_pos (by norm_num), EReal.top_add_coe] at h
  exact EReal.coe_ne_top m h.symm

/-- Differentiated line by line or in closed form, the gradient is the same. -/
theorem dx_eq (s : ℕ) {j : ℕ} (hj : j < 1024) : A.d s j + g A s j * rs A s + A.x s j * tms A s + tms A s * A.x s j = dx A s j := by
  rcases ms_cases A s with h | ⟨m, hm, h⟩
  · have hr : rs A s = 0 := by unfold rs; rw [h]; rfl
    have hdiv : Ideal.div 0 (⊤ : EReal) = 0 := by unfold Ideal.div; simp
    have ht : tms A s = 0 := by
      unfold tms
      rw [hr, h, hdiv, mul_zero, mul_zero, ofBits_1024, Ideal.div_coe (by norm_num), zero_mul]
    unfold dx
    rw [ht, hr]
    simp
  · obtain ⟨x, hx⟩ := real_of_ms A h hj
    have hr : rs A s = (((Real.sqrt m)⁻¹ : ℝ) : EReal) := by
      unfold rs; rw [h]; exact Gla.rsqrt_coe_pos _ hm
    have hs : (Real.sqrt m)⁻¹ * (Real.sqrt m)⁻¹ = m⁻¹ := by rw [← mul_inv, Real.mul_self_sqrt hm.le]
    have h0 : 0 ≤ (Real.sqrt m)⁻¹ := inv_nonneg.mpr (Real.sqrt_nonneg m)
    generalize (Real.sqrt m)⁻¹ = r at hr hs h0
    have h3 : ∑ l ∈ Finset.range 1024, g A s l * xh A s l = (∑ l ∈ Finset.range 1024, A.x s l * g A s l) * (r : EReal) := by
      rw [← sum_mul_coe _ _ h0]
      refine Finset.sum_congr rfl fun l _ => ?_
      unfold xh
      rw [hr, ← mul_assoc, mul_comm (g A s l)]
    have ht : tms A s = (∑ l ∈ Finset.range 1024, A.x s l * g A s l) * ((-1 / 2 * (r * (1 / m)) * (1 / 1024) : ℝ) : EReal) := by
      unfold tms
      rw [hr, h, ofBits_1024, ofBits_neg_half, Ideal.div_coe (by norm_num), Ideal.div_coe hm.ne', ← EReal.coe_mul, ← EReal.coe_mul, mul_assoc, ← EReal.coe_mul]
    unfold dx
    rw [h3, ht]
    unfold xh
    rw [hx, hr, ofBits_1024, Ideal.div_coe (by norm_num)]
    generalize ∑ l ∈ Finset.range 1024, A.x s l * g A s l = S
    generalize g A s j = G
    have e1 : (x : EReal) * (S * ((-1 / 2 * (r * (1 / m)) * (1 / 1024) : ℝ) : EReal)) = S * ((-(x * r * r * r * (1 / 1024)) / 2 : ℝ) : EReal) := by
      rw [mul_left_comm, ← EReal.coe_mul]
      congr 2
      rw [one_div m, ← hs]
      ring
    have e2 : S * ((-1 / 2 * (r * (1 / m)) * (1 / 1024) : ℝ) : EReal) * (x : EReal) = S * ((-(x * r * r * r * (1 / 1024)) / 2 : ℝ) : EReal) := by
      rw [mul_comm]; exact e1
    have e3 : (r : EReal) * ((x : EReal) * (r : EReal) * (S * (r : EReal) * ((1 / 1024 : ℝ) : EReal))) = S * ((x * r * r * r * (1 / 1024) : ℝ) : EReal) := by
      simp only [EReal.coe_mul]
      ac_rfl
    rw [e1, e2, sub_eq_add_neg, EReal.left_distrib_of_nonneg_of_ne_top (EReal.coe_nonneg.mpr h0) (EReal.coe_ne_top r), mul_neg, e3, mul_halves,
      mul_comm (r : EReal) G]
    ac_rfl

end NormBwd
end
-- ==== Proof.UpDxSpec.lean ====
module

public import proofs.«01_k».proof.Proof.NormBwd
public import proofs.«01_k».proof.Proof.Gen.Reference4Ideal.Read
public import proofs.«01_k».proof.Proof.Gen.Kernel4Ideal.Skeleton

@[expose] public section

/-!
# The gradient of the MLP block's input

What the kernel's body computes at one block of 512 rows, and the reference's lines, both as the
functions of Proof/NormBwd; the gradient of the normalised rows is the product of the gradient of the activations
with the weight matrix.
-/

set_option maxRecDepth 16384

noncomputable section

open Idealize.ShloMosaic Idealize.ShloMosaic.TcCoe
open NormBwd
open scoped BigOperators

namespace UpDx

/-! ## The body at one block of rows -/

section Body

open Cert.Kernel4Ideal Cert.Kernel4Ideal.Gen

variable {f : ℕ → ℕ → EReal}

theorem rowsum {x : S512x1024.Idx → EReal} (hx : IsE x f) :
    IsE (shapeCast S512x1 (multiReduction (F := Ideal) (φ := .f32) .add [1] S512 x 0x00000000#32 reduces_S512x1024_S512 (.inl rfl) rfl) shapeCasts_S512_S512x1) fun i _ =>
      ∑ l ∈ Finset.range 1024, f i l := fun i => by
  pointwise
  exact sum_range (fun l => f (i 0).val l) fun l => hx _

theorem colsum {x : S512x1024.Idx → EReal} (hx : IsE x f) :
    IsE (shapeCast S1x1024 (multiReduction (F := Ideal) (φ := .f32) .add [0] S1024 x 0x00000000#32 reduces_S512x1024_S1024 (.inl rfl) rfl) shapeCasts_S1024_S1x1024) fun _ j =>
      ∑ l ∈ Finset.range 512, f l j := fun i => by
  pointwise
  exact sum_range (fun l => f l (i 1).val) fun l => hx _

theorem rows {x : S1x1024.Idx → EReal} (hx : IsE x f) :
    IsE (broadcastTo S512x1024 x broadcasts_S1x1024_S512x1024) fun _ j => f 0 j := fun i => by
  pointwise
  exact hx _

theorem cols {x : S512x1.Idx → EReal} (hx : IsE x f) :
    IsE (broadcastTo S512x1024 x broadcasts_S512x1_S512x1024) fun i _ => f i 0 := fun i => by
  pointwise
  exact hx _

/-- The arguments of the launch as matrices, with the factors of the product. -/
structure Holds (A : Args) (U W : ℕ → ℕ → EReal) : Prop where
  p : ∀ s j, A.p s j = ∑ k ∈ Finset.range 4096, U s k * W j k

/-- The blocks that a grid point reads, of the rows from `512 t` on. -/
structure Block (A : Args) (U W : ℕ → ℕ → EReal) (t : ℕ) (b0 : Vec Ideal S512x4096 .bf16) (b1 : Vec Ideal S1024x4096 .bf16) (b2 : Vec Ideal S512x1024 .f32)
    (b3 : Vec Ideal S1x1024 .f32) (b4 : Vec Ideal S512x1024 .f32) : Prop where
  u : IsE b0 fun s k => U (t * 512 + s) k
  w : IsE b1 W
  x : IsE b2 fun s j => A.x (t * 512 + s) j
  n : IsE b3 A.n
  d : IsE b4 fun s j => A.d (t * 512 + s) j

variable {A : Args} {U W : ℕ → ℕ → EReal} (H : Holds A U W) {t : ℕ} {b0 : Vec Ideal S512x4096 .bf16} {b1 : Vec Ideal S1024x4096 .bf16} {b2 : Vec Ideal S512x1024 .f32}
    {b3 : Vec Ideal S1x1024 .f32} {b4 : Vec Ideal S512x1024 .f32} (B : Block A U W t b0 b1 b2 b3 b4)
include H B

/-- The product. -/
theorem Block.pay2 : IsE (k0_pay2 (F := Ideal) b0 b1) fun s j => A.p (t * 512 + s) j := fun i => by
  refine Eq.trans ?_ (H.p (t * 512 + (i 0).val) (i 1).val).symm
  unfold k0_pay2
  pointwise
  exact sum_range (fun k => U (t * 512 + (i 0).val) k * W (i 1).val k) fun l => congrArg₂ (· * ·) (B.u _) (B.w _)

omit H in
/-- The reciprocal root of the mean square. -/
theorem Block.pay3 : IsE (k0_pay3 (F := Ideal) b2) fun s _ => rs A (t * 512 + s) := fun i => by
  have h7 := rowsum (x := mulf (F := Ideal) (φ := .f32) b2 b2) (f := fun s j => A.x (t * 512 + s) j * A.x (t * 512 + s) j) fun i => congrArg₂ (· * ·) (B.x i) (B.x i)
  exact congrArg (fun q => Ideal.rsqrt (Ideal.div q (Ideal.ofBits .f32 0x44800000#32) + Ideal.ofBits .f32 0x358637BD#32)) (h7 i)

omit H in
/-- The row over its root mean square. -/
theorem Block.pay4 : IsE (k0_pay4 (F := Ideal) b2) fun s j => xh A (t * 512 + s) j := fun i =>
  (congrArg₂ (· * ·) (B.x i) (cols (f := fun s _ => rs A (t * 512 + s)) B.pay3 i) : _ * _ = _)

/-- The gradient of the row. -/
theorem Block.pay5 : IsE (k0_pay5 (F := Ideal) b0 b1 b2 b3 b4) fun s j => dx A (t * 512 + s) j := fun i => by
  have h18 : IsE (mulf (F := Ideal) (φ := .f32) (k0_pay2 (F := Ideal) b0 b1) (broadcastTo S512x1024 b3 broadcasts_S1x1024_S512x1024)) fun s j => g A (t * 512 + s) j :=
    fun i => (congrArg₂ (· * ·) (B.pay2 H i) (rows B.n i) : _ * _ = _)
  have h20 := rowsum (f := fun s j => g A (t * 512 + s) j * xh A (t * 512 + s) j)
    (x := mulf (F := Ideal) (φ := .f32) (mulf (F := Ideal) (φ := .f32) (k0_pay2 (F := Ideal) b0 b1) (broadcastTo S512x1024 b3 broadcasts_S1x1024_S512x1024)) (k0_pay4 (F := Ideal) b2))
    fun i => (congrArg₂ (· * ·) (h18 i) (B.pay4 i) : _ * _ = _)
  have h24 := cols (f := fun s _ => Ideal.div (∑ l ∈ Finset.range 1024, g A (t * 512 + s) l * xh A (t * 512 + s) l) (Ideal.ofBits .f32 0x44800000#32))
    fun i => congrArg (fun q => Ideal.div q (Ideal.ofBits .f32 0x44800000#32)) (h20 i)
  have h26 := congrArg₂ (fun p q : EReal => p - q) (h18 i) (congrArg₂ (fun p q : EReal => p * q) (B.pay4 i) (h24 i))
  have h28 := congrArg₂ (fun p q : EReal => p * q) (cols (f := fun s _ => rs A (t * 512 + s)) B.pay3 i) h26
  exact congrArg₂ (fun p q : EReal => p + q) h28 (B.d i)

/-- What the gradient of the norm's weights is after the block's rows are added. -/
theorem Block.pay1 {q : ℕ → EReal} {v : Vec Ideal S1x1024 .f32} (hv : IsE v fun _ j => q j) :
    IsE (k0_pay1 (F := Ideal) (k0_pay2 b0 b1) (k0_pay4 b2) v) fun _ j =>
      q j + ∑ s ∈ Finset.range 512, A.p (t * 512 + s) j * xh A (t * 512 + s) j := fun i => by
  have h38 := colsum (f := fun s j => A.p (t * 512 + s) j * xh A (t * 512 + s) j)
    (x := mulf (F := Ideal) (φ := .f32) (k0_pay2 (F := Ideal) b0 b1) (k0_pay4 (F := Ideal) b2))
    fun i => (congrArg₂ (· * ·) (B.pay2 H i) (B.pay4 i) : _ * _ = _)
  unfold k0_pay1
  exact congrArg₂ (fun p q : EReal => p + q) ((congrFun (shapeCast_self v _) i).trans (hv i)) (h38 i)

end Body

/-- The first grid point clears the gradient of the norm's weights. -/
theorem cleared : IsE (Cert.Kernel4Ideal.Gen.k0_pay6 (F := Ideal)) fun _ _ => 0 := fun _ => ofBits_0

/-! ## The reference -/

section Reference

open Cert.Reference4Ideal Cert.Reference4Ideal.Read

variable (x0 : S2048x1024.Idx → EReal) (x1 : S1x1024.Idx → EReal) (x2 : S1024x4096.Idx → EReal)
  (x3 : S2048x4096.Idx → EReal) (x4 : S2048x1024.Idx → EReal)

/-- The arguments as matrices. -/
def args : Args where
  x := entries (by decide) (by decide) x0
  n := entries (by decide) (by decide) x1
  p := fun s j => ∑ k ∈ Finset.range 4096, entries (by decide) (by decide) x3 s k * entries (by decide) (by decide) x2 j k
  d := entries (by decide) (by decide) x4

theorem holds : Holds (args x0 x1 x2 x3 x4) (entries (by decide) (by decide) x3) (entries (by decide) (by decide) x2) := ⟨fun _ _ => rfl⟩

theorem hx : IsE x0 (args x0 x1 x2 x3 x4).x := isE_entries (by decide) (by decide) _
theorem hn : IsE x1 (args x0 x1 x2 x3 x4).n := isE_entries (by decide) (by decide) _
theorem hd : IsE x4 (args x0 x1 x2 x3 x4).d := isE_entries (by decide) (by decide) _

theorem ref6 (i : S2048x1.Idx) : val_main_v6 (F := Ideal) x0 i = ms (args x0 x1 x2 x3 x4) (i 0).val := by
  have h1 : val_main_v2 (F := Ideal) x0 i = ∑ j ∈ Finset.range 1024, (args x0 x1 x2 x3 x4).x (i 0).val j * (args x0 x1 x2 x3 x4).x (i 0).val j := by
    rw [val_main_v2_apply, val_main_v1_apply]
    refine (congrArg₂ (· + ·) ofBits_0 (sum_range (fun j => (args x0 x1 x2 x3 x4).x (i 0).val j * (args x0 x1 x2 x3 x4).x (i 0).val j) fun k =>
      (congrArg₂ (· * ·) (hx x0 x1 x2 x3 x4 _) (hx x0 x1 x2 x3 x4 _) : _ * _ = _)) : _ + _ = _).trans (zero_add _)
  exact congrArg (fun q => Ideal.div q (Ideal.ofBits .f32 0x44800000#32) + Ideal.ofBits .f32 0x358637BD#32) h1

theorem ref7 (i : S2048x1.Idx) : val_main_v7 (F := Ideal) x0 i = rs (args x0 x1 x2 x3 x4) (i 0).val :=
  congrArg Ideal.rsqrt (ref6 x0 x1 x2 x3 x4 i)

theorem ref10 (i : S2048x1.Idx) :
    val_main_v10 (F := Ideal) x0 i = Ideal.ofBits .f32 0xBF000000#32 * Ideal.div (rs (args x0 x1 x2 x3 x4) (i 0).val) (ms (args x0 x1 x2 x3 x4) (i 0).val) :=
  congrArg (fun q => Ideal.ofBits .f32 0xBF000000#32 * q) (congrArg₂ Ideal.div (ref7 x0 x1 x2 x3 x4 i) (ref6 x0 x1 x2 x3 x4 i))

theorem ref12 : IsE (val_main_v12 (F := Ideal) x0) (xh (args x0 x1 x2 x3 x4)) := fun i =>
  (congrArg₂ (· * ·) (hx x0 x1 x2 x3 x4 i) ((val_main_v11_apply _ _).trans (ref7 x0 x1 x2 x3 x4 _)) : _ * _ = _)

theorem ref16 : IsE (val_main_v16 (F := Ideal) x2 x3) (args x0 x1 x2 x3 x4).p := fun i => by
  rw [val_main_v16_apply]
  exact sum_range (fun k => entries (by decide) (by decide) x3 (i 0).val k * entries (by decide) (by decide) x2 (i 1).val k) fun k =>
    congrArg₂ (· * ·) (isE_entries (by decide) (by decide) x3 _) (isE_entries (by decide) (by decide) x2 _)

/-- The reference's gradient of the norm's weights. -/
theorem ref19 : IsE (val_main_v19 (F := Ideal) x0 x2 x3) fun _ j => dn (args x0 x1 x2 x3 x4) j := fun i => by
  rw [val_main_v19_apply, val_main_v18_apply]
  refine (congrArg₂ (· + ·) ofBits_0 (sum_range (fun s => (args x0 x1 x2 x3 x4).p s (i 1).val * xh (args x0 x1 x2 x3 x4) s (i 1).val) fun k => ?_) : _ + _ = _).trans (zero_add _)
  have e : (idx_main_v18 (idx_main_v19 i) k 1).val = (i 1).val := by
    have h0 : (i 0).val < 1 := (i 0).isLt
    show (i 0).val * 1024 + (i 1).val = (i 1).val
    omega
  refine (congrArg₂ (· * ·) (ref12 x0 x1 x2 x3 x4 _) (ref16 x0 x1 x2 x3 x4 _) : _ * _ = _).trans ?_
  beta_reduce
  rw [e]
  exact mul_comm _ _

theorem ref21 : IsE (val_main_v21 (F := Ideal) x1 x2 x3) (g (args x0 x1 x2 x3 x4)) := fun i =>
  (congrArg₂ (· * ·) (ref16 x0 x1 x2 x3 x4 i) ((val_main_v20_apply _ _).trans (hn x0 x1 x2 x3 x4 _)) : _ * _ = _)

theorem ref24 (i : S2048x1.Idx) : val_main_v24 (F := Ideal) x0 x1 x2 x3 i = ∑ j ∈ Finset.range 1024, (args x0 x1 x2 x3 x4).x (i 0).val j * g (args x0 x1 x2 x3 x4) (i 0).val j := by
  rw [val_main_v24_apply, val_main_v23_apply]
  refine (congrArg₂ (· + ·) ofBits_0 (sum_range (fun j => (args x0 x1 x2 x3 x4).x (i 0).val j * g (args x0 x1 x2 x3 x4) (i 0).val j) fun k => ?_) : _ + _ = _).trans (zero_add _)
  have e : (idx_main_v23 (idx_main_v24 i) k 0).val = (i 0).val := by
    have h0 : (i 1).val < 1 := (i 1).isLt
    show (i 0).val * 1 + (i 1).val = (i 0).val
    omega
  refine (congrArg₂ (· * ·) (hx x0 x1 x2 x3 x4 _) (ref21 x0 x1 x2 x3 x4 _) : _ * _ = _).trans ?_
  beta_reduce
  rw [e]

theorem ref30 (i : S2048x1.Idx) : val_main_v30 (F := Ideal) x0 x1 x2 x3 i = tms (args x0 x1 x2 x3 x4) (i 0).val :=
  congrArg (fun q => Ideal.div q (Ideal.ofBits .f32 0x44800000#32))
    (congrArg₂ (fun p q : EReal => p * q) (ref24 x0 x1 x2 x3 x4 i) (ref10 x0 x1 x2 x3 x4 i))

theorem ref32 : IsE (val_main_v32 (F := Ideal) x0 x1 x2 x3) fun s _ => tms (args x0 x1 x2 x3 x4) s := fun i => by
  rw [val_main_v32_apply, val_main_v31_apply, Fin.sum_univ_one]
  exact (congrArg₂ (fun p q : EReal => p + q) ofBits_0 (ref30 x0 x1 x2 x3 x4 _)).trans (zero_add _)

/-- The reference's gradient of the rows. -/
theorem ref36 : IsE (val_main_v36 (F := Ideal) x0 x1 x2 x3 x4) (dx (args x0 x1 x2 x3 x4)) := fun i => by
  have h26 : val_main_v26 (F := Ideal) x0 x1 x2 x3 i = _ :=
    congrArg₂ (fun p q : EReal => p * q) (ref21 x0 x1 x2 x3 x4 i) ((val_main_v25_apply _ _).trans (ref7 x0 x1 x2 x3 x4 _))
  have h27 : val_main_v27 (F := Ideal) x0 x1 x2 x3 x4 i = _ := congrArg₂ (fun p q : EReal => p + q) (hd x0 x1 x2 x3 x4 i) h26
  have h33 : val_main_v33 (F := Ideal) x0 x1 x2 x3 i = _ := congrArg₂ (fun p q : EReal => p * q) (hx x0 x1 x2 x3 x4 i) (ref32 x0 x1 x2 x3 x4 i)
  have h34 : val_main_v34 (F := Ideal) x0 x1 x2 x3 x4 i = _ := congrArg₂ (fun p q : EReal => p + q) h27 h33
  have h35 : val_main_v35 (F := Ideal) x0 x1 x2 x3 i = _ := congrArg₂ (fun p q : EReal => p * q) (ref32 x0 x1 x2 x3 x4 i) (hx x0 x1 x2 x3 x4 i)
  exact (congrArg₂ (fun p q : EReal => p + q) h34 h35).trans (dx_eq (args x0 x1 x2 x3 x4) (i 0).val (i 1).isLt)

end Reference

end UpDx
end
-- ==== Proof.UpDxKernel.lean ====
module

public import proofs.«01_k».proof.Proof.UpDxSpec
public import proofs.«01_k».proof.Proof.Gen.Kernel4Ideal.Value
public import Idealize.ShloMosaic.Lib.Pipeline.ReadBack
public import Idealize.ShloMosaic.Lib.Pipeline.ValueKit

@[expose] public section

/-!
# The gradient of the MLP block's input: the kernel's arrays

Four grid points take 512 rows each. Each writes its rows of the gradient of the input and adds its
rows to the gradient of the norm's weights, which the first point has cleared.
-/

set_option maxRecDepth 16384

noncomputable section

open Idealize.ShloMosaic Idealize.ShloMosaic.TcCoe Idealize.SL.Sem
open Idealize.ShloMosaic.Pipeline (Dat)
open NormBwd
open scoped BigOperators

namespace UpDx

open Cert.Kernel4Ideal Cert.Kernel4Ideal.Gen

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel
theorem lt4 (t : Fin cfg0.N) : t.val < 4 := (by decide +kernel : ∀ t : Fin grid0.N, t.val < 4) t
theorem prev_lt (t : Fin cfg0.N) : t.val - 1 < cfg0.N := by have := t.isLt; omega

/-- A coordinate of the first block. -/
theorem first_block {k y : ℕ} (n : ℕ) (h : k = 0) : k * n + y = y := by
  rw [h, Nat.zero_mul, Nat.zero_add]

/-- The rows block by block are all rows. -/
theorem all_rows (f : ℕ → EReal) : ∑ t ∈ Finset.range (3 + 1), ∑ s ∈ Finset.range 512, f (t * 512 + s) = ∑ s ∈ Finset.range 2048, f s := by
  have h : ∀ n, ∑ s ∈ Finset.range (n * 512), f s = ∑ t ∈ Finset.range n, ∑ s ∈ Finset.range 512, f (t * 512 + s) := fun n => by
    induction n with
    | zero => rfl
    | succ n ih => rw [Finset.sum_range_succ, ← ih, Nat.succ_mul, Finset.sum_range_add]
  exact (h 4).symm

section Entry

variable (m : (ℓ : Loc nD τ sig) → Buf (Elt Ideal) ℓ) (c : Dev nD)

/-- The gradient of the activations as the launch reads it. -/
theorem entryU : (V (F := Ideal) m c main_v0 : S2048x4096.Idx → EReal) = m ((c : Thread nD τ).loc main_arg3) := by
  funext i
  dsimp only [V, hostOps0]
  after_results
  rfl

/-- The weights as the launch reads them. -/
theorem entryW : (V (F := Ideal) m c main_v1 : S1024x4096.Idx → EReal) = m ((c : Thread nD τ).loc main_arg2) := by
  funext i
  dsimp only [V, hostOps0]
  after_results
  rfl

end Entry

variable (m : (ℓ : Loc nD τ sig) → Buf (Elt Ideal) ℓ) (c : Dev nD)

/-- The arguments as matrices. -/
def A : Args := args (m ((c : Thread nD τ).loc main_arg0)) (m ((c : Thread nD τ).loc main_arg1)) (m ((c : Thread nD τ).loc main_arg2))
    (m ((c : Thread nD τ).loc main_arg3)) (m ((c : Thread nD τ).loc main_arg4))

theorem H : Holds (A m c) (entries (by decide) (by decide) (m ((c : Thread nD τ).loc main_arg3) : S2048x4096.Idx → EReal))
    (entries (by decide) (by decide) (m ((c : Thread nD τ).loc main_arg2) : S1024x4096.Idx → EReal)) := holds _ _ _ _ _

/-- The blocks that grid point `t` reads. -/
theorem block (t : Fin cfg0.N) : Block (A m c) (entries (by decide) (by decide) (m ((c : Thread nD τ).loc main_arg3) : S2048x4096.Idx → EReal))
    (entries (by decide) (by decide) (m ((c : Thread nD τ).loc main_arg2) : S1024x4096.Idx → EReal)) t.val (iblk m c 0 t) (iblk m c 1 t) (iblk m c 2 t) (iblk m c 3 t) (iblk m c 4 t) where
  u := fun y => by
    have e0 : ((win0_0.blk t).view.emb y 0).val = t.val * 512 + (y 0).val := by blk_simp [idx0 t]
    have e1 : ((win0_0.blk t).view.emb y 1).val = (y 1).val := by blk_simp [idx0 t]
    blk_simp [iblk]
    exact (congrFun (entryU m c) _).trans ((isE_entries (by decide) (by decide) _ _).trans (congrArg₂ (entries _ _ _) e0 e1))
  w := fun y => by
    have e0 : ((win0_1.blk t).view.emb y 0).val = (y 0).val := by blk_simp [idx1 t]
    have e1 : ((win0_1.blk t).view.emb y 1).val = (y 1).val := by blk_simp [idx1 t]
    blk_simp [iblk]
    exact (congrFun (entryW m c) _).trans ((isE_entries (by decide) (by decide) _ _).trans (congrArg₂ (entries _ _ _) e0 e1))
  x := fun y => by
    have e0 : ((win0_2.blk t).view.emb y 0).val = t.val * 512 + (y 0).val := by blk_simp [idx2 t]
    have e1 : ((win0_2.blk t).view.emb y 1).val = (y 1).val := by blk_simp [idx2 t]
    blk_simp [iblk]
    exact (congrFun (V_main_arg0 m c) _).trans ((isE_entries (by decide) (by decide) _ _).trans (congrArg₂ (entries _ _ _) e0 e1))
  n := fun y => by
    have e0 : ((win0_3.blk t).view.emb y 0).val = 0 := by blk_simp [idx3 t]
    have e1 : ((win0_3.blk t).view.emb y 1).val = (y 1).val := by blk_simp [idx3 t]
    blk_simp [iblk]
    exact (congrFun (V_main_arg1 m c) _).trans ((isE_entries (by decide) (by decide) _ _).trans (congrArg₂ (entries _ _ _) e0 e1))
  d := fun y => by
    have e0 : ((win0_4.blk t).view.emb y 0).val = t.val * 512 + (y 0).val := by blk_simp [idx4 t]
    have e1 : ((win0_4.blk t).view.emb y 1).val = (y 1).val := by blk_simp [idx4 t]
    blk_simp [iblk]
    exact (congrFun (V_main_arg4 m c) _).trans ((isE_entries (by decide) (by decide) _ _).trans (congrArg₂ (entries _ _ _) e0 e1))

/-- The rows of the gradient of the input that grid point `t` leaves. -/
theorem out5 (t : Fin cfg0.N) : IsE (outsAt0 m c t.val t.isLt).1 fun s j => dx (A m c) (t.val * 512 + s) j := fun y => by
  have B := block m c t
  by_cases h0 : t.val % 4 = 0
  · rw [outsAt0_A m c t h0]; frame_out
    exact B.pay5 (H m c) y
  · rw [outsAt0_B m c t h0]; frame_out
    exact B.pay5 (H m c) y

/-- What the first grid point leaves of the gradient of the norm's weights. -/
theorem first6 (t : Fin cfg0.N) (h0 : t.val % 4 = 0) : IsE (outsAt0 m c t.val t.isLt).2 fun _ j =>
    0 + ∑ s ∈ Finset.range 512, (A m c).p (t.val * 512 + s) j * xh (A m c) (t.val * 512 + s) j := fun y => by
  have B := block m c t
  rw [outsAt0_A m c t h0]; frame_out
  exact B.pay1 (H m c) (q := fun _ => 0) cleared y

/-- What a later grid point leaves of the gradient of the norm's weights. -/
theorem later6 (t : Fin cfg0.N) (h0 : ¬ t.val % 4 = 0) {q : ℕ → EReal}
    (P : IsE (outsAt0 m c (t.val - 1) (prev_lt t)).2 fun _ j => q j) : IsE (outsAt0 m c t.val t.isLt).2 fun _ j =>
    q j + ∑ s ∈ Finset.range 512, (A m c).p (t.val * 512 + s) j * xh (A m c) (t.val * 512 + s) j := fun y => by
  have B := block m c t
  rw [outsAt0_B m c t h0]; frame_out
  exact B.pay1 (H m c) P y

/-- The gradient of the norm's weights after grid point `n`: the rows so far. -/
theorem out6 : ∀ (n : ℕ) (hn : n < cfg0.N), IsE (outsAt0 m c n hn).2 fun _ j =>
    ∑ t ∈ Finset.range (n + 1), ∑ s ∈ Finset.range 512, (A m c).p (t * 512 + s) j * xh (A m c) (t * 512 + s) j
  | 0, hn => fun i => (first6 m c ⟨0, hn⟩ rfl i).trans (by beta_reduce; rw [Finset.sum_range_one, zero_add])
  | n + 1, hn => by
    have h4 := lt4 ⟨n + 1, hn⟩
    have h0 : ¬ (n + 1) % 4 = 0 := by
      have h4 : n + 1 < 4 := h4
      omega
    refine fun i => (later6 m c ⟨n + 1, hn⟩ h0 (q := fun j => ∑ t ∈ Finset.range (n + 1), ∑ s ∈ Finset.range 512, (A m c).p (t * 512 + s) j * xh (A m c) (t * 512 + s) j)
      (out6 n (Nat.lt_of_succ_lt hn)) i).trans ?_
    exact (Finset.sum_range_succ _ _).symm

/-- The kernel's gradient of the input. -/
theorem array5 (i : S2048x1024.Idx) :
    ((dats m 0 c).arrAt 5 cfg0.N : S2048x1024.Idx → EReal) i = dx (A m c) (i 0).val (i 1).val := by
  refine (dats m 0 c).arrAt_forall_of_covers 5 (fun (i : S2048x1024.Idx) v => v = dx (A m c) (i 0).val (i 1).val)
    (by decide +kernel) (fun t hf y => ?_) i
  have e0 : win0_5.index t 0 * 512 + (y 0).val = t.val * 512 + (y 0).val := congrArg (fun k => k * 512 + (y 0).val) (congrFun (idx5 t) 0)
  have e1 : win0_5.index t 1 * 1024 + (y 1).val = (y 1).val := first_block 1024 (congrFun (idx5 t) 1)
  blk_simp
  rw [after0_5]
  exact (out5 m c t y).trans ((congrArg₂ (dx (A m c)) e0.symm e1.symm))

/-- The last grid point. -/
abbrev tEnd : Fin cfg0.N := ⟨3, by decide +kernel⟩

/-- The kernel's gradient of the norm's weights. -/
theorem array6 : ((dats m 0 c).arrAt 6 cfg0.N : S1x1024.Idx → EReal) = fun i => dn (A m c) (i 1).val := by
  refine (dats m 0 c).arrAt_eq_of_after_last 6 tEnd (by decide +kernel) _ fun j => ?_
  blk_simp
  rw [after0_6]
  refine (out6 m c 3 tEnd.isLt j).trans (?_)
  exact all_rows (fun s => (A m c).p s (j 1).val * xh (A m c) s (j 1).val)

end UpDx
end
-- ==== Proof.UpDxClaim.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.UpDxKernel
public import Idealize.ShloMosaic.Adequacy
public import Idealize.ShloMosaic.Init

@[expose] public section

/-!
# The claims about the gradient of the MLP block's input

The reference's run and frame, and the value claim: the kernel's arrays are the reference's.
-/

set_option maxRecDepth 16384

noncomputable section

open Idealize.ShloMosaic Idealize.ShloMosaic.TcCoe Idealize.SL.Sem

namespace UpDxClaim

section Run

open Idealize.ShloMosaic.StableHlo
open Cert.Reference4Ideal Cert.Reference4Ideal.Gen Cert.Reference4Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v19) = val_main_v19 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  (θ_run defs _ _).mono (fun r h c => by
    obtain ⟨h0, h1, ha⟩ := h c
    exact ⟨h0.trans (val_main_v36_eq m c), h1.trans (val_main_v19_eq _ _ _), ha⟩) (Cert.Reference4Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) ∧ r.2.sem = fun _ => 0) :=
  (θ_run defs _ _).mono (fun r h => ⟨fun c => by
    obtain ⟨_, _, ha⟩ := h c
    exact ha, Idealize.ShloMosaic.sem_eq_zero_of_no_sems (by decide) r.2⟩) (ref_run m ρ)

end Run

section Agree

open Cert.Kernel4Ideal

variable (m : (ℓ : Loc nD τ sig) → Buf (Elt Ideal) ℓ) (c : Dev nD)

/-- Result 0 of the two programs on equal arguments. -/
theorem agree0 (x0 : Cert.Reference4Ideal.S2048x1024.Idx → EReal) (x1 : Cert.Reference4Ideal.S1x1024.Idx → EReal) (x2 : Cert.Reference4Ideal.S1024x4096.Idx → EReal) (x3 : Cert.Reference4Ideal.S2048x4096.Idx → EReal) (x4 : Cert.Reference4Ideal.S2048x1024.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) :
    Cert.Reference4Ideal.Read.val_main_v36 (F := Ideal) x0 x1 x2 x3 x4 = (Gen.dats m 0 c).arrAt 5 cfg0.N := by
  subst e0 e1 e2 e3 e4
  exact funext fun i => (UpDx.ref36 _ _ _ _ _ i).trans (UpDx.array5 m c i).symm

/-- Result 1 of the two programs on equal arguments. -/
theorem agree1 (x0 : Cert.Reference4Ideal.S2048x1024.Idx → EReal) (x1 : Cert.Reference4Ideal.S1x1024.Idx → EReal) (x2 : Cert.Reference4Ideal.S1024x4096.Idx → EReal) (x3 : Cert.Reference4Ideal.S2048x4096.Idx → EReal) (x4 : Cert.Reference4Ideal.S2048x1024.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) :
    Cert.Reference4Ideal.Read.val_main_v19 (F := Ideal) x0 x2 x3 = (Gen.dats m 0 c).arrAt 6 cfg0.N := by
  subst e0 e1 e2 e3 e4
  exact (funext fun i => UpDx.ref19 _ _ _ _ _ i).trans (UpDx.array6 m c).symm

end Agree

set_option maxHeartbeats 2000000 in
/-- The value claim: on every argument the kernel's arrays are the reference's. -/
theorem algebraic : Cert.algebraic_Kernel4Ideal_Reference4Ideal := fun m ρ m' ρ' _ hargs =>
  ⟨fun c => (Cert.Kernel4Ideal.Gen.dats m 0 c).arrAt 5 Cert.Kernel4Ideal.cfg0.N, fun c => (Cert.Kernel4Ideal.Gen.dats m 0 c).arrAt 6 Cert.Kernel4Ideal.cfg0.N,
    Cert.Kernel4Ideal.Value.run_blocks m ρ,
    (θ_run Cert.Reference4Ideal.defs _ _).mono (fun r h c => by
      obtain ⟨h0, h1, ha⟩ := h c
      exact ⟨h0.trans (agree0 m c _ _ _ _ _ (hargs c).1 (hargs c).2.1 (hargs c).2.2.1 (hargs c).2.2.2.1 (hargs c).2.2.2.2), h1.trans (agree1 m c _ _ _ _ _ (hargs c).1 (hargs c).2.1 (hargs c).2.2.1 (hargs c).2.2.2.1 (hargs c).2.2.2.2), ha⟩) (ref_run m' ρ')⟩

end UpDxClaim
end
-- ==== Proof.InDw.lean ====
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit

@[expose] public section

/-!
# The gradient of the odd layer's input projection

The host normalises the layer's input; the kernel multiplies the gradient of the projections, transposed,
with it. Each entry is a sum over the rows, the same sum as the reference's.
-/

set_option maxRecDepth 16384

noncomputable section

open Idealize.ShloMosaic Idealize.ShloMosaic.TcCoe Idealize.SL.Sem
open Idealize.ShloMosaic.Pipeline (Dat)
open scoped BigOperators

namespace InDw

open Cert.Kernel5Ideal Cert.Kernel5Ideal.Gen

/-- One entry of the result: the sum over the contracted index. -/
def entry (a : S2048x2560.Idx → EReal) (b : S2048x1024.Idx → EReal) (i : S2560x1024.Idx) : EReal :=
  ∑ k : Fin 2048, a (ix2 k ⟨(i 0).val, (i 0).isLt⟩) * b (ix2 k ⟨(i 1).val, (i 1).isLt⟩)

/-- What the body stores, entry by entry. -/
theorem pay_apply (x : S2048x1280.Idx → EReal) (y : S2048x512.Idx → EReal) (i : S1280x512.Idx) :
    k0_pay1 (F := Ideal) x y i = ∑ k : Fin 2048, x (ix2 k ⟨(i 0).val, (i 0).isLt⟩) * y (ix2 k ⟨(i 1).val, (i 1).isLt⟩) := by
  unfold k0_pay1
  pointwise

theorem hz : (![0, 0] : Fin 2 → Nat) = fun _ => 0 := funext fun a => by fin_cases a <;> rfl

/-- What the body leaves in the output's buffer is what it stores. -/
theorem out_eq (x : Vec Ideal S2048x1280 .bf16) (y : Vec Ideal S2048x512 .bf16) : out0_2 (F := Ideal) x y = k0_pay1 x y := by
  unfold out0_2
  rw [View.canon_unit_zero (S := S1280x512) hz, View.ld_unit_zero (S := S2048x1280) hz, View.ld_unit_zero (S := S2048x512) hz]

theorem idxA : ∀ t : Fin cfg0.N, win0_0.index t = ![0, t.val / 2] := by decide +kernel
theorem idxB : ∀ t : Fin cfg0.N, win0_1.index t = ![0, t.val % 2] := by decide +kernel
theorem idxC : ∀ t : Fin cfg0.N, win0_2.index t = ![t.val / 2, t.val % 2] := by decide +kernel

variable (m : (ℓ : Loc nD τ sig) → Buf (Elt Ideal) ℓ) (c : Dev nD)

/-- The gradient of the projections as the launch reads it. -/
theorem entryA (i : S2048x2560.Idx) : (V (F := Ideal) m c main_v13 : S2048x2560.Idx → EReal) i = (m ((c : Thread nD τ).loc main_arg3) : S2048x2560.Idx → EReal) i := by
  dsimp only [V, hostOps0]
  after_results
  rfl

/-- The normalised input, as the host computes it. -/
abbrev normed (x : S2048x1024.Idx → EReal) (n : S1x1024.Idx → EReal) : S2048x1024.Idx → EReal :=
  Cert.Reference5Ideal.Read.val_main_v11 (F := Ideal) x n

/-- The normalised input as the launch reads it. -/
theorem entryB (i : S2048x1024.Idx) : (V (F := Ideal) m c main_v12 : S2048x1024.Idx → EReal) i = (normed (m ((c : Thread nD τ).loc main_arg0)) (m ((c : Thread nD τ).loc main_arg1))) i := by
  dsimp only [V, hostOps0]
  after_results
  rfl

variable (t : Fin cfg0.N)

/-- The columns of the gradient of the projections that grid point `t` reads. -/
theorem blockA (y : S2048x1280.Idx) (i : S2048x2560.Idx) (h0 : (i 0).val = (y 0).val) (h1 : (i 1).val = t.val / 2 * 1280 + (y 1).val) :
    (iblk m c 0 t : S2048x1280.Idx → EReal) y = (m ((c : Thread nD τ).loc main_arg3) : S2048x2560.Idx → EReal) i := by
  blk_simp [iblk]
  refine (entryA m c _).trans (congrArg _ (Shape.idx_ext₂ ?_ ?_))
  · rw [h0]; blk_simp [idxA t]
  · rw [h1]; blk_simp [idxA t]

/-- The columns of the normalised input that grid point `t` reads. -/
theorem blockB (y : S2048x512.Idx) (i : S2048x1024.Idx) (h0 : (i 0).val = (y 0).val) (h1 : (i 1).val = t.val % 2 * 512 + (y 1).val) :
    (iblk m c 1 t : S2048x512.Idx → EReal) y = (normed (m ((c : Thread nD τ).loc main_arg0)) (m ((c : Thread nD τ).loc main_arg1))) i := by
  blk_simp [iblk]
  refine (entryB m c _).trans (congrArg _ (Shape.idx_ext₂ ?_ ?_))
  · rw [h0]; blk_simp [idxB t]
  · rw [h1]; blk_simp [idxB t]

/-- The array the kernel returns, entry by entry. -/
theorem array (i : S2560x1024.Idx) :
    ((dats m 0 c).arrAt 2 cfg0.N : S2560x1024.Idx → EReal) i = entry (m ((c : Thread nD τ).loc main_arg3) : S2048x2560.Idx → EReal) (normed (m ((c : Thread nD τ).loc main_arg0)) (m ((c : Thread nD τ).loc main_arg1))) i := by
  refine (dats m 0 c).arrAt_forall_of_covers 2 (fun (i : S2560x1024.Idx) v => v = entry (m ((c : Thread nD τ).loc main_arg3) : S2048x2560.Idx → EReal) (normed (m ((c : Thread nD τ).loc main_arg0)) (m ((c : Thread nD τ).loc main_arg1))) i)
    (by decide +kernel) (fun t hf y => ?_) i
  have e0 : ((win0_2.blk t).view.emb y 0).val = t.val / 2 * 1280 + (y 0).val := by blk_simp [idxC t]
  have e1 : ((win0_2.blk t).view.emb y 1).val = t.val % 2 * 512 + (y 1).val := by blk_simp [idxC t]
  blk_simp
  rw [after0_2, out_eq]
  refine (pay_apply _ _ y).trans ?_
  unfold entry
  refine Finset.sum_congr rfl fun k _ => congrArg₂ (· * ·) ?_ ?_
  · exact blockA m c t _ _ rfl e0
  · exact blockB m c t _ _ rfl e1

open Cert.Reference5Ideal.Read in
/-- The reference's result, entry by entry. -/
theorem ref_apply (x0 : S2048x1024.Idx → EReal) (x1 : S1x1024.Idx → EReal) (x3 : S2048x2560.Idx → EReal) (i : S2560x1024.Idx) :
    val_main_v16 (F := Ideal) x0 x1 x3 i = entry x3 (normed x0 x1) i := by
  rw [val_main_v16_apply]
  show val_main_v14 (F := Ideal) x0 x1 x3 _ = _
  rw [val_main_v14_apply, val_main_v13_apply]
  unfold entry
  refine Finset.sum_congr rfl fun k _ => congrArg₂ (· * ·) ?_ ?_
  · exact congrArg x3 (Shape.idx_ext₂ rfl rfl)
  · exact congrArg (normed x0 x1) (Shape.idx_ext₂ rfl rfl)

end InDw
end
-- ==== Proof.InDwClaim.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.InDw
public import Idealize.ShloMosaic.Adequacy
public import Idealize.ShloMosaic.Init

@[expose] public section

/-!
# The claims about the gradient of the odd layer's input projection

The reference's run and frame, and the value claim: the kernel's arrays are the reference's.
-/

set_option maxRecDepth 16384

noncomputable section

open Idealize.ShloMosaic Idealize.ShloMosaic.TcCoe Idealize.SL.Sem

namespace InDwClaim

section Run

open Idealize.ShloMosaic.StableHlo
open Cert.Reference5Ideal Cert.Reference5Ideal.Gen Cert.Reference5Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v16) = val_main_v16 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun r h c => by
    obtain ⟨h0, ha⟩ := h c
    exact ⟨h0.trans (val_main_v16_eq _ _ _), ha⟩) (Cert.Reference5Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0) :=
  (θ_run defs _ _).mono (fun r h => ⟨fun c => by
    obtain ⟨_, ha⟩ := h c
    exact ha, Idealize.ShloMosaic.sem_eq_zero_of_no_sems (by decide) r.2⟩) (ref_run m ρ)

end Run

section Agree

open Cert.Kernel5Ideal

variable (m : (ℓ : Loc nD τ sig) → Buf (Elt Ideal) ℓ) (c : Dev nD)

/-- Result 0 of the two programs on equal arguments. -/
theorem agree0 (x0 : Cert.Reference5Ideal.S2048x1024.Idx → EReal) (x1 : Cert.Reference5Ideal.S1x1024.Idx → EReal) (x2 : Cert.Reference5Ideal.S1024x2560.Idx → EReal) (x3 : Cert.Reference5Ideal.S2048x2560.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference5Ideal.Read.val_main_v16 (F := Ideal) x0 x1 x3 = (Gen.dats m 0 c).arrAt 2 cfg0.N := by
  subst e0 e1 e2 e3
  exact funext fun i => (InDw.ref_apply _ _ _ i).trans (InDw.array m c i).symm

end Agree

set_option maxHeartbeats 2000000 in
/-- The value claim: on every argument the kernel's arrays are the reference's. -/
theorem algebraic : Cert.algebraic_Kernel5Ideal_Reference5Ideal := fun m ρ m' ρ' _ hargs =>
  ⟨fun c => (Cert.Kernel5Ideal.Gen.dats m 0 c).arrAt 2 Cert.Kernel5Ideal.cfg0.N,
    Cert.Kernel5Ideal.Value.run_blocks m ρ,
    (θ_run Cert.Reference5Ideal.defs _ _).mono (fun r h c => by
      obtain ⟨h0, ha⟩ := h c
      exact ⟨h0.trans (agree0 m c _ _ _ _ (hargs c).1 (hargs c).2.1 (hargs c).2.2.1 (hargs c).2.2.2), ha⟩) (ref_run m' ρ')⟩

end InDwClaim
end
-- ==== Proof.InDxSpec.lean ====
module

public import proofs.«01_k».proof.Proof.NormBwd
public import proofs.«01_k».proof.Proof.Gen.Reference6Ideal.Read
public import proofs.«01_k».proof.Proof.Gen.Kernel6Ideal.Skeleton

@[expose] public section

/-!
# The gradient of the odd layer's input

What the kernel's body computes at one block of 512 rows, and the reference's lines, both as the
functions of Proof/NormBwd; the gradient of the normalised rows is the product of the gradient of the projections
with the weight matrix.
-/

set_option maxRecDepth 16384

noncomputable section

open Idealize.ShloMosaic Idealize.ShloMosaic.TcCoe
open NormBwd
open scoped BigOperators

namespace InDx

/-! ## The body at one block of rows -/

section Body

open Cert.Kernel6Ideal Cert.Kernel6Ideal.Gen

variable {f : ℕ → ℕ → EReal}

theorem rowsum {x : S512x1024.Idx → EReal} (hx : IsE x f) :
    IsE (shapeCast S512x1 (multiReduction (F := Ideal) (φ := .f32) .add [1] S512 x 0x00000000#32 reduces_S512x1024_S512 (.inl rfl) rfl) shapeCasts_S512_S512x1) fun i _ =>
      ∑ l ∈ Finset.range 1024, f i l := fun i => by
  pointwise
  exact sum_range (fun l => f (i 0).val l) fun l => hx _

theorem colsum {x : S512x1024.Idx → EReal} (hx : IsE x f) :
    IsE (shapeCast S1x1024 (multiReduction (F := Ideal) (φ := .f32) .add [0] S1024 x 0x00000000#32 reduces_S512x1024_S1024 (.inl rfl) rfl) shapeCasts_S1024_S1x1024) fun _ j =>
      ∑ l ∈ Finset.range 512, f l j := fun i => by
  pointwise
  exact sum_range (fun l => f l (i 1).val) fun l => hx _

theorem rows {x : S1x1024.Idx → EReal} (hx : IsE x f) :
    IsE (broadcastTo S512x1024 x broadcasts_S1x1024_S512x1024) fun _ j => f 0 j := fun i => by
  pointwise
  exact hx _

theorem cols {x : S512x1.Idx → EReal} (hx : IsE x f) :
    IsE (broadcastTo S512x1024 x broadcasts_S512x1_S512x1024) fun i _ => f i 0 := fun i => by
  pointwise
  exact hx _

/-- The arguments of the launch as matrices, with the factors of the product. -/
structure Holds (A : Args) (U W : ℕ → ℕ → EReal) : Prop where
  p : ∀ s j, A.p s j = ∑ k ∈ Finset.range 2560, U s k * W j k

/-- The blocks that a grid point reads, of the rows from `512 t` on. -/
structure Block (A : Args) (U W : ℕ → ℕ → EReal) (t : ℕ) (b0 : Vec Ideal S512x2560 .bf16) (b1 : Vec Ideal S2560x1024 .bf16) (b2 : Vec Ideal S512x1024 .f32)
    (b3 : Vec Ideal S1x1024 .f32) (b4 : Vec Ideal S512x1024 .f32) : Prop where
  u : IsE b0 fun s k => U (t * 512 + s) k
  w : IsE b1 fun k j => W j k
  x : IsE b2 fun s j => A.x (t * 512 + s) j
  n : IsE b3 A.n
  d : IsE b4 fun s j => A.d (t * 512 + s) j

variable {A : Args} {U W : ℕ → ℕ → EReal} (H : Holds A U W) {t : ℕ} {b0 : Vec Ideal S512x2560 .bf16} {b1 : Vec Ideal S2560x1024 .bf16} {b2 : Vec Ideal S512x1024 .f32}
    {b3 : Vec Ideal S1x1024 .f32} {b4 : Vec Ideal S512x1024 .f32} (B : Block A U W t b0 b1 b2 b3 b4)
include H B

/-- The product. -/
theorem Block.pay2 : IsE (k0_pay2 (F := Ideal) b0 b1) fun s j => A.p (t * 512 + s) j := fun i => by
  refine Eq.trans ?_ (H.p (t * 512 + (i 0).val) (i 1).val).symm
  unfold k0_pay2
  pointwise
  exact sum_range (fun k => U (t * 512 + (i 0).val) k * W (i 1).val k) fun l => congrArg₂ (· * ·) (B.u _) (B.w _)

omit H in
/-- The reciprocal root of the mean square. -/
theorem Block.pay3 : IsE (k0_pay3 (F := Ideal) b2) fun s _ => rs A (t * 512 + s) := fun i => by
  have h7 := rowsum (x := mulf (F := Ideal) (φ := .f32) b2 b2) (f := fun s j => A.x (t * 512 + s) j * A.x (t * 512 + s) j) fun i => congrArg₂ (· * ·) (B.x i) (B.x i)
  exact congrArg (fun q => Ideal.rsqrt (Ideal.div q (Ideal.ofBits .f32 0x44800000#32) + Ideal.ofBits .f32 0x358637BD#32)) (h7 i)

omit H in
/-- The row over its root mean square. -/
theorem Block.pay4 : IsE (k0_pay4 (F := Ideal) b2) fun s j => xh A (t * 512 + s) j := fun i =>
  (congrArg₂ (· * ·) (B.x i) (cols (f := fun s _ => rs A (t * 512 + s)) B.pay3 i) : _ * _ = _)

/-- The gradient of the row. -/
theorem Block.pay5 : IsE (k0_pay5 (F := Ideal) b0 b1 b2 b3 b4) fun s j => dx A (t * 512 + s) j := fun i => by
  have h18 : IsE (mulf (F := Ideal) (φ := .f32) (k0_pay2 (F := Ideal) b0 b1) (broadcastTo S512x1024 b3 broadcasts_S1x1024_S512x1024)) fun s j => g A (t * 512 + s) j :=
    fun i => (congrArg₂ (· * ·) (B.pay2 H i) (rows B.n i) : _ * _ = _)
  have h20 := rowsum (f := fun s j => g A (t * 512 + s) j * xh A (t * 512 + s) j)
    (x := mulf (F := Ideal) (φ := .f32) (mulf (F := Ideal) (φ := .f32) (k0_pay2 (F := Ideal) b0 b1) (broadcastTo S512x1024 b3 broadcasts_S1x1024_S512x1024)) (k0_pay4 (F := Ideal) b2))
    fun i => (congrArg₂ (· * ·) (h18 i) (B.pay4 i) : _ * _ = _)
  have h24 := cols (f := fun s _ => Ideal.div (∑ l ∈ Finset.range 1024, g A (t * 512 + s) l * xh A (t * 512 + s) l) (Ideal.ofBits .f32 0x44800000#32))
    fun i => congrArg (fun q => Ideal.div q (Ideal.ofBits .f32 0x44800000#32)) (h20 i)
  have h26 := congrArg₂ (fun p q : EReal => p - q) (h18 i) (congrArg₂ (fun p q : EReal => p * q) (B.pay4 i) (h24 i))
  have h28 := congrArg₂ (fun p q : EReal => p * q) (cols (f := fun s _ => rs A (t * 512 + s)) B.pay3 i) h26
  exact congrArg₂ (fun p q : EReal => p + q) h28 (B.d i)

/-- What the gradient of the norm's weights is after the block's rows are added. -/
theorem Block.pay1 {q : ℕ → EReal} {v : Vec Ideal S1x1024 .f32} (hv : IsE v fun _ j => q j) :
    IsE (k0_pay1 (F := Ideal) (k0_pay2 b0 b1) (k0_pay4 b2) v) fun _ j =>
      q j + ∑ s ∈ Finset.range 512, A.p (t * 512 + s) j * xh A (t * 512 + s) j := fun i => by
  have h38 := colsum (f := fun s j => A.p (t * 512 + s) j * xh A (t * 512 + s) j)
    (x := mulf (F := Ideal) (φ := .f32) (k0_pay2 (F := Ideal) b0 b1) (k0_pay4 (F := Ideal) b2))
    fun i => (congrArg₂ (· * ·) (B.pay2 H i) (B.pay4 i) : _ * _ = _)
  unfold k0_pay1
  exact congrArg₂ (fun p q : EReal => p + q) ((congrFun (shapeCast_self v _) i).trans (hv i)) (h38 i)

end Body

/-- The first grid point clears the gradient of the norm's weights. -/
theorem cleared : IsE (Cert.Kernel6Ideal.Gen.k0_pay6 (F := Ideal)) fun _ _ => 0 := fun _ => ofBits_0

/-! ## The reference -/

section Reference

open Cert.Reference6Ideal Cert.Reference6Ideal.Read

variable (x0 : S2048x1024.Idx → EReal) (x1 : S1x1024.Idx → EReal) (x2 : S1024x2560.Idx → EReal)
  (x3 : S2048x2560.Idx → EReal) (x4 : S2048x1024.Idx → EReal)

/-- The arguments as matrices. -/
def args : Args where
  x := entries (by decide) (by decide) x0
  n := entries (by decide) (by decide) x1
  p := fun s j => ∑ k ∈ Finset.range 2560, entries (by decide) (by decide) x3 s k * entries (by decide) (by decide) x2 j k
  d := entries (by decide) (by decide) x4

theorem holds : Holds (args x0 x1 x2 x3 x4) (entries (by decide) (by decide) x3) (entries (by decide) (by decide) x2) := ⟨fun _ _ => rfl⟩

theorem hx : IsE x0 (args x0 x1 x2 x3 x4).x := isE_entries (by decide) (by decide) _
theorem hn : IsE x1 (args x0 x1 x2 x3 x4).n := isE_entries (by decide) (by decide) _
theorem hd : IsE x4 (args x0 x1 x2 x3 x4).d := isE_entries (by decide) (by decide) _

theorem ref6 (i : S2048x1.Idx) : val_main_v6 (F := Ideal) x0 i = ms (args x0 x1 x2 x3 x4) (i 0).val := by
  have h1 : val_main_v2 (F := Ideal) x0 i = ∑ j ∈ Finset.range 1024, (args x0 x1 x2 x3 x4).x (i 0).val j * (args x0 x1 x2 x3 x4).x (i 0).val j := by
    rw [val_main_v2_apply, val_main_v1_apply]
    refine (congrArg₂ (· + ·) ofBits_0 (sum_range (fun j => (args x0 x1 x2 x3 x4).x (i 0).val j * (args x0 x1 x2 x3 x4).x (i 0).val j) fun k =>
      (congrArg₂ (· * ·) (hx x0 x1 x2 x3 x4 _) (hx x0 x1 x2 x3 x4 _) : _ * _ = _)) : _ + _ = _).trans (zero_add _)
  exact congrArg (fun q => Ideal.div q (Ideal.ofBits .f32 0x44800000#32) + Ideal.ofBits .f32 0x358637BD#32) h1

theorem ref7 (i : S2048x1.Idx) : val_main_v7 (F := Ideal) x0 i = rs (args x0 x1 x2 x3 x4) (i 0).val :=
  congrArg Ideal.rsqrt (ref6 x0 x1 x2 x3 x4 i)

theorem ref10 (i : S2048x1.Idx) :
    val_main_v10 (F := Ideal) x0 i = Ideal.ofBits .f32 0xBF000000#32 * Ideal.div (rs (args x0 x1 x2 x3 x4) (i 0).val) (ms (args x0 x1 x2 x3 x4) (i 0).val) :=
  congrArg (fun q => Ideal.ofBits .f32 0xBF000000#32 * q) (congrArg₂ Ideal.div (ref7 x0 x1 x2 x3 x4 i) (ref6 x0 x1 x2 x3 x4 i))

theorem ref12 : IsE (val_main_v12 (F := Ideal) x0) (xh (args x0 x1 x2 x3 x4)) := fun i =>
  (congrArg₂ (· * ·) (hx x0 x1 x2 x3 x4 i) ((val_main_v11_apply _ _).trans (ref7 x0 x1 x2 x3 x4 _)) : _ * _ = _)

theorem ref16 : IsE (val_main_v16 (F := Ideal) x2 x3) (args x0 x1 x2 x3 x4).p := fun i => by
  rw [val_main_v16_apply]
  exact sum_range (fun k => entries (by decide) (by decide) x3 (i 0).val k * entries (by decide) (by decide) x2 (i 1).val k) fun k =>
    congrArg₂ (· * ·) (isE_entries (by decide) (by decide) x3 _) (isE_entries (by decide) (by decide) x2 _)

/-- The reference's gradient of the norm's weights. -/
theorem ref19 : IsE (val_main_v19 (F := Ideal) x0 x2 x3) fun _ j => dn (args x0 x1 x2 x3 x4) j := fun i => by
  rw [val_main_v19_apply, val_main_v18_apply]
  refine (congrArg₂ (· + ·) ofBits_0 (sum_range (fun s => (args x0 x1 x2 x3 x4).p s (i 1).val * xh (args x0 x1 x2 x3 x4) s (i 1).val) fun k => ?_) : _ + _ = _).trans (zero_add _)
  have e : (idx_main_v18 (idx_main_v19 i) k 1).val = (i 1).val := by
    have h0 : (i 0).val < 1 := (i 0).isLt
    show (i 0).val * 1024 + (i 1).val = (i 1).val
    omega
  refine (congrArg₂ (· * ·) (ref12 x0 x1 x2 x3 x4 _) (ref16 x0 x1 x2 x3 x4 _) : _ * _ = _).trans ?_
  beta_reduce
  rw [e]
  exact mul_comm _ _

theorem ref21 : IsE (val_main_v21 (F := Ideal) x1 x2 x3) (g (args x0 x1 x2 x3 x4)) := fun i =>
  (congrArg₂ (· * ·) (ref16 x0 x1 x2 x3 x4 i) ((val_main_v20_apply _ _).trans (hn x0 x1 x2 x3 x4 _)) : _ * _ = _)

theorem ref24 (i : S2048x1.Idx) : val_main_v24 (F := Ideal) x0 x1 x2 x3 i = ∑ j ∈ Finset.range 1024, (args x0 x1 x2 x3 x4).x (i 0).val j * g (args x0 x1 x2 x3 x4) (i 0).val j := by
  rw [val_main_v24_apply, val_main_v23_apply]
  refine (congrArg₂ (· + ·) ofBits_0 (sum_range (fun j => (args x0 x1 x2 x3 x4).x (i 0).val j * g (args x0 x1 x2 x3 x4) (i 0).val j) fun k => ?_) : _ + _ = _).trans (zero_add _)
  have e : (idx_main_v23 (idx_main_v24 i) k 0).val = (i 0).val := by
    have h0 : (i 1).val < 1 := (i 1).isLt
    show (i 0).val * 1 + (i 1).val = (i 0).val
    omega
  refine (congrArg₂ (· * ·) (hx x0 x1 x2 x3 x4 _) (ref21 x0 x1 x2 x3 x4 _) : _ * _ = _).trans ?_
  beta_reduce
  rw [e]

theorem ref30 (i : S2048x1.Idx) : val_main_v30 (F := Ideal) x0 x1 x2 x3 i = tms (args x0 x1 x2 x3 x4) (i 0).val :=
  congrArg (fun q => Ideal.div q (Ideal.ofBits .f32 0x44800000#32))
    (congrArg₂ (fun p q : EReal => p * q) (ref24 x0 x1 x2 x3 x4 i) (ref10 x0 x1 x2 x3 x4 i))

theorem ref32 : IsE (val_main_v32 (F := Ideal) x0 x1 x2 x3) fun s _ => tms (args x0 x1 x2 x3 x4) s := fun i => by
  rw [val_main_v32_apply, val_main_v31_apply, Fin.sum_univ_one]
  exact (congrArg₂ (fun p q : EReal => p + q) ofBits_0 (ref30 x0 x1 x2 x3 x4 _)).trans (zero_add _)

/-- The reference's gradient of the rows. -/
theorem ref36 : IsE (val_main_v36 (F := Ideal) x0 x1 x2 x3 x4) (dx (args x0 x1 x2 x3 x4)) := fun i => by
  have h26 : val_main_v26 (F := Ideal) x0 x1 x2 x3 i = _ :=
    congrArg₂ (fun p q : EReal => p * q) (ref21 x0 x1 x2 x3 x4 i) ((val_main_v25_apply _ _).trans (ref7 x0 x1 x2 x3 x4 _))
  have h27 : val_main_v27 (F := Ideal) x0 x1 x2 x3 x4 i = _ := congrArg₂ (fun p q : EReal => p + q) (hd x0 x1 x2 x3 x4 i) h26
  have h33 : val_main_v33 (F := Ideal) x0 x1 x2 x3 i = _ := congrArg₂ (fun p q : EReal => p * q) (hx x0 x1 x2 x3 x4 i) (ref32 x0 x1 x2 x3 x4 i)
  have h34 : val_main_v34 (F := Ideal) x0 x1 x2 x3 x4 i = _ := congrArg₂ (fun p q : EReal => p + q) h27 h33
  have h35 : val_main_v35 (F := Ideal) x0 x1 x2 x3 i = _ := congrArg₂ (fun p q : EReal => p * q) (ref32 x0 x1 x2 x3 x4 i) (hx x0 x1 x2 x3 x4 i)
  exact (congrArg₂ (fun p q : EReal => p + q) h34 h35).trans (dx_eq (args x0 x1 x2 x3 x4) (i 0).val (i 1).isLt)

end Reference

end InDx
end
-- ==== Proof.InDxKernel.lean ====
module

public import proofs.«01_k».proof.Proof.InDxSpec
public import proofs.«01_k».proof.Proof.Gen.Kernel6Ideal.Value
public import Idealize.ShloMosaic.Lib.Pipeline.ReadBack
public import Idealize.ShloMosaic.Lib.Pipeline.ValueKit

@[expose] public section

/-!
# The gradient of the odd layer's input: the kernel's arrays

Four grid points take 512 rows each. Each writes its rows of the gradient of the input and adds its
rows to the gradient of the norm's weights, which the first point has cleared.
-/

set_option maxRecDepth 16384

noncomputable section

open Idealize.ShloMosaic Idealize.ShloMosaic.TcCoe Idealize.SL.Sem
open Idealize.ShloMosaic.Pipeline (Dat)
open NormBwd
open scoped BigOperators

namespace InDx

open Cert.Kernel6Ideal Cert.Kernel6Ideal.Gen

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel
theorem lt4 (t : Fin cfg0.N) : t.val < 4 := (by decide +kernel : ∀ t : Fin grid0.N, t.val < 4) t
theorem prev_lt (t : Fin cfg0.N) : t.val - 1 < cfg0.N := by have := t.isLt; omega

/-- A coordinate of the first block. -/
theorem first_block {k y : ℕ} (n : ℕ) (h : k = 0) : k * n + y = y := by
  rw [h, Nat.zero_mul, Nat.zero_add]

/-- The rows block by block are all rows. -/
theorem all_rows (f : ℕ → EReal) : ∑ t ∈ Finset.range (3 + 1), ∑ s ∈ Finset.range 512, f (t * 512 + s) = ∑ s ∈ Finset.range 2048, f s := by
  have h : ∀ n, ∑ s ∈ Finset.range (n * 512), f s = ∑ t ∈ Finset.range n, ∑ s ∈ Finset.range 512, f (t * 512 + s) := fun n => by
    induction n with
    | zero => rfl
    | succ n ih => rw [Finset.sum_range_succ, ← ih, Nat.succ_mul, Finset.sum_range_add]
  exact (h 4).symm

section Entry

variable (m : (ℓ : Loc nD τ sig) → Buf (Elt Ideal) ℓ) (c : Dev nD)

/-- The gradient of the activations as the launch reads it. -/
theorem entryU : (V (F := Ideal) m c main_v0 : S2048x2560.Idx → EReal) = m ((c : Thread nD τ).loc main_arg3) := by
  funext i
  dsimp only [V, hostOps0]
  after_results
  rfl

/-- The weights as the launch reads them, transposed. -/
theorem entryW (i : S2560x1024.Idx) : (V (F := Ideal) m c main_v2 : S2560x1024.Idx → EReal) i
    = (m ((c : Thread nD τ).loc main_arg2) : S1024x2560.Idx → EReal) (ix2 ⟨(i 1).val, (i 1).isLt⟩ ⟨(i 0).val, (i 0).isLt⟩) := by
  dsimp only [V, hostOps0]
  after_results
  exact transpose_apply [1, 0] (m ((c : Thread nD τ).loc main_arg2) : S1024x2560.Idx → EReal) transposes_S1024x2560_S2560x1024_1_0 i _ (fun b => by fin_cases b <;> rfl)

end Entry

variable (m : (ℓ : Loc nD τ sig) → Buf (Elt Ideal) ℓ) (c : Dev nD)

/-- The arguments as matrices. -/
def A : Args := args (m ((c : Thread nD τ).loc main_arg0)) (m ((c : Thread nD τ).loc main_arg1)) (m ((c : Thread nD τ).loc main_arg2))
    (m ((c : Thread nD τ).loc main_arg3)) (m ((c : Thread nD τ).loc main_arg4))

theorem H : Holds (A m c) (entries (by decide) (by decide) (m ((c : Thread nD τ).loc main_arg3) : S2048x2560.Idx → EReal))
    (entries (by decide) (by decide) (m ((c : Thread nD τ).loc main_arg2) : S1024x2560.Idx → EReal)) := holds _ _ _ _ _

/-- The blocks that grid point `t` reads. -/
theorem block (t : Fin cfg0.N) : Block (A m c) (entries (by decide) (by decide) (m ((c : Thread nD τ).loc main_arg3) : S2048x2560.Idx → EReal))
    (entries (by decide) (by decide) (m ((c : Thread nD τ).loc main_arg2) : S1024x2560.Idx → EReal)) t.val (iblk m c 0 t) (iblk m c 1 t) (iblk m c 2 t) (iblk m c 3 t) (iblk m c 4 t) where
  u := fun y => by
    have e0 : ((win0_0.blk t).view.emb y 0).val = t.val * 512 + (y 0).val := by blk_simp [idx0 t]
    have e1 : ((win0_0.blk t).view.emb y 1).val = (y 1).val := by blk_simp [idx0 t]
    blk_simp [iblk]
    exact (congrFun (entryU m c) _).trans ((isE_entries (by decide) (by decide) _ _).trans (congrArg₂ (entries _ _ _) e0 e1))
  w := fun y => by
    have e0 : ((win0_1.blk t).view.emb y 0).val = (y 0).val := by blk_simp [idx1 t]
    have e1 : ((win0_1.blk t).view.emb y 1).val = (y 1).val := by blk_simp [idx1 t]
    blk_simp [iblk]
    exact (entryW m c _).trans ((isE_entries (by decide) (by decide) _ _).trans (congrArg₂ (entries _ _ _) e1 e0))
  x := fun y => by
    have e0 : ((win0_2.blk t).view.emb y 0).val = t.val * 512 + (y 0).val := by blk_simp [idx2 t]
    have e1 : ((win0_2.blk t).view.emb y 1).val = (y 1).val := by blk_simp [idx2 t]
    blk_simp [iblk]
    exact (congrFun (V_main_arg0 m c) _).trans ((isE_entries (by decide) (by decide) _ _).trans (congrArg₂ (entries _ _ _) e0 e1))
  n := fun y => by
    have e0 : ((win0_3.blk t).view.emb y 0).val = 0 := by blk_simp [idx3 t]
    have e1 : ((win0_3.blk t).view.emb y 1).val = (y 1).val := by blk_simp [idx3 t]
    blk_simp [iblk]
    exact (congrFun (V_main_arg1 m c) _).trans ((isE_entries (by decide) (by decide) _ _).trans (congrArg₂ (entries _ _ _) e0 e1))
  d := fun y => by
    have e0 : ((win0_4.blk t).view.emb y 0).val = t.val * 512 + (y 0).val := by blk_simp [idx4 t]
    have e1 : ((win0_4.blk t).view.emb y 1).val = (y 1).val := by blk_simp [idx4 t]
    blk_simp [iblk]
    exact (congrFun (V_main_arg4 m c) _).trans ((isE_entries (by decide) (by decide) _ _).trans (congrArg₂ (entries _ _ _) e0 e1))

/-- The rows of the gradient of the input that grid point `t` leaves. -/
theorem out5 (t : Fin cfg0.N) : IsE (outsAt0 m c t.val t.isLt).1 fun s j => dx (A m c) (t.val * 512 + s) j := fun y => by
  have B := block m c t
  by_cases h0 : t.val % 4 = 0
  · rw [outsAt0_A m c t h0]; frame_out
    exact B.pay5 (H m c) y
  · rw [outsAt0_B m c t h0]; frame_out
    exact B.pay5 (H m c) y

/-- What the first grid point leaves of the gradient of the norm's weights. -/
theorem first6 (t : Fin cfg0.N) (h0 : t.val % 4 = 0) : IsE (outsAt0 m c t.val t.isLt).2 fun _ j =>
    0 + ∑ s ∈ Finset.range 512, (A m c).p (t.val * 512 + s) j * xh (A m c) (t.val * 512 + s) j := fun y => by
  have B := block m c t
  rw [outsAt0_A m c t h0]; frame_out
  exact B.pay1 (H m c) (q := fun _ => 0) cleared y

/-- What a later grid point leaves of the gradient of the norm's weights. -/
theorem later6 (t : Fin cfg0.N) (h0 : ¬ t.val % 4 = 0) {q : ℕ → EReal}
    (P : IsE (outsAt0 m c (t.val - 1) (prev_lt t)).2 fun _ j => q j) : IsE (outsAt0 m c t.val t.isLt).2 fun _ j =>
    q j + ∑ s ∈ Finset.range 512, (A m c).p (t.val * 512 + s) j * xh (A m c) (t.val * 512 + s) j := fun y => by
  have B := block m c t
  rw [outsAt0_B m c t h0]; frame_out
  exact B.pay1 (H m c) P y

/-- The gradient of the norm's weights after grid point `n`: the rows so far. -/
theorem out6 : ∀ (n : ℕ) (hn : n < cfg0.N), IsE (outsAt0 m c n hn).2 fun _ j =>
    ∑ t ∈ Finset.range (n + 1), ∑ s ∈ Finset.range 512, (A m c).p (t * 512 + s) j * xh (A m c) (t * 512 + s) j
  | 0, hn => fun i => (first6 m c ⟨0, hn⟩ rfl i).trans (by beta_reduce; rw [Finset.sum_range_one, zero_add])
  | n + 1, hn => by
    have h4 := lt4 ⟨n + 1, hn⟩
    have h0 : ¬ (n + 1) % 4 = 0 := by
      have h4 : n + 1 < 4 := h4
      omega
    refine fun i => (later6 m c ⟨n + 1, hn⟩ h0 (q := fun j => ∑ t ∈ Finset.range (n + 1), ∑ s ∈ Finset.range 512, (A m c).p (t * 512 + s) j * xh (A m c) (t * 512 + s) j)
      (out6 n (Nat.lt_of_succ_lt hn)) i).trans ?_
    exact (Finset.sum_range_succ _ _).symm

/-- The kernel's gradient of the input. -/
theorem array5 (i : S2048x1024.Idx) :
    ((dats m 0 c).arrAt 5 cfg0.N : S2048x1024.Idx → EReal) i = dx (A m c) (i 0).val (i 1).val := by
  refine (dats m 0 c).arrAt_forall_of_covers 5 (fun (i : S2048x1024.Idx) v => v = dx (A m c) (i 0).val (i 1).val)
    (by decide +kernel) (fun t hf y => ?_) i
  have e0 : win0_5.index t 0 * 512 + (y 0).val = t.val * 512 + (y 0).val := congrArg (fun k => k * 512 + (y 0).val) (congrFun (idx5 t) 0)
  have e1 : win0_5.index t 1 * 1024 + (y 1).val = (y 1).val := first_block 1024 (congrFun (idx5 t) 1)
  blk_simp
  rw [after0_5]
  exact (out5 m c t y).trans ((congrArg₂ (dx (A m c)) e0.symm e1.symm))

/-- The last grid point. -/
abbrev tEnd : Fin cfg0.N := ⟨3, by decide +kernel⟩

/-- The kernel's gradient of the norm's weights. -/
theorem array6 : ((dats m 0 c).arrAt 6 cfg0.N : S1x1024.Idx → EReal) = fun i => dn (A m c) (i 1).val := by
  refine (dats m 0 c).arrAt_eq_of_after_last 6 tEnd (by decide +kernel) _ fun j => ?_
  blk_simp
  rw [after0_6]
  refine (out6 m c 3 tEnd.isLt j).trans (?_)
  exact all_rows (fun s => (A m c).p s (j 1).val * xh (A m c) s (j 1).val)

end InDx
end
-- ==== Proof.InDxClaim.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.InDxKernel
public import Idealize.ShloMosaic.Adequacy
public import Idealize.ShloMosaic.Init

@[expose] public section

/-!
# The claims about the gradient of the odd layer's mixer input

The reference's run and frame, and the value claim: the kernel's arrays are the reference's.
-/

set_option maxRecDepth 16384

noncomputable section

open Idealize.ShloMosaic Idealize.ShloMosaic.TcCoe Idealize.SL.Sem

namespace InDxClaim

section Run

open Idealize.ShloMosaic.StableHlo
open Cert.Reference6Ideal Cert.Reference6Ideal.Gen Cert.Reference6Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v19) = val_main_v19 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  (θ_run defs _ _).mono (fun r h c => by
    obtain ⟨h0, h1, ha⟩ := h c
    exact ⟨h0.trans (val_main_v36_eq m c), h1.trans (val_main_v19_eq _ _ _), ha⟩) (Cert.Reference6Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) ∧ r.2.sem = fun _ => 0) :=
  (θ_run defs _ _).mono (fun r h => ⟨fun c => by
    obtain ⟨_, _, ha⟩ := h c
    exact ha, Idealize.ShloMosaic.sem_eq_zero_of_no_sems (by decide) r.2⟩) (ref_run m ρ)

end Run

section Agree

open Cert.Kernel6Ideal

variable (m : (ℓ : Loc nD τ sig) → Buf (Elt Ideal) ℓ) (c : Dev nD)

/-- Result 0 of the two programs on equal arguments. -/
theorem agree0 (x0 : Cert.Reference6Ideal.S2048x1024.Idx → EReal) (x1 : Cert.Reference6Ideal.S1x1024.Idx → EReal) (x2 : Cert.Reference6Ideal.S1024x2560.Idx → EReal) (x3 : Cert.Reference6Ideal.S2048x2560.Idx → EReal) (x4 : Cert.Reference6Ideal.S2048x1024.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) :
    Cert.Reference6Ideal.Read.val_main_v36 (F := Ideal) x0 x1 x2 x3 x4 = (Gen.dats m 0 c).arrAt 5 cfg0.N := by
  subst e0 e1 e2 e3 e4
  exact funext fun i => (InDx.ref36 _ _ _ _ _ i).trans (InDx.array5 m c i).symm

/-- Result 1 of the two programs on equal arguments. -/
theorem agree1 (x0 : Cert.Reference6Ideal.S2048x1024.Idx → EReal) (x1 : Cert.Reference6Ideal.S1x1024.Idx → EReal) (x2 : Cert.Reference6Ideal.S1024x2560.Idx → EReal) (x3 : Cert.Reference6Ideal.S2048x2560.Idx → EReal) (x4 : Cert.Reference6Ideal.S2048x1024.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) :
    Cert.Reference6Ideal.Read.val_main_v19 (F := Ideal) x0 x2 x3 = (Gen.dats m 0 c).arrAt 6 cfg0.N := by
  subst e0 e1 e2 e3 e4
  exact (funext fun i => InDx.ref19 _ _ _ _ _ i).trans (InDx.array6 m c).symm

end Agree

set_option maxHeartbeats 2000000 in
/-- The value claim: on every argument the kernel's arrays are the reference's. -/
theorem algebraic : Cert.algebraic_Kernel6Ideal_Reference6Ideal := fun m ρ m' ρ' _ hargs =>
  ⟨fun c => (Cert.Kernel6Ideal.Gen.dats m 0 c).arrAt 5 Cert.Kernel6Ideal.cfg0.N, fun c => (Cert.Kernel6Ideal.Gen.dats m 0 c).arrAt 6 Cert.Kernel6Ideal.cfg0.N,
    Cert.Kernel6Ideal.Value.run_blocks m ρ,
    (θ_run Cert.Reference6Ideal.defs _ _).mono (fun r h c => by
      obtain ⟨h0, h1, ha⟩ := h c
      exact ⟨h0.trans (agree0 m c _ _ _ _ _ (hargs c).1 (hargs c).2.1 (hargs c).2.2.1 (hargs c).2.2.2.1 (hargs c).2.2.2.2), h1.trans (agree1 m c _ _ _ _ _ (hargs c).1 (hargs c).2.1 (hargs c).2.2.1 (hargs c).2.2.2.1 (hargs c).2.2.2.2), ha⟩) (ref_run m' ρ')⟩

end InDxClaim
end
-- ==== Proof.OutDw.lean ====
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit

@[expose] public section

/-!
# The gradient of a mixer's output projection

The kernel multiplies the mixed rows, transposed, with the gradient of the projection's result. Each entry
is a sum over the rows, the same sum as the reference's.
-/

set_option maxRecDepth 16384

noncomputable section

open Idealize.ShloMosaic Idealize.ShloMosaic.TcCoe Idealize.SL.Sem
open Idealize.ShloMosaic.Pipeline (Dat)
open scoped BigOperators

namespace OutDw

open Cert.Kernel7Ideal Cert.Kernel7Ideal.Gen

/-- One entry of the result: the sum over the contracted index. -/
def entry (a : S2048x1024.Idx → EReal) (b : S2048x1024.Idx → EReal) (i : S1024x1024.Idx) : EReal :=
  ∑ k : Fin 2048, a (ix2 k ⟨(i 0).val, (i 0).isLt⟩) * b (ix2 k ⟨(i 1).val, (i 1).isLt⟩)

/-- What the body stores, entry by entry. -/
theorem pay_apply (x : S2048x1024.Idx → EReal) (y : S2048x512.Idx → EReal) (i : S1024x512.Idx) :
    k0_pay1 (F := Ideal) x y i = ∑ k : Fin 2048, x (ix2 k ⟨(i 0).val, (i 0).isLt⟩) * y (ix2 k ⟨(i 1).val, (i 1).isLt⟩) := by
  unfold k0_pay1
  pointwise

theorem hz : (![0, 0] : Fin 2 → Nat) = fun _ => 0 := funext fun a => by fin_cases a <;> rfl

/-- What the body leaves in the output's buffer is what it stores. -/
theorem out_eq (x : Vec Ideal S2048x1024 .bf16) (y : Vec Ideal S2048x512 .bf16) : out0_2 (F := Ideal) x y = k0_pay1 x y := by
  unfold out0_2
  rw [View.canon_unit_zero (S := S1024x512) hz, View.ld_unit_zero (S := S2048x1024) hz, View.ld_unit_zero (S := S2048x512) hz]

theorem idxA : ∀ t : Fin cfg0.N, win0_0.index t = ![0, 0] := by decide +kernel
theorem idxB : ∀ t : Fin cfg0.N, win0_1.index t = ![0, t.val] := by decide +kernel
theorem idxC : ∀ t : Fin cfg0.N, win0_2.index t = ![0, t.val] := by decide +kernel

variable (m : (ℓ : Loc nD τ sig) → Buf (Elt Ideal) ℓ) (c : Dev nD)

/-- The mixed rows as the launch reads it. -/
theorem entryA (i : S2048x1024.Idx) : (V (F := Ideal) m c main_v0 : S2048x1024.Idx → EReal) i = (m ((c : Thread nD τ).loc main_arg0) : S2048x1024.Idx → EReal) i := by
  dsimp only [V, hostOps0]
  after_results
  rfl

/-- The gradient as the launch reads it. -/
theorem entryB (i : S2048x1024.Idx) : (V (F := Ideal) m c main_v1 : S2048x1024.Idx → EReal) i = (m ((c : Thread nD τ).loc main_arg2) : S2048x1024.Idx → EReal) i := by
  dsimp only [V, hostOps0]
  after_results
  rfl

variable (t : Fin cfg0.N)

/-- The mixed rows that grid point `t` reads. -/
theorem blockA (y : S2048x1024.Idx) (i : S2048x1024.Idx) (h0 : (i 0).val = (y 0).val) (h1 : (i 1).val = (y 1).val) :
    (iblk m c 0 t : S2048x1024.Idx → EReal) y = (m ((c : Thread nD τ).loc main_arg0) : S2048x1024.Idx → EReal) i := by
  blk_simp [iblk]
  refine (entryA m c _).trans (congrArg _ (Shape.idx_ext₂ ?_ ?_))
  · rw [h0]; blk_simp [idxA t]
  · rw [h1]; blk_simp [idxA t]

/-- The columns of the gradient that grid point `t` reads. -/
theorem blockB (y : S2048x512.Idx) (i : S2048x1024.Idx) (h0 : (i 0).val = (y 0).val) (h1 : (i 1).val = t.val * 512 + (y 1).val) :
    (iblk m c 1 t : S2048x512.Idx → EReal) y = (m ((c : Thread nD τ).loc main_arg2) : S2048x1024.Idx → EReal) i := by
  blk_simp [iblk]
  refine (entryB m c _).trans (congrArg _ (Shape.idx_ext₂ ?_ ?_))
  · rw [h0]; blk_simp [idxB t]
  · rw [h1]; blk_simp [idxB t]

/-- The array the kernel returns, entry by entry. -/
theorem array (i : S1024x1024.Idx) :
    ((dats m 0 c).arrAt 2 cfg0.N : S1024x1024.Idx → EReal) i = entry (m ((c : Thread nD τ).loc main_arg0) : S2048x1024.Idx → EReal) (m ((c : Thread nD τ).loc main_arg2) : S2048x1024.Idx → EReal) i := by
  refine (dats m 0 c).arrAt_forall_of_covers 2 (fun (i : S1024x1024.Idx) v => v = entry (m ((c : Thread nD τ).loc main_arg0) : S2048x1024.Idx → EReal) (m ((c : Thread nD τ).loc main_arg2) : S2048x1024.Idx → EReal) i)
    (by decide +kernel) (fun t hf y => ?_) i
  have e0 : ((win0_2.blk t).view.emb y 0).val = (y 0).val := by blk_simp [idxC t]
  have e1 : ((win0_2.blk t).view.emb y 1).val = t.val * 512 + (y 1).val := by blk_simp [idxC t]
  blk_simp
  rw [after0_2, out_eq]
  refine (pay_apply _ _ y).trans ?_
  unfold entry
  refine Finset.sum_congr rfl fun k _ => congrArg₂ (· * ·) ?_ ?_
  · exact blockA m c t _ _ rfl e0
  · exact blockB m c t _ _ rfl e1

open Cert.Reference7Ideal.Read in
/-- The reference's result, entry by entry. -/
theorem ref_apply (x0 x2 : S2048x1024.Idx → EReal) (i : S1024x1024.Idx) :
    val_main_v3 (F := Ideal) x0 x2 i = entry x0 x2 i := by
  show val_main_v2 (F := Ideal) x0 x2 i = _
  rw [val_main_v2_apply, val_main_v1_apply]
  unfold entry
  refine Finset.sum_congr rfl fun k _ => (mul_comm _ _).trans (congrArg₂ (· * ·) ?_ ?_)
  · exact congrArg x0 (Shape.idx_ext₂ rfl rfl)
  · exact congrArg x2 (Shape.idx_ext₂ rfl rfl)

end OutDw
end
-- ==== Proof.OutDwClaim.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.OutDw
public import Idealize.ShloMosaic.Adequacy
public import Idealize.ShloMosaic.Init

@[expose] public section

/-!
# The claims about the gradient of a mixer's output projection

The reference's run and frame, and the value claim: the kernel's arrays are the reference's.
-/

set_option maxRecDepth 16384

noncomputable section

open Idealize.ShloMosaic Idealize.ShloMosaic.TcCoe Idealize.SL.Sem

namespace OutDwClaim

section Run

open Idealize.ShloMosaic.StableHlo
open Cert.Reference7Ideal Cert.Reference7Ideal.Gen Cert.Reference7Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg0)) (m ((c.tc : Thread nD τ).loc main_arg2))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun r h c => by
    obtain ⟨h0, ha⟩ := h c
    exact ⟨h0.trans (val_main_v3_eq _ _), ha⟩) (Cert.Reference7Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  (θ_run defs _ _).mono (fun r h => ⟨fun c => by
    obtain ⟨_, ha⟩ := h c
    exact ha, Idealize.ShloMosaic.sem_eq_zero_of_no_sems (by decide) r.2⟩) (ref_run m ρ)

end Run

section Agree

open Cert.Kernel7Ideal

variable (m : (ℓ : Loc nD τ sig) → Buf (Elt Ideal) ℓ) (c : Dev nD)

/-- Result 0 of the two programs on equal arguments. -/
theorem agree0 (x0 : Cert.Reference7Ideal.S2048x1024.Idx → EReal) (x1 : Cert.Reference7Ideal.S1024x1024.Idx → EReal) (x2 : Cert.Reference7Ideal.S2048x1024.Idx → EReal)
    (e0 : x0 = m ((c.tc : Thread nD τ).loc main_arg0)) (e1 : x1 = m ((c.tc : Thread nD τ).loc main_arg1)) (e2 : x2 = m ((c.tc : Thread nD τ).loc main_arg2)) :
    Cert.Reference7Ideal.Read.val_main_v3 (F := Ideal) x0 x2 = (Gen.dats m 0 c).arrAt 2 cfg0.N := by
  subst e0 e1 e2
  exact funext fun i => (OutDw.ref_apply _ _ i).trans (OutDw.array m c i).symm

end Agree

set_option maxHeartbeats 2000000 in
/-- The value claim: on every argument the kernel's arrays are the reference's. -/
theorem algebraic : Cert.algebraic_Kernel7Ideal_Reference7Ideal := fun m ρ m' ρ' _ hargs =>
  ⟨fun c => (Cert.Kernel7Ideal.Gen.dats m 0 c).arrAt 2 Cert.Kernel7Ideal.cfg0.N,
    Cert.Kernel7Ideal.Value.run_blocks m ρ,
    (θ_run Cert.Reference7Ideal.defs _ _).mono (fun r h c => by
      obtain ⟨h0, ha⟩ := h c
      exact ⟨h0.trans (agree0 m c _ _ _ (hargs c).1 (hargs c).2.1 (hargs c).2.2), ha⟩) (ref_run m' ρ')⟩

end OutDwClaim
end
-- ==== Proof.MlpOut.lean ====
module

public import proofs.«01_k».proof.Proof.NormBwd
public import proofs.«01_k».proof.Proof.Gen.Reference8Ideal.Read
public import proofs.«01_k».proof.Proof.Gen.Kernel8Ideal.Value
public import Idealize.ShloMosaic.Lib.Pipeline.ReadBack
public import Idealize.ShloMosaic.Lib.Pipeline.ValueKit

@[expose] public section

/-!
# The MLP block: its second product and the residual sum

The kernel squares the relu of the activations, multiplies with the weights, and adds the normalised rows to
the stream. Both results are the reference's.
-/

set_option maxRecDepth 16384

noncomputable section

open Idealize.ShloMosaic Idealize.ShloMosaic.TcCoe Idealize.SL.Sem
open Idealize.ShloMosaic.Pipeline (Dat)
open NormBwd
open scoped BigOperators

namespace MlpOut

/-! ## The body at one block of rows -/

section Body

open Cert.Kernel8Ideal Cert.Kernel8Ideal.Gen

variable {f : ℕ → ℕ → EReal}

theorem rowsum {x : S512x1024.Idx → EReal} (hx : IsE x f) :
    IsE (shapeCast S512x1 (multiReduction (F := Ideal) (φ := .f32) .add [1] S512 x 0x00000000#32 reduces_S512x1024_S512 (.inl rfl) rfl) shapeCasts_S512_S512x1) fun i _ =>
      ∑ l ∈ Finset.range 1024, f i l := fun i => by
  pointwise
  exact sum_range (fun l => f (i 0).val l) fun l => hx _

theorem rows {x : S1x1024.Idx → EReal} (hx : IsE x f) :
    IsE (broadcastTo S512x1024 x broadcasts_S1x1024_S512x1024) fun _ j => f 0 j := fun i => by
  pointwise
  exact hx _

theorem cols {x : S512x1.Idx → EReal} (hx : IsE x f) :
    IsE (broadcastTo S512x1024 x broadcasts_S512x1_S512x1024) fun i _ => f i 0 := fun i => by
  pointwise
  exact hx _

/-- The rows to be normalised are a product. -/
structure Holds (A : Args) (U W : ℕ → ℕ → EReal) : Prop where
  x : ∀ s j, A.x s j = ∑ k ∈ Finset.range 4096, relu2 (U s k) * W k j

/-- The blocks that a grid point reads, of the rows from `512 t` on. -/
structure Block (A : Args) (U W : ℕ → ℕ → EReal) (t : ℕ) (b0 : Vec Ideal S512x4096 .bf16) (b1 : Vec Ideal S4096x1024 .bf16) (b2 : Vec Ideal S512x1024 .f32)
    (b3 : Vec Ideal S1x1024 .f32) : Prop where
  u : IsE b0 fun s k => U (t * 512 + s) k
  w : IsE b1 W
  d : IsE b2 fun s j => A.d (t * 512 + s) j
  n : IsE b3 A.n

variable {A : Args} {U W : ℕ → ℕ → EReal} (H : Holds A U W) {t : ℕ} {b0 : Vec Ideal S512x4096 .bf16} {b1 : Vec Ideal S4096x1024 .bf16} {b2 : Vec Ideal S512x1024 .f32}
    {b3 : Vec Ideal S1x1024 .f32} (B : Block A U W t b0 b1 b2 b3)
include H B

/-- The product. -/
theorem Block.pay1 : IsE (k0_pay1 (F := Ideal) b0 b1) fun s j => A.x (t * 512 + s) j := fun i => by
  refine Eq.trans ?_ (H.x (t * 512 + (i 0).val) (i 1).val).symm
  unfold k0_pay1
  pointwise
  exact sum_range (fun k => relu2 (U (t * 512 + (i 0).val) k) * W k (i 1).val) fun l => congrArg₂ (· * ·) (congrArg relu2 (B.u (ix2 (i 0) l))) (B.w _)

/-- The residual sum. -/
theorem Block.pay2 : IsE (k0_pay2 (F := Ideal) b0 b1 b2 b3) fun s j => res A (t * 512 + s) j := fun i => by
  have h7 := rowsum (x := mulf (F := Ideal) (φ := .f32) (k0_pay1 (F := Ideal) b0 b1) (k0_pay1 (F := Ideal) b0 b1))
    (f := fun s j => A.x (t * 512 + s) j * A.x (t * 512 + s) j) fun i => (congrArg₂ (· * ·) (B.pay1 H i) (B.pay1 H i) : _ * _ = _)
  have h20 := cols (f := fun s _ => rs A (t * 512 + s))
    fun i => congrArg (fun q => Ideal.rsqrt (Ideal.div q (Ideal.ofBits .f32 0x44800000#32) + Ideal.ofBits .f32 0x358637BD#32)) (h7 i)
  have h21 := congrArg₂ (fun p q : EReal => p * q) (B.pay1 H i) (h20 i)
  have h24 := congrArg₂ (fun p q : EReal => p * q) h21 (rows B.n i)
  exact congrArg₂ (fun p q : EReal => p + q) (B.d i) h24

end Body

/-! ## The reference -/

section Reference

open Cert.Reference8Ideal Cert.Reference8Ideal.Read

variable (x0 : S2048x1024.Idx → EReal) (x1 : S2048x4096.Idx → EReal) (x2 : S4096x1024.Idx → EReal) (x3 : S1x1024.Idx → EReal)

/-- The arguments as matrices. -/
def args : Args where
  x := fun s j => ∑ k ∈ Finset.range 4096, relu2 (entries (by decide) (by decide) x1 s k) * entries (by decide) (by decide) x2 k j
  n := entries (by decide) (by decide) x3
  p := fun _ _ => 0
  d := entries (by decide) (by decide) x0

theorem holds : Holds (args x0 x1 x2 x3) (entries (by decide) (by decide) x1) (entries (by decide) (by decide) x2) := ⟨fun _ _ => rfl⟩

theorem hn : IsE x3 (args x0 x1 x2 x3).n := isE_entries (by decide) (by decide) _
theorem hd : IsE x0 (args x0 x1 x2 x3).d := isE_entries (by decide) (by decide) _

/-- The reference's squared relu. -/
theorem ref1 (x1 : S2048x4096.Idx → EReal) (i : S2048x4096.Idx) : val_main_v1 (F := Ideal) x1 i = relu2 (x1 i) := by
  have h : val_main_v0 (F := Ideal) x1 i = max (x1 i) 0 := congrArg (max (x1 i)) ((val_main_call0_v0_apply i).trans ofBits_0)
  exact congrArg₂ (fun p q : EReal => p * q) h h

/-- The reference's product. -/
theorem refAcc : IsE (val_main_v2 (F := Ideal) x1 x2) (args x0 x1 x2 x3).x := fun i => by
  rw [val_main_v2_apply]
  refine sum_range (fun k => relu2 (entries (by decide) (by decide) x1 (i 0).val k) * entries (by decide) (by decide) x2 k (i 1).val) fun k => ?_
  have h : val_main_v1 (F := Ideal) x1 (lidx_main_v2 i k) = relu2 (entries (by decide) (by decide) x1 (i 0).val k) :=
    (ref1 x1 (lidx_main_v2 i k)).trans (congrArg relu2 (isE_entries (by decide) (by decide) x1 (lidx_main_v2 i k)))
  exact congrArg₂ (fun p q : EReal => p * q) h (isE_entries (by decide) (by decide) x2 _)

theorem refMs (i : S2048x1.Idx) : val_main_v9 (F := Ideal) x1 x2 i = ms (args x0 x1 x2 x3) (i 0).val := by
  have h1 : val_main_v5 (F := Ideal) x1 x2 i = ∑ j ∈ Finset.range 1024, (args x0 x1 x2 x3).x (i 0).val j * (args x0 x1 x2 x3).x (i 0).val j := by
    rw [val_main_v5_apply, val_main_v4_apply]
    refine (congrArg₂ (fun p q : EReal => p + q) ofBits_0 (sum_range (fun j => (args x0 x1 x2 x3).x (i 0).val j * (args x0 x1 x2 x3).x (i 0).val j) fun k => ?_)).trans (zero_add _)
    have e := refAcc x0 x1 x2 x3 (idx_main_v4 (idx_main_v5 i) k)
    rw [val_main_v3_apply]
    exact congrArg₂ (fun p q : EReal => p * q) e e
  exact congrArg (fun q => Ideal.div q (Ideal.ofBits .f32 0x44800000#32) + Ideal.ofBits .f32 0x358637BD#32) h1

theorem refRs (i : S2048x1.Idx) : val_main_v10 (F := Ideal) x1 x2 i = rs (args x0 x1 x2 x3) (i 0).val :=
  congrArg Ideal.rsqrt (refMs x0 x1 x2 x3 i)

/-- The reference's residual sum. -/
theorem refRes : IsE (val_main_v15 (F := Ideal) x0 x1 x2 x3) (res (args x0 x1 x2 x3)) := fun i => by
  have h12 : val_main_v12 (F := Ideal) x1 x2 i = _ :=
    congrArg₂ (fun p q : EReal => p * q) (refAcc x0 x1 x2 x3 i) ((val_main_v11_apply _ _ _).trans (refRs x0 x1 x2 x3 _))
  have h14 : val_main_v14 (F := Ideal) x1 x2 x3 i = _ := congrArg₂ (fun p q : EReal => p * q) h12 ((val_main_v13_apply _ _).trans (hn x0 x1 x2 x3 _))
  exact congrArg₂ (fun p q : EReal => p + q) (hd x0 x1 x2 x3 i) h14

end Reference

/-! ## The kernel's arrays -/

open Cert.Kernel8Ideal Cert.Kernel8Ideal.Gen

theorem hz : (![0, 0] : Fin 2 → Nat) = fun _ => 0 := funext fun a => by fin_cases a <;> rfl

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel

/-- A coordinate of the first block. -/
theorem first_block {k y : ℕ} (n : ℕ) (h : k = 0) : k * n + y = y := by
  rw [h, Nat.zero_mul, Nat.zero_add]

variable (m : (ℓ : Loc nD τ sig) → Buf (Elt Ideal) ℓ) (c : Dev nD)

/-- The first factor as the launch reads it. -/
theorem entryU : (V (F := Ideal) m c main_v0 : S2048x4096.Idx → EReal) = m ((c : Thread nD τ).loc main_arg1) := by
  funext i
  dsimp only [V, hostOps0]
  after_results
  rfl

/-- The weights as the launch reads them. -/
theorem entryW : (V (F := Ideal) m c main_v1 : S4096x1024.Idx → EReal) = m ((c : Thread nD τ).loc main_arg2) := by
  funext i
  dsimp only [V, hostOps0]
  after_results
  rfl

/-- The arguments as matrices. -/
def A : Args := args (m ((c : Thread nD τ).loc main_arg0)) (m ((c : Thread nD τ).loc main_arg1)) (m ((c : Thread nD τ).loc main_arg2))
    (m ((c : Thread nD τ).loc main_arg3))

theorem H : Holds (A m c) (entries (by decide) (by decide) (m ((c : Thread nD τ).loc main_arg1) : S2048x4096.Idx → EReal)) (entries (by decide) (by decide) (m ((c : Thread nD τ).loc main_arg2) : S4096x1024.Idx → EReal)) := holds _ _ _ _

/-- The blocks that grid point `t` reads. -/
theorem block (t : Fin cfg0.N) : Block (A m c) (entries (by decide) (by decide) (m ((c : Thread nD τ).loc main_arg1) : S2048x4096.Idx → EReal)) (entries (by decide) (by decide) (m ((c : Thread nD τ).loc main_arg2) : S4096x1024.Idx → EReal)) t.val (iblk m c 0 t) (iblk m c 1 t) (iblk m c 2 t) (iblk m c 3 t) where
  u := fun y => by
    have e0 : ((win0_0.blk t).view.emb y 0).val = t.val * 512 + (y 0).val := by blk_simp [idx0 t]
    have e1 : ((win0_0.blk t).view.emb y 1).val = (y 1).val := by blk_simp [idx0 t]
    blk_simp [iblk]
    exact (congrFun (entryU m c) _).trans ((isE_entries (by decide) (by decide) _ _).trans (congrArg₂ (entries _ _ _) e0 e1))
  w := fun y => by
    have e0 : ((win0_1.blk t).view.emb y 0).val = (y 0).val := by blk_simp [idx1 t]
    have e1 : ((win0_1.blk t).view.emb y 1).val = (y 1).val := by blk_simp [idx1 t]
    blk_simp [iblk]
    exact (congrFun (entryW m c) _).trans ((isE_entries (by decide) (by decide) _ _).trans (congrArg₂ (entries _ _ _) e0 e1))
  d := fun y => by
    have e0 : ((win0_2.blk t).view.emb y 0).val = t.val * 512 + (y 0).val := by blk_simp [idx2 t]
    have e1 : ((win0_2.blk t).view.emb y 1).val = (y 1).val := by blk_simp [idx2 t]
    blk_simp [iblk]
    exact (congrFun (V_main_arg0 m c) _).trans ((isE_entries (by decide) (by decide) _ _).trans (congrArg₂ (entries _ _ _) e0 e1))
  n := fun y => by
    have e0 : ((win0_3.blk t).view.emb y 0).val = 0 := by blk_simp [idx3 t]
    have e1 : ((win0_3.blk t).view.emb y 1).val = (y 1).val := by blk_simp [idx3 t]
    blk_simp [iblk]
    exact (congrFun (V_main_arg3 m c) _).trans ((isE_entries (by decide) (by decide) _ _).trans (congrArg₂ (entries _ _ _) e0 e1))

/-- What the body leaves of the product. -/
theorem out4_eq (x : Vec Ideal S512x4096 .bf16) (y : Vec Ideal S4096x1024 .bf16) (z : Vec Ideal S512x1024 .f32) (n : Vec Ideal S1x1024 .f32) :
    out0_4 (F := Ideal) x y z n = k0_pay1 x y := by
  unfold out0_4
  rw [View.canon_unit_zero (S := S512x1024) hz, View.ld_unit_zero (S := S512x4096) hz, View.ld_unit_zero (S := S4096x1024) hz]

/-- What the body leaves of the residual sum. -/
theorem out5_eq (x : Vec Ideal S512x4096 .bf16) (y : Vec Ideal S4096x1024 .bf16) (z : Vec Ideal S512x1024 .f32) (n : Vec Ideal S1x1024 .f32) :
    out0_5 (F := Ideal) x y z n = k0_pay2 x y z n := by
  unfold out0_5
  rw [View.canon_unit_zero (S := S512x1024) hz, View.ld_unit_zero (S := S512x4096) hz, View.ld_unit_zero (S := S4096x1024) hz, View.ld_unit_zero (S := S512x1024) hz, View.ld_unit_zero (S := S1x1024) hz]

/-- The product the kernel returns. -/
theorem array4 (i : S2048x1024.Idx) : ((dats m 0 c).arrAt 4 cfg0.N : S2048x1024.Idx → EReal) i = (A m c).x (i 0).val (i 1).val := by
  refine (dats m 0 c).arrAt_forall_of_covers 4 (fun (i : S2048x1024.Idx) v => v = (A m c).x (i 0).val (i 1).val) (by decide +kernel) (fun t hf y => ?_) i
  blk_simp
  rw [after0_4, out4_eq]
  refine ((block m c t).pay1 (H m c) y).trans ?_
  have e0 : win0_4.index t 0 * 512 + (y 0).val = t.val * 512 + (y 0).val := congrArg (fun k => k * 512 + (y 0).val) (congrFun (idx4 t) 0)
  have e1 : win0_4.index t 1 * 1024 + (y 1).val = (y 1).val := first_block 1024 (congrFun (idx4 t) 1)
  exact congrArg₂ (A m c).x e0.symm e1.symm

/-- The residual sum the kernel returns. -/
theorem array5 (i : S2048x1024.Idx) : ((dats m 0 c).arrAt 5 cfg0.N : S2048x1024.Idx → EReal) i = res (A m c) (i 0).val (i 1).val := by
  refine (dats m 0 c).arrAt_forall_of_covers 5 (fun (i : S2048x1024.Idx) v => v = res (A m c) (i 0).val (i 1).val) (by decide +kernel) (fun t hf y => ?_) i
  blk_simp
  rw [after0_5, out5_eq]
  refine ((block m c t).pay2 (H m c) y).trans ?_
  have e0 : win0_5.index t 0 * 512 + (y 0).val = t.val * 512 + (y 0).val := congrArg (fun k => k * 512 + (y 0).val) (congrFun (idx5 t) 0)
  have e1 : win0_5.index t 1 * 1024 + (y 1).val = (y 1).val := first_block 1024 (congrFun (idx5 t) 1)
  exact congrArg₂ (res (A m c)) e0.symm e1.symm

end MlpOut
end
-- ==== Proof.MlpOutClaim.lean ====
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.MlpOut
public import Idealize.ShloMosaic.Adequacy
public import Idealize.ShloMosaic.Init

@[expose] public section

/-!
# The claims about the MLP block's second product

The reference's run and frame, and the value claim: the kernel's arrays are the reference's.
-/

set_option maxRecDepth 16384

noncomputable section

open Idealize.ShloMosaic Idealize.ShloMosaic.TcCoe Idealize.SL.Sem

namespace MlpOutClaim

section Run

open Idealize.ShloMosaic.StableHlo
open Cert.Reference8Ideal Cert.Reference8Ideal.Gen Cert.Reference8Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v2) = val_main_v2 (F := Ideal) (m ((c.tc : Thread nD τ).loc main_arg1)) (m ((c.tc : Thread nD τ).loc main_arg2))
      ∧ r.2.mem ((c.tc : Thread nD τ).loc main_v15) = val_main_v15 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun r h c => by
    obtain ⟨h0, h1, ha⟩ := h c
    exact ⟨h0.trans (val_main_v2_eq _ _), h1.trans (val_main_v15_eq _ _ _ _), ha⟩) (Cert.Reference8Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0) :=
  (θ_run defs _ _).mono (fun r h => ⟨fun c => by
    obtain ⟨_, _, ha⟩ := h c
    exact ha, Idealize.ShloMosaic.sem_eq_zero_of_no_sems (by decide) r.2⟩) (ref_run m ρ)

end Run

section Agree

open Cert.Kernel8Ideal

variable (m : (ℓ : Loc nD τ sig) → Buf (Elt Ideal) ℓ) (c : Dev nD)

/-- Result 0 of the two programs on equal arguments. -/
theorem agree0 (x0 : Cert.Reference8Ideal.S2048x1024.Idx → EReal) (x1 : Cert.Reference8Ideal.S2048x4096.Idx → EReal) (x2 : Cert.Reference8Ideal.S4096x1024.Idx → EReal) (x3 : Cert.Reference8Ideal.S1x1024.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference8Ideal.Read.val_main_v2 (F := Ideal) x1 x2 = (Gen.dats m 0 c).arrAt 4 cfg0.N := by
  subst e0 e1 e2 e3
  exact funext fun i => (MlpOut.refAcc _ _ _ _ i).trans (MlpOut.array4 m c i).symm

/-- Result 1 of the two programs on equal arguments. -/
theorem agree1 (x0 : Cert.Reference8Ideal.S2048x1024.Idx → EReal) (x1 : Cert.Reference8Ideal.S2048x4096.Idx → EReal) (x2 : Cert.Reference8Ideal.S4096x1024.Idx → EReal) (x3 : Cert.Reference8Ideal.S1x1024.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference8Ideal.Read.val_main_v15 (F := Ideal) x0 x1 x2 x3 = (Gen.dats m 0 c).arrAt 5 cfg0.N := by
  subst e0 e1 e2 e3
  exact funext fun i => (MlpOut.refRes _ _ _ _ i).trans (MlpOut.array5 m c i).symm

end Agree

set_option maxHeartbeats 2000000 in
/-- The value claim: on every argument the kernel's arrays are the reference's. -/
theorem algebraic : Cert.algebraic_Kernel8Ideal_Reference8Ideal := fun m ρ m' ρ' _ hargs =>
  ⟨fun c => (Cert.Kernel8Ideal.Gen.dats m 0 c).arrAt 4 Cert.Kernel8Ideal.cfg0.N, fun c => (Cert.Kernel8Ideal.Gen.dats m 0 c).arrAt 5 Cert.Kernel8Ideal.cfg0.N,
    Cert.Kernel8Ideal.Value.run_blocks m ρ,
    (θ_run Cert.Reference8Ideal.defs _ _).mono (fun r h c => by
      obtain ⟨h0, h1, ha⟩ := h c
      exact ⟨h0.trans (agree0 m c _ _ _ _ (hargs c).1 (hargs c).2.1 (hargs c).2.2.1 (hargs c).2.2.2), h1.trans (agree1 m c _ _ _ _ (hargs c).1 (hargs c).2.1 (hargs c).2.2.1 (hargs c).2.2.2), ha⟩) (ref_run m' ρ')⟩

end MlpOutClaim
end
-- ==== Proof.MixOut.lean ====
module

public import proofs.«01_k».proof.Proof.NormBwd
public import proofs.«01_k».proof.Proof.Gen.Reference9Ideal.Read
public import proofs.«01_k».proof.Proof.Gen.Kernel9Ideal.Value
public import Idealize.ShloMosaic.Lib.Pipeline.ReadBack
public import Idealize.ShloMosaic.Lib.Pipeline.ValueKit

@[expose] public section

/-!
# A mixer's output projection and the residual sum

The kernel multiplies the mixed rows with the weights and adds the normalised rows to the stream. Both
results are the reference's.
-/

set_option maxRecDepth 16384

noncomputable section

open Idealize.ShloMosaic Idealize.ShloMosaic.TcCoe Idealize.SL.Sem
open Idealize.ShloMosaic.Pipeline (Dat)
open NormBwd
open scoped BigOperators

namespace MixOut

/-! ## The body at one block of rows -/

section Body

open Cert.Kernel9Ideal Cert.Kernel9Ideal.Gen

variable {f : ℕ → ℕ → EReal}

theorem rowsum {x : S1024x1024.Idx → EReal} (hx : IsE x f) :
    IsE (shapeCast S1024x1 (multiReduction (F := Ideal) (φ := .f32) .add [1] S1024 x 0x00000000#32 reduces_S1024x1024_S1024 (.inl rfl) rfl) shapeCasts_S1024_S1024x1) fun i _ =>
      ∑ l ∈ Finset.range 1024, f i l := fun i => by
  pointwise
  exact sum_range (fun l => f (i 0).val l) fun l => hx _

theorem rows {x : S1x1024.Idx → EReal} (hx : IsE x f) :
    IsE (broadcastTo S1024x1024 x broadcasts_S1x1024_S1024x1024) fun _ j => f 0 j := fun i => by
  pointwise
  exact hx _

theorem cols {x : S1024x1.Idx → EReal} (hx : IsE x f) :
    IsE (broadcastTo S1024x1024 x broadcasts_S1024x1_S1024x1024) fun i _ => f i 0 := fun i => by
  pointwise
  exact hx _

/-- The rows to be normalised are a product. -/
structure Holds (A : Args) (U W : ℕ → ℕ → EReal) : Prop where
  x : ∀ s j, A.x s j = ∑ k ∈ Finset.range 1024, U s k * W k j

/-- The blocks that a grid point reads, of the rows from `1024 t` on. -/
structure Block (A : Args) (U W : ℕ → ℕ → EReal) (t : ℕ) (b0 : Vec Ideal S1024x1024 .bf16) (b1 : Vec Ideal S1024x1024 .bf16) (b2 : Vec Ideal S1024x1024 .f32)
    (b3 : Vec Ideal S1x1024 .f32) : Prop where
  u : IsE b0 fun s k => U (t * 1024 + s) k
  w : IsE b1 W
  d : IsE b2 fun s j => A.d (t * 1024 + s) j
  n : IsE b3 A.n

variable {A : Args} {U W : ℕ → ℕ → EReal} (H : Holds A U W) {t : ℕ} {b0 : Vec Ideal S1024x1024 .bf16} {b1 : Vec Ideal S1024x1024 .bf16} {b2 : Vec Ideal S1024x1024 .f32}
    {b3 : Vec Ideal S1x1024 .f32} (B : Block A U W t b0 b1 b2 b3)
include H B

/-- The product. -/
theorem Block.pay1 : IsE (k0_pay1 (F := Ideal) b0 b1) fun s j => A.x (t * 1024 + s) j := fun i => by
  refine Eq.trans ?_ (H.x (t * 1024 + (i 0).val) (i 1).val).symm
  unfold k0_pay1
  pointwise
  exact sum_range (fun k => U (t * 1024 + (i 0).val) k * W k (i 1).val) fun l => congrArg₂ (· * ·) (B.u (ix2 (i 0) l)) (B.w _)

/-- The residual sum. -/
theorem Block.pay2 : IsE (k0_pay2 (F := Ideal) b0 b1 b2 b3) fun s j => res A (t * 1024 + s) j := fun i => by
  have h7 := rowsum (x := mulf (F := Ideal) (φ := .f32) (k0_pay1 (F := Ideal) b0 b1) (k0_pay1 (F := Ideal) b0 b1))
    (f := fun s j => A.x (t * 1024 + s) j * A.x (t * 1024 + s) j) fun i => (congrArg₂ (· * ·) (B.pay1 H i) (B.pay1 H i) : _ * _ = _)
  have h20 := cols (f := fun s _ => rs A (t * 1024 + s))
    fun i => congrArg (fun q => Ideal.rsqrt (Ideal.div q (Ideal.ofBits .f32 0x44800000#32) + Ideal.ofBits .f32 0x358637BD#32)) (h7 i)
  have h21 := congrArg₂ (fun p q : EReal => p * q) (B.pay1 H i) (h20 i)
  have h24 := congrArg₂ (fun p q : EReal => p * q) h21 (rows B.n i)
  exact congrArg₂ (fun p q : EReal => p + q) (B.d i) h24

end Body

/-! ## The reference -/

section Reference

open Cert.Reference9Ideal Cert.Reference9Ideal.Read

variable (x0 : S2048x1024.Idx → EReal) (x1 : S2048x1024.Idx → EReal) (x2 : S1024x1024.Idx → EReal) (x3 : S1x1024.Idx → EReal)

/-- The arguments as matrices. -/
def args : Args where
  x := fun s j => ∑ k ∈ Finset.range 1024, entries (by decide) (by decide) x1 s k * entries (by decide) (by decide) x2 k j
  n := entries (by decide) (by decide) x3
  p := fun _ _ => 0
  d := entries (by decide) (by decide) x0

theorem holds : Holds (args x0 x1 x2 x3) (entries (by decide) (by decide) x1) (entries (by decide) (by decide) x2) := ⟨fun _ _ => rfl⟩

theorem hn : IsE x3 (args x0 x1 x2 x3).n := isE_entries (by decide) (by decide) _
theorem hd : IsE x0 (args x0 x1 x2 x3).d := isE_entries (by decide) (by decide) _

/-- The reference's product. -/
theorem refAcc : IsE (val_main_v0 (F := Ideal) x1 x2) (args x0 x1 x2 x3).x := fun i => by
  rw [val_main_v0_apply]
  refine sum_range (fun k => entries (by decide) (by decide) x1 (i 0).val k * entries (by decide) (by decide) x2 k (i 1).val) fun k => ?_
  exact congrArg₂ (fun p q : EReal => p * q) (isE_entries (by decide) (by decide) x1 _) (isE_entries (by decide) (by decide) x2 _)

theorem refMs (i : S2048x1.Idx) : val_main_v7 (F := Ideal) x1 x2 i = ms (args x0 x1 x2 x3) (i 0).val := by
  have h1 : val_main_v3 (F := Ideal) x1 x2 i = ∑ j ∈ Finset.range 1024, (args x0 x1 x2 x3).x (i 0).val j * (args x0 x1 x2 x3).x (i 0).val j := by
    rw [val_main_v3_apply, val_main_v2_apply]
    refine (congrArg₂ (fun p q : EReal => p + q) ofBits_0 (sum_range (fun j => (args x0 x1 x2 x3).x (i 0).val j * (args x0 x1 x2 x3).x (i 0).val j) fun k => ?_)).trans (zero_add _)
    have e := refAcc x0 x1 x2 x3 (idx_main_v2 (idx_main_v3 i) k)
    rw [val_main_v1_apply]
    exact congrArg₂ (fun p q : EReal => p * q) e e
  exact congrArg (fun q => Ideal.div q (Ideal.ofBits .f32 0x44800000#32) + Ideal.ofBits .f32 0x358637BD#32) h1

theorem refRs (i : S2048x1.Idx) : val_main_v8 (F := Ideal) x1 x2 i = rs (args x0 x1 x2 x3) (i 0).val :=
  congrArg Ideal.rsqrt (refMs x0 x1 x2 x3 i)

/-- The reference's residual sum. -/
theorem refRes : IsE (val_main_v13 (F := Ideal) x0 x1 x2 x3) (res (args x0 x1 x2 x3)) := fun i => by
  have h12 : val_main_v10 (F := Ideal) x1 x2 i = _ :=
    congrArg₂ (fun p q : EReal => p * q) (refAcc x0 x1 x2 x3 i) ((val_main_v9_apply _ _ _).trans (refRs x0 x1 x2 x3 _))
  have h14 : val_main_v12 (F := Ideal) x1 x2 x3 i = _ := congrArg₂ (fun p q : EReal => p * q) h12 ((val_main_v11_apply _ _).trans (hn x0 x1 x2 x3 _))
  exact congrArg₂ (fun p q : EReal => p + q) (hd x0 x1 x2 x3 i) h14

end Reference

/-! ## The kernel's arrays -/

open Cert.Kernel9Ideal Cert.Kernel9Ideal.Gen

theorem hz : (![0, 0] : Fin 2 → Nat) = fun _ => 0 := funext fun a => by fin_cases a <;> rfl

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel

/-- A coordinate of the first block. -/
theorem first_block {k y : ℕ} (n : ℕ) (h : k = 0) : k * n + y = y := by
  rw [h, Nat.zero_mul, Nat.zero_add]

variable (m : (ℓ : Loc nD τ sig) → Buf (Elt Ideal) ℓ) (c : Dev nD)

/-- The first factor as the launch reads it. -/
theorem entryU : (V (F := Ideal) m c main_v0 : S2048x1024.Idx → EReal) = m ((c : Thread nD τ).loc main_arg1) := by
  funext i
  dsimp only [V, hostOps0]
  after_results
  rfl

/-- The weights as the launch reads them. -/
theorem entryW : (V (F := Ideal) m c main_v1 : S1024x1024.Idx → EReal) = m ((c : Thread nD τ).loc main_arg2) := by
  funext i
  dsimp only [V, hostOps0]
  after_results
  rfl

/-- The arguments as matrices. -/
def A : Args := args (m ((c : Thread nD τ).loc main_arg0)) (m ((c : Thread nD τ).loc main_arg1)) (m ((c : Thread nD τ).loc main_arg2))
    (m ((c : Thread nD τ).loc main_arg3))

theorem H : Holds (A m c) (entries (by decide) (by decide) (m ((c : Thread nD τ).loc main_arg1) : S2048x1024.Idx → EReal)) (entries (by decide) (by decide) (m ((c : Thread nD τ).loc main_arg2) : S1024x1024.Idx → EReal)) := holds _ _ _ _

/-- The blocks that grid point `t` reads. -/
theorem block (t : Fin cfg0.N) : Block (A m c) (entries (by decide) (by decide) (m ((c : Thread nD τ).loc main_arg1) : S2048x1024.Idx → EReal)) (entries (by decide) (by decide) (m ((c : Thread nD τ).loc main_arg2) : S1024x1024.Idx → EReal)) t.val (iblk m c 0 t) (iblk m c 1 t) (iblk m c 2 t) (iblk m c 3 t) where
  u := fun y => by
    have e0 : ((win0_0.blk t).view.emb y 0).val = t.val * 1024 + (y 0).val := by blk_simp [idx0 t]
    have e1 : ((win0_0.blk t).view.emb y 1).val = (y 1).val := by blk_simp [idx0 t]
    blk_simp [iblk]
    exact (congrFun (entryU m c) _).trans ((isE_entries (by decide) (by decide) _ _).trans (congrArg₂ (entries _ _ _) e0 e1))
  w := fun y => by
    have e0 : ((win0_1.blk t).view.emb y 0).val = (y 0).val := by blk_simp [idx1 t]
    have e1 : ((win0_1.blk t).view.emb y 1).val = (y 1).val := by blk_simp [idx1 t]
    blk_simp [iblk]
    exact (congrFun (entryW m c) _).trans ((isE_entries (by decide) (by decide) _ _).trans (congrArg₂ (entries _ _ _) e0 e1))
  d := fun y => by
    have e0 : ((win0_2.blk t).view.emb y 0).val = t.val * 1024 + (y 0).val := by blk_simp [idx2 t]
    have e1 : ((win0_2.blk t).view.emb y 1).val = (y 1).val := by blk_simp [idx2 t]
    blk_simp [iblk]
    exact (congrFun (V_main_arg0 m c) _).trans ((isE_entries (by decide) (by decide) _ _).trans (congrArg₂ (entries _ _ _) e0 e1))
  n := fun y => by
    have e0 : ((win0_3.blk t).view.emb y 0).val = 0 := by blk_simp [idx3 t]
    have e1 : ((win0_3.blk t).view.emb y 1).val = (y 1).val := by blk_simp [idx3 t]
    blk_simp [iblk]
    exact (congrFun (V_main_arg3 m c) _).trans ((isE_entries (by decide) (by decide) _ _).trans (congrArg₂ (entries _ _ _) e0 e1))

/-- What the body leaves of the product. -/
theorem out4_eq (x : Vec Ideal S1024x1024 .bf16) (y : Vec Ideal S1024x1024 .bf16) (z : Vec Ideal S1024x1024 .f32) (n : Vec Ideal S1x1024 .f32) :
    out0_4 (F := Ideal) x y z n = k0_pay1 x y := by
  unfold out0_4
  rw [View.canon_unit_zero (S := S1024x1024) hz, View.ld_unit_zero (S := S1024x1024) hz, View.ld_unit_zero (S := S1024x1024) hz]

/-- What the body leaves of the residual sum. -/
theorem out5_eq (x : Vec Ideal S1024x1024 .bf16) (y : Vec Ideal S1024x1024 .bf16) (z : Vec Ideal S1024x1024 .f32) (n : Vec Ideal S1x1024 .f32) :
    out0_5 (F := Ideal) x y z n = k0_pay2 x y z n := by
  unfold out0_5
  rw [View.canon_unit_zero (S := S1024x1024) hz, View.ld_unit_zero (S := S1024x1024) hz, View.ld_unit_zero (S := S1024x1024) hz, View.ld_unit_zero (S := S1024x1024) hz, View.ld_unit_zero (S := S1x1024) hz]

/-- The product the kernel returns. -/
theorem array4 (i : S2048x1024.Idx) : ((dats m 0 c).arrAt 4 cfg0.N : S2048x1024.Idx → EReal) i = (A m c).x (i 0).val (i 1).val := by
  refine (dats m 0 c).arrAt_forall_of_covers 4 (fun (i : S2048x1024.Idx) v => v = (A m c).x (i 0).val (i 1).val) (by decide +kernel) (fun t hf y => ?_) i
  blk_simp
  rw [after0_4, out4_eq]
  refine ((block m c t).pay1 (H m c) y).trans ?_
  have e0 : win0_4.index t 0 * 1024 + (y 0).val = t.val * 1024 + (y 0).val := congrArg (fun k => k * 1024 + (y 0).val) (congrFun (idx4 t) 0)
  have e1 : win0_4.index t 1 * 1024 + (y 1).val = (y 1).val := first_block 1024 (congrFun (idx4 t) 1)
  exact congrArg₂ (A m c).x e0.symm e1.symm

/-- The residual sum the kernel returns. -/
theorem array5 (i : S2048x1024.Idx) : ((dats m 0 c).arrAt 5 cfg0.N : S2048x1024.Idx → EReal) i = res (A m c) (i 0).val (i 1).val := by
  refine (dats m 0 c).arrAt_forall_of_covers 5 (fun (i : S2048x1024.Idx) v => v = res (A m c) (i 0).val (i 1).val) (by decide +kernel) (fun t hf y => ?_) i
  blk_simp
  rw [after0_5, out5_eq]
  refine ((block m c t).pay2 (H m c) y).trans ?_
  have e0 : win0_5.index t 0 * 1024 + (y 0).val = t.val * 1024 + (y 0).val := congrArg (fun k => k * 1024 + (y 0).val) (congrFun (idx5 t) 0)
  have e1 : win0_5.index t 1 * 1024 + (y 1).val = (y 1).val := first_block 1024 (congrFun (idx5 t) 1)
  exact congrArg₂ (res (A m c)) e0.symm e1.symm

end MixOut
end
-- ==== Proof.MixOutClaim.lean ====
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.MixOut
public import Idealize.ShloMosaic.Adequacy
public import Idealize.ShloMosaic.Init

@[expose] public section

/-!
# The claims about a mixer's output projection

The reference's run and frame, and the value claim: the kernel's arrays are the reference's.
-/

set_option maxRecDepth 16384

noncomputable section

open Idealize.ShloMosaic Idealize.ShloMosaic.TcCoe Idealize.SL.Sem

namespace MixOutClaim

section Run

open Idealize.ShloMosaic.StableHlo
open Cert.Reference9Ideal Cert.Reference9Ideal.Gen Cert.Reference9Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v0) = val_main_v0 (F := Ideal) (m ((c.tc : Thread nD τ).loc main_arg1)) (m ((c.tc : Thread nD τ).loc main_arg2))
      ∧ r.2.mem ((c.tc : Thread nD τ).loc main_v13) = val_main_v13 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun r h c => by
    obtain ⟨h0, h1, ha⟩ := h c
    exact ⟨h0.trans (val_main_v0_eq _ _), h1.trans (val_main_v13_eq _ _ _ _), ha⟩) (Cert.Reference9Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0) :=
  (θ_run defs _ _).mono (fun r h => ⟨fun c => by
    obtain ⟨_, _, ha⟩ := h c
    exact ha, Idealize.ShloMosaic.sem_eq_zero_of_no_sems (by decide) r.2⟩) (ref_run m ρ)

end Run

section Agree

open Cert.Kernel9Ideal

variable (m : (ℓ : Loc nD τ sig) → Buf (Elt Ideal) ℓ) (c : Dev nD)

/-- Result 0 of the two programs on equal arguments. -/
theorem agree0 (x0 : Cert.Reference9Ideal.S2048x1024.Idx → EReal) (x1 : Cert.Reference9Ideal.S2048x1024.Idx → EReal) (x2 : Cert.Reference9Ideal.S1024x1024.Idx → EReal) (x3 : Cert.Reference9Ideal.S1x1024.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference9Ideal.Read.val_main_v0 (F := Ideal) x1 x2 = (Gen.dats m 0 c).arrAt 4 cfg0.N := by
  subst e0 e1 e2 e3
  exact funext fun i => (MixOut.refAcc _ _ _ _ i).trans (MixOut.array4 m c i).symm

/-- Result 1 of the two programs on equal arguments. -/
theorem agree1 (x0 : Cert.Reference9Ideal.S2048x1024.Idx → EReal) (x1 : Cert.Reference9Ideal.S2048x1024.Idx → EReal) (x2 : Cert.Reference9Ideal.S1024x1024.Idx → EReal) (x3 : Cert.Reference9Ideal.S1x1024.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference9Ideal.Read.val_main_v13 (F := Ideal) x0 x1 x2 x3 = (Gen.dats m 0 c).arrAt 5 cfg0.N := by
  subst e0 e1 e2 e3
  exact funext fun i => (MixOut.refRes _ _ _ _ i).trans (MixOut.array5 m c i).symm

end Agree

set_option maxHeartbeats 2000000 in
/-- The value claim: on every argument the kernel's arrays are the reference's. -/
theorem algebraic : Cert.algebraic_Kernel9Ideal_Reference9Ideal := fun m ρ m' ρ' _ hargs =>
  ⟨fun c => (Cert.Kernel9Ideal.Gen.dats m 0 c).arrAt 4 Cert.Kernel9Ideal.cfg0.N, fun c => (Cert.Kernel9Ideal.Gen.dats m 0 c).arrAt 5 Cert.Kernel9Ideal.cfg0.N,
    Cert.Kernel9Ideal.Value.run_blocks m ρ,
    (θ_run Cert.Reference9Ideal.defs _ _).mono (fun r h c => by
      obtain ⟨h0, h1, ha⟩ := h c
      exact ⟨h0.trans (agree0 m c _ _ _ _ (hargs c).1 (hargs c).2.1 (hargs c).2.2.1 (hargs c).2.2.2), h1.trans (agree1 m c _ _ _ _ (hargs c).1 (hargs c).2.1 (hargs c).2.2.1 (hargs c).2.2.2), ha⟩) (ref_run m' ρ')⟩

end MixOutClaim
end
-- ==== Proof.InEl.lean ====
module

public import proofs.«01_k».proof.Proof.Gen.Kernel10Ideal.Value
public import proofs.«01_k».proof.Proof.Gen.Reference10Ideal.Read
public import Idealize.ShloMosaic.Lib.Pointwise
public import Idealize.ShloMosaic.Lib.Pipeline.ValueKit

@[expose] public section

/-!
# The odd layer's input projection, its last columns

The host normalises the layer's input and takes the last 1024 columns of the weight matrix, transposed; the
kernel multiplies the two. Each entry is the reference's sum.
-/

set_option maxRecDepth 16384

noncomputable section

open Idealize.ShloMosaic Idealize.ShloMosaic.TcCoe Idealize.SL.Sem
open Idealize.ShloMosaic.Pipeline (Dat)
open scoped BigOperators

namespace InEl

open Cert.Kernel10Ideal Cert.Kernel10Ideal.Gen

/-- One entry of the result: the sum over the contracted index. -/
def entry (a : S2048x1024.Idx → EReal) (b : S1024x1024.Idx → EReal) (i : S2048x1024.Idx) : EReal :=
  ∑ k : Fin 1024, a (ix2 ⟨(i 0).val, (i 0).isLt⟩ k) * b (ix2 ⟨(i 1).val, (i 1).isLt⟩ k)

/-- What the body stores, entry by entry. -/
theorem pay_apply (x : S2048x1024.Idx → EReal) (y : S512x1024.Idx → EReal) (i : S2048x512.Idx) :
    k0_pay1 (F := Ideal) x y i = ∑ k : Fin 1024, x (ix2 ⟨(i 0).val, (i 0).isLt⟩ k) * y (ix2 ⟨(i 1).val, (i 1).isLt⟩ k) := by
  unfold k0_pay1
  pointwise

theorem hz : (![0, 0] : Fin 2 → Nat) = fun _ => 0 := funext fun a => by fin_cases a <;> rfl

/-- What the body leaves in the output's buffer is what it stores. -/
theorem out_eq (x : Vec Ideal S2048x1024 .bf16) (y : Vec Ideal S512x1024 .bf16) : out0_2 (F := Ideal) x y = k0_pay1 x y := by
  unfold out0_2
  rw [View.canon_unit_zero (S := S2048x512) hz, View.ld_unit_zero (S := S2048x1024) hz, View.ld_unit_zero (S := S512x1024) hz]

theorem idxA : ∀ t : Fin cfg0.N, win0_0.index t = ![0, 0] := by decide +kernel
theorem idxB : ∀ t : Fin cfg0.N, win0_1.index t = ![t.val, 0] := by decide +kernel
theorem idxC : ∀ t : Fin cfg0.N, win0_2.index t = ![0, t.val] := by decide +kernel

variable (m : (ℓ : Loc nD τ sig) → Buf (Elt Ideal) ℓ) (c : Dev nD)

/-- The normalised input, as the host computes it. -/
abbrev normed (x : S2048x1024.Idx → EReal) (n : S1x1024.Idx → EReal) : S2048x1024.Idx → EReal :=
  Cert.Reference10Ideal.Read.val_main_v11 (F := Ideal) x n

/-- The normalised input as the launch reads it. -/
theorem entryA (i : S2048x1024.Idx) : (V (F := Ideal) m c main_v12 : S2048x1024.Idx → EReal) i = (normed (m ((c : Thread nD τ).loc main_arg0)) (m ((c : Thread nD τ).loc main_arg1))) i := by
  dsimp only [V, hostOps0]
  after_results
  rfl

/-- The columns of the weight matrix that the product takes, transposed. -/
def right (w : S1024x2560.Idx → EReal) (i : S1024x1024.Idx) : EReal :=
  w (ix2 ⟨(i 1).val, (i 1).isLt⟩ ⟨1536 + (i 0).val, by have h0 : (i 0).val < 1024 := (i 0).isLt; omega⟩)

/-- Those columns as the launch reads them. -/
theorem entryB (i : S1024x1024.Idx) : (V (F := Ideal) m c main_v15 : S1024x1024.Idx → EReal) i
    = right (m ((c : Thread nD τ).loc main_arg2)) i := by
  dsimp only [V, hostOps0]
  after_results
  unfold right
  show transpose S2560x1024 [1, 0] (m ((c : Thread nD τ).loc main_arg2) : S1024x2560.Idx → EReal) transposes_S1024x2560_S2560x1024_1_0 _ = _
  exact transpose_apply [1, 0] (m ((c : Thread nD τ).loc main_arg2) : S1024x2560.Idx → EReal) transposes_S1024x2560_S2560x1024_1_0 _ _
    (fun b => by fin_cases b; exacts [rfl, (Nat.zero_add _).symm])

variable (t : Fin cfg0.N)

/-- The normalised input that grid point `t` reads. -/
theorem blockA (y : S2048x1024.Idx) (i : S2048x1024.Idx) (h0 : (i 0).val = (y 0).val) (h1 : (i 1).val = (y 1).val) :
    (iblk m c 0 t : S2048x1024.Idx → EReal) y = (normed (m ((c : Thread nD τ).loc main_arg0)) (m ((c : Thread nD τ).loc main_arg1))) i := by
  blk_simp [iblk]
  refine (entryA m c _).trans (congrArg _ (Shape.idx_ext₂ ?_ ?_))
  · rw [h0]; blk_simp [idxA t]
  · rw [h1]; blk_simp [idxA t]

/-- The rows of the transposed weights that grid point `t` reads. -/
theorem blockB (y : S512x1024.Idx) (i : S1024x1024.Idx) (h0 : (i 0).val = t.val * 512 + (y 0).val) (h1 : (i 1).val = (y 1).val) :
    (iblk m c 1 t : S512x1024.Idx → EReal) y = (right (m ((c : Thread nD τ).loc main_arg2))) i := by
  blk_simp [iblk]
  refine (entryB m c _).trans (congrArg _ (Shape.idx_ext₂ ?_ ?_))
  · rw [h0]; blk_simp [idxB t]
  · rw [h1]; blk_simp [idxB t]

/-- The array the kernel returns, entry by entry. -/
theorem array (i : S2048x1024.Idx) :
    ((dats m 0 c).arrAt 2 cfg0.N : S2048x1024.Idx → EReal) i = entry (normed (m ((c : Thread nD τ).loc main_arg0)) (m ((c : Thread nD τ).loc main_arg1))) (right (m ((c : Thread nD τ).loc main_arg2))) i := by
  refine (dats m 0 c).arrAt_forall_of_covers 2 (fun (i : S2048x1024.Idx) v => v = entry (normed (m ((c : Thread nD τ).loc main_arg0)) (m ((c : Thread nD τ).loc main_arg1))) (right (m ((c : Thread nD τ).loc main_arg2))) i)
    (by decide +kernel) (fun t hf y => ?_) i
  have e0 : ((win0_2.blk t).view.emb y 0).val = (y 0).val := by blk_simp [idxC t]
  have e1 : ((win0_2.blk t).view.emb y 1).val = t.val * 512 + (y 1).val := by blk_simp [idxC t]
  blk_simp
  rw [after0_2, out_eq]
  refine (pay_apply _ _ y).trans ?_
  unfold entry
  refine Finset.sum_congr rfl fun k _ => congrArg₂ (· * ·) ?_ ?_
  · exact blockA m c t _ _ e0 rfl
  · exact blockB m c t _ _ e1 rfl

open Cert.Reference10Ideal.Read in
/-- The reference's result, entry by entry. -/
theorem ref_apply (x0 : S2048x1024.Idx → EReal) (x1 : S1x1024.Idx → EReal) (x2 : S1024x2560.Idx → EReal) (i : S2048x1024.Idx) :
    val_main_v13 (F := Ideal) x0 x1 x2 i = entry (normed x0 x1) (right x2) i := by
  rw [val_main_v13_apply, val_main_v12_apply]
  unfold entry right
  refine Finset.sum_congr rfl fun k _ => congrArg₂ (· * ·) ?_ ?_
  · exact congrArg (normed x0 x1) (Shape.idx_ext₂ rfl rfl)
  · exact congrArg x2 (Shape.idx_ext₂ rfl rfl)

end InEl
end
-- ==== Proof.InElClaim.lean ====
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.InEl
public import Idealize.ShloMosaic.Adequacy
public import Idealize.ShloMosaic.Init

@[expose] public section

/-!
# The claims about the odd layer's input projection

The reference's run and frame, and the value claim: the kernel's arrays are the reference's.
-/

set_option maxRecDepth 16384

noncomputable section

open Idealize.ShloMosaic Idealize.ShloMosaic.TcCoe Idealize.SL.Sem

namespace InElClaim

section Run

open Idealize.ShloMosaic.StableHlo
open Cert.Reference10Ideal Cert.Reference10Ideal.Gen Cert.Reference10Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v13) = val_main_v13 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun r h c => by
    obtain ⟨h0, ha⟩ := h c
    exact ⟨h0.trans (val_main_v13_eq _ _ _), ha⟩) (Cert.Reference10Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  (θ_run defs _ _).mono (fun r h => ⟨fun c => by
    obtain ⟨_, ha⟩ := h c
    exact ha, Idealize.ShloMosaic.sem_eq_zero_of_no_sems (by decide) r.2⟩) (ref_run m ρ)

end Run

section Agree

open Cert.Kernel10Ideal

variable (m : (ℓ : Loc nD τ sig) → Buf (Elt Ideal) ℓ) (c : Dev nD)

/-- Result 0 of the two programs on equal arguments. -/
theorem agree0 (x0 : Cert.Reference10Ideal.S2048x1024.Idx → EReal) (x1 : Cert.Reference10Ideal.S1x1024.Idx → EReal) (x2 : Cert.Reference10Ideal.S1024x2560.Idx → EReal)
    (e0 : x0 = m ((c.tc : Thread nD τ).loc main_arg0)) (e1 : x1 = m ((c.tc : Thread nD τ).loc main_arg1)) (e2 : x2 = m ((c.tc : Thread nD τ).loc main_arg2)) :
    Cert.Reference10Ideal.Read.val_main_v13 (F := Ideal) x0 x1 x2 = (Gen.dats m 0 c).arrAt 2 cfg0.N := by
  subst e0 e1 e2
  exact funext fun i => (InEl.ref_apply _ _ _ i).trans (InEl.array m c i).symm

end Agree

set_option maxHeartbeats 2000000 in
/-- The value claim: on every argument the kernel's arrays are the reference's. -/
theorem algebraic : Cert.algebraic_Kernel10Ideal_Reference10Ideal := fun m ρ m' ρ' _ hargs =>
  ⟨fun c => (Cert.Kernel10Ideal.Gen.dats m 0 c).arrAt 2 Cert.Kernel10Ideal.cfg0.N,
    Cert.Kernel10Ideal.Value.run_blocks m ρ,
    (θ_run Cert.Reference10Ideal.defs _ _).mono (fun r h c => by
      obtain ⟨h0, ha⟩ := h c
      exact ⟨h0.trans (agree0 m c _ _ _ (hargs c).1 (hargs c).2.1 (hargs c).2.2), ha⟩) (ref_run m' ρ')⟩

end InElClaim
end
-- ==== Proof.MlpLoss.lean ====
module

public import proofs.«01_k».proof.Proof.MlpOut
public import proofs.«01_k».proof.Proof.UpDxKernel
public import proofs.«01_k».proof.Proof.Gen.Reference11Ideal.Read
public import proofs.«01_k».proof.Proof.Gen.Kernel11Ideal.Value
public import Idealize.ShloMosaic.Lib.ValueIdxRank1

@[expose] public section

/-!
# The last MLP block and the loss

The product and the residual sum are those of the other MLP block. The kernel goes on to the distance from the
target, the gradient of the loss and, block by block of rows, the loss. The reference has the loss as one sum,
and the gradient as the derivative of a square; both are the kernel's on all extended reals.
-/

set_option maxRecDepth 16384

noncomputable section

open Idealize.ShloMosaic Idealize.ShloMosaic.TcCoe Idealize.SL.Sem
open Idealize.ShloMosaic.Pipeline (Dat)
open NormBwd MlpOut
open scoped BigOperators

namespace MlpLoss

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_grad : Ideal.ofBits .f32 0x3A800000#32 = ((1 / 1024 : ℝ) : EReal) := by
  simp [Ideal.ofBits, Ideal.ieee, -EReal.coe_mul]; norm_num

/-- Half of the derivative of a square over the number of columns. -/
theorem half_twice (d : EReal) :
    Ideal.div (Ideal.ofBits .f32 0x3F000000#32 * Ideal.ofBits .f32 0x3F800000#32) (Ideal.ofBits .f32 0x44800000#32) * (Ideal.ofBits .f32 0x40000000#32 * d)
      = d * Ideal.ofBits .f32 0x3A800000#32 := by
  rw [ofBits_half, ofBits_one, ofBits_two, ofBits_grad, ofBits_1024, Ideal.div_coe (by norm_num), ← EReal.coe_mul, ← EReal.coe_mul, ← mul_assoc, ← EReal.coe_mul, mul_comm]
  congr 2
  norm_num

/-- The distance of the residual sum from the target. -/
def dist (A : Args) (T : ℕ → ℕ → EReal) (s j : ℕ) : EReal := res A s j - T s j

/-- A row's mean square distance. -/
def row (A : Args) (T : ℕ → ℕ → EReal) (s : ℕ) : EReal :=
  Ideal.div (∑ j ∈ Finset.range 1024, dist A T s j * dist A T s j) (Ideal.ofBits .f32 0x44800000#32)

/-- Half of the sum over a block's rows. -/
def part (A : Args) (T : ℕ → ℕ → EReal) (t : ℕ) : EReal := Ideal.ofBits .f32 0x3F000000#32 * ∑ s ∈ Finset.range 512, row A T (t * 512 + s)

/-- The parts of the blocks are half of the sum over all rows. -/
theorem parts (A : Args) (T : ℕ → ℕ → EReal) :
    ∑ t ∈ Finset.range (3 + 1), part A T t = Ideal.ofBits .f32 0x3F000000#32 * ∑ s ∈ Finset.range 2048, row A T s := by
  rw [← UpDx.all_rows (row A T), mul_comm, ofBits_half, ← sum_mul_coe _ _ (by norm_num)]
  refine Finset.sum_congr rfl fun t _ => ?_
  unfold part
  rw [ofBits_half, mul_comm]

/-! ## The body at one block of rows -/

section Body

open Cert.Kernel11Ideal Cert.Kernel11Ideal.Gen

theorem total {x : S512x1.Idx → EReal} {f : ℕ → EReal} (hx : IsE x fun s _ => f s) :
    IsE (broadcastTo S8x128 (mulf (F := Ideal) (φ := .f32) (broadcast S1x1 (Scalar.ofBits .f32 0x3F000000#32))
      (shapeCast S1x1 (multiReduction (F := Ideal) (φ := .f32) .add [0] S1 x 0x00000000#32 reduces_S512x1_S1 (.inl rfl) rfl) shapeCasts_S1_S1x1)) broadcasts_S1x1_S8x128)
      fun _ _ => Ideal.ofBits .f32 0x3F000000#32 * ∑ s ∈ Finset.range 512, f s := fun i => by
  pointwise
  exact congrArg (fun q : EReal => Ideal.ofBits .f32 0x3F000000#32 * q) (sum_range f fun l => hx _)

variable {A : Args} {U W T : ℕ → ℕ → EReal} (H : Holds A U W) {t : ℕ} {b0 : Vec Ideal S512x4096 .bf16} {b1 : Vec Ideal S4096x1024 .bf16} {b2 : Vec Ideal S512x1024 .f32}
    {b3 : Vec Ideal S1x1024 .f32} {b4 : Vec Ideal S512x1024 .f32} (B : Block A U W t b0 b1 b2 b3) (hT : IsE b4 fun s j => T (t * 512 + s) j)
include H B

/-- The product. -/
theorem pay3 : IsE (k0_pay3 (F := Ideal) b0 b1) fun s j => A.x (t * 512 + s) j := B.pay1 H

include hT

/-- The distance. -/
theorem pay4 : IsE (k0_pay4 (F := Ideal) b0 b1 b2 b3 b4) fun s j => dist A T (t * 512 + s) j := fun i =>
  congrArg₂ (fun p q : EReal => p - q) (B.pay2 H i) (hT i)

/-- The gradient of the loss. -/
theorem pay5 : IsE (k0_pay5 (F := Ideal) b0 b1 b2 b3 b4) fun s j => dist A T (t * 512 + s) j * Ideal.ofBits .f32 0x3A800000#32 := fun i =>
  congrArg (fun p : EReal => p * Ideal.ofBits .f32 0x3A800000#32) (pay4 H B hT i)

/-- What the loss is after the block's rows are added. -/
theorem pay2 {q : EReal} {v : Vec Ideal S8x128 .f32} (hv : IsE v fun _ _ => q) :
    IsE (k0_pay2 (F := Ideal) (k0_pay4 b0 b1 b2 b3 b4) v) fun _ _ => q + part A T t := fun i => by
  have h38 := UpDx.rowsum (f := fun s j => dist A T (t * 512 + s) j * dist A T (t * 512 + s) j)
    (x := mulf (F := Ideal) (φ := .f32) (k0_pay4 (F := Ideal) b0 b1 b2 b3 b4) (k0_pay4 (F := Ideal) b0 b1 b2 b3 b4))
    fun i => congrArg₂ (fun p q : EReal => p * q) (pay4 H B hT i) (pay4 H B hT i)
  have h45 := total (f := fun s => row A T (t * 512 + s)) fun i => congrArg (fun q => Ideal.div q (Ideal.ofBits .f32 0x44800000#32)) (h38 i)
  unfold k0_pay2
  exact congrArg₂ (fun p q : EReal => p + q) ((congrFun (shapeCast_self v _) i).trans (hv i)) (h45 i)

end Body

/-- The first grid point clears the loss. -/
theorem cleared : IsE (Cert.Kernel11Ideal.Gen.k0_pay1 (F := Ideal)) fun _ _ => 0 := fun _ => ofBits_0

/-! ## The reference -/

section Reference

open Cert.Reference11Ideal Cert.Reference11Ideal.Read

variable (x0 : S2048x1024.Idx → EReal) (x1 : S2048x4096.Idx → EReal) (x2 : S4096x1024.Idx → EReal) (x3 : S1x1024.Idx → EReal) (x4 : S2048x1024.Idx → EReal)

/-- The target as a matrix. -/
def target : ℕ → ℕ → EReal := entries (by decide) (by decide) x4

include x0 x3 in
/-- The reference's product. -/
theorem refAcc : IsE (val_main_v2 (F := Ideal) x1 x2) (args x0 x1 x2 x3).x := MlpOut.refAcc x0 x1 x2 x3

/-- The reference's distance. -/
theorem refDist : IsE (val_main_v16 (F := Ideal) x0 x1 x2 x3 x4) (dist (args x0 x1 x2 x3) (target x4)) := fun i =>
  congrArg₂ (fun p q : EReal => p - q) (MlpOut.refRes x0 x1 x2 x3 i) (isE_entries (by decide) (by decide) x4 i)

/-- The reference's gradient of the loss. -/
theorem refGrad : IsE (val_main_v30 (F := Ideal) x0 x1 x2 x3 x4) fun s j => dist (args x0 x1 x2 x3) (target x4) s j * Ideal.ofBits .f32 0x3A800000#32 := fun i => by
  have h19 : val_main_v19 (F := Ideal) x0 x1 x2 x3 x4 i = Ideal.ofBits .f32 0x40000000#32 * dist (args x0 x1 x2 x3) (target x4) (i 0).val (i 1).val :=
    congrArg₂ (fun p q : EReal => p * q) (val_main_v18_apply i) (refDist x0 x1 x2 x3 x4 i)
  have h28 : val_main_v29 (F := Ideal) i = Ideal.div (Ideal.ofBits .f32 0x3F000000#32 * Ideal.ofBits .f32 0x3F800000#32) (Ideal.ofBits .f32 0x44800000#32) :=
    (val_main_v29_apply i).trans (congrArg₂ Ideal.div (val_main_v26_apply _) (val_main_v27_apply _))
  exact (congrArg₂ (fun p q : EReal => p * q) h28 h19).trans (half_twice _)

/-- The reference's mean square distance of a row. -/
theorem refRow (i : S2048.Idx) : val_main_v22 (F := Ideal) x0 x1 x2 x3 x4 i = row (args x0 x1 x2 x3) (target x4) (i 0).val := by
  have h20 : val_main_v20 (F := Ideal) x0 x1 x2 x3 x4 i = ∑ j ∈ Finset.range 1024, dist (args x0 x1 x2 x3) (target x4) (i 0).val j * dist (args x0 x1 x2 x3) (target x4) (i 0).val j := by
    rw [val_main_v20_apply]
    refine (congrArg₂ (fun p q : EReal => p + q) ofBits_0 (sum_range (fun j => dist (args x0 x1 x2 x3) (target x4) (i 0).val j * dist (args x0 x1 x2 x3) (target x4) (i 0).val j) fun k => ?_)).trans (zero_add _)
    have e := refDist x0 x1 x2 x3 x4 (idx_main_v20 i k)
    rw [val_main_v17_apply]
    exact congrArg₂ (fun p q : EReal => p * q) e e
  exact congrArg₂ Ideal.div h20 (val_main_v21_apply i)

/-- The reference's loss. -/
theorem refLoss (i : S8x128.Idx) : val_main_v31 (F := Ideal) x0 x1 x2 x3 x4 i = Ideal.ofBits .f32 0x3F000000#32 * ∑ s ∈ Finset.range 2048, row (args x0 x1 x2 x3) (target x4) s := by
  rw [val_main_v31_apply]
  have h23 : val_main_v23 (F := Ideal) x0 x1 x2 x3 x4 (idx_main_v31 i) = ∑ s ∈ Finset.range 2048, row (args x0 x1 x2 x3) (target x4) s := by
    rw [val_main_v23_apply]
    refine (congrArg₂ (fun p q : EReal => p + q) ofBits_0 ?_).trans (zero_add _)
    refine Eq.trans ?_ (sum_range (x := fun k : Fin 2048 => row (args x0 x1 x2 x3) (target x4) k.val) _ fun _ => rfl)
    exact Fintype.sum_equiv Idealize.ShloMosaic.ValueIdx.idxEquiv1 _ _ fun j => refRow x0 x1 x2 x3 x4 j
  exact congrArg (fun q : EReal => Ideal.ofBits .f32 0x3F000000#32 * q) h23

end Reference

/-! ## The kernel's arrays -/

open Cert.Kernel11Ideal Cert.Kernel11Ideal.Gen

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

variable (m : (ℓ : Loc nD τ sig) → Buf (Elt Ideal) ℓ) (c : Dev nD)

/-- The first factor as the launch reads it. -/
theorem entryU : (V (F := Ideal) m c main_v0 : S2048x4096.Idx → EReal) = m ((c : Thread nD τ).loc main_arg1) := by
  funext i
  dsimp only [V, hostOps0]
  after_results
  rfl

/-- The weights as the launch reads them. -/
theorem entryW : (V (F := Ideal) m c main_v1 : S4096x1024.Idx → EReal) = m ((c : Thread nD τ).loc main_arg2) := by
  funext i
  dsimp only [V, hostOps0]
  after_results
  rfl

/-- The arguments as matrices. -/
def A : Args := args (m ((c : Thread nD τ).loc main_arg0)) (m ((c : Thread nD τ).loc main_arg1)) (m ((c : Thread nD τ).loc main_arg2))
    (m ((c : Thread nD τ).loc main_arg3))

/-- The target as a matrix. -/
def T : ℕ → ℕ → EReal := target (m ((c : Thread nD τ).loc main_arg4))

theorem H : Holds (A m c) (entries (by decide) (by decide) (m ((c : Thread nD τ).loc main_arg1) : S2048x4096.Idx → EReal)) (entries (by decide) (by decide) (m ((c : Thread nD τ).loc main_arg2) : S4096x1024.Idx → EReal)) := holds _ _ _ _

/-- The blocks that grid point `t` reads. -/
theorem block (t : Fin cfg0.N) : Block (A m c) (entries (by decide) (by decide) (m ((c : Thread nD τ).loc main_arg1) : S2048x4096.Idx → EReal)) (entries (by decide) (by decide) (m ((c : Thread nD τ).loc main_arg2) : S4096x1024.Idx → EReal)) t.val (iblk m c 0 t) (iblk m c 1 t) (iblk m c 2 t) (iblk m c 3 t) where
  u := fun y => by
    have e0 : ((win0_0.blk t).view.emb y 0).val = t.val * 512 + (y 0).val := by blk_simp [idx0 t]
    have e1 : ((win0_0.blk t).view.emb y 1).val = (y 1).val := by blk_simp [idx0 t]
    blk_simp [iblk]
    exact (congrFun (entryU m c) _).trans ((isE_entries (by decide) (by decide) _ _).trans (congrArg₂ (entries _ _ _) e0 e1))
  w := fun y => by
    have e0 : ((win0_1.blk t).view.emb y 0).val = (y 0).val := by blk_simp [idx1 t]
    have e1 : ((win0_1.blk t).view.emb y 1).val = (y 1).val := by blk_simp [idx1 t]
    blk_simp [iblk]
    exact (congrFun (entryW m c) _).trans ((isE_entries (by decide) (by decide) _ _).trans (congrArg₂ (entries _ _ _) e0 e1))
  d := fun y => by
    have e0 : ((win0_2.blk t).view.emb y 0).val = t.val * 512 + (y 0).val := by blk_simp [idx2 t]
    have e1 : ((win0_2.blk t).view.emb y 1).val = (y 1).val := by blk_simp [idx2 t]
    blk_simp [iblk]
    exact (congrFun (V_main_arg0 m c) _).trans ((isE_entries (by decide) (by decide) _ _).trans (congrArg₂ (entries _ _ _) e0 e1))
  n := fun y => by
    have e0 : ((win0_3.blk t).view.emb y 0).val = 0 := by blk_simp [idx3 t]
    have e1 : ((win0_3.blk t).view.emb y 1).val = (y 1).val := by blk_simp [idx3 t]
    blk_simp [iblk]
    exact (congrFun (V_main_arg3 m c) _).trans ((isE_entries (by decide) (by decide) _ _).trans (congrArg₂ (entries _ _ _) e0 e1))

/-- The target's rows that grid point `t` reads. -/
theorem blockT (t : Fin cfg0.N) : IsE (iblk m c 4 t : S512x1024.Idx → EReal) fun s j => T m c (t.val * 512 + s) j := fun y => by
  have e0 : ((win0_4.blk t).view.emb y 0).val = t.val * 512 + (y 0).val := by blk_simp [idx4 t]
  have e1 : ((win0_4.blk t).view.emb y 1).val = (y 1).val := by blk_simp [idx4 t]
  blk_simp [iblk]
  exact (congrFun (V_main_arg4 m c) _).trans ((isE_entries (by decide) (by decide) _ _).trans (congrArg₂ (entries _ _ _) e0 e1))

theorem prev_lt (t : Fin cfg0.N) : t.val - 1 < cfg0.N := by have := t.isLt; omega

/-- The rows of the product that grid point `t` leaves. -/
theorem out5 (t : Fin cfg0.N) : IsE (outsAt0 m c t.val t.isLt).1 fun s j => (A m c).x (t.val * 512 + s) j := fun y => by
  have B := block m c t
  by_cases h0 : t.val % 4 = 0
  · rw [outsAt0_A m c t h0]; frame_out
    exact pay3 (H m c) B y
  · rw [outsAt0_B m c t h0]; frame_out
    exact pay3 (H m c) B y

/-- The rows of the gradient that grid point `t` leaves. -/
theorem out6 (t : Fin cfg0.N) : IsE (outsAt0 m c t.val t.isLt).2.1 fun s j => dist (A m c) (T m c) (t.val * 512 + s) j * Ideal.ofBits .f32 0x3A800000#32 := fun y => by
  have B := block m c t
  by_cases h0 : t.val % 4 = 0
  · rw [outsAt0_A m c t h0]; frame_out
    exact pay5 (H m c) B (blockT m c t) y
  · rw [outsAt0_B m c t h0]; frame_out
    exact pay5 (H m c) B (blockT m c t) y

/-- The loss after grid point `n`: the rows so far. -/
theorem out7 : ∀ (n : ℕ) (hn : n < cfg0.N), IsE (outsAt0 m c n hn).2.2 fun _ _ => ∑ t ∈ Finset.range (n + 1), part (A m c) (T m c) t
  | 0, hn => fun i => by
    have B := block m c ⟨0, hn⟩
    rw [Finset.sum_range_one, ← zero_add (part (A m c) (T m c) 0), outsAt0_A m c ⟨0, hn⟩ rfl]; frame_out
    exact pay2 (H m c) B (blockT m c ⟨0, hn⟩) cleared i
  | n + 1, hn => fun i => by
    have h4 : n + 1 < 4 := (by decide +kernel : ∀ t : Fin grid0.N, t.val < 4) ⟨n + 1, hn⟩
    have h0 : ¬ (n + 1) % 4 = 0 := by omega
    have B := block m c ⟨n + 1, hn⟩
    have P := out7 n (Nat.lt_of_succ_lt hn)
    rw [Finset.sum_range_succ, outsAt0_B m c ⟨n + 1, hn⟩ h0]; frame_out
    exact pay2 (H m c) B (blockT m c ⟨n + 1, hn⟩) P i

/-- The product the kernel returns. -/
theorem array5 (i : S2048x1024.Idx) : ((dats m 0 c).arrAt 5 cfg0.N : S2048x1024.Idx → EReal) i = (A m c).x (i 0).val (i 1).val := by
  refine (dats m 0 c).arrAt_forall_of_covers 5 (fun (i : S2048x1024.Idx) v => v = (A m c).x (i 0).val (i 1).val) (by decide +kernel) (fun t hf y => ?_) i
  have e0 : win0_5.index t 0 * 512 + (y 0).val = t.val * 512 + (y 0).val := congrArg (fun k => k * 512 + (y 0).val) (congrFun (idx5 t) 0)
  have e1 : win0_5.index t 1 * 1024 + (y 1).val = (y 1).val := first_block 1024 (congrFun (idx5 t) 1)
  blk_simp
  rw [after0_5]
  exact (out5 m c t y).trans (congrArg₂ (A m c).x e0.symm e1.symm)

/-- The gradient of the loss the kernel returns. -/
theorem array6 (i : S2048x1024.Idx) : ((dats m 0 c).arrAt 6 cfg0.N : S2048x1024.Idx → EReal) i
    = dist (A m c) (T m c) (i 0).val (i 1).val * Ideal.ofBits .f32 0x3A800000#32 := by
  refine (dats m 0 c).arrAt_forall_of_covers 6 (fun (i : S2048x1024.Idx) v => v = dist (A m c) (T m c) (i 0).val (i 1).val * Ideal.ofBits .f32 0x3A800000#32)
    (by decide +kernel) (fun t hf y => ?_) i
  have e0 : win0_6.index t 0 * 512 + (y 0).val = t.val * 512 + (y 0).val := congrArg (fun k => k * 512 + (y 0).val) (congrFun (idx6 t) 0)
  have e1 : win0_6.index t 1 * 1024 + (y 1).val = (y 1).val := first_block 1024 (congrFun (idx6 t) 1)
  blk_simp
  rw [after0_6]
  exact (out6 m c t y).trans (congrArg₂ (fun s j => dist (A m c) (T m c) s j * Ideal.ofBits .f32 0x3A800000#32) e0.symm e1.symm)

/-- The last grid point. -/
abbrev tEnd : Fin cfg0.N := ⟨3, by decide +kernel⟩

/-- The loss the kernel returns. -/
theorem array7 : ((dats m 0 c).arrAt 7 cfg0.N : S8x128.Idx → EReal) = fun _ => Ideal.ofBits .f32 0x3F000000#32 * ∑ s ∈ Finset.range 2048, row (A m c) (T m c) s := by
  refine (dats m 0 c).arrAt_eq_of_after_last 7 tEnd (by decide +kernel) _ fun j => ?_
  blk_simp
  rw [after0_7]
  exact (out7 m c 3 tEnd.isLt j).trans (parts (A m c) (T m c))

end MlpLoss
end
-- ==== Proof.MlpLossClaim.lean ====
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.MlpLoss
public import Idealize.ShloMosaic.Adequacy
public import Idealize.ShloMosaic.Init

@[expose] public section

/-!
# The claims about the last MLP block and the loss

The reference's run and frame, and the value claim: the kernel's arrays are the reference's.
-/

set_option maxRecDepth 16384

noncomputable section

open Idealize.ShloMosaic Idealize.ShloMosaic.TcCoe Idealize.SL.Sem

namespace MlpLossClaim

section Run

open Idealize.ShloMosaic.StableHlo
open Cert.Reference11Ideal Cert.Reference11Ideal.Gen Cert.Reference11Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v2) = val_main_v2 (F := Ideal) (m ((c.tc : Thread nD τ).loc main_arg1)) (m ((c.tc : Thread nD τ).loc main_arg2))
      ∧ r.2.mem ((c.tc : Thread nD τ).loc main_v30) = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v31) = val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  (θ_run defs _ _).mono (fun r h c => by
    obtain ⟨h0, h1, h2, ha⟩ := h c
    exact ⟨h0.trans (val_main_v2_eq _ _), h1.trans (val_main_v30_eq _ _ _ _ _), h2.trans (val_main_v31_eq _ _ _ _ _), ha⟩) (Cert.Reference11Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) ∧ r.2.sem = fun _ => 0) :=
  (θ_run defs _ _).mono (fun r h => ⟨fun c => by
    obtain ⟨_, _, _, ha⟩ := h c
    exact ha, Idealize.ShloMosaic.sem_eq_zero_of_no_sems (by decide) r.2⟩) (ref_run m ρ)

end Run

section Agree

open Cert.Kernel11Ideal

variable (m : (ℓ : Loc nD τ sig) → Buf (Elt Ideal) ℓ) (c : Dev nD)

/-- Result 0 of the two programs on equal arguments. -/
theorem agree0 (x0 : Cert.Reference11Ideal.S2048x1024.Idx → EReal) (x1 : Cert.Reference11Ideal.S2048x4096.Idx → EReal) (x2 : Cert.Reference11Ideal.S4096x1024.Idx → EReal) (x3 : Cert.Reference11Ideal.S1x1024.Idx → EReal) (x4 : Cert.Reference11Ideal.S2048x1024.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) :
    Cert.Reference11Ideal.Read.val_main_v2 (F := Ideal) x1 x2 = (Gen.dats m 0 c).arrAt 5 cfg0.N := by
  subst e0 e1 e2 e3 e4
  exact funext fun i => (MlpLoss.refAcc _ _ _ _ i).trans (MlpLoss.array5 m c i).symm

/-- Result 1 of the two programs on equal arguments. -/
theorem agree1 (x0 : Cert.Reference11Ideal.S2048x1024.Idx → EReal) (x1 : Cert.Reference11Ideal.S2048x4096.Idx → EReal) (x2 : Cert.Reference11Ideal.S4096x1024.Idx → EReal) (x3 : Cert.Reference11Ideal.S1x1024.Idx → EReal) (x4 : Cert.Reference11Ideal.S2048x1024.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) :
    Cert.Reference11Ideal.Read.val_main_v30 (F := Ideal) x0 x1 x2 x3 x4 = (Gen.dats m 0 c).arrAt 6 cfg0.N := by
  subst e0 e1 e2 e3 e4
  exact funext fun i => (MlpLoss.refGrad _ _ _ _ _ i).trans (MlpLoss.array6 m c i).symm

/-- Result 2 of the two programs on equal arguments. -/
theorem agree2 (x0 : Cert.Reference11Ideal.S2048x1024.Idx → EReal) (x1 : Cert.Reference11Ideal.S2048x4096.Idx → EReal) (x2 : Cert.Reference11Ideal.S4096x1024.Idx → EReal) (x3 : Cert.Reference11Ideal.S1x1024.Idx → EReal) (x4 : Cert.Reference11Ideal.S2048x1024.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) (e4 : x4 = m ((c.tc : Thread nD τ).loc main_arg4)) :
    Cert.Reference11Ideal.Read.val_main_v31 (F := Ideal) x0 x1 x2 x3 x4 = (Gen.dats m 0 c).arrAt 7 cfg0.N := by
  subst e0 e1 e2 e3 e4
  exact (funext fun i => MlpLoss.refLoss _ _ _ _ _ i).trans (MlpLoss.array7 m c).symm

end Agree

set_option maxHeartbeats 2000000 in
/-- The value claim: on every argument the kernel's arrays are the reference's. -/
theorem algebraic : Cert.algebraic_Kernel11Ideal_Reference11Ideal := fun m ρ m' ρ' _ hargs =>
  ⟨fun c => (Cert.Kernel11Ideal.Gen.dats m 0 c).arrAt 5 Cert.Kernel11Ideal.cfg0.N, fun c => (Cert.Kernel11Ideal.Gen.dats m 0 c).arrAt 6 Cert.Kernel11Ideal.cfg0.N, fun c => (Cert.Kernel11Ideal.Gen.dats m 0 c).arrAt 7 Cert.Kernel11Ideal.cfg0.N,
    Cert.Kernel11Ideal.Value.run_blocks m ρ,
    (θ_run Cert.Reference11Ideal.defs _ _).mono (fun r h c => by
      obtain ⟨h0, h1, h2, ha⟩ := h c
      exact ⟨h0.trans (agree0 m c _ _ _ _ _ (hargs c).1 (hargs c).2.1 (hargs c).2.2.1 (hargs c).2.2.2.1 (hargs c).2.2.2.2), h1.trans (agree1 m c _ _ _ _ _ (hargs c).1 (hargs c).2.1 (hargs c).2.2.1 (hargs c).2.2.2.1 (hargs c).2.2.2.2), h2.trans (agree2 m c _ _ _ _ _ (hargs c).1 (hargs c).2.1 (hargs c).2.2.1 (hargs c).2.2.2.1 (hargs c).2.2.2.2), ha⟩) (ref_run m' ρ')⟩

end MlpLossClaim
end
-- ==== Proof.MlpUp.lean ====
module

public import proofs.«01_k».proof.Proof.UpLaunch
public import proofs.«01_k».proof.Proof.NormBwd
public import proofs.«01_k».proof.Proof.Gen.Reference12Ideal.Read
public import Idealize.ShloMosaic.Lib.Pointwise

@[expose] public section

/-!
# The MLP block's first product

The kernel normalises the rows once and multiplies them with one block of the matrix's columns after the other. Each entry
of the two results is the reference's.
-/

set_option maxRecDepth 16384

noncomputable section

open Idealize.ShloMosaic Idealize.ShloMosaic.TcCoe Idealize.SL.Sem
open Idealize.ShloMosaic.Pipeline (Dat)
open NormBwd
open scoped BigOperators

namespace MlpUp

open Cert.Kernel12Ideal Cert.Kernel12Ideal.Gen

/-! ## The normalised rows -/

/-- A normalised entry. -/
def unit (X N : ℕ → ℕ → EReal) (s j : ℕ) : EReal :=
  X s j * Ideal.rsqrt (Ideal.div (∑ l ∈ Finset.range 1024, X s l * X s l) (Ideal.ofBits .f32 0x44800000#32) + Ideal.ofBits .f32 0x358637BD#32) * N 0 j

section

variable {f : ℕ → ℕ → EReal}

theorem rowSum {x : S2048x1024.Idx → EReal} (hx : IsE x f) :
    IsE (shapeCast S2048x1 (multiReduction (F := Ideal) (φ := .f32) .add [1] S2048 x 0x00000000#32 reduces_S2048x1024_S2048 (.inl rfl) rfl) shapeCasts_S2048_S2048x1) fun i _ =>
      ∑ l ∈ Finset.range 1024, f i l := fun i => by
  pointwise
  exact sum_range (fun l => f (i 0).val l) fun l => hx _

theorem downRows {x : S1x1024.Idx → EReal} (hx : IsE x f) :
    IsE (broadcastTo S2048x1024 x broadcasts_S1x1024_S2048x1024) fun _ j => f 0 j := fun i => by
  pointwise
  exact hx _

theorem alongRow {x : S2048x1.Idx → EReal} (hx : IsE x f) :
    IsE (broadcastTo S2048x1024 x broadcasts_S2048x1_S2048x1024) fun i _ => f i 0 := fun i => by
  pointwise
  exact hx _

variable {X N : ℕ → ℕ → EReal} {x : S2048x1024.Idx → EReal} {n : S1x1024.Idx → EReal} (hx : IsE x X) (hn : IsE n N)
include hx hn

/-- The body's rows. -/
theorem rows_unit : IsE (rows (F := Ideal) x n) (unit X N) := fun i => by
  have h7 := rowSum (x := mulf (F := Ideal) (φ := .f32) x x) (f := fun s j => X s j * X s j) fun i => congrArg₂ (fun p q : EReal => p * q) (hx i) (hx i)
  have h8 := alongRow (f := fun s _ => Ideal.rsqrt (Ideal.div (∑ l ∈ Finset.range 1024, X s l * X s l) (Ideal.ofBits .f32 0x44800000#32) + Ideal.ofBits .f32 0x358637BD#32))
    fun i => congrArg (fun q => Ideal.rsqrt (Ideal.div q (Ideal.ofBits .f32 0x44800000#32) + Ideal.ofBits .f32 0x358637BD#32)) (h7 i)
  exact congrArg₂ (fun p q : EReal => p * q) (congrArg₂ (fun p q : EReal => p * q) (hx i) (h8 i)) (downRows hn i)

open Cert.Reference12Ideal.Read in
/-- The reference's rows. -/
theorem ref_unit : IsE (val_main_v11 (F := Ideal) x n) (unit X N) := fun i => by
  have h2 (i : S2048x1.Idx) : val_main_v2 (F := Ideal) x i = ∑ j ∈ Finset.range 1024, X (i 0).val j * X (i 0).val j := by
    rw [val_main_v2_apply, val_main_v1_apply]
    exact (congrArg₂ (· + ·) ofBits_0 (sum_range (fun j => X (i 0).val j * X (i 0).val j) fun k =>
      (congrArg₂ (· * ·) (hx _) (hx _) : _ * _ = _)) : _ + _ = _).trans (zero_add _)
  have h7 (i : S2048x1.Idx) : val_main_v7 (F := Ideal) x i = _ :=
    congrArg (fun q => Ideal.rsqrt (Ideal.div q (Ideal.ofBits .f32 0x44800000#32) + Ideal.ofBits .f32 0x358637BD#32)) (h2 i)
  exact congrArg₂ (fun p q : EReal => p * q) (congrArg₂ (fun p q : EReal => p * q) (hx i) ((val_main_v8_apply _ _).trans (h7 _)))
    ((val_main_v10_apply _ _).trans (hn _))

end

/-- The normalised rows, as the reference has them. -/
abbrev normed (x : S2048x1024.Idx → EReal) (n : S1x1024.Idx → EReal) : S2048x1024.Idx → EReal :=
  Cert.Reference12Ideal.Read.val_main_v11 (F := Ideal) x n

theorem rows_eq (x : S2048x1024.Idx → EReal) (n : S1x1024.Idx → EReal) : rows (F := Ideal) x n = normed x n := funext fun i =>
  (rows_unit (isE_entries (by decide) (by decide) x) (isE_entries (by decide) (by decide) n) i).trans
    (ref_unit (isE_entries (by decide) (by decide) x) (isE_entries (by decide) (by decide) n) i).symm

/-! ## The product -/

/-- One entry of the product: the sum over the contracted index. -/
def entry (a : S2048x1024.Idx → EReal) (w : S1024x4096.Idx → EReal) (i : S2048x4096.Idx) : EReal :=
  ∑ k : Fin 1024, a (ix2 ⟨(i 0).val, (i 0).isLt⟩ k) * w (ix2 k ⟨(i 1).val, (i 1).isLt⟩)

theorem prod_apply (h : S2048x1024.Idx → EReal) (w : S1x1024x512.Idx → EReal) (i : S2048x512.Idx) :
    prod (F := Ideal) h w i = ∑ k : Fin 1024, h (ix2 ⟨(i 0).val, (i 0).isLt⟩ k) * w (ix3 ⟨0, by decide⟩ k ⟨(i 1).val, (i 1).isLt⟩) := by
  unfold prod k0_pay3
  pointwise

theorem idx0 : ∀ t : Fin cfg0.N, win0_0.index t = ![0, 0] := by decide +kernel
theorem idx1 : ∀ t : Fin cfg0.N, win0_1.index t = ![t.val, 0, 0] := by decide +kernel
theorem idx2 : ∀ t : Fin cfg0.N, win0_2.index t = ![0, 0] := by decide +kernel
theorem idx3 : ∀ t : Fin cfg0.N, win0_3.index t = ![0, t.val] := by decide +kernel
theorem idx4 : ∀ t : Fin cfg0.N, win0_4.index t = ![0, 0] := by decide +kernel

variable (m : (ℓ : Loc nD τ sig) → Buf (Elt Ideal) ℓ) (c : Dev nD)

/-- The weights as the launch reads them: block by block of the columns. -/
theorem entryW (i : S8x1024x512.Idx) (j : S1024x4096.Idx) (h0 : (j 0).val = (i 1).val) (h1 : (j 1).val = (i 0).val * 512 + (i 2).val) :
    (V (F := Ideal) m c main_v2 : S8x1024x512.Idx → EReal) i = (m ((c : Thread nD τ).loc main_arg2) : S1024x4096.Idx → EReal) j := by
  dsimp only [V, hostOps0]
  after_results
  show transpose S8x1024x512 [1, 0, 2] (shapeCast S1024x8x512 (m ((c : Thread nD τ).loc main_arg2) : S1024x4096.Idx → EReal) shapeCasts_S1024x4096_S1024x8x512)
    transposes_S1024x8x512_S8x1024x512_1_0_2 i = _
  refine (transpose_apply [1, 0, 2] _ _ i (ix3 ⟨(i 1).val, (i 1).isLt⟩ ⟨(i 0).val, (i 0).isLt⟩ ⟨(i 2).val, (i 2).isLt⟩)
    (fun b => by fin_cases b; exacts [rfl, rfl, rfl])).trans ?_
  refine shapeCast_apply _ _ _ j ((Shape.rowMajor_val_two j).trans (Eq.trans ?_ (Shape.rowMajor_val_three _).symm))
  show (j 0).val * 4096 + (j 1).val = ((i 1).val * 8 + (i 0).val) * 512 + (i 2).val
  omega

variable (t : Fin cfg0.N)

theorem blockX : (iblk m c 0 t : S2048x1024.Idx → EReal) = (m ((c : Thread nD τ).loc main_arg0) : S2048x1024.Idx → EReal) := funext fun y => by
  blk_simp [iblk]
  refine (congrFun (V_main_arg0 m c) _).trans (congrArg _ (Shape.idx_ext₂ ?_ ?_))
  · blk_simp [idx0 t]
  · blk_simp [idx0 t]

theorem blockN : (iblk m c 2 t : S1x1024.Idx → EReal) = (m ((c : Thread nD τ).loc main_arg1) : S1x1024.Idx → EReal) := funext fun y => by
  blk_simp [iblk]
  refine (congrFun (V_main_arg1 m c) _).trans (congrArg _ (Shape.idx_ext₂ ?_ ?_))
  · blk_simp [idx2 t]
  · blk_simp [idx2 t]

/-- The columns of the weights that grid point `t` reads. -/
theorem blockW (y : S1x1024x512.Idx) (j : S1024x4096.Idx) (h0 : (j 0).val = (y 1).val) (h1 : (j 1).val = t.val * 512 + (y 2).val) :
    (iblk m c 1 t : S1x1024x512.Idx → EReal) y = (m ((c : Thread nD τ).loc main_arg2) : S1024x4096.Idx → EReal) j := by
  have hy : (y 0).val = 0 := by have h : (y 0).val < 1 := (y 0).isLt; omega
  blk_simp [iblk]
  refine entryW m c _ j ?_ ?_
  · rw [h0]; blk_simp [idx1 t]
  · rw [h1]; blk_simp [idx1 t]

theorem kept_eq : (kept m c : S2048x1024.Idx → EReal) = normed (m ((c : Thread nD τ).loc main_arg0)) (m ((c : Thread nD τ).loc main_arg1)) := by
  unfold kept
  rw [blockX, blockN]
  exact rows_eq _ _

/-- The product the kernel returns, entry by entry. -/
theorem array3 (i : S2048x4096.Idx) : ((dats m 0 c).arrAt 3 cfg0.N : S2048x4096.Idx → EReal) i
    = entry (normed (m ((c : Thread nD τ).loc main_arg0)) (m ((c : Thread nD τ).loc main_arg1))) (m ((c : Thread nD τ).loc main_arg2)) i := by
  refine (dats m 0 c).arrAt_forall_of_covers 3 (fun (i : S2048x4096.Idx) v => v
    = entry (normed (m ((c : Thread nD τ).loc main_arg0)) (m ((c : Thread nD τ).loc main_arg1))) (m ((c : Thread nD τ).loc main_arg2)) i)
    (by decide +kernel) (fun t hf y => ?_) i
  have e0 : ((win0_3.blk t).view.emb y 0).val = (y 0).val := by blk_simp [idx3 t]
  have e1 : ((win0_3.blk t).view.emb y 1).val = t.val * 512 + (y 1).val := by blk_simp [idx3 t]
  blk_simp
  rw [after0_3, kept_eq]
  refine (prod_apply _ _ y).trans ?_
  unfold entry
  refine Finset.sum_congr rfl fun k _ => congrArg₂ (· * ·) ?_ ?_
  · exact congrArg _ (Shape.idx_ext₂ e0.symm rfl)
  · exact blockW m c t _ _ rfl e1

/-- The rows the kernel returns. -/
theorem array4 (i : S2048x1024.Idx) : ((dats m 0 c).arrAt 4 cfg0.N : S2048x1024.Idx → EReal) i
    = normed (m ((c : Thread nD τ).loc main_arg0)) (m ((c : Thread nD τ).loc main_arg1)) i := by
  refine (dats m 0 c).arrAt_forall_of_covers 4 (fun (i : S2048x1024.Idx) v => v
    = normed (m ((c : Thread nD τ).loc main_arg0)) (m ((c : Thread nD τ).loc main_arg1)) i)
    (by decide +kernel) (fun t hf y => ?_) i
  have e0 : ((win0_4.blk t).view.emb y 0).val = (y 0).val := by blk_simp [idx4 t]
  have e1 : ((win0_4.blk t).view.emb y 1).val = (y 1).val := by blk_simp [idx4 t]
  blk_simp
  rw [after0_4, kept_eq]
  exact congrArg _ (Shape.idx_ext₂ e0.symm e1.symm)

open Cert.Reference12Ideal.Read in
/-- The reference's product. -/
theorem ref_apply (x0 : S2048x1024.Idx → EReal) (x1 : S1x1024.Idx → EReal) (x2 : S1024x4096.Idx → EReal) (i : S2048x4096.Idx) :
    val_main_v13 (F := Ideal) x0 x1 x2 i = entry (normed x0 x1) x2 i := by
  rw [val_main_v13_apply]
  show val_main_v12 (F := Ideal) x0 x1 x2 _ = _
  rw [val_main_v12_apply]
  unfold entry
  refine Finset.sum_congr rfl fun k _ => congrArg₂ (· * ·) ?_ ?_
  · exact congrArg (normed x0 x1) (Shape.idx_ext₂ rfl rfl)
  · exact congrArg x2 (Shape.idx_ext₂ rfl rfl)

/-- The reference's rows. -/
theorem ref_rows (x0 : S2048x1024.Idx → EReal) (x1 : S1x1024.Idx → EReal) (i : S2048x1024.Idx) :
    Cert.Reference12Ideal.Read.val_main_v14 (F := Ideal) x0 x1 i = normed x0 x1 i := rfl

end MlpUp
end
-- ==== Proof.MlpUpClaim.lean ====
module

public import proofs.«01_k».proof.Defs
public import proofs.«01_k».proof.Proof.Gen.Reference12Ideal.Run
public import proofs.«01_k».proof.Proof.MlpUp
public import Idealize.ShloMosaic.Adequacy
public import Idealize.ShloMosaic.Init

@[expose] public section

/-!
# The claims about the MLP block's first product

The reference's run and frame, and the value claim: the kernel's arrays are the reference's.
-/

set_option maxRecDepth 16384

noncomputable section

open Idealize.ShloMosaic Idealize.ShloMosaic.TcCoe Idealize.SL.Sem

namespace MlpUpClaim

section Run

open Idealize.ShloMosaic.StableHlo
open Cert.Reference12Ideal Cert.Reference12Ideal.Gen Cert.Reference12Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v13) = val_main_v13 (F := Ideal) (m ((c.tc : Thread nD τ).loc main_arg0)) (m ((c.tc : Thread nD τ).loc main_arg1)) (m ((c.tc : Thread nD τ).loc main_arg2))
      ∧ r.2.mem ((c.tc : Thread nD τ).loc main_v14) = val_main_v14 (F := Ideal) (m ((c.tc : Thread nD τ).loc main_arg0)) (m ((c.tc : Thread nD τ).loc main_arg1))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun r h c => by
    obtain ⟨h0, h1, ha⟩ := h c
    exact ⟨h0.trans (val_main_v13_eq _ _ _), h1.trans (val_main_v14_eq _ _), ha⟩) (Cert.Reference12Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  (θ_run defs _ _).mono (fun r h => ⟨fun c => by
    obtain ⟨_, _, ha⟩ := h c
    exact ha, Idealize.ShloMosaic.sem_eq_zero_of_no_sems (by decide) r.2⟩) (ref_run m ρ)

end Run

section Agree

open Cert.Kernel12Ideal

variable (m : (ℓ : Loc nD τ sig) → Buf (Elt Ideal) ℓ) (c : Dev nD)

/-- Result 0 of the two programs on equal arguments. -/
theorem agree0 (x0 : Cert.Reference12Ideal.S2048x1024.Idx → EReal) (x1 : Cert.Reference12Ideal.S1x1024.Idx → EReal) (x2 : Cert.Reference12Ideal.S1024x4096.Idx → EReal)
    (e0 : x0 = m ((c.tc : Thread nD τ).loc main_arg0)) (e1 : x1 = m ((c.tc : Thread nD τ).loc main_arg1)) (e2 : x2 = m ((c.tc : Thread nD τ).loc main_arg2)) :
    Cert.Reference12Ideal.Read.val_main_v13 (F := Ideal) x0 x1 x2 = (Gen.dats m 0 c).arrAt 3 cfg0.N := by
  subst e0 e1 e2
  exact funext fun i => (MlpUp.ref_apply _ _ _ i).trans (MlpUp.array3 m c i).symm

/-- Result 1 of the two programs on equal arguments. -/
theorem agree1 (x0 : Cert.Reference12Ideal.S2048x1024.Idx → EReal) (x1 : Cert.Reference12Ideal.S1x1024.Idx → EReal) (x2 : Cert.Reference12Ideal.S1024x4096.Idx → EReal)
    (e0 : x0 = m ((c.tc : Thread nD τ).loc main_arg0)) (e1 : x1 = m ((c.tc : Thread nD τ).loc main_arg1)) (e2 : x2 = m ((c.tc : Thread nD τ).loc main_arg2)) :
    Cert.Reference12Ideal.Read.val_main_v14 (F := Ideal) x0 x1 = (Gen.dats m 0 c).arrAt 4 cfg0.N := by
  subst e0 e1 e2
  exact funext fun i => (MlpUp.ref_rows _ _ i).trans (MlpUp.array4 m c i).symm

end Agree

set_option maxHeartbeats 2000000 in
/-- The value claim: on every argument the kernel's arrays are the reference's. -/
theorem algebraic : Cert.algebraic_Kernel12Ideal_Reference12Ideal := fun m ρ m' ρ' _ hargs =>
  ⟨fun c => (Cert.Kernel12Ideal.Gen.dats m 0 c).arrAt 3 Cert.Kernel12Ideal.cfg0.N, fun c => (Cert.Kernel12Ideal.Gen.dats m 0 c).arrAt 4 Cert.Kernel12Ideal.cfg0.N,
    Cert.Kernel12Ideal.Gen.run_blocks m ρ,
    (θ_run Cert.Reference12Ideal.defs _ _).mono (fun r h c => by
      obtain ⟨h0, h1, ha⟩ := h c
      exact ⟨h0.trans (agree0 m c _ _ _ (hargs c).1 (hargs c).2.1 (hargs c).2.2), h1.trans (agree1 m c _ _ _ (hargs c).1 (hargs c).2.1 (hargs c).2.2), ha⟩) (ref_run m' ρ')⟩

end MlpUpClaim
end
-- ==== Proof.OddMm.lean ====
module

public import proofs.«01_k».proof.Proof.OddLaunch
public import proofs.«01_k».proof.Proof.MlpUp
public import proofs.«01_k».proof.Proof.Gen.Reference13Ideal.Read
public import Idealize.ShloMosaic.Lib.Pointwise

@[expose] public section

/-!
# The odd layer's projection to queries, keys and values

The kernel normalises the rows as the MLP block's first product does and multiplies them with one block of the
transposed matrix's rows after the other. Each entry of the two results is the reference's.
-/

set_option maxRecDepth 16384

noncomputable section

open Idealize.ShloMosaic Idealize.ShloMosaic.TcCoe Idealize.SL.Sem
open Idealize.ShloMosaic.Pipeline (Dat)
open scoped BigOperators

namespace OddMm

open Cert.Kernel13Ideal Cert.Kernel13Ideal.Gen
open MlpUp (normed)

/-! ## The product -/

/-- One entry of the product: the sum over the contracted index. -/
def entry (a : S2048x1024.Idx → EReal) (w : S1024x2560.Idx → EReal) (i : S2048x1536.Idx) : EReal :=
  ∑ k : Fin 1024, a (ix2 ⟨(i 0).val, (i 0).isLt⟩ k) * w (ix2 k ⟨(i 1).val, lt_trans (i 1).isLt (by decide)⟩)

theorem prod_apply (h : S2048x1024.Idx → EReal) (w : S512x1024.Idx → EReal) (i : S2048x512.Idx) :
    prod (F := Ideal) h w i = ∑ k : Fin 1024, h (ix2 ⟨(i 0).val, (i 0).isLt⟩ k) * w (ix2 ⟨(i 1).val, (i 1).isLt⟩ k) := by
  unfold prod k0_pay3
  pointwise

theorem idx0 : ∀ t : Fin cfg0.N, win0_0.index t = ![0, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, t.val] := by decide +kernel
theorem idx4 : ∀ t : Fin cfg0.N, win0_4.index t = ![0, 0] := by decide +kernel

variable (m : (ℓ : Loc nD τ sig) → Buf (Elt Ideal) ℓ) (c : Dev nD)

/-- The weights as the launch reads them: transposed, and the first 1536 rows of that. -/
theorem entryW (i : S1536x1024.Idx) (j : S1024x2560.Idx) (h0 : (j 0).val = (i 1).val) (h1 : (j 1).val = (i 0).val) :
    (V (F := Ideal) m c main_v2 : S1536x1024.Idx → EReal) i = (m ((c : Thread nD τ).loc main_arg2) : S1024x2560.Idx → EReal) j := by
  dsimp only [V, hostOps0]
  after_results
  show transpose S2560x1024 [1, 0] (m ((c : Thread nD τ).loc main_arg2) : S1024x2560.Idx → EReal) transposes_S1024x2560_S2560x1024_1_0 _ = _
  exact transpose_apply [1, 0] (m ((c : Thread nD τ).loc main_arg2) : S1024x2560.Idx → EReal) transposes_S1024x2560_S2560x1024_1_0 _ j
    (fun b => by fin_cases b; exacts [h1.trans (Nat.zero_add _).symm, h0.trans (Nat.zero_add _).symm])

variable (t : Fin cfg0.N)

theorem blockX : (iblk m c 0 t : S2048x1024.Idx → EReal) = (m ((c : Thread nD τ).loc main_arg0) : S2048x1024.Idx → EReal) := funext fun y => by
  blk_simp [iblk]
  refine (congrFun (V_main_arg0 m c) _).trans (congrArg _ (Shape.idx_ext₂ ?_ ?_))
  · blk_simp [idx0 t]
  · blk_simp [idx0 t]

theorem blockN : (iblk m c 2 t : S1x1024.Idx → EReal) = (m ((c : Thread nD τ).loc main_arg1) : S1x1024.Idx → EReal) := funext fun y => by
  blk_simp [iblk]
  refine (congrFun (V_main_arg1 m c) _).trans (congrArg _ (Shape.idx_ext₂ ?_ ?_))
  · blk_simp [idx2 t]
  · blk_simp [idx2 t]

/-- The columns of the weights that grid point `t` reads. -/
theorem blockW (y : S512x1024.Idx) (j : S1024x2560.Idx) (h0 : (j 0).val = (y 1).val) (h1 : (j 1).val = t.val * 512 + (y 0).val) :
    (iblk m c 1 t : S512x1024.Idx → EReal) y = (m ((c : Thread nD τ).loc main_arg2) : S1024x2560.Idx → EReal) j := by
  blk_simp [iblk]
  refine entryW m c _ j ?_ ?_
  · rw [h0]; blk_simp [idx1 t]
  · rw [h1]; blk_simp [idx1 t]

theorem kept_eq : (kept m c : S2048x1024.Idx → EReal) = normed (m ((c : Thread nD τ).loc main_arg0)) (m ((c : Thread nD τ).loc main_arg1)) := by
  unfold kept
  rw [blockX, blockN]
  exact MlpUp.rows_eq _ _

/-- The product the kernel returns, entry by entry. -/
theorem array3 (i : S2048x1536.Idx) : ((dats m 0 c).arrAt 3 cfg0.N : S2048x1536.Idx → EReal) i
    = entry (normed (m ((c : Thread nD τ).loc main_arg0)) (m ((c : Thread nD τ).loc main_arg1))) (m ((c : Thread nD τ).loc main_arg2)) i := by
  refine (dats m 0 c).arrAt_forall_of_covers 3 (fun (i : S2048x1536.Idx) v => v
    = entry (normed (m ((c : Thread nD τ).loc main_arg0)) (m ((c : Thread nD τ).loc main_arg1))) (m ((c : Thread nD τ).loc main_arg2)) i)
    (by decide +kernel) (fun t hf y => ?_) i
  have e0 : ((win0_3.blk t).view.emb y 0).val = (y 0).val := by blk_simp [idx3 t]
  have e1 : ((win0_3.blk t).view.emb y 1).val = t.val * 512 + (y 1).val := by blk_simp [idx3 t]
  blk_simp
  rw [after0_3, kept_eq]
  refine (prod_apply _ _ y).trans ?_
  unfold entry
  refine Finset.sum_congr rfl fun k _ => congrArg₂ (· * ·) ?_ ?_
  · exact congrArg _ (Shape.idx_ext₂ e0.symm rfl)
  · exact blockW m c t _ _ rfl e1

/-- The rows the kernel returns. -/
theorem array4 (i : S2048x1024.Idx) : ((dats m 0 c).arrAt 4 cfg0.N : S2048x1024.Idx → EReal) i
    = normed (m ((c : Thread nD τ).loc main_arg0)) (m ((c : Thread nD τ).loc main_arg1)) i := by
  refine (dats m 0 c).arrAt_forall_of_covers 4 (fun (i : S2048x1024.Idx) v => v
    = normed (m ((c : Thread nD τ).loc main_arg0)) (m ((c : Thread nD τ).loc main_arg1)) i)
    (by decide +kernel) (fun t hf y => ?_) i
  have e0 : ((win0_4.blk t).view.emb y 0).val = (y 0).val := by blk_simp [idx4 t]
  have e1 : ((win0_4.blk t).view.emb y 1).val = (y 1).val := by blk_simp [idx4 t]
  blk_simp
  rw [after0_4, kept_eq]
  exact congrArg _ (Shape.idx_ext₂ e0.symm e1.symm)

open Cert.Reference13Ideal.Read in
/-- The reference's product. -/
theorem ref_apply (x0 : S2048x1024.Idx → EReal) (x1 : S1x1024.Idx → EReal) (x2 : S1024x2560.Idx → EReal) (i : S2048x1536.Idx) :
    val_main_v14 (F := Ideal) x0 x1 x2 i = entry (normed x0 x1) x2 i := by
  rw [val_main_v14_apply]
  show val_main_v13 (F := Ideal) x0 x1 x2 _ = _
  rw [val_main_v13_apply, val_main_v12_apply]
  unfold entry
  refine Finset.sum_congr rfl fun k _ => congrArg₂ (· * ·) ?_ ?_
  · exact congrArg (normed x0 x1) (Shape.idx_ext₂ rfl rfl)
  · exact congrArg x2 (Shape.idx_ext₂ rfl rfl)

/-- The reference's rows. -/
theorem ref_rows (x0 : S2048x1024.Idx → EReal) (x1 : S1x1024.Idx → EReal) (i : S2048x1024.Idx) :
    Cert.Reference13Ideal.Read.val_main_v15 (F := Ideal) x0 x1 i = normed x0 x1 i := rfl

end OddMm
end
-- ==== Proof.OddMmClaim.lean ====
module

public import proofs.«01_k».proof.Defs
public import proofs.«01_k».proof.Proof.Gen.Reference13Ideal.Run
public import proofs.«01_k».proof.Proof.OddMm
public import Idealize.ShloMosaic.Adequacy
public import Idealize.ShloMosaic.Init

@[expose] public section

/-!
# The claims about the odd layer's projection to queries, keys and values

The reference's run and frame, and the value claim: the kernel's arrays are the reference's.
-/

set_option maxRecDepth 16384

noncomputable section

open Idealize.ShloMosaic Idealize.ShloMosaic.TcCoe Idealize.SL.Sem

namespace OddMmClaim

section Run

open Idealize.ShloMosaic.StableHlo
open Cert.Reference13Ideal Cert.Reference13Ideal.Gen Cert.Reference13Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v14) = val_main_v14 (F := Ideal) (m ((c.tc : Thread nD τ).loc main_arg0)) (m ((c.tc : Thread nD τ).loc main_arg1)) (m ((c.tc : Thread nD τ).loc main_arg2))
      ∧ r.2.mem ((c.tc : Thread nD τ).loc main_v15) = val_main_v15 (F := Ideal) (m ((c.tc : Thread nD τ).loc main_arg0)) (m ((c.tc : Thread nD τ).loc main_arg1))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun r h c => by
    obtain ⟨h0, h1, ha⟩ := h c
    exact ⟨h0.trans (val_main_v14_eq _ _ _), h1.trans (val_main_v15_eq _ _), ha⟩) (Cert.Reference13Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  (θ_run defs _ _).mono (fun r h => ⟨fun c => by
    obtain ⟨_, _, ha⟩ := h c
    exact ha, Idealize.ShloMosaic.sem_eq_zero_of_no_sems (by decide) r.2⟩) (ref_run m ρ)

end Run

section Agree

open Cert.Kernel13Ideal

variable (m : (ℓ : Loc nD τ sig) → Buf (Elt Ideal) ℓ) (c : Dev nD)

/-- Result 0 of the two programs on equal arguments. -/
theorem agree0 (x0 : Cert.Reference13Ideal.S2048x1024.Idx → EReal) (x1 : Cert.Reference13Ideal.S1x1024.Idx → EReal) (x2 : Cert.Reference13Ideal.S1024x2560.Idx → EReal)
    (e0 : x0 = m ((c.tc : Thread nD τ).loc main_arg0)) (e1 : x1 = m ((c.tc : Thread nD τ).loc main_arg1)) (e2 : x2 = m ((c.tc : Thread nD τ).loc main_arg2)) :
    Cert.Reference13Ideal.Read.val_main_v14 (F := Ideal) x0 x1 x2 = (Gen.dats m 0 c).arrAt 3 cfg0.N := by
  subst e0 e1 e2
  exact funext fun i => (OddMm.ref_apply _ _ _ i).trans (OddMm.array3 m c i).symm

/-- Result 1 of the two programs on equal arguments. -/
theorem agree1 (x0 : Cert.Reference13Ideal.S2048x1024.Idx → EReal) (x1 : Cert.Reference13Ideal.S1x1024.Idx → EReal) (x2 : Cert.Reference13Ideal.S1024x2560.Idx → EReal)
    (e0 : x0 = m ((c.tc : Thread nD τ).loc main_arg0)) (e1 : x1 = m ((c.tc : Thread nD τ).loc main_arg1)) (e2 : x2 = m ((c.tc : Thread nD τ).loc main_arg2)) :
    Cert.Reference13Ideal.Read.val_main_v15 (F := Ideal) x0 x1 = (Gen.dats m 0 c).arrAt 4 cfg0.N := by
  subst e0 e1 e2
  exact funext fun i => (OddMm.ref_rows _ _ i).trans (OddMm.array4 m c i).symm

end Agree

set_option maxHeartbeats 2000000 in
/-- The value claim: on every argument the kernel's arrays are the reference's. -/
theorem algebraic : Cert.algebraic_Kernel13Ideal_Reference13Ideal := fun m ρ m' ρ' _ hargs =>
  ⟨fun c => (Cert.Kernel13Ideal.Gen.dats m 0 c).arrAt 3 Cert.Kernel13Ideal.cfg0.N, fun c => (Cert.Kernel13Ideal.Gen.dats m 0 c).arrAt 4 Cert.Kernel13Ideal.cfg0.N,
    Cert.Kernel13Ideal.Gen.run_blocks m ρ,
    (θ_run Cert.Reference13Ideal.defs _ _).mono (fun r h c => by
      obtain ⟨h0, h1, ha⟩ := h c
      exact ⟨h0.trans (agree0 m c _ _ _ (hargs c).1 (hargs c).2.1 (hargs c).2.2), h1.trans (agree1 m c _ _ _ (hargs c).1 (hargs c).2.1 (hargs c).2.2), ha⟩) (ref_run m' ρ')⟩

end OddMmClaim
end
-- ==== Proof.EvenDw.lean ====
module

public import proofs.«01_k».proof.Proof.Gen.Kernel14Ideal.Value
public import proofs.«01_k».proof.Proof.Gen.Reference14Ideal.Read
public import Idealize.ShloMosaic.Lib.Pointwise
public import Idealize.ShloMosaic.Lib.Pipeline.ValueKit

@[expose] public section

/-!
# The gradient of the even layer's input projection

The host normalises the layer's input; the kernel multiplies the gradient of the projections, transposed,
with it. Each entry is a sum over the rows, the same sum as the reference's.
-/

set_option maxRecDepth 16384

noncomputable section

open Idealize.ShloMosaic Idealize.ShloMosaic.TcCoe Idealize.SL.Sem
open Idealize.ShloMosaic.Pipeline (Dat)
open scoped BigOperators

namespace EvenDw

open Cert.Kernel14Ideal Cert.Kernel14Ideal.Gen

/-- One entry of the result: the sum over the contracted index. -/
def entry (a : S2048x3328.Idx → EReal) (b : S2048x1024.Idx → EReal) (i : S3328x1024.Idx) : EReal :=
  ∑ k : Fin 2048, a (ix2 k ⟨(i 0).val, (i 0).isLt⟩) * b (ix2 k ⟨(i 1).val, (i 1).isLt⟩)

/-- What the body stores, entry by entry. -/
theorem pay_apply (x : S2048x1664.Idx → EReal) (y : S2048x512.Idx → EReal) (i : S1664x512.Idx) :
    k0_pay1 (F := Ideal) x y i = ∑ k : Fin 2048, x (ix2 k ⟨(i 0).val, (i 0).isLt⟩) * y (ix2 k ⟨(i 1).val, (i 1).isLt⟩) := by
  unfold k0_pay1
  pointwise

theorem hz : (![0, 0] : Fin 2 → Nat) = fun _ => 0 := funext fun a => by fin_cases a <;> rfl

/-- What the body leaves in the output's buffer is what it stores. -/
theorem out_eq (x : Vec Ideal S2048x1664 .bf16) (y : Vec Ideal S2048x512 .bf16) : out0_2 (F := Ideal) x y = k0_pay1 x y := by
  unfold out0_2
  rw [View.canon_unit_zero (S := S1664x512) hz, View.ld_unit_zero (S := S2048x1664) hz, View.ld_unit_zero (S := S2048x512) hz]

theorem idxA : ∀ t : Fin cfg0.N, win0_0.index t = ![0, t.val / 2] := by decide +kernel
theorem idxB : ∀ t : Fin cfg0.N, win0_1.index t = ![0, t.val % 2] := by decide +kernel
theorem idxC : ∀ t : Fin cfg0.N, win0_2.index t = ![t.val / 2, t.val % 2] := by decide +kernel

variable (m : (ℓ : Loc nD τ sig) → Buf (Elt Ideal) ℓ) (c : Dev nD)

/-- The gradient of the projections as the launch reads it. -/
theorem entryA (i : S2048x3328.Idx) : (V (F := Ideal) m c main_v13 : S2048x3328.Idx → EReal) i = (m ((c : Thread nD τ).loc main_arg3) : S2048x3328.Idx → EReal) i := by
  dsimp only [V, hostOps0]
  after_results
  rfl

/-- The normalised input, as the host computes it. -/
abbrev normed (x : S2048x1024.Idx → EReal) (n : S1x1024.Idx → EReal) : S2048x1024.Idx → EReal :=
  Cert.Reference14Ideal.Read.val_main_v11 (F := Ideal) x n

/-- The normalised input as the launch reads it. -/
theorem entryB (i : S2048x1024.Idx) : (V (F := Ideal) m c main_v12 : S2048x1024.Idx → EReal) i = (normed (m ((c : Thread nD τ).loc main_arg0)) (m ((c : Thread nD τ).loc main_arg1))) i := by
  dsimp only [V, hostOps0]
  after_results
  rfl

variable (t : Fin cfg0.N)

/-- The columns of the gradient of the projections that grid point `t` reads. -/
theorem blockA (y : S2048x1664.Idx) (i : S2048x3328.Idx) (h0 : (i 0).val = (y 0).val) (h1 : (i 1).val = t.val / 2 * 1664 + (y 1).val) :
    (iblk m c 0 t : S2048x1664.Idx → EReal) y = (m ((c : Thread nD τ).loc main_arg3) : S2048x3328.Idx → EReal) i := by
  blk_simp [iblk]
  refine (entryA m c _).trans (congrArg _ (Shape.idx_ext₂ ?_ ?_))
  · rw [h0]; blk_simp [idxA t]
  · rw [h1]; blk_simp [idxA t]

/-- The columns of the normalised input that grid point `t` reads. -/
theorem blockB (y : S2048x512.Idx) (i : S2048x1024.Idx) (h0 : (i 0).val = (y 0).val) (h1 : (i 1).val = t.val % 2 * 512 + (y 1).val) :
    (iblk m c 1 t : S2048x512.Idx → EReal) y = (normed (m ((c : Thread nD τ).loc main_arg0)) (m ((c : Thread nD τ).loc main_arg1))) i := by
  blk_simp [iblk]
  refine (entryB m c _).trans (congrArg _ (Shape.idx_ext₂ ?_ ?_))
  · rw [h0]; blk_simp [idxB t]
  · rw [h1]; blk_simp [idxB t]

/-- The array the kernel returns, entry by entry. -/
theorem array (i : S3328x1024.Idx) :
    ((dats m 0 c).arrAt 2 cfg0.N : S3328x1024.Idx → EReal) i = entry (m ((c : Thread nD τ).loc main_arg3) : S2048x3328.Idx → EReal) (normed (m ((c : Thread nD τ).loc main_arg0)) (m ((c : Thread nD τ).loc main_arg1))) i := by
  refine (dats m 0 c).arrAt_forall_of_covers 2 (fun (i : S3328x1024.Idx) v => v = entry (m ((c : Thread nD τ).loc main_arg3) : S2048x3328.Idx → EReal) (normed (m ((c : Thread nD τ).loc main_arg0)) (m ((c : Thread nD τ).loc main_arg1))) i)
    (by decide +kernel) (fun t hf y => ?_) i
  have e0 : ((win0_2.blk t).view.emb y 0).val = t.val / 2 * 1664 + (y 0).val := by blk_simp [idxC t]
  have e1 : ((win0_2.blk t).view.emb y 1).val = t.val % 2 * 512 + (y 1).val := by blk_simp [idxC t]
  blk_simp
  rw [after0_2, out_eq]
  refine (pay_apply _ _ y).trans ?_
  unfold entry
  refine Finset.sum_congr rfl fun k _ => congrArg₂ (· * ·) ?_ ?_
  · exact blockA m c t _ _ rfl e0
  · exact blockB m c t _ _ rfl e1

open Cert.Reference14Ideal.Read in
/-- The reference's result, entry by entry. -/
theorem ref_apply (x0 : S2048x1024.Idx → EReal) (x1 : S1x1024.Idx → EReal) (x3 : S2048x3328.Idx → EReal) (i : S3328x1024.Idx) :
    val_main_v16 (F := Ideal) x0 x1 x3 i = entry x3 (normed x0 x1) i := by
  rw [val_main_v16_apply]
  show val_main_v14 (F := Ideal) x0 x1 x3 _ = _
  rw [val_main_v14_apply, val_main_v13_apply]
  unfold entry
  refine Finset.sum_congr rfl fun k _ => congrArg₂ (· * ·) ?_ ?_
  · exact congrArg x3 (Shape.idx_ext₂ rfl rfl)
  · exact congrArg (normed x0 x1) (Shape.idx_ext₂ rfl rfl)

end EvenDw
end
-- ==== Proof.EvenDwClaim.lean ====
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.EvenDw
public import Idealize.ShloMosaic.Adequacy
public import Idealize.ShloMosaic.Init

@[expose] public section

/-!
# The claims about the gradient of the even layer's input projection

The reference's run and frame, and the value claim: the kernel's arrays are the reference's.
-/

set_option maxRecDepth 16384

noncomputable section

open Idealize.ShloMosaic Idealize.ShloMosaic.TcCoe Idealize.SL.Sem

namespace EvenDwClaim

section Run

open Idealize.ShloMosaic.StableHlo
open Cert.Reference14Ideal Cert.Reference14Ideal.Gen Cert.Reference14Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v16) = val_main_v16 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run defs _ _).mono (fun r h c => by
    obtain ⟨h0, ha⟩ := h c
    exact ⟨h0.trans (val_main_v16_eq _ _ _), ha⟩) (Cert.Reference14Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) ∧ r.2.sem = fun _ => 0) :=
  (θ_run defs _ _).mono (fun r h => ⟨fun c => by
    obtain ⟨_, ha⟩ := h c
    exact ha, Idealize.ShloMosaic.sem_eq_zero_of_no_sems (by decide) r.2⟩) (ref_run m ρ)

end Run

section Agree

open Cert.Kernel14Ideal

variable (m : (ℓ : Loc nD τ sig) → Buf (Elt Ideal) ℓ) (c : Dev nD)

/-- Result 0 of the two programs on equal arguments. -/
theorem agree0 (x0 : Cert.Reference14Ideal.S2048x1024.Idx → EReal) (x1 : Cert.Reference14Ideal.S1x1024.Idx → EReal) (x2 : Cert.Reference14Ideal.S1024x3328.Idx → EReal) (x3 : Cert.Reference14Ideal.S2048x3328.Idx → EReal)
    (e0 : x0 = m ((c.tc : Thread nD τ).loc main_arg0)) (e1 : x1 = m ((c.tc : Thread nD τ).loc main_arg1)) (e2 : x2 = m ((c.tc : Thread nD τ).loc main_arg2)) (e3 : x3 = m ((c.tc : Thread nD τ).loc main_arg3)) :
    Cert.Reference14Ideal.Read.val_main_v16 (F := Ideal) x0 x1 x3 = (Gen.dats m 0 c).arrAt 2 cfg0.N := by
  subst e0 e1 e2 e3
  exact funext fun i => (EvenDw.ref_apply _ _ _ i).trans (EvenDw.array m c i).symm

end Agree

set_option maxHeartbeats 2000000 in
/-- The value claim: on every argument the kernel's arrays are the reference's. -/
theorem algebraic : Cert.algebraic_Kernel14Ideal_Reference14Ideal := fun m ρ m' ρ' _ hargs =>
  ⟨fun c => (Cert.Kernel14Ideal.Gen.dats m 0 c).arrAt 2 Cert.Kernel14Ideal.cfg0.N,
    Cert.Kernel14Ideal.Value.run_blocks m ρ,
    (θ_run Cert.Reference14Ideal.defs _ _).mono (fun r h c => by
      obtain ⟨h0, ha⟩ := h c
      exact ⟨h0.trans (agree0 m c _ _ _ _ (hargs c).1 (hargs c).2.1 (hargs c).2.2.1 (hargs c).2.2.2), ha⟩) (ref_run m' ρ')⟩

end EvenDwClaim
end
-- ==== Proof.EvenDx.lean ====
module

public import proofs.«01_k».proof.Proof.Gen.Kernel15Ideal.Value
public import proofs.«01_k».proof.Proof.Gen.Reference15Ideal.Read
public import Idealize.ShloMosaic.Lib.Pointwise
public import Idealize.ShloMosaic.Lib.Pipeline.ValueKit

@[expose] public section

/-!
# The gradient of the even layer's mixer input

The host transposes the weight matrix; the kernel multiplies the gradient of the projections with it. Each entry is the
reference's sum over the projections' columns.
-/

set_option maxRecDepth 16384

noncomputable section

open Idealize.ShloMosaic Idealize.ShloMosaic.TcCoe Idealize.SL.Sem
open Idealize.ShloMosaic.Pipeline (Dat)
open scoped BigOperators

namespace EvenDx

open Cert.Kernel15Ideal Cert.Kernel15Ideal.Gen

/-- One entry of the result: the sum over the contracted index. -/
def entry (a : S2048x3328.Idx → EReal) (b : S1024x3328.Idx → EReal) (i : S2048x1024.Idx) : EReal :=
  ∑ k : Fin 3328, a (ix2 ⟨(i 0).val, (i 0).isLt⟩ k) * b (ix2 ⟨(i 1).val, (i 1).isLt⟩ k)

/-- What the body stores, entry by entry. -/
theorem pay_apply (x : S1024x3328.Idx → EReal) (y : S3328x512.Idx → EReal) (i : S1024x512.Idx) :
    k0_pay1 (F := Ideal) x y i = ∑ k : Fin 3328, x (ix2 ⟨(i 0).val, (i 0).isLt⟩ k) * y (ix2 k ⟨(i 1).val, (i 1).isLt⟩) := by
  unfold k0_pay1
  pointwise

theorem hz : (![0, 0] : Fin 2 → Nat) = fun _ => 0 := funext fun a => by fin_cases a <;> rfl

/-- What the body leaves in the output's buffer is what it stores. -/
theorem out_eq (x : Vec Ideal S1024x3328 .bf16) (y : Vec Ideal S3328x512 .bf16) : out0_2 (F := Ideal) x y = k0_pay1 x y := by
  unfold out0_2
  rw [View.canon_unit_zero (S := S1024x512) hz, View.ld_unit_zero (S := S1024x3328) hz, View.ld_unit_zero (S := S3328x512) hz]

theorem idxA : ∀ t : Fin cfg0.N, win0_0.index t = ![t.val / 2, 0] := by decide +kernel
theorem idxB : ∀ t : Fin cfg0.N, win0_1.index t = ![0, t.val % 2] := by decide +kernel
theorem idxC : ∀ t : Fin cfg0.N, win0_2.index t = ![t.val / 2, t.val % 2] := by decide +kernel

variable (m : (ℓ : Loc nD τ sig) → Buf (Elt Ideal) ℓ) (c : Dev nD)

/-- The gradient of the projections as the launch reads it. -/
theorem entryA (i : S2048x3328.Idx) : (V (F := Ideal) m c main_v0 : S2048x3328.Idx → EReal) i = (m ((c : Thread nD τ).loc main_arg2) : S2048x3328.Idx → EReal) i := by
  dsimp only [V, hostOps0]
  after_results
  rfl

/-- The weight matrix as the launch reads it, transposed. -/
theorem entryB (i : S3328x1024.Idx) (j : S1024x3328.Idx) (h0 : (j 0).val = (i 1).val) (h1 : (j 1).val = (i 0).val) :
    (V (F := Ideal) m c main_v2 : S3328x1024.Idx → EReal) i = (m ((c : Thread nD τ).loc main_arg1) : S1024x3328.Idx → EReal) j := by
  dsimp only [V, hostOps0]
  after_results
  exact transpose_apply [1, 0] (m ((c : Thread nD τ).loc main_arg1) : S1024x3328.Idx → EReal) transposes_S1024x3328_S3328x1024_1_0 _ _
    (fun b => by fin_cases b; exacts [h1, h0])

variable (t : Fin cfg0.N)

/-- The rows of the gradient of the projections that grid point `t` reads. -/
theorem blockA (y : S1024x3328.Idx) (i : S2048x3328.Idx) (h0 : (i 0).val = t.val / 2 * 1024 + (y 0).val) (h1 : (i 1).val = (y 1).val) :
    (iblk m c 0 t : S1024x3328.Idx → EReal) y = (m ((c : Thread nD τ).loc main_arg2) : S2048x3328.Idx → EReal) i := by
  blk_simp [iblk]
  refine (entryA m c _).trans (congrArg _ (Shape.idx_ext₂ ?_ ?_))
  · rw [h0]; blk_simp [idxA t]
  · rw [h1]; blk_simp [idxA t]

/-- The columns of the transposed weights that grid point `t` reads. -/
theorem blockB (y : S3328x512.Idx) (j : S1024x3328.Idx) (h0 : (j 0).val = t.val % 2 * 512 + (y 1).val) (h1 : (j 1).val = (y 0).val) :
    (iblk m c 1 t : S3328x512.Idx → EReal) y = (m ((c : Thread nD τ).loc main_arg1) : S1024x3328.Idx → EReal) j := by
  blk_simp [iblk]
  refine entryB m c _ j ?_ ?_
  · rw [h0]; blk_simp [idxB t]
  · rw [h1]; blk_simp [idxB t]

/-- The array the kernel returns, entry by entry. -/
theorem array (i : S2048x1024.Idx) :
    ((dats m 0 c).arrAt 2 cfg0.N : S2048x1024.Idx → EReal) i = entry (m ((c : Thread nD τ).loc main_arg2)) (m ((c : Thread nD τ).loc main_arg1)) i := by
  refine (dats m 0 c).arrAt_forall_of_covers 2 (fun (i : S2048x1024.Idx) v => v = entry (m ((c : Thread nD τ).loc main_arg2)) (m ((c : Thread nD τ).loc main_arg1)) i)
    (by decide +kernel) (fun t hf y => ?_) i
  have e0 : ((win0_2.blk t).view.emb y 0).val = t.val / 2 * 1024 + (y 0).val := by blk_simp [idxC t]
  have e1 : ((win0_2.blk t).view.emb y 1).val = t.val % 2 * 512 + (y 1).val := by blk_simp [idxC t]
  blk_simp
  rw [after0_2, out_eq]
  refine (pay_apply _ _ y).trans ?_
  unfold entry
  refine Finset.sum_congr rfl fun k _ => congrArg₂ (· * ·) ?_ ?_
  · exact blockA m c t _ _ e0 rfl
  · exact blockB m c t _ _ e1 rfl

open Cert.Reference15Ideal.Read in
/-- The reference's result, entry by entry. -/
theorem ref_apply (x1 : S1024x3328.Idx → EReal) (x2 : S2048x3328.Idx → EReal) (i : S2048x1024.Idx) :
    val_main_v1 (F := Ideal) x1 x2 i = entry x2 x1 i := by
  rw [val_main_v1_apply]
  unfold entry
  refine Finset.sum_congr rfl fun k _ => congrArg₂ (· * ·) ?_ ?_
  · exact congrArg x2 (Shape.idx_ext₂ rfl rfl)
  · exact congrArg x1 (Shape.idx_ext₂ rfl rfl)

end EvenDx
end
-- ==== Proof.EvenDxClaim.lean ====
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.EvenDx
public import Idealize.ShloMosaic.Adequacy
public import Idealize.ShloMosaic.Init

@[expose] public section

/-!
# The claims about the gradient of the even layer's normalised input

The reference's run and frame, and the value claim: the kernel's arrays are the reference's.
-/

set_option maxRecDepth 16384

noncomputable section

open Idealize.ShloMosaic Idealize.ShloMosaic.TcCoe Idealize.SL.Sem

namespace EvenDxClaim

section Run

open Idealize.ShloMosaic.StableHlo
open Cert.Reference15Ideal Cert.Reference15Ideal.Gen Cert.Reference15Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v1) = val_main_v1 (F := Ideal) (m ((c.tc : Thread nD τ).loc main_arg1)) (m ((c.tc : Thread nD τ).loc main_arg2))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun r h c => by
    obtain ⟨h0, ha⟩ := h c
    exact ⟨h0.trans (val_main_v1_eq _ _), ha⟩) (Cert.Reference15Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  (θ_run defs _ _).mono (fun r h => ⟨fun c => by
    obtain ⟨_, ha⟩ := h c
    exact ha, Idealize.ShloMosaic.sem_eq_zero_of_no_sems (by decide) r.2⟩) (ref_run m ρ)

end Run

section Agree

open Cert.Kernel15Ideal

variable (m : (ℓ : Loc nD τ sig) → Buf (Elt Ideal) ℓ) (c : Dev nD)

/-- Result 0 of the two programs on equal arguments. -/
theorem agree0 (x0 : Cert.Reference15Ideal.S2048x1024.Idx → EReal) (x1 : Cert.Reference15Ideal.S1024x3328.Idx → EReal) (x2 : Cert.Reference15Ideal.S2048x3328.Idx → EReal)
    (e0 : x0 = m ((c.tc : Thread nD τ).loc main_arg0)) (e1 : x1 = m ((c.tc : Thread nD τ).loc main_arg1)) (e2 : x2 = m ((c.tc : Thread nD τ).loc main_arg2)) :
    Cert.Reference15Ideal.Read.val_main_v1 (F := Ideal) x1 x2 = (Gen.dats m 0 c).arrAt 2 cfg0.N := by
  subst e0 e1 e2
  exact funext fun i => (EvenDx.ref_apply _ _ i).trans (EvenDx.array m c i).symm

end Agree

set_option maxHeartbeats 2000000 in
/-- The value claim: on every argument the kernel's arrays are the reference's. -/
theorem algebraic : Cert.algebraic_Kernel15Ideal_Reference15Ideal := fun m ρ m' ρ' _ hargs =>
  ⟨fun c => (Cert.Kernel15Ideal.Gen.dats m 0 c).arrAt 2 Cert.Kernel15Ideal.cfg0.N,
    Cert.Kernel15Ideal.Value.run_blocks m ρ,
    (θ_run Cert.Reference15Ideal.defs _ _).mono (fun r h c => by
      obtain ⟨h0, ha⟩ := h c
      exact ⟨h0.trans (agree0 m c _ _ _ (hargs c).1 (hargs c).2.1 (hargs c).2.2), ha⟩) (ref_run m' ρ')⟩

end EvenDxClaim
end
-- ==== Proof.EvenEl.lean ====
module

public import proofs.«01_k».proof.Proof.Gen.Kernel16Ideal.Value
public import proofs.«01_k».proof.Proof.Gen.Reference16Ideal.Read
public import Idealize.ShloMosaic.Lib.Pointwise
public import Idealize.ShloMosaic.Lib.Pipeline.ValueKit

@[expose] public section

/-!
# The even layer's input projection, its last columns

The host normalises the layer's input and takes the last 768 columns of the weight matrix, transposed; the
kernel multiplies the two. Each entry is the reference's sum.
-/

set_option maxRecDepth 16384

noncomputable section

open Idealize.ShloMosaic Idealize.ShloMosaic.TcCoe Idealize.SL.Sem
open Idealize.ShloMosaic.Pipeline (Dat)
open scoped BigOperators

namespace EvenEl

open Cert.Kernel16Ideal Cert.Kernel16Ideal.Gen

/-- One entry of the result: the sum over the contracted index. -/
def entry (a : S2048x1024.Idx → EReal) (b : S768x1024.Idx → EReal) (i : S2048x768.Idx) : EReal :=
  ∑ k : Fin 1024, a (ix2 ⟨(i 0).val, (i 0).isLt⟩ k) * b (ix2 ⟨(i 1).val, (i 1).isLt⟩ k)

/-- What the body stores, entry by entry. -/
theorem pay_apply (x : S2048x1024.Idx → EReal) (y : S768x1024.Idx → EReal) (i : S2048x768.Idx) :
    k0_pay1 (F := Ideal) x y i = ∑ k : Fin 1024, x (ix2 ⟨(i 0).val, (i 0).isLt⟩ k) * y (ix2 ⟨(i 1).val, (i 1).isLt⟩ k) := by
  unfold k0_pay1
  pointwise

theorem hz : (![0, 0] : Fin 2 → Nat) = fun _ => 0 := funext fun a => by fin_cases a <;> rfl

/-- What the body leaves in the output's buffer is what it stores. -/
theorem out_eq (x : Vec Ideal S2048x1024 .bf16) (y : Vec Ideal S768x1024 .bf16) : out0_2 (F := Ideal) x y = k0_pay1 x y := by
  unfold out0_2
  rw [View.canon_unit_zero (S := S2048x768) hz, View.ld_unit_zero (S := S2048x1024) hz, View.ld_unit_zero (S := S768x1024) hz]

theorem idxA : ∀ t : Fin cfg0.N, win0_0.index t = ![0, 0] := by decide +kernel
theorem idxB : ∀ t : Fin cfg0.N, win0_1.index t = ![t.val, 0] := by decide +kernel
theorem idxC : ∀ t : Fin cfg0.N, win0_2.index t = ![0, t.val] := by decide +kernel

variable (m : (ℓ : Loc nD τ sig) → Buf (Elt Ideal) ℓ) (c : Dev nD)

/-- The normalised input, as the host computes it. -/
abbrev normed (x : S2048x1024.Idx → EReal) (n : S1x1024.Idx → EReal) : S2048x1024.Idx → EReal :=
  Cert.Reference16Ideal.Read.val_main_v11 (F := Ideal) x n

/-- The normalised input as the launch reads it. -/
theorem entryA (i : S2048x1024.Idx) : (V (F := Ideal) m c main_v12 : S2048x1024.Idx → EReal) i = (normed (m ((c : Thread nD τ).loc main_arg0)) (m ((c : Thread nD τ).loc main_arg1))) i := by
  dsimp only [V, hostOps0]
  after_results
  rfl

/-- The columns of the weight matrix that the product takes, transposed. -/
def right (w : S1024x3328.Idx → EReal) (i : S768x1024.Idx) : EReal :=
  w (ix2 ⟨(i 1).val, (i 1).isLt⟩ ⟨2560 + (i 0).val, by have h0 : (i 0).val < 768 := (i 0).isLt; omega⟩)

/-- Those columns as the launch reads them. -/
theorem entryB (i : S768x1024.Idx) : (V (F := Ideal) m c main_v15 : S768x1024.Idx → EReal) i
    = right (m ((c : Thread nD τ).loc main_arg2)) i := by
  dsimp only [V, hostOps0]
  after_results
  unfold right
  show transpose S3328x1024 [1, 0] (m ((c : Thread nD τ).loc main_arg2) : S1024x3328.Idx → EReal) transposes_S1024x3328_S3328x1024_1_0 _ = _
  exact transpose_apply [1, 0] (m ((c : Thread nD τ).loc main_arg2) : S1024x3328.Idx → EReal) transposes_S1024x3328_S3328x1024_1_0 _ _
    (fun b => by fin_cases b; exacts [rfl, (Nat.zero_add _).symm])

variable (t : Fin cfg0.N)

/-- The normalised input that grid point `t` reads. -/
theorem blockA (y : S2048x1024.Idx) (i : S2048x1024.Idx) (h0 : (i 0).val = (y 0).val) (h1 : (i 1).val = (y 1).val) :
    (iblk m c 0 t : S2048x1024.Idx → EReal) y = (normed (m ((c : Thread nD τ).loc main_arg0)) (m ((c : Thread nD τ).loc main_arg1))) i := by
  blk_simp [iblk]
  refine (entryA m c _).trans (congrArg _ (Shape.idx_ext₂ ?_ ?_))
  · rw [h0]; blk_simp [idxA t]
  · rw [h1]; blk_simp [idxA t]

/-- The rows of the transposed weights that grid point `t` reads. -/
theorem blockB (y : S768x1024.Idx) (i : S768x1024.Idx) (h0 : (i 0).val = t.val * 768 + (y 0).val) (h1 : (i 1).val = (y 1).val) :
    (iblk m c 1 t : S768x1024.Idx → EReal) y = (right (m ((c : Thread nD τ).loc main_arg2))) i := by
  blk_simp [iblk]
  refine (entryB m c _).trans (congrArg _ (Shape.idx_ext₂ ?_ ?_))
  · rw [h0]; blk_simp [idxB t]
  · rw [h1]; blk_simp [idxB t]

/-- The array the kernel returns, entry by entry. -/
theorem array (i : S2048x768.Idx) :
    ((dats m 0 c).arrAt 2 cfg0.N : S2048x768.Idx → EReal) i = entry (normed (m ((c : Thread nD τ).loc main_arg0)) (m ((c : Thread nD τ).loc main_arg1))) (right (m ((c : Thread nD τ).loc main_arg2))) i := by
  refine (dats m 0 c).arrAt_forall_of_covers 2 (fun (i : S2048x768.Idx) v => v = entry (normed (m ((c : Thread nD τ).loc main_arg0)) (m ((c : Thread nD τ).loc main_arg1))) (right (m ((c : Thread nD τ).loc main_arg2))) i)
    (by decide +kernel) (fun t hf y => ?_) i
  have e0 : ((win0_2.blk t).view.emb y 0).val = (y 0).val := by blk_simp [idxC t]
  have e1 : ((win0_2.blk t).view.emb y 1).val = t.val * 768 + (y 1).val := by blk_simp [idxC t]
  blk_simp
  rw [after0_2, out_eq]
  refine (pay_apply _ _ y).trans ?_
  unfold entry
  refine Finset.sum_congr rfl fun k _ => congrArg₂ (· * ·) ?_ ?_
  · exact blockA m c t _ _ e0 rfl
  · exact blockB m c t _ _ e1 rfl

open Cert.Reference16Ideal.Read in
/-- The reference's result, entry by entry. -/
theorem ref_apply (x0 : S2048x1024.Idx → EReal) (x1 : S1x1024.Idx → EReal) (x2 : S1024x3328.Idx → EReal) (i : S2048x768.Idx) :
    val_main_v13 (F := Ideal) x0 x1 x2 i = entry (normed x0 x1) (right x2) i := by
  rw [val_main_v13_apply, val_main_v12_apply]
  unfold entry right
  refine Finset.sum_congr rfl fun k _ => congrArg₂ (· * ·) ?_ ?_
  · exact congrArg (normed x0 x1) (Shape.idx_ext₂ rfl rfl)
  · exact congrArg x2 (Shape.idx_ext₂ rfl rfl)

end EvenEl
end
-- ==== Proof.EvenElClaim.lean ====
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.EvenEl
public import Idealize.ShloMosaic.Adequacy
public import Idealize.ShloMosaic.Init

@[expose] public section

/-!
# The claims about the even layer's input projection to the gates

The reference's run and frame, and the value claim: the kernel's arrays are the reference's.
-/

set_option maxRecDepth 16384

noncomputable section

open Idealize.ShloMosaic Idealize.ShloMosaic.TcCoe Idealize.SL.Sem

namespace EvenElClaim

section Run

open Idealize.ShloMosaic.StableHlo
open Cert.Reference16Ideal Cert.Reference16Ideal.Gen Cert.Reference16Ideal.Read

variable (m : (ℓ : Loc nD τ sig) → Buf (Elt Ideal) ℓ) (ρ : Dev nD → PrngReg)

/-- The reference ends with its results at their value functions of the arguments, the arguments unchanged. -/
theorem ref_run : θ_run defs (onTc (τ := τ) (main (F := Ideal))) ⟨m, fun _ => 0, ρ⟩ fun r => ∀ c : Dev nD,
      r.2.mem ((c.tc : Thread nD τ).loc main_v13) = val_main_v13 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun r h c => by
    obtain ⟨h0, ha⟩ := h c
    exact ⟨h0.trans (val_main_v13_eq _ _ _), ha⟩) (Cert.Reference16Ideal.Value.run m ρ)

/-- The reference's frame: it ends, its arguments unchanged, every counter at zero. -/
theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  (θ_run defs _ _).mono (fun r h => ⟨fun c => by
    obtain ⟨_, ha⟩ := h c
    exact ha, Idealize.ShloMosaic.sem_eq_zero_of_no_sems (by decide) r.2⟩) (ref_run m ρ)

end Run

section Agree

open Cert.Kernel16Ideal

variable (m : (ℓ : Loc nD τ sig) → Buf (Elt Ideal) ℓ) (c : Dev nD)

/-- Result 0 of the two programs on equal arguments. -/
theorem agree0 (x0 : Cert.Reference16Ideal.S2048x1024.Idx → EReal) (x1 : Cert.Reference16Ideal.S1x1024.Idx → EReal) (x2 : Cert.Reference16Ideal.S1024x3328.Idx → EReal)
    (e0 : x0 = m ((c.tc : Thread nD τ).loc main_arg0)) (e1 : x1 = m ((c.tc : Thread nD τ).loc main_arg1)) (e2 : x2 = m ((c.tc : Thread nD τ).loc main_arg2)) :
    Cert.Reference16Ideal.Read.val_main_v13 (F := Ideal) x0 x1 x2 = (Gen.dats m 0 c).arrAt 2 cfg0.N := by
  subst e0 e1 e2
  exact funext fun i => (EvenEl.ref_apply _ _ _ i).trans (EvenEl.array m c i).symm

end Agree

set_option maxHeartbeats 2000000 in
/-- The value claim: on every argument the kernel's arrays are the reference's. -/
theorem algebraic : Cert.algebraic_Kernel16Ideal_Reference16Ideal := fun m ρ m' ρ' _ hargs =>
  ⟨fun c => (Cert.Kernel16Ideal.Gen.dats m 0 c).arrAt 2 Cert.Kernel16Ideal.cfg0.N,
    Cert.Kernel16Ideal.Value.run_blocks m ρ,
    (θ_run Cert.Reference16Ideal.defs _ _).mono (fun r h c => by
      obtain ⟨h0, ha⟩ := h c
      exact ⟨h0.trans (agree0 m c _ _ _ (hargs c).1 (hargs c).2.1 (hargs c).2.2), ha⟩) (ref_run m' ρ')⟩

end EvenElClaim
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch.Value
public import proofs.«01_k».proof.Proof.SameText
public import proofs.«01_k».proof.Proof.SameUp
public import proofs.«01_k».proof.Proof.RefRun
public import proofs.«01_k».proof.Proof.Agree
public import proofs.«01_k».proof.Proof.DownDwClaim
public import proofs.«01_k».proof.Proof.Gen.Kernel2
public import proofs.«01_k».proof.Proof.Gen.Kernel2Ideal
public import proofs.«01_k».proof.Proof.Gen.Reference2Ideal
public import proofs.«01_k».proof.Proof.UpDwClaim
public import proofs.«01_k».proof.Proof.Gen.Kernel3
public import proofs.«01_k».proof.Proof.Gen.Kernel3Ideal
public import proofs.«01_k».proof.Proof.Gen.Reference3Ideal
public import proofs.«01_k».proof.Proof.UpDxClaim
public import proofs.«01_k».proof.Proof.Gen.Kernel4
public import proofs.«01_k».proof.Proof.Gen.Kernel4Ideal
public import proofs.«01_k».proof.Proof.Gen.Reference4Ideal
public import proofs.«01_k».proof.Proof.InDwClaim
public import proofs.«01_k».proof.Proof.Gen.Kernel5
public import proofs.«01_k».proof.Proof.Gen.Kernel5Ideal
public import proofs.«01_k».proof.Proof.Gen.Reference5Ideal
public import proofs.«01_k».proof.Proof.InDxClaim
public import proofs.«01_k».proof.Proof.Gen.Kernel6
public import proofs.«01_k».proof.Proof.Gen.Kernel6Ideal
public import proofs.«01_k».proof.Proof.Gen.Reference6Ideal
public import proofs.«01_k».proof.Proof.OutDwClaim
public import proofs.«01_k».proof.Proof.Gen.Kernel7
public import proofs.«01_k».proof.Proof.Gen.Kernel7Ideal
public import proofs.«01_k».proof.Proof.Gen.Reference7Ideal
public import proofs.«01_k».proof.Proof.MlpOutClaim
public import proofs.«01_k».proof.Proof.Gen.Kernel8
public import proofs.«01_k».proof.Proof.Gen.Kernel8Ideal
public import proofs.«01_k».proof.Proof.Gen.Reference8Ideal
public import proofs.«01_k».proof.Proof.MixOutClaim
public import proofs.«01_k».proof.Proof.Gen.Kernel9
public import proofs.«01_k».proof.Proof.Gen.Kernel9Ideal
public import proofs.«01_k».proof.Proof.Gen.Reference9Ideal
public import proofs.«01_k».proof.Proof.InElClaim
public import proofs.«01_k».proof.Proof.Gen.Kernel10
public import proofs.«01_k».proof.Proof.Gen.Kernel10Ideal
public import proofs.«01_k».proof.Proof.Gen.Reference10Ideal
public import proofs.«01_k».proof.Proof.MlpLossClaim
public import proofs.«01_k».proof.Proof.Gen.Kernel11
public import proofs.«01_k».proof.Proof.Gen.Kernel11Ideal
public import proofs.«01_k».proof.Proof.Gen.Reference11Ideal
public import proofs.«01_k».proof.Proof.MlpUpClaim
public import proofs.«01_k».proof.Proof.Gen.Kernel12
public import proofs.«01_k».proof.Proof.Gen.Kernel12Ideal
public import proofs.«01_k».proof.Proof.Gen.Reference12Ideal
public import proofs.«01_k».proof.Proof.OddMmClaim
public import proofs.«01_k».proof.Proof.Gen.Kernel13
public import proofs.«01_k».proof.Proof.Gen.Kernel13Ideal
public import proofs.«01_k».proof.Proof.Gen.Reference13Ideal
public import proofs.«01_k».proof.Proof.EvenDwClaim
public import proofs.«01_k».proof.Proof.Gen.Kernel14
public import proofs.«01_k».proof.Proof.Gen.Kernel14Ideal
public import proofs.«01_k».proof.Proof.Gen.Reference14Ideal
public import proofs.«01_k».proof.Proof.EvenDxClaim
public import proofs.«01_k».proof.Proof.Gen.Kernel15
public import proofs.«01_k».proof.Proof.Gen.Kernel15Ideal
public import proofs.«01_k».proof.Proof.Gen.Reference15Ideal
public import proofs.«01_k».proof.Proof.EvenElClaim
public import proofs.«01_k».proof.Proof.Gen.Kernel16
public import proofs.«01_k».proof.Proof.Gen.Kernel16Ideal
public import proofs.«01_k».proof.Proof.Gen.Reference16Ideal
public import Idealize.ShloMosaic.Adequacy
public import Idealize.ShloMosaic.Init

@[expose] public section

set_option maxRecDepth 16384

noncomputable section

namespace Cert.Proof

open Idealize.ShloMosaic Idealize.SL.Sem

/-- Equal arrays are the same reals. -/
theorem reals_of_eq {A : Gla.Args} {x0 y0 : Cert.ReferenceIdeal.S2048x3096.Idx → EReal} {x1 y1 : Cert.ReferenceIdeal.S16x256.Idx → EReal}
    {x2 y2 : Cert.ReferenceIdeal.S1x256.Idx → EReal} {x3 y3 : Cert.ReferenceIdeal.S1x512.Idx → EReal}
    {x4 y4 : Cert.ReferenceIdeal.S2048x1024.Idx → EReal} (H : Gla.Reals A y0 y1 y2 y3 y4)
    (e0 : x0 = y0) (e1 : x1 = y1) (e2 : x2 = y2) (e3 : x3 = y3) (e4 : x4 = y4) : Gla.Reals A x0 x1 x2 x3 x4 := by
  subst e0 e1 e2 e3 e4
  exact H

set_option maxHeartbeats 2000000 in
/-- The value claim: with every argument finite, the kernel's arrays are the reference's. -/
theorem algebraic : Cert.algebraic_KernelIdeal_ReferenceIdeal_pre_finite := fun m ρ m' ρ' hpre hargs =>
  ⟨fun c => (Cert.KernelIdeal.Gen.dats m 0 c).arrAt 11 Cert.KernelIdeal.cfg0.N, fun c => (Cert.KernelIdeal.Gen.dats m 0 c).arrAt 12 Cert.KernelIdeal.cfg0.N, fun c => (Cert.KernelIdeal.Gen.dats m 0 c).arrAt 13 Cert.KernelIdeal.cfg0.N, fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N,
    Cert.KernelIdeal.Value.run_blocks m ρ,
    (θ_run Cert.ReferenceIdeal.defs _ _).mono (fun r h c => by
      have HK := Gla.reals_of_finite _ _ _ _ _ (hpre c)
      have HR := reals_of_eq HK (hargs c).1 (hargs c).2.1 (hargs c).2.2.1 (hargs c).2.2.2.1 (hargs c).2.2.2.2
      have hc := h c
      obtain ⟨h0, h1, h2, h3, h4, h5, h6, h7, ha⟩ := hc
      exact ⟨h0.trans (Gla.agree0 m c HR HK), h1.trans (Gla.agree1 m c HR HK), h2.trans (Gla.agree2 m c HR HK), h3.trans (Gla.agree3 m c HR HK), h4.trans (Gla.agree4 m c HR HK), h5.trans (Gla.agree5 m c HR HK), h6.trans (Gla.agree6 m c HR HK), h7.trans (Gla.agree7 m c HR HK), ha⟩) (Gla.ref_run m' ρ')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Gla.preFacts,
  SameText.frame_kernel, fun m ρ _ => Cert.KernelIdeal.Gen.frame m ρ, fun m ρ _ => Cert.KernelIdeal.Gen.frame m ρ,
  fun m ρ _ => Gla.ref_frame m ρ, fun m ρ _ => Gla.ref_frame m ρ,
  fun m ρ _ => Cert.Kernel2.Gen.frame m ρ, fun m ρ _ => Cert.Kernel2Ideal.Gen.frame m ρ, fun m ρ _ => DownDwClaim.ref_frame m ρ,
  fun m ρ _ => Cert.Kernel3.Gen.frame m ρ, fun m ρ _ => Cert.Kernel3Ideal.Gen.frame m ρ, fun m ρ _ => UpDwClaim.ref_frame m ρ,
  fun m ρ _ => Cert.Kernel4.Gen.frame m ρ, fun m ρ _ => Cert.Kernel4Ideal.Gen.frame m ρ, fun m ρ _ => UpDxClaim.ref_frame m ρ,
  fun m ρ _ => Cert.Kernel5.Gen.frame m ρ, fun m ρ _ => Cert.Kernel5Ideal.Gen.frame m ρ, fun m ρ _ => InDwClaim.ref_frame m ρ,
  fun m ρ _ => Cert.Kernel6.Gen.frame m ρ, fun m ρ _ => Cert.Kernel6Ideal.Gen.frame m ρ, fun m ρ _ => InDxClaim.ref_frame m ρ,
  fun m ρ _ => Cert.Kernel7.Gen.frame m ρ, fun m ρ _ => Cert.Kernel7Ideal.Gen.frame m ρ, fun m ρ _ => OutDwClaim.ref_frame m ρ,
  fun m ρ _ => Cert.Kernel8.Gen.frame m ρ, fun m ρ _ => Cert.Kernel8Ideal.Gen.frame m ρ, fun m ρ _ => MlpOutClaim.ref_frame m ρ,
  fun m ρ _ => Cert.Kernel9.Gen.frame m ρ, fun m ρ _ => Cert.Kernel9Ideal.Gen.frame m ρ, fun m ρ _ => MixOutClaim.ref_frame m ρ,
  fun m ρ _ => Cert.Kernel10.Gen.frame m ρ, fun m ρ _ => Cert.Kernel10Ideal.Gen.frame m ρ, fun m ρ _ => InElClaim.ref_frame m ρ,
  fun m ρ _ => Cert.Kernel11.Gen.frame m ρ, fun m ρ _ => Cert.Kernel11Ideal.Gen.frame m ρ, fun m ρ _ => MlpLossClaim.ref_frame m ρ,
  SameText.frame_kernel12, fun m ρ _ => Cert.Kernel12Ideal.Gen.frame m ρ, fun m ρ _ => MlpUpClaim.ref_frame m ρ,
  SameText.frame_kernel13, fun m ρ _ => Cert.Kernel13Ideal.Gen.frame m ρ, fun m ρ _ => OddMmClaim.ref_frame m ρ,
  fun m ρ _ => Cert.Kernel14.Gen.frame m ρ, fun m ρ _ => Cert.Kernel14Ideal.Gen.frame m ρ, fun m ρ _ => EvenDwClaim.ref_frame m ρ,
  fun m ρ _ => Cert.Kernel15.Gen.frame m ρ, fun m ρ _ => Cert.Kernel15Ideal.Gen.frame m ρ, fun m ρ _ => EvenDxClaim.ref_frame m ρ,
  fun m ρ _ => Cert.Kernel16.Gen.frame m ρ, fun m ρ _ => Cert.Kernel16Ideal.Gen.frame m ρ, fun m ρ _ => EvenElClaim.ref_frame m ρ,
  trivial, algebraic, trivial, DownDwClaim.algebraic, trivial, UpDwClaim.algebraic, trivial, UpDxClaim.algebraic, trivial, InDwClaim.algebraic, trivial, InDxClaim.algebraic, trivial, OutDwClaim.algebraic, trivial, MlpOutClaim.algebraic, trivial, MixOutClaim.algebraic, trivial, InElClaim.algebraic, trivial, MlpLossClaim.algebraic, trivial, MlpUpClaim.algebraic, trivial, OddMmClaim.algebraic, trivial, EvenDwClaim.algebraic, trivial, EvenDxClaim.algebraic, trivial, EvenElClaim.algebraic⟩

end Cert.Proof

end
